-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_qk2 [hPre_finite_qk2 : Cert.Pre_finite_qk2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_qk2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite_qk2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_qk2 [hPre_finite_qk2 : Cert.Pre_finite_qk2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_qk2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite_qk2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_qk12 [hPre_finite_qk12 : Cert.Pre_finite_qk12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_qk12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1))).1 = (fun _ => 1#1)
    ∧ (Cert.Pre_finite_qk12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1))).2.1 = (fun _ => 1#1)
    ∧ (Cert.Pre_finite_qk12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1))).2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_qk12 [hPre_finite_qk12 : Cert.Pre_finite_qk12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_qk12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1))).1 = (fun _ => 1#1)
    ∧ (Cert.Pre_finite_qk12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1))).2.1 = (fun _ => 1#1)
    ∧ (Cert.Pre_finite_qk12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite_qk2 [hKernel2Ideal : Cert.Kernel2Ideal.Facts] [hPre_finite_qk2 : Cert.Pre_finite_qk2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_qk2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite_qk2 [hReference2Ideal : Cert.Reference2Ideal.Facts] [hPre_finite_qk2 : Cert.Pre_finite_qk2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_qk2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Kernel12Ideal_pre_finite_qk12 [hKernel12Ideal : Cert.Kernel12Ideal.Facts] [hPre_finite_qk12 : Cert.Pre_finite_qk12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_qk12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Reference12Ideal_pre_finite_qk12 [hReference12Ideal : Cert.Reference12Ideal.Facts] [hPre_finite_qk12 : Cert.Pre_finite_qk12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_qk12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal_pre_finite_qk2 [hKernel2Ideal : Cert.Kernel2Ideal.Facts] [hReference2Ideal : Cert.Reference2Ideal.Facts] [hPre_finite_qk2 : Cert.Pre_finite_qk2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_qk2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v57) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v57) = v0 c
          ∧ r.2.mem ((c.tc : Thread Cert.Reference7Ideal.nD Cert.Reference7Ideal.τ).loc Cert.Reference7Ideal.main_v58) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v27) = v0 c
          ∧ r.2.mem ((c.tc : Thread Cert.Reference8Ideal.nD Cert.Reference8Ideal.τ).loc Cert.Reference8Ideal.main_v28) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v17) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal_pre_finite_qk12 [hKernel12Ideal : Cert.Kernel12Ideal.Facts] [hReference12Ideal : Cert.Reference12Ideal.Facts] [hPre_finite_qk12 : Cert.Pre_finite_qk12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_qk12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v62) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite_qk : Cert.Pre_finite_qk.Facts) (hPre_finite_qk2 : Cert.Pre_finite_qk2.Facts) (hPre_finite_qk12 : Cert.Pre_finite_qk12.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Kernel2Ideal_pre_finite_qk2 (hKernel2Ideal := hKernel2Ideal) (hPre_finite_qk2 := hPre_finite_qk2)
    ∧ quiescent_Reference2Ideal (hReference2Ideal := hReference2Ideal)
    ∧ quiescent_Reference2Ideal_pre_finite_qk2 (hReference2Ideal := hReference2Ideal) (hPre_finite_qk2 := hPre_finite_qk2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite_qk12 (hKernel12Ideal := hKernel12Ideal) (hPre_finite_qk12 := hPre_finite_qk12)
    ∧ quiescent_Reference12Ideal (hReference12Ideal := hReference12Ideal)
    ∧ quiescent_Reference12Ideal_pre_finite_qk12 (hReference12Ideal := hReference12Ideal) (hPre_finite_qk12 := hPre_finite_qk12)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal_pre_finite_qk2 (hKernel2Ideal := hKernel2Ideal) (hReference2Ideal := hReference2Ideal) (hPre_finite_qk2 := hPre_finite_qk2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite_qk12 (hKernel12Ideal := hKernel12Ideal) (hReference12Ideal := hReference12Ideal) (hPre_finite_qk12 := hPre_finite_qk12)
-- ==== Pre_finite_qk.lean ====
abbrev S16x2304x1536 : Shape := ⟨3, ![16, 2304, 1536]⟩
abbrev S16x2304x1280 : Shape := ⟨3, ![16, 2304, 1280]⟩
abbrev S_ : Shape := ⟨0, ![]⟩

class Facts : Prop where
  slices_S16x2304x1536_S16x2304x1280_0_0_0 : S16x2304x1536.Slices ![0, 0, 0] S16x2304x1280
  bitsLt_bf16_f32 : FTy.bits .bf16 < FTy.bits .f32
  bcast_S_S16x2304x1280 : S_.BroadcastsInDim S16x2304x1280 (![] : Fin 0 → Fin S16x2304x1280.rank)

variable [Facts]

def fn {F : FTy → Type} [FloatOps F] (main_arg0 : FVec F S16x2304x1536 .bf16) : IVec S16x2304x1280 1 :=
  let main_v0 : FVec F S16x2304x1280 .bf16 := (extractStridedSlice S16x2304x1280 ![0, 0, 0] · slices_S16x2304x1536_S16x2304x1280_0_0_0) main_arg0
  let main_v1 : FVec F S16x2304x1280 .f32 := (extf .f32 · bitsLt_bf16_f32) main_v0
  let main_v2 : FVec F S16x2304x1280 .f32 := Host.absf main_v1
  let main_cst : FVec F S_ .f32 := constant S_ .f32 0x7F800000#32
  let main_v3 : FVec F S16x2304x1280 .f32 := broadcastInDim S16x2304x1280 ![] bcast_S_S16x2304x1280 main_cst
  let main_v4 : IVec S16x2304x1280 1 := cmpf .olt main_v2 main_v3
  main_v4
-- ==== Pre_finite_qk12.lean ====
abbrev S16x2304x4224 : Shape := ⟨3, ![16, 2304, 4224]⟩
abbrev S8x8x64x512 : Shape := ⟨4, ![8, 8, 64, 512]⟩
abbrev S16x2048x1024 : Shape := ⟨3, ![16, 2048, 1024]⟩
abbrev S_ : Shape := ⟨0, ![]⟩
abbrev S16x2304x1024 : Shape := ⟨3, ![16, 2304, 1024]⟩

class Facts : Prop where
  slices_S16x2304x4224_S16x2048x1024_0_256_0 : S16x2304x4224.Slices ![0, 256, 0] S16x2048x1024
  bcast_S_S16x2048x1024 : S_.BroadcastsInDim S16x2048x1024 (![] : Fin 0 → Fin S16x2048x1024.rank)
  slices_S16x2304x4224_S16x2304x1024_0_0_1024 : S16x2304x4224.Slices ![0, 0, 1024] S16x2304x1024
  bcast_S_S16x2304x1024 : S_.BroadcastsInDim S16x2304x1024 (![] : Fin 0 → Fin S16x2304x1024.rank)
  bcast_S_S8x8x64x512 : S_.BroadcastsInDim S8x8x64x512 (![] : Fin 0 → Fin S8x8x64x512.rank)

variable [Facts]

def fn {F : FTy → Type} [FloatOps F] (main_arg0 : FVec F S16x2304x4224 .f32) (main_arg1 : FVec F S8x8x64x512 .f32) : IVec S16x2048x1024 1 × IVec S16x2304x1024 1 × IVec S8x8x64x512 1 :=
  let main_v0 : FVec F S16x2048x1024 .f32 := (extractStridedSlice S16x2048x1024 ![0, 256, 0] · slices_S16x2304x4224_S16x2048x1024_0_256_0) main_arg0
  let main_v1 : FVec F S16x2048x1024 .f32 := Host.absf main_v0
  let main_cst : FVec F S_ .f32 := constant S_ .f32 0x7F800000#32
  let main_v2 : FVec F S16x2048x1024 .f32 := broadcastInDim S16x2048x1024 ![] bcast_S_S16x2048x1024 main_cst
  let main_v3 : IVec S16x2048x1024 1 := cmpf .olt main_v1 main_v2
  let main_v4 : FVec F S16x2304x1024 .f32 := (extractStridedSlice S16x2304x1024 ![0, 0, 1024] · slices_S16x2304x4224_S16x2304x1024_0_0_1024) main_arg0
  let main_v5 : FVec F S16x2304x1024 .f32 := Host.absf main_v4
  let main_cst_0 : FVec F S_ .f32 := constant S_ .f32 0x7F800000#32
  let main_v6 : FVec F S16x2304x1024 .f32 := broadcastInDim S16x2304x1024 ![] bcast_S_S16x2304x1024 main_cst_0
  let main_v7 : IVec S16x2304x1024 1 := cmpf .olt main_v5 main_v6
  let main_cst_1 : FVec F S_ .f32 := constant S_ .f32 0x7F800000#32
  let main_v8 : FVec F S8x8x64x512 .f32 := broadcastInDim S8x8x64x512 ![] bcast_S_S8x8x64x512 main_cst_1
  let main_v9 : IVec S8x8x64x512 1 := cmpf .olt main_arg1 main_v8
  (main_v3, main_v7, main_v9)
-- ==== Pre_finite_qk2.lean ====
abbrev S16x8x2304x192 : Shape := ⟨4, ![16, 8, 2304, 192]⟩
abbrev S16x8x2304x128 : Shape := ⟨4, ![16, 8, 2304, 128]⟩
abbrev S_ : Shape := ⟨0, ![]⟩

class Facts : Prop where
  bcast_S_S16x8x2304x192 : S_.BroadcastsInDim S16x8x2304x192 (![] : Fin 0 → Fin S16x8x2304x192.rank)

variable [Facts]

def fn {F : FTy → Type} [FloatOps F] (main_arg0 : FVec F S16x8x2304x192 .f32) (main_arg1 : FVec F S16x8x2304x192 .f32) (main_arg2 : FVec F S16x8x2304x128 .f32) : IVec S16x8x2304x192 1 × IVec S16x8x2304x192 1 :=
  let main_v0 : FVec F S16x8x2304x192 .f32 := Host.absf main_arg0
  let main_cst : FVec F S_ .f32 := constant S_ .f32 0x7F800000#32
  let main_v1 : FVec F S16x8x2304x192 .f32 := broadcastInDim S16x8x2304x192 ![] bcast_S_S16x8x2304x192 main_cst
  let main_v2 : IVec S16x8x2304x192 1 := cmpf .olt main_v0 main_v1
  let main_v3 : FVec F S16x8x2304x192 .f32 := Host.absf main_arg1
  let main_cst_0 : FVec F S_ .f32 := constant S_ .f32 0x7F800000#32
  let main_v4 : FVec F S16x8x2304x192 .f32 := broadcastInDim S16x8x2304x192 ![] bcast_S_S16x8x2304x192 main_cst_0
  let main_v5 : IVec S16x8x2304x192 1 := cmpf .olt main_v3 main_v4
  (main_v2, main_v5)
-- ==== Kernel.lean ====
abbrev S16x2304x1536 : Shape := ⟨3, ![16, 2304, 1536]⟩
abbrev S16x2304x1024 : Shape := ⟨3, ![16, 2304, 1024]⟩
abbrev S1x256x128 : Shape := ⟨3, ![1, 256, 128]⟩
abbrev S1x2304x128 : Shape := ⟨3, ![1, 2304, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S2304x128 : Shape := ⟨2, ![2304, 128]⟩
abbrev S256x2304 : Shape := ⟨2, ![256, 2304]⟩

abbrev nBuf : Space → Nat
  | .hbm => 2
  | .vmem => 8
  | .smem => 0
  | _ => 0

abbrev bufTy : (tb : Table) → Fin (tcTables nBuf tb) → BufTy
  | .hbm, ⟨0, _⟩ => ⟨S16x2304x1536, .bf16⟩
  | .hbm, ⟨1, _⟩ => ⟨S16x2304x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x256x128, .bf16⟩
  | .local _ .vmem, ⟨7, _⟩ => ⟨S1x256x128, .bf16⟩
  | _, _ => ⟨S16x2304x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 9], ![false, false, false]⟩

def k0_cond1 (i : grid0.Coords) : BitVec 1 :=
  let arg2 : BitVec 32 := BitVec.ofNat 32 (i 2).val
  let c1_i32 : BitVec 32 := 1#32
  let v2 : BitVec 1 := Scalar.cmpi .slt arg2 c1_i32
  let v3 : BitVec 32 := Scalar.extui v2
  let c0_i32 : BitVec 32 := 0#32
  let v4 : BitVec 1 := Scalar.cmpi .ne v3 c0_i32
  v4

def k0_cond2 (i : grid0.Coords) : BitVec 1 :=
  let arg2 : BitVec 32 := BitVec.ofNat 32 (i 2).val
  let c1_i32_2 : BitVec 32 := 1#32
  let v5 : BitVec 1 := Scalar.cmpi .sge arg2 c1_i32_2
  let v6 : BitVec 32 := Scalar.extui v5
  let c0_i32_3 : BitVec 32 := 0#32
  let v7 : BitVec 1 := Scalar.cmpi .ne v6 c0_i32_3
  v7

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.addi c8_i32 v16
  let c0_i32_4 : BitVec 32 := 0#32
  let c0_i32_5 : BitVec 32 := 0#32
  ![arg0.toNat, c0_i32_4.toNat, v17.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c10_i32 : BitVec 32 := 10#32
  let v17 : BitVec 32 := Scalar.addi c10_i32 v16
  let c0_i32_4 : BitVec 32 := 0#32
  let c0_i32_5 : BitVec 32 := 0#32
  ![arg0.toNat, c0_i32_4.toNat, v17.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S16x2304x1536 : Shape := ⟨3, ![16, 2304, 1536]⟩
abbrev S16x256x1536 : Shape := ⟨3, ![16, 256, 1536]⟩
abbrev S16x256x1024 : Shape := ⟨3, ![16, 256, 1024]⟩
abbrev S16x256x256 : Shape := ⟨3, ![16, 256, 256]⟩
abbrev S16x256x8x128 : Shape := ⟨4, ![16, 256, 8, 128]⟩
abbrev S16x8x256x128 : Shape := ⟨4, ![16, 8, 256, 128]⟩
abbrev S16x256x2x128 : Shape := ⟨4, ![16, 256, 2, 128]⟩
abbrev S16x2x256x128 : Shape := ⟨4, ![16, 2, 256, 128]⟩
abbrev S16x2x4x256x128 : Shape := ⟨5, ![16, 2, 4, 256, 128]⟩
abbrev S16x2048x1536 : Shape := ⟨3, ![16, 2048, 1536]⟩
abbrev S16x2048x1024 : Shape := ⟨3, ![16, 2048, 1024]⟩
abbrev S16x2048x256 : Shape := ⟨3, ![16, 2048, 256]⟩
abbrev S16x2048x8x128 : Shape := ⟨4, ![16, 2048, 8, 128]⟩
abbrev S16x8x2048x128 : Shape := ⟨4, ![16, 8, 2048, 128]⟩
abbrev S16x2048x2x128 : Shape := ⟨4, ![16, 2048, 2, 128]⟩
abbrev S16x2x2048x128 : Shape := ⟨4, ![16, 2, 2048, 128]⟩
abbrev S16x2x4x2048x128 : Shape := ⟨5, ![16, 2, 4, 2048, 128]⟩
abbrev S16x2x2304x128 : Shape := ⟨4, ![16, 2, 2304, 128]⟩
abbrev S16x2x4x2048x2304 : Shape := ⟨5, ![16, 2, 4, 2048, 2304]⟩
abbrev S_ : Shape := ⟨0, ![]⟩
abbrev S16x2x4x2048 : Shape := ⟨4, ![16, 2, 4, 2048]⟩
abbrev S16x2x4x2048x1 : Shape := ⟨5, ![16, 2, 4, 2048, 1]⟩
abbrev S16x2x4x256x256 : Shape := ⟨5, ![16, 2, 4, 256, 256]⟩
abbrev S16x2x4x256 : Shape := ⟨4, ![16, 2, 4, 256]⟩
abbrev S16x2x4x256x1 : Shape := ⟨5, ![16, 2, 4, 256, 1]⟩
abbrev S16x2304x1024 : Shape := ⟨3, ![16, 2304, 1024]⟩

abbrev nBuf : Space → Nat
  | .hbm => 72
  | .vmem => 0
  | .smem => 0
  | _ => 0

abbrev bufTy : (tb : Table) → Fin (tcTables nBuf tb) → BufTy
  | .hbm, ⟨0, _⟩ => ⟨S16x2304x1536, .bf16⟩
  | .hbm, ⟨1, _⟩ => ⟨S16x2304x1536, .f32⟩
  | .hbm, ⟨2, _⟩ => ⟨S16x256x1536, .f32⟩
  | .hbm, ⟨3, _⟩ => ⟨S16x256x1024, .f32⟩
  | .hbm, ⟨4, _⟩ => ⟨S16x256x256, .f32⟩
  | .hbm, ⟨5, _⟩ => ⟨S16x256x256, .f32⟩
  | .hbm, ⟨6, _⟩ => ⟨S16x256x8x128, .f32⟩
  | .hbm, ⟨7, _⟩ => ⟨S16x8x256x128, .f32⟩
  | .hbm, ⟨8, _⟩ => ⟨S16x256x2x128, .f32⟩
  | .hbm, ⟨9, _⟩ => ⟨S16x2x256x128, .f32⟩
  | .hbm, ⟨10, _⟩ => ⟨S16x256x2x128, .f32⟩
  | .hbm, ⟨11, _⟩ => ⟨S16x2x256x128, .f32⟩
  | .hbm, ⟨12, _⟩ => ⟨S16x2x4x256x128, .f32⟩
  | .hbm, ⟨13, _⟩ => ⟨S16x2048x1536, .f32⟩
  | .hbm, ⟨14, _⟩ => ⟨S16x2048x1024, .f32⟩
  | .hbm, ⟨15, _⟩ => ⟨S16x2048x256, .f32⟩
  | .hbm, ⟨16, _⟩ => ⟨S16x2048x256, .f32⟩
  | .hbm, ⟨17, _⟩ => ⟨S16x2048x8x128, .f32⟩
  | .hbm, ⟨18, _⟩ => ⟨S16x8x2048x128, .f32⟩
  | .hbm, ⟨19, _⟩ => ⟨S16x2048x2x128, .f32⟩
  | .hbm, ⟨20, _⟩ => ⟨S16x2x2048x128, .f32⟩
  | .hbm, ⟨21, _⟩ => ⟨S16x2048x2x128, .f32⟩
  | .hbm, ⟨22, _⟩ => ⟨S16x2x2048x128, .f32⟩
  | .hbm, ⟨23, _⟩ => ⟨S16x2x4x2048x128, .f32⟩
  | .hbm, ⟨24, _⟩ => ⟨S16x2x2304x128, .f32⟩
  | .hbm, ⟨25, _⟩ => ⟨S16x2x2304x128, .f32⟩
  | .hbm, ⟨26, _⟩ => ⟨S16x2x4x2048x2304, .f32⟩
  | .hbm, ⟨27, _⟩ => ⟨S_, .f32⟩
  | .hbm, ⟨28, _⟩ => ⟨S16x2x4x2048x2304, .f32⟩
  | .hbm, ⟨29, _⟩ => ⟨S16x2x4x2048x2304, .f32⟩
  | .hbm, ⟨30, _⟩ => ⟨S_, .f32⟩
  | .hbm, ⟨31, _⟩ => ⟨S16x2x4x2048, .f32⟩
  | .hbm, ⟨32, _⟩ => ⟨S_, .f32⟩
  | .hbm, ⟨33, _⟩ => ⟨S16x2x4x2048, .f32⟩
  | .hbm, ⟨34, _⟩ => ⟨S16x2x4x2048, .f32⟩
  | .hbm, ⟨35, _⟩ => ⟨S16x2x4x2048x1, .f32⟩
  | .hbm, ⟨36, _⟩ => ⟨S16x2x4x2048x2304, .f32⟩
  | .hbm, ⟨37, _⟩ => ⟨S16x2x4x2048x2304, .f32⟩
  | .hbm, ⟨38, _⟩ => ⟨S16x2x4x2048x2304, .f32⟩
  | .hbm, ⟨39, _⟩ => ⟨S_, .f32⟩
  | .hbm, ⟨40, _⟩ => ⟨S16x2x4x2048, .f32⟩
  | .hbm, ⟨41, _⟩ => ⟨S16x2x4x2048x1, .f32⟩
  | .hbm, ⟨42, _⟩ => ⟨S16x2x4x2048x2304, .f32⟩
  | .hbm, ⟨43, _⟩ => ⟨S16x2x4x2048x2304, .f32⟩
  | .hbm, ⟨44, _⟩ => ⟨S16x2x4x2048x128, .f32⟩
  | .hbm, ⟨45, _⟩ => ⟨S16x8x2048x128, .f32⟩
  | .hbm, ⟨46, _⟩ => ⟨S16x2048x8x128, .f32⟩
  | .hbm, ⟨47, _⟩ => ⟨S16x2048x1024, .f32⟩
  | .hbm, ⟨48, _⟩ => ⟨S16x2x4x256x256, .f32⟩
  | .hbm, ⟨49, _⟩ => ⟨S_, .f32⟩
  | .hbm, ⟨50, _⟩ => ⟨S16x2x4x256x256, .f32⟩
  | .hbm, ⟨51, _⟩ => ⟨S16x2x4x256x256, .f32⟩
  | .hbm, ⟨52, _⟩ => ⟨S_, .f32⟩
  | .hbm, ⟨53, _⟩ => ⟨S16x2x4x256, .f32⟩
  | .hbm, ⟨54, _⟩ => ⟨S_, .f32⟩
  | .hbm, ⟨55, _⟩ => ⟨S16x2x4x256, .f32⟩
  | .hbm, ⟨56, _⟩ => ⟨S16x2x4x256, .f32⟩
  | .hbm, ⟨57, _⟩ => ⟨S16x2x4x256x1, .f32⟩
  | .hbm, ⟨58, _⟩ => ⟨S16x2x4x256x256, .f32⟩
  | .hbm, ⟨59, _⟩ => ⟨S16x2x4x256x256, .f32⟩
  | .hbm, ⟨60, _⟩ => ⟨S16x2x4x256x256, .f32⟩
  | .hbm, ⟨61, _⟩ => ⟨S_, .f32⟩
  | .hbm, ⟨62, _⟩ => ⟨S16x2x4x256, .f32⟩
  | .hbm, ⟨63, _⟩ => ⟨S16x2x4x256x1, .f32⟩
  | .hbm, ⟨64, _⟩ => ⟨S16x2x4x256x256, .f32⟩
  | .hbm, ⟨65, _⟩ => ⟨S16x2x4x256x256, .f32⟩
  | .hbm, ⟨66, _⟩ => ⟨S16x2x4x256x128, .f32⟩
  | .hbm, ⟨67, _⟩ => ⟨S16x8x256x128, .f32⟩
  | .hbm, ⟨68, _⟩ => ⟨S16x256x8x128, .f32⟩
  | .hbm, ⟨69, _⟩ => ⟨S16x256x1024, .f32⟩
  | .hbm, ⟨70, _⟩ => ⟨S16x2304x1024, .f32⟩
  | .hbm, ⟨71, _⟩ => ⟨S16x2304x1024, .bf16⟩
  | _, _ => ⟨S16x2304x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_cst : Ref sig .tc := ⟨.hbm, 27, rfl⟩
abbrev main_v26 : Ref sig .tc := ⟨.hbm, 28, rfl⟩
abbrev main_v27 : Ref sig .tc := ⟨.hbm, 29, rfl⟩
abbrev main_cst_0 : Ref sig .tc := ⟨.hbm, 30, rfl⟩
abbrev main_v28 : Ref sig .tc := ⟨.hbm, 31, rfl⟩
abbrev main_cst_1 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_cst_2 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_cst_3 : Ref sig .tc := ⟨.hbm, 49, rfl⟩
abbrev main_v44 : Ref sig .tc := ⟨.hbm, 50, rfl⟩
abbrev main_v45 : Ref sig .tc := ⟨.hbm, 51, rfl⟩
abbrev main_cst_4 : Ref sig .tc := ⟨.hbm, 52, rfl⟩
abbrev main_v46 : Ref sig .tc := ⟨.hbm, 53, rfl⟩
abbrev main_cst_5 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_6 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩

abbrev nD : Nat := 1
abbrev τ : Topo := Topo.v7x

variable {F : FTy → Type} [FloatOps F]
-- ==== Kernel2.lean ====
abbrev S16x8x2304x192 : Shape := ⟨4, ![16, 8, 2304, 192]⟩
abbrev S16x8x2304x128 : Shape := ⟨4, ![16, 8, 2304, 128]⟩
abbrev S_ : Shape := ⟨0, ![]⟩
abbrev S16x8x2304x256 : Shape := ⟨4, ![16, 8, 2304, 256]⟩
abbrev S16x2304x8x256 : Shape := ⟨4, ![16, 2304, 8, 256]⟩
abbrev S16x2304x2048 : Shape := ⟨3, ![16, 2304, 2048]⟩
abbrev S16x2304x8x128 : Shape := ⟨4, ![16, 2304, 8, 128]⟩
abbrev S16x2304x1024 : Shape := ⟨3, ![16, 2304, 1024]⟩
abbrev S16x2048x1024 : Shape := ⟨3, ![16, 2048, 1024]⟩
abbrev S1x256x256 : Shape := ⟨3, ![1, 256, 256]⟩
abbrev S1x2304x256 : Shape := ⟨3, ![1, 2304, 256]⟩
abbrev S1x2304x128 : Shape := ⟨3, ![1, 2304, 128]⟩
abbrev S1x256x128 : Shape := ⟨3, ![1, 256, 128]⟩
abbrev S256x256 : Shape := ⟨2, ![256, 256]⟩
abbrev S2304x256 : Shape := ⟨2, ![2304, 256]⟩
abbrev S2304x128 : Shape := ⟨2, ![2304, 128]⟩
abbrev S256x2304 : Shape := ⟨2, ![256, 2304]⟩
abbrev S256 : Shape := ⟨1, ![256]⟩
abbrev S256x1 : Shape := ⟨2, ![256, 1]⟩
abbrev S256x128 : Shape := ⟨2, ![256, 128]⟩

abbrev nBuf : Space → Nat
  | .hbm => 22
  | .vmem => 8
  | .smem => 0
  | _ => 0

abbrev bufTy : (tb : Table) → Fin (tcTables nBuf tb) → BufTy
  | .hbm, ⟨0, _⟩ => ⟨S16x8x2304x192, .f32⟩
  | .hbm, ⟨1, _⟩ => ⟨S16x8x2304x192, .f32⟩
  | .hbm, ⟨2, _⟩ => ⟨S16x8x2304x128, .f32⟩
  | .hbm, ⟨3, _⟩ => ⟨S_, .i32⟩
  | .hbm, ⟨4, _⟩ => ⟨S_, .f32⟩
  | .hbm, ⟨5, _⟩ => ⟨S16x8x2304x256, .f32⟩
  | .hbm, ⟨6, _⟩ => ⟨S16x2304x8x256, .f32⟩
  | .hbm, ⟨7, _⟩ => ⟨S16x2304x2048, .f32⟩
  | .hbm, ⟨8, _⟩ => ⟨S16x2304x2048, .bf16⟩
  | .hbm, ⟨9, _⟩ => ⟨S_, .i32⟩
  | .hbm, ⟨10, _⟩ => ⟨S_, .f32⟩
  | .hbm, ⟨11, _⟩ => ⟨S16x8x2304x256, .f32⟩
  | .hbm, ⟨12, _⟩ => ⟨S16x2304x8x256, .f32⟩
  | .hbm, ⟨13, _⟩ => ⟨S16x2304x2048, .f32⟩
  | .hbm, ⟨14, _⟩ => ⟨S16x2304x2048, .bf16⟩
  | .hbm, ⟨15, _⟩ => ⟨S_, .i32⟩
  | .hbm, ⟨16, _⟩ => ⟨S_, .f32⟩
  | .hbm, ⟨17, _⟩ => ⟨S16x8x2304x128, .f32⟩
  | .hbm, ⟨18, _⟩ => ⟨S16x2304x8x128, .f32⟩
  | .hbm, ⟨19, _⟩ => ⟨S16x2304x1024, .f32⟩
  | .hbm, ⟨20, _⟩ => ⟨S16x2304x1024, .bf16⟩
  | .hbm, ⟨21, _⟩ => ⟨S16x2048x1024, .bf16⟩
  | .local _ .vmem, ⟨0, _⟩ => ⟨S1x256x256, .bf16⟩
  | .local _ .vmem, ⟨1, _⟩ => ⟨S1x256x256, .bf16⟩
  | .local _ .vmem, ⟨2, _⟩ => ⟨S1x2304x256, .bf16⟩
  | .local _ .vmem, ⟨3, _⟩ => ⟨S1x2304x256, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x256x128, .bf16⟩
  | .local _ .vmem, ⟨7, _⟩ => ⟨S1x256x128, .bf16⟩
  | _, _ => ⟨S16x8x2304x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call2_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference2Ideal.lean ====
abbrev S16x8x2304x192 : Shape := ⟨4, ![16, 8, 2304, 192]⟩
abbrev S16x8x2304x128 : Shape := ⟨4, ![16, 8, 2304, 128]⟩
abbrev S16x8x2048x192 : Shape := ⟨4, ![16, 8, 2048, 192]⟩
abbrev S16x8x1x2048x192 : Shape := ⟨5, ![16, 8, 1, 2048, 192]⟩
abbrev S16x8x1x2048x2304 : Shape := ⟨5, ![16, 8, 1, 2048, 2304]⟩
abbrev S_ : Shape := ⟨0, ![]⟩
abbrev S16x8x1x2048 : Shape := ⟨4, ![16, 8, 1, 2048]⟩
abbrev S16x8x1x2048x1 : Shape := ⟨5, ![16, 8, 1, 2048, 1]⟩
abbrev S16x8x1x2048x128 : Shape := ⟨5, ![16, 8, 1, 2048, 128]⟩
abbrev S16x8x2048x128 : Shape := ⟨4, ![16, 8, 2048, 128]⟩
abbrev S16x2048x8x128 : Shape := ⟨4, ![16, 2048, 8, 128]⟩
abbrev S16x2048x1024 : Shape := ⟨3, ![16, 2048, 1024]⟩

abbrev nBuf : Space → Nat
  | .hbm => 28
  | .vmem => 0
  | .smem => 0
  | _ => 0

abbrev bufTy : (tb : Table) → Fin (tcTables nBuf tb) → BufTy
  | .hbm, ⟨0, _⟩ => ⟨S16x8x2304x192, .f32⟩
  | .hbm, ⟨1, _⟩ => ⟨S16x8x2304x192, .f32⟩
  | .hbm, ⟨2, _⟩ => ⟨S16x8x2304x128, .f32⟩
  | .hbm, ⟨3, _⟩ => ⟨S16x8x2048x192, .f32⟩
  | .hbm, ⟨4, _⟩ => ⟨S16x8x1x2048x192, .f32⟩
  | .hbm, ⟨5, _⟩ => ⟨S16x8x1x2048x2304, .f32⟩
  | .hbm, ⟨6, _⟩ => ⟨S_, .f32⟩
  | .hbm, ⟨7, _⟩ => ⟨S16x8x1x2048x2304, .f32⟩
  | .hbm, ⟨8, _⟩ => ⟨S16x8x1x2048x2304, .f32⟩
  | .hbm, ⟨9, _⟩ => ⟨S_, .f32⟩
  | .hbm, ⟨10, _⟩ => ⟨S16x8x1x2048, .f32⟩
  | .hbm, ⟨11, _⟩ => ⟨S_, .f32⟩
  | .hbm, ⟨12, _⟩ => ⟨S16x8x1x2048, .f32⟩
  | .hbm, ⟨13, _⟩ => ⟨S16x8x1x2048, .f32⟩
  | .hbm, ⟨14, _⟩ => ⟨S16x8x1x2048x1, .f32⟩
  | .hbm, ⟨15, _⟩ => ⟨S16x8x1x2048x2304, .f32⟩
  | .hbm, ⟨16, _⟩ => ⟨S16x8x1x2048x2304, .f32⟩
  | .hbm, ⟨17, _⟩ => ⟨S16x8x1x2048x2304, .f32⟩
  | .hbm, ⟨18, _⟩ => ⟨S_, .f32⟩
  | .hbm, ⟨19, _⟩ => ⟨S16x8x1x2048, .f32⟩
  | .hbm, ⟨20, _⟩ => ⟨S16x8x1x2048x1, .f32⟩
  | .hbm, ⟨21, _⟩ => ⟨S16x8x1x2048x2304, .f32⟩
  | .hbm, ⟨22, _⟩ => ⟨S16x8x1x2048x2304, .f32⟩
  | .hbm, ⟨23, _⟩ => ⟨S16x8x1x2048x128, .f32⟩
  | .hbm, ⟨24, _⟩ => ⟨S16x8x2048x128, .f32⟩
  | .hbm, ⟨25, _⟩ => ⟨S16x2048x8x128, .f32⟩
  | .hbm, ⟨26, _⟩ => ⟨S16x2048x1024, .f32⟩
  | .hbm, ⟨27, _⟩ => ⟨S16x2048x1024, .bf16⟩
  | _, _ => ⟨S16x8x2304x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel3.lean ====
abbrev S16x2048x2048 : Shape := ⟨3, ![16, 2048, 2048]⟩
abbrev S16x256x2048 : Shape := ⟨3, ![16, 256, 2048]⟩
abbrev S17x12288 : Shape := ⟨2, ![17, 12288]⟩
abbrev S2048 : Shape := ⟨1, ![2048]⟩
abbrev S2048x6656 : Shape := ⟨2, ![2048, 6656]⟩
abbrev S16x2304x2048 : Shape := ⟨3, ![16, 2304, 2048]⟩
abbrev S17x6x2048 : Shape := ⟨3, ![17, 6, 2048]⟩
abbrev S1x2048 : Shape := ⟨2, ![1, 2048]⟩
abbrev S16x2304x6656 : Shape := ⟨3, ![16, 2304, 6656]⟩
abbrev S1x256x2048 : Shape := ⟨3, ![1, 256, 2048]⟩
abbrev S1x6x2048 : Shape := ⟨3, ![1, 6, 2048]⟩
abbrev S2048x1664 : Shape := ⟨2, ![2048, 1664]⟩
abbrev S1x256x1664 : Shape := ⟨3, ![1, 256, 1664]⟩
abbrev S256x2048 : Shape := ⟨2, ![256, 2048]⟩
abbrev S256 : Shape := ⟨1, ![256]⟩
abbrev S256x1 : Shape := ⟨2, ![256, 1]⟩
abbrev S1x1x2048 : Shape := ⟨3, ![1, 1, 2048]⟩
abbrev S256x1664 : Shape := ⟨2, ![256, 1664]⟩

abbrev nBuf : Space → Nat
  | .hbm => 10
  | .vmem => 10
  | .smem => 0
  | _ => 0

abbrev bufTy : (tb : Table) → Fin (tcTables nBuf tb) → BufTy
  | .hbm, ⟨0, _⟩ => ⟨S16x2048x2048, .f32⟩
  | .hbm, ⟨1, _⟩ => ⟨S16x256x2048, .f32⟩
  | .hbm, ⟨2, _⟩ => ⟨S17x12288, .f32⟩
  | .hbm, ⟨3, _⟩ => ⟨S2048, .f32⟩
  | .hbm, ⟨4, _⟩ => ⟨S2048x6656, .f32⟩
  | .hbm, ⟨5, _⟩ => ⟨S16x2304x2048, .f32⟩
  | .hbm, ⟨6, _⟩ => ⟨S17x6x2048, .f32⟩
  | .hbm, ⟨7, _⟩ => ⟨S2048x6656, .bf16⟩
  | .hbm, ⟨8, _⟩ => ⟨S1x2048, .f32⟩
  | .hbm, ⟨9, _⟩ => ⟨S16x2304x6656, .f32⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S2048x1664, .bf16⟩
  | .local _ .vmem, ⟨6, _⟩ => ⟨S2048x1664, .bf16⟩
  | .local _ .vmem, ⟨7, _⟩ => ⟨S1x256x1664, .f32⟩
  | .local _ .vmem, ⟨8, _⟩ => ⟨S1x256x1664, .f32⟩
  | .local _ .vmem, ⟨9, _⟩ => ⟨S256x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 9, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg1 c1_i32
  let c16_i32 : BitVec 32 := 16#32
  let v1 : BitVec 32 := Scalar.select v0 c16_i32 arg0
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1664 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x256x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference3Ideal.lean ====
abbrev S16x2048x2048 : Shape := ⟨3, ![16, 2048, 2048]⟩
abbrev S16x256x2048 : Shape := ⟨3, ![16, 256, 2048]⟩
abbrev S17x12288 : Shape := ⟨2, ![17, 12288]⟩
abbrev S2048 : Shape := ⟨1, ![2048]⟩
abbrev S2048x6656 : Shape := ⟨2, ![2048, 6656]⟩
abbrev S16x12288 : Shape := ⟨2, ![16, 12288]⟩
abbrev S16x1x12288 : Shape := ⟨3, ![16, 1, 12288]⟩
abbrev S16x1x2048 : Shape := ⟨3, ![16, 1, 2048]⟩
abbrev S1x12288 : Shape := ⟨2, ![1, 12288]⟩
abbrev S1x1x12288 : Shape := ⟨3, ![1, 1, 12288]⟩
abbrev S1x1x2048 : Shape := ⟨3, ![1, 1, 2048]⟩
abbrev S_ : Shape := ⟨0, ![]⟩
abbrev S16x2048 : Shape := ⟨2, ![16, 2048]⟩
abbrev S16x2048x1 : Shape := ⟨3, ![16, 2048, 1]⟩
abbrev S16x256 : Shape := ⟨2, ![16, 256]⟩
abbrev S16x256x1 : Shape := ⟨3, ![16, 256, 1]⟩
abbrev S16x2048x6656 : Shape := ⟨3, ![16, 2048, 6656]⟩
abbrev S16x256x6656 : Shape := ⟨3, ![16, 256, 6656]⟩
abbrev S16x2304x6656 : Shape := ⟨3, ![16, 2304, 6656]⟩

abbrev nBuf : Space → Nat
  | .hbm => 70
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x256x2048, .f32⟩
  | .hbm, ⟨2, _⟩ => ⟨S17x12288, .f32⟩
  | .hbm, ⟨3, _⟩ => ⟨S2048, .f32⟩
  | .hbm, ⟨4, _⟩ => ⟨S2048x6656, .f32⟩
  | .hbm, ⟨5, _⟩ => ⟨S16x12288, .f32⟩
  | .hbm, ⟨6, _⟩ => ⟨S16x1x12288, .f32⟩
  | .hbm, ⟨7, _⟩ => ⟨S16x1x2048, .f32⟩
  | .hbm, ⟨8, _⟩ => ⟨S16x1x2048, .f32⟩
  | .hbm, ⟨9, _⟩ => ⟨S16x1x2048, .f32⟩
  | .hbm, ⟨10, _⟩ => ⟨S16x1x2048, .f32⟩
  | .hbm, ⟨11, _⟩ => ⟨S16x1x2048, .f32⟩
  | .hbm, ⟨12, _⟩ => ⟨S16x1x2048, .f32⟩
  | .hbm, ⟨13, _⟩ => ⟨S1x12288, .f32⟩
  | .hbm, ⟨14, _⟩ => ⟨S1x1x12288, .f32⟩
  | .hbm, ⟨15, _⟩ => ⟨S1x1x2048, .f32⟩
  | .hbm, ⟨16, _⟩ => ⟨S1x1x2048, .f32⟩
  | .hbm, ⟨17, _⟩ => ⟨S1x1x2048, .f32⟩
  | .hbm, ⟨18, _⟩ => ⟨S1x1x2048, .f32⟩
  | .hbm, ⟨19, _⟩ => ⟨S1x1x2048, .f32⟩
  | .hbm, ⟨20, _⟩ => ⟨S1x1x2048, .f32⟩
  | .hbm, ⟨21, _⟩ => ⟨S16x2048x2048, .f32⟩
  | .hbm, ⟨22, _⟩ => ⟨S_, .f32⟩
  | .hbm, ⟨23, _⟩ => ⟨S16x2048, .f32⟩
  | .hbm, ⟨24, _⟩ => ⟨S16x2048x1, .f32⟩
  | .hbm, ⟨25, _⟩ => ⟨S_, .f32⟩
  | .hbm, ⟨26, _⟩ => ⟨S16x2048x1, .f32⟩
  | .hbm, ⟨27, _⟩ => ⟨S16x2048x1, .f32⟩
  | .hbm, ⟨28, _⟩ => ⟨S_, .f32⟩
  | .hbm, ⟨29, _⟩ => ⟨S16x2048x1, .f32⟩
  | .hbm, ⟨30, _⟩ => ⟨S16x2048x1, .f32⟩
  | .hbm, ⟨31, _⟩ => ⟨S16x2048x1, .f32⟩
  | .hbm, ⟨32, _⟩ => ⟨S16x2048x2048, .f32⟩
  | .hbm, ⟨33, _⟩ => ⟨S16x2048x2048, .f32⟩
  | .hbm, ⟨34, _⟩ => ⟨S1x1x2048, .f32⟩
  | .hbm, ⟨35, _⟩ => ⟨S16x2048x2048, .f32⟩
  | .hbm, ⟨36, _⟩ => ⟨S16x2048x2048, .f32⟩
  | .hbm, ⟨37, _⟩ => ⟨S_, .f32⟩
  | .hbm, ⟨38, _⟩ => ⟨S16x1x2048, .f32⟩
  | .hbm, ⟨39, _⟩ => ⟨S16x1x2048, .f32⟩
  | .hbm, ⟨40, _⟩ => ⟨S16x2048x2048, .f32⟩
  | .hbm, ⟨41, _⟩ => ⟨S16x2048x2048, .f32⟩
  | .hbm, ⟨42, _⟩ => ⟨S16x2048x2048, .f32⟩
  | .hbm, ⟨43, _⟩ => ⟨S16x2048x2048, .f32⟩
  | .hbm, ⟨44, _⟩ => ⟨S16x256x2048, .f32⟩
  | .hbm, ⟨45, _⟩ => ⟨S_, .f32⟩
  | .hbm, ⟨46, _⟩ => ⟨S16x256, .f32⟩
  | .hbm, ⟨47, _⟩ => ⟨S16x256x1, .f32⟩
  | .hbm, ⟨48, _⟩ => ⟨S_, .f32⟩
  | .hbm, ⟨49, _⟩ => ⟨S16x256x1, .f32⟩
  | .hbm, ⟨50, _⟩ => ⟨S16x256x1, .f32⟩
  | .hbm, ⟨51, _⟩ => ⟨S_, .f32⟩
  | .hbm, ⟨52, _⟩ => ⟨S16x256x1, .f32⟩
  | .hbm, ⟨53, _⟩ => ⟨S16x256x1, .f32⟩
  | .hbm, ⟨54, _⟩ => ⟨S16x256x1, .f32⟩
  | .hbm, ⟨55, _⟩ => ⟨S16x256x2048, .f32⟩
  | .hbm, ⟨56, _⟩ => ⟨S16x256x2048, .f32⟩
  | .hbm, ⟨57, _⟩ => ⟨S1x1x2048, .f32⟩
  | .hbm, ⟨58, _⟩ => ⟨S16x256x2048, .f32⟩
  | .hbm, ⟨59, _⟩ => ⟨S16x256x2048, .f32⟩
  | .hbm, ⟨60, _⟩ => ⟨S_, .f32⟩
  | .hbm, ⟨61, _⟩ => ⟨S1x1x2048, .f32⟩
  | .hbm, ⟨62, _⟩ => ⟨S1x1x2048, .f32⟩
  | .hbm, ⟨63, _⟩ => ⟨S16x256x2048, .f32⟩
  | .hbm, ⟨64, _⟩ => ⟨S16x256x2048, .f32⟩
  | .hbm, ⟨65, _⟩ => ⟨S16x256x2048, .f32⟩
  | .hbm, ⟨66, _⟩ => ⟨S16x256x2048, .f32⟩
  | .hbm, ⟨67, _⟩ => ⟨S16x2048x6656, .f32⟩
  | .hbm, ⟨68, _⟩ => ⟨S16x256x6656, .f32⟩
  | .hbm, ⟨69, _⟩ => ⟨S16x2304x6656, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩

abbrev nD : Nat := 1
abbrev τ : Topo := Topo.v7x

variable {F : FTy → Type} [FloatOps F]
-- ==== Kernel4.lean ====
abbrev S16x2048x2048 : Shape := ⟨3, ![16, 2048, 2048]⟩
abbrev S16x256x2048 : Shape := ⟨3, ![16, 256, 2048]⟩
abbrev S17x12288 : Shape := ⟨2, ![17, 12288]⟩
abbrev S2048 : Shape := ⟨1, ![2048]⟩
abbrev S2048x4160 : Shape := ⟨2, ![2048, 4160]⟩
abbrev S16x2304x2048 : Shape := ⟨3, ![16, 2304, 2048]⟩
abbrev S17x6x2048 : Shape := ⟨3, ![17, 6, 2048]⟩
abbrev S_ : Shape := ⟨0, ![]⟩
abbrev S2048x4224 : Shape := ⟨2, ![2048, 4224]⟩
abbrev S1x2048 : Shape := ⟨2, ![1, 2048]⟩
abbrev S16x2304x4224 : Shape := ⟨3, ![16, 2304, 4224]⟩
abbrev S1x256x2048 : Shape := ⟨3, ![1, 256, 2048]⟩
abbrev S1x6x2048 : Shape := ⟨3, ![1, 6, 2048]⟩
abbrev S2048x1408 : Shape := ⟨2, ![2048, 1408]⟩
abbrev S1x256x1408 : Shape := ⟨3, ![1, 256, 1408]⟩
abbrev S256x2048 : Shape := ⟨2, ![256, 2048]⟩
abbrev S256 : Shape := ⟨1, ![256]⟩
abbrev S256x1 : Shape := ⟨2, ![256, 1]⟩
abbrev S1x1x2048 : Shape := ⟨3, ![1, 1, 2048]⟩
abbrev S256x1408 : Shape := ⟨2, ![256, 1408]⟩

abbrev nBuf : Space → Nat
  | .hbm => 13
  | .vmem => 10
  | .smem => 0
  | _ => 0

abbrev bufTy : (tb : Table) → Fin (tcTables nBuf tb) → BufTy
  | .hbm, ⟨0, _⟩ => ⟨S16x2048x2048, .f32⟩
  | .hbm, ⟨1, _⟩ => ⟨S16x256x2048, .f32⟩
  | .hbm, ⟨2, _⟩ => ⟨S17x12288, .f32⟩
  | .hbm, ⟨3, _⟩ => ⟨S2048, .f32⟩
  | .hbm, ⟨4, _⟩ => ⟨S2048x4160, .f32⟩
  | .hbm, ⟨5, _⟩ => ⟨S16x2304x2048, .f32⟩
  | .hbm, ⟨6, _⟩ => ⟨S17x6x2048, .f32⟩
  | .hbm, ⟨7, _⟩ => ⟨S_, .i32⟩
  | .hbm, ⟨8, _⟩ => ⟨S_, .f32⟩
  | .hbm, ⟨9, _⟩ => ⟨S2048x4224, .f32⟩
  | .hbm, ⟨10, _⟩ => ⟨S2048x4224, .bf16⟩
  | .hbm, ⟨11, _⟩ => ⟨S1x2048, .f32⟩
  | .hbm, ⟨12, _⟩ => ⟨S16x2304x4224, .f32⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S2048x1408, .bf16⟩
  | .local _ .vmem, ⟨6, _⟩ => ⟨S2048x1408, .bf16⟩
  | .local _ .vmem, ⟨7, _⟩ => ⟨S1x256x1408, .f32⟩
  | .local _ .vmem, ⟨8, _⟩ => ⟨S1x256x1408, .f32⟩
  | .local _ .vmem, ⟨9, _⟩ => ⟨S256x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 9, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg1 c1_i32
  let c16_i32 : BitVec 32 := 16#32
  let v1 : BitVec 32 := Scalar.select v0 c16_i32 arg0
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference4Ideal.lean ====
abbrev S16x2048x2048 : Shape := ⟨3, ![16, 2048, 2048]⟩
abbrev S16x256x2048 : Shape := ⟨3, ![16, 256, 2048]⟩
abbrev S17x12288 : Shape := ⟨2, ![17, 12288]⟩
abbrev S2048 : Shape := ⟨1, ![2048]⟩
abbrev S2048x4160 : Shape := ⟨2, ![2048, 4160]⟩
abbrev S16x12288 : Shape := ⟨2, ![16, 12288]⟩
abbrev S16x1x12288 : Shape := ⟨3, ![16, 1, 12288]⟩
abbrev S16x1x2048 : Shape := ⟨3, ![16, 1, 2048]⟩
abbrev S1x12288 : Shape := ⟨2, ![1, 12288]⟩
abbrev S1x1x12288 : Shape := ⟨3, ![1, 1, 12288]⟩
abbrev S1x1x2048 : Shape := ⟨3, ![1, 1, 2048]⟩
abbrev S_ : Shape := ⟨0, ![]⟩
abbrev S16x2048 : Shape := ⟨2, ![16, 2048]⟩
abbrev S16x2048x1 : Shape := ⟨3, ![16, 2048, 1]⟩
abbrev S16x256 : Shape := ⟨2, ![16, 256]⟩
abbrev S16x256x1 : Shape := ⟨3, ![16, 256, 1]⟩
abbrev S16x2048x4160 : Shape := ⟨3, ![16, 2048, 4160]⟩
abbrev S16x256x4160 : Shape := ⟨3, ![16, 256, 4160]⟩
abbrev S16x2304x4160 : Shape := ⟨3, ![16, 2304, 4160]⟩
abbrev S16x2304x4224 : Shape := ⟨3, ![16, 2304, 4224]⟩

abbrev nBuf : Space → Nat
  | .hbm => 73
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x256x2048, .f32⟩
  | .hbm, ⟨2, _⟩ => ⟨S17x12288, .f32⟩
  | .hbm, ⟨3, _⟩ => ⟨S2048, .f32⟩
  | .hbm, ⟨4, _⟩ => ⟨S2048x4160, .f32⟩
  | .hbm, ⟨5, _⟩ => ⟨S16x12288, .f32⟩
  | .hbm, ⟨6, _⟩ => ⟨S16x1x12288, .f32⟩
  | .hbm, ⟨7, _⟩ => ⟨S16x1x2048, .f32⟩
  | .hbm, ⟨8, _⟩ => ⟨S16x1x2048, .f32⟩
  | .hbm, ⟨9, _⟩ => ⟨S16x1x2048, .f32⟩
  | .hbm, ⟨10, _⟩ => ⟨S16x1x2048, .f32⟩
  | .hbm, ⟨11, _⟩ => ⟨S16x1x2048, .f32⟩
  | .hbm, ⟨12, _⟩ => ⟨S16x1x2048, .f32⟩
  | .hbm, ⟨13, _⟩ => ⟨S1x12288, .f32⟩
  | .hbm, ⟨14, _⟩ => ⟨S1x1x12288, .f32⟩
  | .hbm, ⟨15, _⟩ => ⟨S1x1x2048, .f32⟩
  | .hbm, ⟨16, _⟩ => ⟨S1x1x2048, .f32⟩
  | .hbm, ⟨17, _⟩ => ⟨S1x1x2048, .f32⟩
  | .hbm, ⟨18, _⟩ => ⟨S1x1x2048, .f32⟩
  | .hbm, ⟨19, _⟩ => ⟨S1x1x2048, .f32⟩
  | .hbm, ⟨20, _⟩ => ⟨S1x1x2048, .f32⟩
  | .hbm, ⟨21, _⟩ => ⟨S16x2048x2048, .f32⟩
  | .hbm, ⟨22, _⟩ => ⟨S_, .f32⟩
  | .hbm, ⟨23, _⟩ => ⟨S16x2048, .f32⟩
  | .hbm, ⟨24, _⟩ => ⟨S16x2048x1, .f32⟩
  | .hbm, ⟨25, _⟩ => ⟨S_, .f32⟩
  | .hbm, ⟨26, _⟩ => ⟨S16x2048x1, .f32⟩
  | .hbm, ⟨27, _⟩ => ⟨S16x2048x1, .f32⟩
  | .hbm, ⟨28, _⟩ => ⟨S_, .f32⟩
  | .hbm, ⟨29, _⟩ => ⟨S16x2048x1, .f32⟩
  | .hbm, ⟨30, _⟩ => ⟨S16x2048x1, .f32⟩
  | .hbm, ⟨31, _⟩ => ⟨S16x2048x1, .f32⟩
  | .hbm, ⟨32, _⟩ => ⟨S16x2048x2048, .f32⟩
  | .hbm, ⟨33, _⟩ => ⟨S16x2048x2048, .f32⟩
  | .hbm, ⟨34, _⟩ => ⟨S1x1x2048, .f32⟩
  | .hbm, ⟨35, _⟩ => ⟨S16x2048x2048, .f32⟩
  | .hbm, ⟨36, _⟩ => ⟨S16x2048x2048, .f32⟩
  | .hbm, ⟨37, _⟩ => ⟨S_, .f32⟩
  | .hbm, ⟨38, _⟩ => ⟨S16x1x2048, .f32⟩
  | .hbm, ⟨39, _⟩ => ⟨S16x1x2048, .f32⟩
  | .hbm, ⟨40, _⟩ => ⟨S16x2048x2048, .f32⟩
  | .hbm, ⟨41, _⟩ => ⟨S16x2048x2048, .f32⟩
  | .hbm, ⟨42, _⟩ => ⟨S16x2048x2048, .f32⟩
  | .hbm, ⟨43, _⟩ => ⟨S16x2048x2048, .f32⟩
  | .hbm, ⟨44, _⟩ => ⟨S16x256x2048, .f32⟩
  | .hbm, ⟨45, _⟩ => ⟨S_, .f32⟩
  | .hbm, ⟨46, _⟩ => ⟨S16x256, .f32⟩
  | .hbm, ⟨47, _⟩ => ⟨S16x256x1, .f32⟩
  | .hbm, ⟨48, _⟩ => ⟨S_, .f32⟩
  | .hbm, ⟨49, _⟩ => ⟨S16x256x1, .f32⟩
  | .hbm, ⟨50, _⟩ => ⟨S16x256x1, .f32⟩
  | .hbm, ⟨51, _⟩ => ⟨S_, .f32⟩
  | .hbm, ⟨52, _⟩ => ⟨S16x256x1, .f32⟩
  | .hbm, ⟨53, _⟩ => ⟨S16x256x1, .f32⟩
  | .hbm, ⟨54, _⟩ => ⟨S16x256x1, .f32⟩
  | .hbm, ⟨55, _⟩ => ⟨S16x256x2048, .f32⟩
  | .hbm, ⟨56, _⟩ => ⟨S16x256x2048, .f32⟩
  | .hbm, ⟨57, _⟩ => ⟨S1x1x2048, .f32⟩
  | .hbm, ⟨58, _⟩ => ⟨S16x256x2048, .f32⟩
  | .hbm, ⟨59, _⟩ => ⟨S16x256x2048, .f32⟩
  | .hbm, ⟨60, _⟩ => ⟨S_, .f32⟩
  | .hbm, ⟨61, _⟩ => ⟨S1x1x2048, .f32⟩
  | .hbm, ⟨62, _⟩ => ⟨S1x1x2048, .f32⟩
  | .hbm, ⟨63, _⟩ => ⟨S16x256x2048, .f32⟩
  | .hbm, ⟨64, _⟩ => ⟨S16x256x2048, .f32⟩
  | .hbm, ⟨65, _⟩ => ⟨S16x256x2048, .f32⟩
  | .hbm, ⟨66, _⟩ => ⟨S16x256x2048, .f32⟩
  | .hbm, ⟨67, _⟩ => ⟨S16x2048x4160, .f32⟩
  | .hbm, ⟨68, _⟩ => ⟨S16x256x4160, .f32⟩
  | .hbm, ⟨69, _⟩ => ⟨S16x2304x4160, .f32⟩
  | .hbm, ⟨70, _⟩ => ⟨S_, .i32⟩
  | .hbm, ⟨71, _⟩ => ⟨S_, .f32⟩
  | .hbm, ⟨72, _⟩ => ⟨S16x2304x4224, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_c : Ref sig .tc := ⟨.hbm, 70, rfl⟩
abbrev main_call0_v0 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== Kernel5.lean ====
abbrev S16x2304x2048 : Shape := ⟨3, ![16, 2304, 2048]⟩
abbrev S16x2304x1024 : Shape := ⟨3, ![16, 2304, 1024]⟩
abbrev S17x12288 : Shape := ⟨2, ![17, 12288]⟩
abbrev S2048x2048 : Shape := ⟨2, ![2048, 2048]⟩
abbrev S17x6x2048 : Shape := ⟨3, ![17, 6, 2048]⟩
abbrev S1024x2048 : Shape := ⟨2, ![1024, 2048]⟩
abbrev S1x256x1024 : Shape := ⟨3, ![1, 256, 1024]⟩
abbrev S1024x1024 : Shape := ⟨2, ![1024, 1024]⟩
abbrev S1x6x1024 : Shape := ⟨3, ![1, 6, 1024]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 11
  | .vmem => 14
  | .smem => 0
  | _ => 0

abbrev bufTy : (tb : Table) → Fin (tcTables nBuf tb) → BufTy
  | .hbm, ⟨0, _⟩ => ⟨S16x2304x2048, .f32⟩
  | .hbm, ⟨1, _⟩ => ⟨S16x2304x1024, .bf16⟩
  | .hbm, ⟨2, _⟩ => ⟨S16x2304x1024, .bf16⟩
  | .hbm, ⟨3, _⟩ => ⟨S17x12288, .f32⟩
  | .hbm, ⟨4, _⟩ => ⟨S2048x2048, .f32⟩
  | .hbm, ⟨5, _⟩ => ⟨S17x6x2048, .f32⟩
  | .hbm, ⟨6, _⟩ => ⟨S1024x2048, .f32⟩
  | .hbm, ⟨7, _⟩ => ⟨S1024x2048, .bf16⟩
  | .hbm, ⟨8, _⟩ => ⟨S1024x2048, .f32⟩
  | .hbm, ⟨9, _⟩ => ⟨S1024x2048, .bf16⟩
  | .hbm, ⟨10, _⟩ => ⟨S16x2304x2048, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x6x1024, .f32⟩
  | .local _ .vmem, ⟨11, _⟩ => ⟨S1x6x1024, .f32⟩
  | .local _ .vmem, ⟨12, _⟩ => ⟨S1x256x1024, .f32⟩
  | .local _ .vmem, ⟨13, _⟩ => ⟨S1x256x1024, .f32⟩
  | _, _ => ⟨S16x2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 9, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg1 c1_i32
  let c16_i32 : BitVec 32 := 16#32
  let v1 : BitVec 32 := Scalar.select v0 c16_i32 arg0
  let c0_i32 : BitVec 32 := 0#32
  let c0_i32_0 : BitVec 32 := 0#32
  ![v1.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference5Ideal.lean ====
abbrev S16x2304x2048 : Shape := ⟨3, ![16, 2304, 2048]⟩
abbrev S16x2304x1024 : Shape := ⟨3, ![16, 2304, 1024]⟩
abbrev S17x12288 : Shape := ⟨2, ![17, 12288]⟩
abbrev S2048x2048 : Shape := ⟨2, ![2048, 2048]⟩
abbrev S16x12288 : Shape := ⟨2, ![16, 12288]⟩
abbrev S16x1x12288 : Shape := ⟨3, ![16, 1, 12288]⟩
abbrev S16x1x2048 : Shape := ⟨3, ![16, 1, 2048]⟩
abbrev S1x12288 : Shape := ⟨2, ![1, 12288]⟩
abbrev S1x1x12288 : Shape := ⟨3, ![1, 1, 12288]⟩
abbrev S1x1x2048 : Shape := ⟨3, ![1, 1, 2048]⟩
abbrev S16x2048x2048 : Shape := ⟨3, ![16, 2048, 2048]⟩
abbrev S16x256x2048 : Shape := ⟨3, ![16, 256, 2048]⟩

abbrev nBuf : Space → Nat
  | .hbm => 36
  | .vmem => 0
  | .smem => 0
  | _ => 0

abbrev bufTy : (tb : Table) → Fin (tcTables nBuf tb) → BufTy
  | .hbm, ⟨0, _⟩ => ⟨S16x2304x2048, .f32⟩
  | .hbm, ⟨1, _⟩ => ⟨S16x2304x1024, .bf16⟩
  | .hbm, ⟨2, _⟩ => ⟨S16x2304x1024, .bf16⟩
  | .hbm, ⟨3, _⟩ => ⟨S17x12288, .f32⟩
  | .hbm, ⟨4, _⟩ => ⟨S2048x2048, .f32⟩
  | .hbm, ⟨5, _⟩ => ⟨S16x12288, .f32⟩
  | .hbm, ⟨6, _⟩ => ⟨S16x1x12288, .f32⟩
  | .hbm, ⟨7, _⟩ => ⟨S16x1x2048, .f32⟩
  | .hbm, ⟨8, _⟩ => ⟨S16x1x2048, .f32⟩
  | .hbm, ⟨9, _⟩ => ⟨S16x1x2048, .f32⟩
  | .hbm, ⟨10, _⟩ => ⟨S16x1x2048, .f32⟩
  | .hbm, ⟨11, _⟩ => ⟨S16x1x2048, .f32⟩
  | .hbm, ⟨12, _⟩ => ⟨S16x1x2048, .f32⟩
  | .hbm, ⟨13, _⟩ => ⟨S1x12288, .f32⟩
  | .hbm, ⟨14, _⟩ => ⟨S1x1x12288, .f32⟩
  | .hbm, ⟨15, _⟩ => ⟨S1x1x2048, .f32⟩
  | .hbm, ⟨16, _⟩ => ⟨S1x1x2048, .f32⟩
  | .hbm, ⟨17, _⟩ => ⟨S1x1x2048, .f32⟩
  | .hbm, ⟨18, _⟩ => ⟨S1x1x2048, .f32⟩
  | .hbm, ⟨19, _⟩ => ⟨S1x1x2048, .f32⟩
  | .hbm, ⟨20, _⟩ => ⟨S1x1x2048, .f32⟩
  | .hbm, ⟨21, _⟩ => ⟨S16x2304x2048, .bf16⟩
  | .hbm, ⟨22, _⟩ => ⟨S16x2304x2048, .f32⟩
  | .hbm, ⟨23, _⟩ => ⟨S16x2048x2048, .f32⟩
  | .hbm, ⟨24, _⟩ => ⟨S16x2048x2048, .f32⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S16x2048x2048, .f32⟩
  | .hbm, ⟨29, _⟩ => ⟨S16x256x2048, .f32⟩
  | .hbm, ⟨30, _⟩ => ⟨S16x256x2048, .f32⟩
  | .hbm, ⟨31, _⟩ => ⟨S16x256x2048, .f32⟩
  | .hbm, ⟨32, _⟩ => ⟨S16x256x2048, .f32⟩
  | .hbm, ⟨33, _⟩ => ⟨S16x256x2048, .f32⟩
  | .hbm, ⟨34, _⟩ => ⟨S16x256x2048, .f32⟩
  | .hbm, ⟨35, _⟩ => ⟨S16x2304x2048, .f32⟩
  | _, _ => ⟨S16x2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]
-- ==== Kernel6.lean ====
abbrev S16x2304x2048 : Shape := ⟨3, ![16, 2304, 2048]⟩
abbrev S16x2048x1024 : Shape := ⟨3, ![16, 2048, 1024]⟩
abbrev S17x12288 : Shape := ⟨2, ![17, 12288]⟩
abbrev S2048x2048 : Shape := ⟨2, ![2048, 2048]⟩
abbrev S17x6x2048 : Shape := ⟨3, ![17, 6, 2048]⟩
abbrev S1024x2048 : Shape := ⟨2, ![1024, 2048]⟩
abbrev S16x2048x2048 : Shape := ⟨3, ![16, 2048, 2048]⟩
abbrev S1x256x1024 : Shape := ⟨3, ![1, 256, 1024]⟩
abbrev S1024x1024 : Shape := ⟨2, ![1024, 1024]⟩
abbrev S1x6x1024 : Shape := ⟨3, ![1, 6, 1024]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 11
  | .vmem => 14
  | .smem => 0
  | _ => 0

abbrev bufTy : (tb : Table) → Fin (tcTables nBuf tb) → BufTy
  | .hbm, ⟨0, _⟩ => ⟨S16x2304x2048, .f32⟩
  | .hbm, ⟨1, _⟩ => ⟨S16x2048x1024, .bf16⟩
  | .hbm, ⟨2, _⟩ => ⟨S16x2048x1024, .bf16⟩
  | .hbm, ⟨3, _⟩ => ⟨S17x12288, .f32⟩
  | .hbm, ⟨4, _⟩ => ⟨S2048x2048, .f32⟩
  | .hbm, ⟨5, _⟩ => ⟨S17x6x2048, .f32⟩
  | .hbm, ⟨6, _⟩ => ⟨S1024x2048, .f32⟩
  | .hbm, ⟨7, _⟩ => ⟨S1024x2048, .bf16⟩
  | .hbm, ⟨8, _⟩ => ⟨S1024x2048, .f32⟩
  | .hbm, ⟨9, _⟩ => ⟨S1024x2048, .bf16⟩
  | .hbm, ⟨10, _⟩ => ⟨S16x2048x2048, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x6x1024, .f32⟩
  | .local _ .vmem, ⟨11, _⟩ => ⟨S1x6x1024, .f32⟩
  | .local _ .vmem, ⟨12, _⟩ => ⟨S1x256x1024, .f32⟩
  | .local _ .vmem, ⟨13, _⟩ => ⟨S1x256x1024, .f32⟩
  | _, _ => ⟨S16x2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg0.toNat, v0.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .slt arg1 c0_i32
  let c16_i32 : BitVec 32 := 16#32
  let v1 : BitVec 32 := Scalar.select v0 c16_i32 arg0
  let c0_i32_0 : BitVec 32 := 0#32
  let c0_i32_1 : BitVec 32 := 0#32
  ![v1.toNat, c0_i32_0.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference6Ideal.lean ====
abbrev S16x2304x2048 : Shape := ⟨3, ![16, 2304, 2048]⟩
abbrev S16x2048x1024 : Shape := ⟨3, ![16, 2048, 1024]⟩
abbrev S17x12288 : Shape := ⟨2, ![17, 12288]⟩
abbrev S2048x2048 : Shape := ⟨2, ![2048, 2048]⟩
abbrev S16x12288 : Shape := ⟨2, ![16, 12288]⟩
abbrev S16x1x12288 : Shape := ⟨3, ![16, 1, 12288]⟩
abbrev S16x1x2048 : Shape := ⟨3, ![16, 1, 2048]⟩
abbrev S16x2048x2048 : Shape := ⟨3, ![16, 2048, 2048]⟩

abbrev nBuf : Space → Nat
  | .hbm => 20
  | .vmem => 0
  | .smem => 0
  | _ => 0

abbrev bufTy : (tb : Table) → Fin (tcTables nBuf tb) → BufTy
  | .hbm, ⟨0, _⟩ => ⟨S16x2304x2048, .f32⟩
  | .hbm, ⟨1, _⟩ => ⟨S16x2048x1024, .bf16⟩
  | .hbm, ⟨2, _⟩ => ⟨S16x2048x1024, .bf16⟩
  | .hbm, ⟨3, _⟩ => ⟨S17x12288, .f32⟩
  | .hbm, ⟨4, _⟩ => ⟨S2048x2048, .f32⟩
  | .hbm, ⟨5, _⟩ => ⟨S16x12288, .f32⟩
  | .hbm, ⟨6, _⟩ => ⟨S16x1x12288, .f32⟩
  | .hbm, ⟨7, _⟩ => ⟨S16x1x2048, .f32⟩
  | .hbm, ⟨8, _⟩ => ⟨S16x1x2048, .f32⟩
  | .hbm, ⟨9, _⟩ => ⟨S16x1x2048, .f32⟩
  | .hbm, ⟨10, _⟩ => ⟨S16x1x2048, .f32⟩
  | .hbm, ⟨11, _⟩ => ⟨S16x1x2048, .f32⟩
  | .hbm, ⟨12, _⟩ => ⟨S16x1x2048, .f32⟩
  | .hbm, ⟨13, _⟩ => ⟨S16x2048x2048, .bf16⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S16x2048x2048, .f32⟩
  | .hbm, ⟨19, _⟩ => ⟨S16x2048x2048, .f32⟩
  | _, _ => ⟨S16x2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel7.lean ====
abbrev S16x2304x2048 : Shape := ⟨3, ![16, 2304, 2048]⟩
abbrev S17x12288 : Shape := ⟨2, ![17, 12288]⟩
abbrev S2048 : Shape := ⟨1, ![2048]⟩
abbrev S2048x2048 : Shape := ⟨2, ![2048, 2048]⟩
abbrev S17x6x2048 : Shape := ⟨3, ![17, 6, 2048]⟩
abbrev S1x2048 : Shape := ⟨2, ![1, 2048]⟩
abbrev S1x256x2048 : Shape := ⟨3, ![1, 256, 2048]⟩
abbrev S1x6x2048 : Shape := ⟨3, ![1, 6, 2048]⟩
abbrev S2048x1024 : Shape := ⟨2, ![2048, 1024]⟩
abbrev S1x256x1024 : Shape := ⟨3, ![1, 256, 1024]⟩
abbrev S256x2048 : Shape := ⟨2, ![256, 2048]⟩
abbrev S256 : Shape := ⟨1, ![256]⟩
abbrev S256x1 : Shape := ⟨2, ![256, 1]⟩
abbrev S1x1x2048 : Shape := ⟨3, ![1, 1, 2048]⟩
abbrev S256x1024 : Shape := ⟨2, ![256, 1024]⟩

abbrev nBuf : Space → Nat
  | .hbm => 9
  | .vmem => 12
  | .smem => 0
  | _ => 0

abbrev bufTy : (tb : Table) → Fin (tcTables nBuf tb) → BufTy
  | .hbm, ⟨0, _⟩ => ⟨S16x2304x2048, .f32⟩
  | .hbm, ⟨1, _⟩ => ⟨S17x12288, .f32⟩
  | .hbm, ⟨2, _⟩ => ⟨S2048, .f32⟩
  | .hbm, ⟨3, _⟩ => ⟨S2048x2048, .f32⟩
  | .hbm, ⟨4, _⟩ => ⟨S17x6x2048, .f32⟩
  | .hbm, ⟨5, _⟩ => ⟨S2048x2048, .bf16⟩
  | .hbm, ⟨6, _⟩ => ⟨S1x2048, .f32⟩
  | .hbm, ⟨7, _⟩ => ⟨S16x2304x2048, .f32⟩
  | .hbm, ⟨8, _⟩ => ⟨S16x2304x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S2048x1024, .bf16⟩
  | .local _ .vmem, ⟨6, _⟩ => ⟨S2048x1024, .bf16⟩
  | .local _ .vmem, ⟨7, _⟩ => ⟨S1x256x1024, .f32⟩
  | .local _ .vmem, ⟨8, _⟩ => ⟨S1x256x1024, .f32⟩
  | .local _ .vmem, ⟨9, _⟩ => ⟨S1x256x2048, .bf16⟩
  | .local _ .vmem, ⟨10, _⟩ => ⟨S1x256x2048, .bf16⟩
  | .local _ .vmem, ⟨11, _⟩ => ⟨S256x2048, .bf16⟩
  | _, _ => ⟨S16x2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 9, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg1 c1_i32
  let c16_i32 : BitVec 32 := 16#32
  let v1 : BitVec 32 := Scalar.select v0 c16_i32 arg0
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference7Ideal.lean ====
abbrev S16x2304x2048 : Shape := ⟨3, ![16, 2304, 2048]⟩
abbrev S17x12288 : Shape := ⟨2, ![17, 12288]⟩
abbrev S2048 : Shape := ⟨1, ![2048]⟩
abbrev S2048x2048 : Shape := ⟨2, ![2048, 2048]⟩
abbrev S16x12288 : Shape := ⟨2, ![16, 12288]⟩
abbrev S16x1x12288 : Shape := ⟨3, ![16, 1, 12288]⟩
abbrev S16x1x2048 : Shape := ⟨3, ![16, 1, 2048]⟩
abbrev S1x12288 : Shape := ⟨2, ![1, 12288]⟩
abbrev S1x1x12288 : Shape := ⟨3, ![1, 1, 12288]⟩
abbrev S1x1x2048 : Shape := ⟨3, ![1, 1, 2048]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S16x256x2048 : Shape := ⟨3, ![16, 256, 2048]⟩
abbrev S16x256 : Shape := ⟨2, ![16, 256]⟩
abbrev S16x256x1 : Shape := ⟨3, ![16, 256, 1]⟩

abbrev nBuf : Space → Nat
  | .hbm => 71
  | .vmem => 0
  | .smem => 0
  | _ => 0

abbrev bufTy : (tb : Table) → Fin (tcTables nBuf tb) → BufTy
  | .hbm, ⟨0, _⟩ => ⟨S16x2304x2048, .f32⟩
  | .hbm, ⟨1, _⟩ => ⟨S17x12288, .f32⟩
  | .hbm, ⟨2, _⟩ => ⟨S2048, .f32⟩
  | .hbm, ⟨3, _⟩ => ⟨S2048x2048, .f32⟩
  | .hbm, ⟨4, _⟩ => ⟨S16x12288, .f32⟩
  | .hbm, ⟨5, _⟩ => ⟨S16x1x12288, .f32⟩
  | .hbm, ⟨6, _⟩ => ⟨S16x1x2048, .f32⟩
  | .hbm, ⟨7, _⟩ => ⟨S16x1x2048, .f32⟩
  | .hbm, ⟨8, _⟩ => ⟨S16x1x2048, .f32⟩
  | .hbm, ⟨9, _⟩ => ⟨S16x1x2048, .f32⟩
  | .hbm, ⟨10, _⟩ => ⟨S16x1x2048, .f32⟩
  | .hbm, ⟨11, _⟩ => ⟨S16x1x2048, .f32⟩
  | .hbm, ⟨12, _⟩ => ⟨S1x12288, .f32⟩
  | .hbm, ⟨13, _⟩ => ⟨S1x1x12288, .f32⟩
  | .hbm, ⟨14, _⟩ => ⟨S1x1x2048, .f32⟩
  | .hbm, ⟨15, _⟩ => ⟨S1x1x2048, .f32⟩
  | .hbm, ⟨16, _⟩ => ⟨S1x1x2048, .f32⟩
  | .hbm, ⟨17, _⟩ => ⟨S1x1x2048, .f32⟩
  | .hbm, ⟨18, _⟩ => ⟨S1x1x2048, .f32⟩
  | .hbm, ⟨19, _⟩ => ⟨S1x1x2048, .f32⟩
  | .hbm, ⟨20, _⟩ => ⟨S16x2048x2048, .f32⟩
  | .hbm, ⟨21, _⟩ => ⟨S16x2048x2048, .f32⟩
  | .hbm, ⟨22, _⟩ => ⟨S_, .f32⟩
  | .hbm, ⟨23, _⟩ => ⟨S16x2048, .f32⟩
  | .hbm, ⟨24, _⟩ => ⟨S16x2048x1, .f32⟩
  | .hbm, ⟨25, _⟩ => ⟨S_, .f32⟩
  | .hbm, ⟨26, _⟩ => ⟨S16x2048x1, .f32⟩
  | .hbm, ⟨27, _⟩ => ⟨S16x2048x1, .f32⟩
  | .hbm, ⟨28, _⟩ => ⟨S_, .f32⟩
  | .hbm, ⟨29, _⟩ => ⟨S16x2048x1, .f32⟩
  | .hbm, ⟨30, _⟩ => ⟨S16x2048x1, .f32⟩
  | .hbm, ⟨31, _⟩ => ⟨S16x2048x1, .f32⟩
  | .hbm, ⟨32, _⟩ => ⟨S16x2048x2048, .f32⟩
  | .hbm, ⟨33, _⟩ => ⟨S16x2048x2048, .f32⟩
  | .hbm, ⟨34, _⟩ => ⟨S1x1x2048, .f32⟩
  | .hbm, ⟨35, _⟩ => ⟨S16x2048x2048, .f32⟩
  | .hbm, ⟨36, _⟩ => ⟨S16x2048x2048, .f32⟩
  | .hbm, ⟨37, _⟩ => ⟨S_, .f32⟩
  | .hbm, ⟨38, _⟩ => ⟨S16x1x2048, .f32⟩
  | .hbm, ⟨39, _⟩ => ⟨S16x1x2048, .f32⟩
  | .hbm, ⟨40, _⟩ => ⟨S16x2048x2048, .f32⟩
  | .hbm, ⟨41, _⟩ => ⟨S16x2048x2048, .f32⟩
  | .hbm, ⟨42, _⟩ => ⟨S16x2048x2048, .f32⟩
  | .hbm, ⟨43, _⟩ => ⟨S16x2048x2048, .f32⟩
  | .hbm, ⟨44, _⟩ => ⟨S16x256x2048, .f32⟩
  | .hbm, ⟨45, _⟩ => ⟨S16x256x2048, .f32⟩
  | .hbm, ⟨46, _⟩ => ⟨S_, .f32⟩
  | .hbm, ⟨47, _⟩ => ⟨S16x256, .f32⟩
  | .hbm, ⟨48, _⟩ => ⟨S16x256x1, .f32⟩
  | .hbm, ⟨49, _⟩ => ⟨S_, .f32⟩
  | .hbm, ⟨50, _⟩ => ⟨S16x256x1, .f32⟩
  | .hbm, ⟨51, _⟩ => ⟨S16x256x1, .f32⟩
  | .hbm, ⟨52, _⟩ => ⟨S_, .f32⟩
  | .hbm, ⟨53, _⟩ => ⟨S16x256x1, .f32⟩
  | .hbm, ⟨54, _⟩ => ⟨S16x256x1, .f32⟩
  | .hbm, ⟨55, _⟩ => ⟨S16x256x1, .f32⟩
  | .hbm, ⟨56, _⟩ => ⟨S16x256x2048, .f32⟩
  | .hbm, ⟨57, _⟩ => ⟨S16x256x2048, .f32⟩
  | .hbm, ⟨58, _⟩ => ⟨S1x1x2048, .f32⟩
  | .hbm, ⟨59, _⟩ => ⟨S16x256x2048, .f32⟩
  | .hbm, ⟨60, _⟩ => ⟨S16x256x2048, .f32⟩
  | .hbm, ⟨61, _⟩ => ⟨S_, .f32⟩
  | .hbm, ⟨62, _⟩ => ⟨S1x1x2048, .f32⟩
  | .hbm, ⟨63, _⟩ => ⟨S1x1x2048, .f32⟩
  | .hbm, ⟨64, _⟩ => ⟨S16x256x2048, .f32⟩
  | .hbm, ⟨65, _⟩ => ⟨S16x256x2048, .f32⟩
  | .hbm, ⟨66, _⟩ => ⟨S16x256x2048, .f32⟩
  | .hbm, ⟨67, _⟩ => ⟨S16x256x2048, .f32⟩
  | .hbm, ⟨68, _⟩ => ⟨S16x2304x2048, .f32⟩
  | .hbm, ⟨69, _⟩ => ⟨S16x2304x2048, .f32⟩
  | .hbm, ⟨70, _⟩ => ⟨S16x2304x2048, .bf16⟩
  | _, _ => ⟨S16x2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩

abbrev nD : Nat := 1
abbrev τ : Topo := Topo.v7x

variable {F : FTy → Type} [FloatOps F]
-- ==== Kernel8.lean ====
abbrev S16x2048x2048 : Shape := ⟨3, ![16, 2048, 2048]⟩
abbrev S17x12288 : Shape := ⟨2, ![17, 12288]⟩
abbrev S2048 : Shape := ⟨1, ![2048]⟩
abbrev S2048x2048 : Shape := ⟨2, ![2048, 2048]⟩
abbrev S17x6x2048 : Shape := ⟨3, ![17, 6, 2048]⟩
abbrev S1x2048 : Shape := ⟨2, ![1, 2048]⟩
abbrev S1x256x2048 : Shape := ⟨3, ![1, 256, 2048]⟩
abbrev S1x6x2048 : Shape := ⟨3, ![1, 6, 2048]⟩
abbrev S2048x1024 : Shape := ⟨2, ![2048, 1024]⟩
abbrev S1x256x1024 : Shape := ⟨3, ![1, 256, 1024]⟩
abbrev S256x2048 : Shape := ⟨2, ![256, 2048]⟩
abbrev S256 : Shape := ⟨1, ![256]⟩
abbrev S256x1 : Shape := ⟨2, ![256, 1]⟩
abbrev S1x1x2048 : Shape := ⟨3, ![1, 1, 2048]⟩
abbrev S256x1024 : Shape := ⟨2, ![256, 1024]⟩

abbrev nBuf : Space → Nat
  | .hbm => 9
  | .vmem => 12
  | .smem => 0
  | _ => 0

abbrev bufTy : (tb : Table) → Fin (tcTables nBuf tb) → BufTy
  | .hbm, ⟨0, _⟩ => ⟨S16x2048x2048, .f32⟩
  | .hbm, ⟨1, _⟩ => ⟨S17x12288, .f32⟩
  | .hbm, ⟨2, _⟩ => ⟨S2048, .f32⟩
  | .hbm, ⟨3, _⟩ => ⟨S2048x2048, .f32⟩
  | .hbm, ⟨4, _⟩ => ⟨S17x6x2048, .f32⟩
  | .hbm, ⟨5, _⟩ => ⟨S2048x2048, .bf16⟩
  | .hbm, ⟨6, _⟩ => ⟨S1x2048, .f32⟩
  | .hbm, ⟨7, _⟩ => ⟨S16x2048x2048, .f32⟩
  | .hbm, ⟨8, _⟩ => ⟨S16x2048x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S2048x1024, .bf16⟩
  | .local _ .vmem, ⟨6, _⟩ => ⟨S2048x1024, .bf16⟩
  | .local _ .vmem, ⟨7, _⟩ => ⟨S1x256x1024, .f32⟩
  | .local _ .vmem, ⟨8, _⟩ => ⟨S1x256x1024, .f32⟩
  | .local _ .vmem, ⟨9, _⟩ => ⟨S1x256x2048, .bf16⟩
  | .local _ .vmem, ⟨10, _⟩ => ⟨S1x256x2048, .bf16⟩
  | .local _ .vmem, ⟨11, _⟩ => ⟨S256x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 8, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .slt arg1 c0_i32
  let c16_i32 : BitVec 32 := 16#32
  let v1 : BitVec 32 := Scalar.select v0 c16_i32 arg0
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference8Ideal.lean ====
abbrev S16x2048x2048 : Shape := ⟨3, ![16, 2048, 2048]⟩
abbrev S17x12288 : Shape := ⟨2, ![17, 12288]⟩
abbrev S2048 : Shape := ⟨1, ![2048]⟩
abbrev S2048x2048 : Shape := ⟨2, ![2048, 2048]⟩
abbrev S16x12288 : Shape := ⟨2, ![16, 12288]⟩
abbrev S16x1x12288 : Shape := ⟨3, ![16, 1, 12288]⟩
abbrev S16x1x2048 : Shape := ⟨3, ![16, 1, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S17x12288, .f32⟩
  | .hbm, ⟨2, _⟩ => ⟨S2048, .f32⟩
  | .hbm, ⟨3, _⟩ => ⟨S2048x2048, .f32⟩
  | .hbm, ⟨4, _⟩ => ⟨S16x12288, .f32⟩
  | .hbm, ⟨5, _⟩ => ⟨S16x1x12288, .f32⟩
  | .hbm, ⟨6, _⟩ => ⟨S16x1x2048, .f32⟩
  | .hbm, ⟨7, _⟩ => ⟨S16x1x2048, .f32⟩
  | .hbm, ⟨8, _⟩ => ⟨S16x1x2048, .f32⟩
  | .hbm, ⟨9, _⟩ => ⟨S16x1x2048, .f32⟩
  | .hbm, ⟨10, _⟩ => ⟨S16x1x2048, .f32⟩
  | .hbm, ⟨11, _⟩ => ⟨S16x1x2048, .f32⟩
  | .hbm, ⟨12, _⟩ => ⟨S16x2048x2048, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S16x2048x1, .f32⟩
  | .hbm, ⟨23, _⟩ => ⟨S16x2048x2048, .f32⟩
  | .hbm, ⟨24, _⟩ => ⟨S16x2048x2048, .f32⟩
  | .hbm, ⟨25, _⟩ => ⟨S1x1x2048, .f32⟩
  | .hbm, ⟨26, _⟩ => ⟨S16x2048x2048, .f32⟩
  | .hbm, ⟨27, _⟩ => ⟨S16x2048x2048, .f32⟩
  | .hbm, ⟨28, _⟩ => ⟨S_, .f32⟩
  | .hbm, ⟨29, _⟩ => ⟨S16x1x2048, .f32⟩
  | .hbm, ⟨30, _⟩ => ⟨S16x1x2048, .f32⟩
  | .hbm, ⟨31, _⟩ => ⟨S16x2048x2048, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S16x2048x2048, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel9.lean ====
abbrev S16x2304x4224 : Shape := ⟨3, ![16, 2304, 4224]⟩
abbrev S512 : Shape := ⟨1, ![512]⟩
abbrev S512x1536 : Shape := ⟨2, ![512, 1536]⟩
abbrev S512x8x192 : Shape := ⟨3, ![512, 8, 192]⟩
abbrev S_ : Shape := ⟨0, ![]⟩
abbrev S512x8x256 : Shape := ⟨3, ![512, 8, 256]⟩
abbrev S512x2048 : Shape := ⟨2, ![512, 2048]⟩
abbrev S1x512 : Shape := ⟨2, ![1, 512]⟩
abbrev S16x2304x2048 : Shape := ⟨3, ![16, 2304, 2048]⟩
abbrev S1x256x512 : Shape := ⟨3, ![1, 256, 512]⟩
abbrev S1x256x2048 : Shape := ⟨3, ![1, 256, 2048]⟩
abbrev S256x512 : Shape := ⟨2, ![256, 512]⟩
abbrev S256 : Shape := ⟨1, ![256]⟩
abbrev S256x1 : Shape := ⟨2, ![256, 1]⟩
abbrev S256x2048 : Shape := ⟨2, ![256, 2048]⟩

abbrev nBuf : Space → Nat
  | .hbm => 11
  | .vmem => 7
  | .smem => 0
  | _ => 0

abbrev bufTy : (tb : Table) → Fin (tcTables nBuf tb) → BufTy
  | .hbm, ⟨0, _⟩ => ⟨S16x2304x4224, .f32⟩
  | .hbm, ⟨1, _⟩ => ⟨S512, .f32⟩
  | .hbm, ⟨2, _⟩ => ⟨S512x1536, .f32⟩
  | .hbm, ⟨3, _⟩ => ⟨S512x8x192, .f32⟩
  | .hbm, ⟨4, _⟩ => ⟨S_, .i32⟩
  | .hbm, ⟨5, _⟩ => ⟨S_, .f32⟩
  | .hbm, ⟨6, _⟩ => ⟨S512x8x256, .f32⟩
  | .hbm, ⟨7, _⟩ => ⟨S512x2048, .f32⟩
  | .hbm, ⟨8, _⟩ => ⟨S512x2048, .bf16⟩
  | .hbm, ⟨9, _⟩ => ⟨S1x512, .f32⟩
  | .hbm, ⟨10, _⟩ => ⟨S16x2304x2048, .f32⟩
  | .local _ .vmem, ⟨0, _⟩ => ⟨S1x256x512, .f32⟩
  | .local _ .vmem, ⟨1, _⟩ => ⟨S1x256x512, .f32⟩
  | .local _ .vmem, ⟨2, _⟩ => ⟨S1x512, .f32⟩
  | .local _ .vmem, ⟨3, _⟩ => ⟨S512x2048, .bf16⟩
  | .local _ .vmem, ⟨4, _⟩ => ⟨S1x256x2048, .f32⟩
  | .local _ .vmem, ⟨5, _⟩ => ⟨S1x256x2048, .f32⟩
  | .local _ .vmem, ⟨6, _⟩ => ⟨S256x512, .bf16⟩
  | _, _ => ⟨S16x2304x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![16, 9, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c6_i32 : BitVec 32 := 6#32
  let c0_i32_0 : BitVec 32 := 0#32
  ![arg0.toNat, v0.toNat, c6_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference9Ideal.lean ====
abbrev S16x2304x4224 : Shape := ⟨3, ![16, 2304, 4224]⟩
abbrev S512 : Shape := ⟨1, ![512]⟩
abbrev S512x1536 : Shape := ⟨2, ![512, 1536]⟩
abbrev S16x2304x512 : Shape := ⟨3, ![16, 2304, 512]⟩
abbrev S_ : Shape := ⟨0, ![]⟩
abbrev S16x2304 : Shape := ⟨2, ![16, 2304]⟩
abbrev S16x2304x1 : Shape := ⟨3, ![16, 2304, 1]⟩
abbrev S1x1x512 : Shape := ⟨3, ![1, 1, 512]⟩
abbrev S16x2304x1536 : Shape := ⟨3, ![16, 2304, 1536]⟩
abbrev S16x2304x8x192 : Shape := ⟨4, ![16, 2304, 8, 192]⟩
abbrev S16x2304x8x256 : Shape := ⟨4, ![16, 2304, 8, 256]⟩
abbrev S16x2304x2048 : Shape := ⟨3, ![16, 2304, 2048]⟩

abbrev nBuf : Space → Nat
  | .hbm => 26
  | .vmem => 0
  | .smem => 0
  | _ => 0

abbrev bufTy : (tb : Table) → Fin (tcTables nBuf tb) → BufTy
  | .hbm, ⟨0, _⟩ => ⟨S16x2304x4224, .f32⟩
  | .hbm, ⟨1, _⟩ => ⟨S512, .f32⟩
  | .hbm, ⟨2, _⟩ => ⟨S512x1536, .f32⟩
  | .hbm, ⟨3, _⟩ => ⟨S16x2304x512, .f32⟩
  | .hbm, ⟨4, _⟩ => ⟨S16x2304x512, .f32⟩
  | .hbm, ⟨5, _⟩ => ⟨S_, .f32⟩
  | .hbm, ⟨6, _⟩ => ⟨S16x2304, .f32⟩
  | .hbm, ⟨7, _⟩ => ⟨S16x2304x1, .f32⟩
  | .hbm, ⟨8, _⟩ => ⟨S_, .f32⟩
  | .hbm, ⟨9, _⟩ => ⟨S16x2304x1, .f32⟩
  | .hbm, ⟨10, _⟩ => ⟨S16x2304x1, .f32⟩
  | .hbm, ⟨11, _⟩ => ⟨S_, .f32⟩
  | .hbm, ⟨12, _⟩ => ⟨S16x2304x1, .f32⟩
  | .hbm, ⟨13, _⟩ => ⟨S16x2304x1, .f32⟩
  | .hbm, ⟨14, _⟩ => ⟨S16x2304x1, .f32⟩
  | .hbm, ⟨15, _⟩ => ⟨S16x2304x512, .f32⟩
  | .hbm, ⟨16, _⟩ => ⟨S16x2304x512, .f32⟩
  | .hbm, ⟨17, _⟩ => ⟨S1x1x512, .f32⟩
  | .hbm, ⟨18, _⟩ => ⟨S16x2304x512, .f32⟩
  | .hbm, ⟨19, _⟩ => ⟨S16x2304x512, .f32⟩
  | .hbm, ⟨20, _⟩ => ⟨S16x2304x1536, .f32⟩
  | .hbm, ⟨21, _⟩ => ⟨S16x2304x8x192, .f32⟩
  | .hbm, ⟨22, _⟩ => ⟨S_, .i32⟩
  | .hbm, ⟨23, _⟩ => ⟨S_, .f32⟩
  | .hbm, ⟨24, _⟩ => ⟨S16x2304x8x256, .f32⟩
  | .hbm, ⟨25, _⟩ => ⟨S16x2304x2048, .f32⟩
  | _, _ => ⟨S16x2304x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel10.lean ====
abbrev S16x2304x4224 : Shape := ⟨3, ![16, 2304, 4224]⟩
abbrev S512 : Shape := ⟨1, ![512]⟩
abbrev S512x2048 : Shape := ⟨2, ![512, 2048]⟩
abbrev S1x512 : Shape := ⟨2, ![1, 512]⟩
abbrev S16x2304x2048 : Shape := ⟨3, ![16, 2304, 2048]⟩
abbrev S1x256x512 : Shape := ⟨3, ![1, 256, 512]⟩
abbrev S1x256x2048 : Shape := ⟨3, ![1, 256, 2048]⟩
abbrev S256x512 : Shape := ⟨2, ![256, 512]⟩
abbrev S256 : Shape := ⟨1, ![256]⟩
abbrev S256x1 : Shape := ⟨2, ![256, 1]⟩
abbrev S256x2048 : Shape := ⟨2, ![256, 2048]⟩

abbrev nBuf : Space → Nat
  | .hbm => 6
  | .vmem => 7
  | .smem => 0
  | _ => 0

abbrev bufTy : (tb : Table) → Fin (tcTables nBuf tb) → BufTy
  | .hbm, ⟨0, _⟩ => ⟨S16x2304x4224, .f32⟩
  | .hbm, ⟨1, _⟩ => ⟨S512, .f32⟩
  | .hbm, ⟨2, _⟩ => ⟨S512x2048, .f32⟩
  | .hbm, ⟨3, _⟩ => ⟨S512x2048, .bf16⟩
  | .hbm, ⟨4, _⟩ => ⟨S1x512, .f32⟩
  | .hbm, ⟨5, _⟩ => ⟨S16x2304x2048, .f32⟩
  | .local _ .vmem, ⟨0, _⟩ => ⟨S1x256x512, .f32⟩
  | .local _ .vmem, ⟨1, _⟩ => ⟨S1x256x512, .f32⟩
  | .local _ .vmem, ⟨2, _⟩ => ⟨S1x512, .f32⟩
  | .local _ .vmem, ⟨3, _⟩ => ⟨S512x2048, .bf16⟩
  | .local _ .vmem, ⟨4, _⟩ => ⟨S1x256x2048, .f32⟩
  | .local _ .vmem, ⟨5, _⟩ => ⟨S1x256x2048, .f32⟩
  | .local _ .vmem, ⟨6, _⟩ => ⟨S256x512, .bf16⟩
  | _, _ => ⟨S16x2304x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![16, 9, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c7_i32 : BitVec 32 := 7#32
  let c0_i32_0 : BitVec 32 := 0#32
  ![arg0.toNat, v0.toNat, c7_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference10Ideal.lean ====
abbrev S16x2304x4224 : Shape := ⟨3, ![16, 2304, 4224]⟩
abbrev S512 : Shape := ⟨1, ![512]⟩
abbrev S512x2048 : Shape := ⟨2, ![512, 2048]⟩
abbrev S16x2304x512 : Shape := ⟨3, ![16, 2304, 512]⟩
abbrev S_ : Shape := ⟨0, ![]⟩
abbrev S16x2304 : Shape := ⟨2, ![16, 2304]⟩
abbrev S16x2304x1 : Shape := ⟨3, ![16, 2304, 1]⟩
abbrev S1x1x512 : Shape := ⟨3, ![1, 1, 512]⟩
abbrev S16x2304x2048 : Shape := ⟨3, ![16, 2304, 2048]⟩

abbrev nBuf : Space → Nat
  | .hbm => 21
  | .vmem => 0
  | .smem => 0
  | _ => 0

abbrev bufTy : (tb : Table) → Fin (tcTables nBuf tb) → BufTy
  | .hbm, ⟨0, _⟩ => ⟨S16x2304x4224, .f32⟩
  | .hbm, ⟨1, _⟩ => ⟨S512, .f32⟩
  | .hbm, ⟨2, _⟩ => ⟨S512x2048, .f32⟩
  | .hbm, ⟨3, _⟩ => ⟨S16x2304x512, .f32⟩
  | .hbm, ⟨4, _⟩ => ⟨S16x2304x512, .f32⟩
  | .hbm, ⟨5, _⟩ => ⟨S_, .f32⟩
  | .hbm, ⟨6, _⟩ => ⟨S16x2304, .f32⟩
  | .hbm, ⟨7, _⟩ => ⟨S16x2304x1, .f32⟩
  | .hbm, ⟨8, _⟩ => ⟨S_, .f32⟩
  | .hbm, ⟨9, _⟩ => ⟨S16x2304x1, .f32⟩
  | .hbm, ⟨10, _⟩ => ⟨S16x2304x1, .f32⟩
  | .hbm, ⟨11, _⟩ => ⟨S_, .f32⟩
  | .hbm, ⟨12, _⟩ => ⟨S16x2304x1, .f32⟩
  | .hbm, ⟨13, _⟩ => ⟨S16x2304x1, .f32⟩
  | .hbm, ⟨14, _⟩ => ⟨S16x2304x1, .f32⟩
  | .hbm, ⟨15, _⟩ => ⟨S16x2304x512, .f32⟩
  | .hbm, ⟨16, _⟩ => ⟨S16x2304x512, .f32⟩
  | .hbm, ⟨17, _⟩ => ⟨S1x1x512, .f32⟩
  | .hbm, ⟨18, _⟩ => ⟨S16x2304x512, .f32⟩
  | .hbm, ⟨19, _⟩ => ⟨S16x2304x512, .f32⟩
  | .hbm, ⟨20, _⟩ => ⟨S16x2304x2048, .f32⟩
  | _, _ => ⟨S16x2304x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel11.lean ====
abbrev S24x2048 : Shape := ⟨2, ![24, 2048]⟩
abbrev S2048x12288 : Shape := ⟨2, ![2048, 12288]⟩
abbrev S12288 : Shape := ⟨1, ![12288]⟩
abbrev S1x12288 : Shape := ⟨2, ![1, 12288]⟩
abbrev S24x12288 : Shape := ⟨2, ![24, 12288]⟩
abbrev S2048x1024 : Shape := ⟨2, ![2048, 1024]⟩
abbrev S1x1024 : Shape := ⟨2, ![1, 1024]⟩
abbrev S24x1024 : Shape := ⟨2, ![24, 1024]⟩

abbrev nBuf : Space → Nat
  | .hbm => 5
  | .vmem => 7
  | .smem => 0
  | _ => 0

abbrev bufTy : (tb : Table) → Fin (tcTables nBuf tb) → BufTy
  | .hbm, ⟨0, _⟩ => ⟨S24x2048, .f32⟩
  | .hbm, ⟨1, _⟩ => ⟨S2048x12288, .f32⟩
  | .hbm, ⟨2, _⟩ => ⟨S12288, .f32⟩
  | .hbm, ⟨3, _⟩ => ⟨S1x12288, .f32⟩
  | .hbm, ⟨4, _⟩ => ⟨S24x12288, .f32⟩
  | .local _ .vmem, ⟨0, _⟩ => ⟨S24x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S24x1024, .f32⟩
  | .local _ .vmem, ⟨6, _⟩ => ⟨S24x1024, .f32⟩
  | _, _ => ⟨S24x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S24x2048 : Shape := ⟨2, ![24, 2048]⟩
abbrev S2048x12288 : Shape := ⟨2, ![2048, 12288]⟩
abbrev S12288 : Shape := ⟨1, ![12288]⟩
abbrev S_ : Shape := ⟨0, ![]⟩
abbrev S24x12288 : Shape := ⟨2, ![24, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S24x2048, .f32⟩
  | .hbm, ⟨1, _⟩ => ⟨S2048x12288, .f32⟩
  | .hbm, ⟨2, _⟩ => ⟨S12288, .f32⟩
  | .hbm, ⟨3, _⟩ => ⟨S24x2048, .f32⟩
  | .hbm, ⟨4, _⟩ => ⟨S24x2048, .f32⟩
  | .hbm, ⟨5, _⟩ => ⟨S_, .f32⟩
  | .hbm, ⟨6, _⟩ => ⟨S24x2048, .f32⟩
  | .hbm, ⟨7, _⟩ => ⟨S24x2048, .f32⟩
  | .hbm, ⟨8, _⟩ => ⟨S_, .f32⟩
  | .hbm, ⟨9, _⟩ => ⟨S24x2048, .f32⟩
  | .hbm, ⟨10, _⟩ => ⟨S24x2048, .f32⟩
  | .hbm, ⟨11, _⟩ => ⟨S24x2048, .f32⟩
  | .hbm, ⟨12, _⟩ => ⟨S24x12288, .f32⟩
  | .hbm, ⟨13, _⟩ => ⟨S1x12288, .f32⟩
  | .hbm, ⟨14, _⟩ => ⟨S24x12288, .f32⟩
  | .hbm, ⟨15, _⟩ => ⟨S24x12288, .f32⟩
  | _, _ => ⟨S24x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel12.lean ====
abbrev S16x2304x4224 : Shape := ⟨3, ![16, 2304, 4224]⟩
abbrev S8x8x64x512 : Shape := ⟨4, ![8, 8, 64, 512]⟩
abbrev S16x2048x1024 : Shape := ⟨3, ![16, 2048, 1024]⟩
abbrev S1x256x128 : Shape := ⟨3, ![1, 256, 128]⟩
abbrev S1x2304x128 : Shape := ⟨3, ![1, 2304, 128]⟩
abbrev S1x8x64x512 : Shape := ⟨4, ![1, 8, 64, 512]⟩
abbrev S2304x128 : Shape := ⟨2, ![2304, 128]⟩
abbrev S256x128 : Shape := ⟨2, ![256, 128]⟩
abbrev S1x64x128 : Shape := ⟨3, ![1, 64, 128]⟩
abbrev S64x128 : Shape := ⟨2, ![64, 128]⟩
abbrev S512x128 : Shape := ⟨2, ![512, 128]⟩
abbrev S64x256 : Shape := ⟨2, ![64, 256]⟩
abbrev S64x512 : Shape := ⟨2, ![64, 512]⟩
abbrev S1x1x64x512 : Shape := ⟨4, ![1, 1, 64, 512]⟩
abbrev S64 : Shape := ⟨1, ![64]⟩
abbrev S64x1 : Shape := ⟨2, ![64, 1]⟩

abbrev nBuf : Space → Nat
  | .hbm => 3
  | .vmem => 12
  | .smem => 0
  | _ => 0

abbrev bufTy : (tb : Table) → Fin (tcTables nBuf tb) → BufTy
  | .hbm, ⟨0, _⟩ => ⟨S16x2304x4224, .f32⟩
  | .hbm, ⟨1, _⟩ => ⟨S8x8x64x512, .f32⟩
  | .hbm, ⟨2, _⟩ => ⟨S16x2048x1024, .bf16⟩
  | .local _ .vmem, ⟨0, _⟩ => ⟨S1x256x128, .f32⟩
  | .local _ .vmem, ⟨1, _⟩ => ⟨S1x256x128, .f32⟩
  | .local _ .vmem, ⟨2, _⟩ => ⟨S1x2304x128, .f32⟩
  | .local _ .vmem, ⟨3, _⟩ => ⟨S1x2304x128, .f32⟩
  | .local _ .vmem, ⟨4, _⟩ => ⟨S1x2304x128, .f32⟩
  | .local _ .vmem, ⟨5, _⟩ => ⟨S1x2304x128, .f32⟩
  | .local _ .vmem, ⟨6, _⟩ => ⟨S1x8x64x512, .f32⟩
  | .local _ .vmem, ⟨7, _⟩ => ⟨S1x8x64x512, .f32⟩
  | .local _ .vmem, ⟨8, _⟩ => ⟨S1x256x128, .bf16⟩
  | .local _ .vmem, ⟨9, _⟩ => ⟨S1x256x128, .bf16⟩
  | .local _ .vmem, ⟨10, _⟩ => ⟨S2304x128, .bf16⟩
  | .local _ .vmem, ⟨11, _⟩ => ⟨S2304x128, .bf16⟩
  | _, _ => ⟨S16x2304x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 8, 8], ![false, false, false]⟩

def k0_mult1 (i : grid0.Coords) : BitVec 32 :=
  let c256_i32 : BitVec 32 := 256#32
  let c24_i32 : BitVec 32 := 24#32
  let c0_i32_6 : BitVec 32 := 0#32
  let arg2 : BitVec 32 := BitVec.ofNat 32 (i 2).val
  let c4_i32 : BitVec 32 := 4#32
  let v5 : BitVec 32 := Scalar.muli arg2 c4_i32
  let c0_i32_4 : BitVec 32 := 0#32
  let v6 : BitVec 32 := Scalar.addi v5 c0_i32_4
  let c4_i32_5 : BitVec 32 := 4#32
  let v7 : BitVec 32 := Scalar.subi v6 c4_i32_5
  let v8 : BitVec 32 := Scalar.maxsi c0_i32_6 v7
  let v9 : BitVec 32 := Scalar.minsi c24_i32 v8
  let c64_i32 : BitVec 32 := 64#32
  let v10 : BitVec 32 := Scalar.muli v9 c64_i32
  let v11 : BitVec 32 := Scalar.addi c256_i32 v10
  v11
def k0_off1 (i : grid0.Coords) (c0_i32_4 : BitVec 32) : Fin 2 → Nat :=
  let c256_i32 : BitVec 32 := 256#32
  let c24_i32 : BitVec 32 := 24#32
  let c0_i32_6 : BitVec 32 := 0#32
  let arg2 : BitVec 32 := BitVec.ofNat 32 (i 2).val
  let c4_i32 : BitVec 32 := 4#32
  let v5 : BitVec 32 := Scalar.muli arg2 c4_i32
  let v6 : BitVec 32 := Scalar.addi v5 c0_i32_4
  let c4_i32_5 : BitVec 32 := 4#32
  let v7 : BitVec 32 := Scalar.subi v6 c4_i32_5
  let v8 : BitVec 32 := Scalar.maxsi c0_i32_6 v7
  let v9 : BitVec 32 := Scalar.minsi c24_i32 v8
  let c64_i32 : BitVec 32 := 64#32
  let v10 : BitVec 32 := Scalar.muli v9 c64_i32
  let v11 : BitVec 32 := Scalar.addi c256_i32 v10
  let v12 : BitVec 32 := v11
  let v16 : Index := Scalar.indexCast v12
  let c0_10 : Index := 0#32
  ![v16.toNat, 0]
def k0_off2 (i : grid0.Coords) (c0_i32_4 : BitVec 32) : Fin 4 → Nat :=
  let c0_15 : Index := 0#32
  let arg2 : BitVec 32 := BitVec.ofNat 32 (i 2).val
  let c4_i32 : BitVec 32 := 4#32
  let v5 : BitVec 32 := Scalar.muli arg2 c4_i32
  let v6 : BitVec 32 := Scalar.addi v5 c0_i32_4
  let c24_i32 : BitVec 32 := 24#32
  let c0_i32_6 : BitVec 32 := 0#32
  let c4_i32_5 : BitVec 32 := 4#32
  let v7 : BitVec 32 := Scalar.subi v6 c4_i32_5
  let v8 : BitVec 32 := Scalar.maxsi c0_i32_6 v7
  let v9 : BitVec 32 := Scalar.minsi c24_i32 v8
  let v26 : BitVec 32 := Scalar.subi v6 v9
  let v27 : Index := Scalar.indexCast v26
  let c0_16 : Index := 0#32
  let c0_17 : Index := 0#32
  ![0, v27.toNat, 0, 0]
def k0_mult2 (i : grid0.Coords) : BitVec 32 :=
  let c256_i32_32 : BitVec 32 := 256#32
  let c24_i32_30 : BitVec 32 := 24#32
  let c0_i32_29 : BitVec 32 := 0#32
  let arg2 : BitVec 32 := BitVec.ofNat 32 (i 2).val
  let c4_i32_27 : BitVec 32 := 4#32
  let v58 : BitVec 32 := Scalar.muli arg2 c4_i32_27
  let c1_i32 : BitVec 32 := 1#32
  let v59 : BitVec 32 := Scalar.addi v58 c1_i32
  let c4_i32_28 : BitVec 32 := 4#32
  let v60 : BitVec 32 := Scalar.subi v59 c4_i32_28
  let v61 : BitVec 32 := Scalar.maxsi c0_i32_29 v60
  let v62 : BitVec 32 := Scalar.minsi c24_i32_30 v61
  let c64_i32_31 : BitVec 32 := 64#32
  let v63 : BitVec 32 := Scalar.muli v62 c64_i32_31
  let v64 : BitVec 32 := Scalar.addi c256_i32_32 v63
  v64
def k0_mult3 (i : grid0.Coords) : BitVec 32 :=
  let c256_i32_58 : BitVec 32 := 256#32
  let c24_i32_56 : BitVec 32 := 24#32
  let c0_i32_55 : BitVec 32 := 0#32
  let arg2 : BitVec 32 := BitVec.ofNat 32 (i 2).val
  let c4_i32_53 : BitVec 32 := 4#32
  let v111 : BitVec 32 := Scalar.muli arg2 c4_i32_53
  let c2_i32 : BitVec 32 := 2#32
  let v112 : BitVec 32 := Scalar.addi v111 c2_i32
  let c4_i32_54 : BitVec 32 := 4#32
  let v113 : BitVec 32 := Scalar.subi v112 c4_i32_54
  let v114 : BitVec 32 := Scalar.maxsi c0_i32_55 v113
  let v115 : BitVec 32 := Scalar.minsi c24_i32_56 v114
  let c64_i32_57 : BitVec 32 := 64#32
  let v116 : BitVec 32 := Scalar.muli v115 c64_i32_57
  let v117 : BitVec 32 := Scalar.addi c256_i32_58 v116
  v117
def k0_mult4 (i : grid0.Coords) : BitVec 32 :=
  let c256_i32_84 : BitVec 32 := 256#32
  let c24_i32_82 : BitVec 32 := 24#32
  let c0_i32_81 : BitVec 32 := 0#32
  let arg2 : BitVec 32 := BitVec.ofNat 32 (i 2).val
  let c4_i32_79 : BitVec 32 := 4#32
  let v164 : BitVec 32 := Scalar.muli arg2 c4_i32_79
  let c3_i32 : BitVec 32 := 3#32
  let v165 : BitVec 32 := Scalar.addi v164 c3_i32
  let c4_i32_80 : BitVec 32 := 4#32
  let v166 : BitVec 32 := Scalar.subi v165 c4_i32_80
  let v167 : BitVec 32 := Scalar.maxsi c0_i32_81 v166
  let v168 : BitVec 32 := Scalar.minsi c24_i32_82 v167
  let c64_i32_83 : BitVec 32 := 64#32
  let v169 : BitVec 32 := Scalar.muli v168 c64_i32_83
  let v170 : BitVec 32 := Scalar.addi c256_i32_84 v169
  v170
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference12Ideal.lean ====
abbrev S16x2304x4224 : Shape := ⟨3, ![16, 2304, 4224]⟩
abbrev S8x8x64x512 : Shape := ⟨4, ![8, 8, 64, 512]⟩
abbrev S16x2304x1024 : Shape := ⟨3, ![16, 2304, 1024]⟩
abbrev S16x2304x8x128 : Shape := ⟨4, ![16, 2304, 8, 128]⟩
abbrev S16x8x2304x128 : Shape := ⟨4, ![16, 8, 2304, 128]⟩
abbrev S16x2304x2048 : Shape := ⟨3, ![16, 2304, 2048]⟩
abbrev S16x2304x16x128 : Shape := ⟨4, ![16, 2304, 16, 128]⟩
abbrev S16x16x2304x128 : Shape := ⟨4, ![16, 16, 2304, 128]⟩
abbrev S16x8x2048x128 : Shape := ⟨4, ![16, 8, 2048, 128]⟩
abbrev S16x8x32x64x128 : Shape := ⟨5, ![16, 8, 32, 64, 128]⟩
abbrev S16x16x2048x128 : Shape := ⟨4, ![16, 16, 2048, 128]⟩
abbrev S16x16x32x64x128 : Shape := ⟨5, ![16, 16, 32, 64, 128]⟩
abbrev S16x16x25x64x128 : Shape := ⟨5, ![16, 16, 25, 64, 128]⟩
abbrev S16x16x25x512x128 : Shape := ⟨5, ![16, 16, 25, 512, 128]⟩
abbrev S16x16x1x512x128 : Shape := ⟨5, ![16, 16, 1, 512, 128]⟩
abbrev S16x16x4x512x128 : Shape := ⟨5, ![16, 16, 4, 512, 128]⟩
abbrev S16x16x3x512x128 : Shape := ⟨5, ![16, 16, 3, 512, 128]⟩
abbrev S16x16x32x512x128 : Shape := ⟨5, ![16, 16, 32, 512, 128]⟩
abbrev S16x8x32x512x128 : Shape := ⟨5, ![16, 8, 32, 512, 128]⟩
abbrev S16x8x256x128 : Shape := ⟨4, ![16, 8, 256, 128]⟩
abbrev S8x1x64x512 : Shape := ⟨4, ![8, 1, 64, 512]⟩
abbrev S8x25x64x512 : Shape := ⟨4, ![8, 25, 64, 512]⟩
abbrev S8x4x64x512 : Shape := ⟨4, ![8, 4, 64, 512]⟩
abbrev S8x3x64x512 : Shape := ⟨4, ![8, 3, 64, 512]⟩
abbrev S8x32x64x512 : Shape := ⟨4, ![8, 32, 64, 512]⟩
abbrev S16x8x32x64x512 : Shape := ⟨5, ![16, 8, 32, 64, 512]⟩
abbrev S_ : Shape := ⟨0, ![]⟩
abbrev S1x8x32x64x512 : Shape := ⟨5, ![1, 8, 32, 64, 512]⟩
abbrev S16x8x32x64x256 : Shape := ⟨5, ![16, 8, 32, 64, 256]⟩
abbrev S16x8x32x64x768 : Shape := ⟨5, ![16, 8, 32, 64, 768]⟩
abbrev S16x8x32x64 : Shape := ⟨4, ![16, 8, 32, 64]⟩
abbrev S16x8x32x64x1 : Shape := ⟨5, ![16, 8, 32, 64, 1]⟩
abbrev S16x2048x8x128 : Shape := ⟨4, ![16, 2048, 8, 128]⟩
abbrev S16x2048x1024 : Shape := ⟨3, ![16, 2048, 1024]⟩

abbrev nBuf : Space → Nat
  | .hbm => 70
  | .vmem => 0
  | .smem => 0
  | _ => 0

abbrev bufTy : (tb : Table) → Fin (tcTables nBuf tb) → BufTy
  | .hbm, ⟨0, _⟩ => ⟨S16x2304x4224, .f32⟩
  | .hbm, ⟨1, _⟩ => ⟨S8x8x64x512, .f32⟩
  | .hbm, ⟨2, _⟩ => ⟨S16x2304x1024, .f32⟩
  | .hbm, ⟨3, _⟩ => ⟨S16x2304x8x128, .f32⟩
  | .hbm, ⟨4, _⟩ => ⟨S16x8x2304x128, .f32⟩
  | .hbm, ⟨5, _⟩ => ⟨S16x2304x2048, .f32⟩
  | .hbm, ⟨6, _⟩ => ⟨S16x2304x16x128, .f32⟩
  | .hbm, ⟨7, _⟩ => ⟨S16x16x2304x128, .f32⟩
  | .hbm, ⟨8, _⟩ => ⟨S16x8x2048x128, .f32⟩
  | .hbm, ⟨9, _⟩ => ⟨S16x8x32x64x128, .f32⟩
  | .hbm, ⟨10, _⟩ => ⟨S16x16x2048x128, .f32⟩
  | .hbm, ⟨11, _⟩ => ⟨S16x16x32x64x128, .f32⟩
  | .hbm, ⟨12, _⟩ => ⟨S16x16x25x64x128, .f32⟩
  | .hbm, ⟨13, _⟩ => ⟨S16x16x25x64x128, .f32⟩
  | .hbm, ⟨14, _⟩ => ⟨S16x16x25x64x128, .f32⟩
  | .hbm, ⟨15, _⟩ => ⟨S16x16x25x64x128, .f32⟩
  | .hbm, ⟨16, _⟩ => ⟨S16x16x25x64x128, .f32⟩
  | .hbm, ⟨17, _⟩ => ⟨S16x16x25x64x128, .f32⟩
  | .hbm, ⟨18, _⟩ => ⟨S16x16x25x64x128, .f32⟩
  | .hbm, ⟨19, _⟩ => ⟨S16x16x25x64x128, .f32⟩
  | .hbm, ⟨20, _⟩ => ⟨S16x16x25x512x128, .f32⟩
  | .hbm, ⟨21, _⟩ => ⟨S16x16x1x512x128, .f32⟩
  | .hbm, ⟨22, _⟩ => ⟨S16x16x4x512x128, .f32⟩
  | .hbm, ⟨23, _⟩ => ⟨S16x16x1x512x128, .f32⟩
  | .hbm, ⟨24, _⟩ => ⟨S16x16x3x512x128, .f32⟩
  | .hbm, ⟨25, _⟩ => ⟨S16x16x32x512x128, .f32⟩
  | .hbm, ⟨26, _⟩ => ⟨S16x8x32x512x128, .f32⟩
  | .hbm, ⟨27, _⟩ => ⟨S16x8x32x512x128, .f32⟩
  | .hbm, ⟨28, _⟩ => ⟨S16x8x256x128, .f32⟩
  | .hbm, ⟨29, _⟩ => ⟨S16x8x256x128, .f32⟩
  | .hbm, ⟨30, _⟩ => ⟨S8x1x64x512, .f32⟩
  | .hbm, ⟨31, _⟩ => ⟨S8x25x64x512, .f32⟩
  | .hbm, ⟨32, _⟩ => ⟨S8x4x64x512, .f32⟩
  | .hbm, ⟨33, _⟩ => ⟨S8x3x64x512, .f32⟩
  | .hbm, ⟨34, _⟩ => ⟨S8x32x64x512, .f32⟩
  | .hbm, ⟨35, _⟩ => ⟨S16x8x32x64x512, .f32⟩
  | .hbm, ⟨36, _⟩ => ⟨S_, .f32⟩
  | .hbm, ⟨37, _⟩ => ⟨S16x8x32x64x512, .f32⟩
  | .hbm, ⟨38, _⟩ => ⟨S16x8x32x64x512, .f32⟩
  | .hbm, ⟨39, _⟩ => ⟨S1x8x32x64x512, .f32⟩
  | .hbm, ⟨40, _⟩ => ⟨S16x8x32x64x512, .f32⟩
  | .hbm, ⟨41, _⟩ => ⟨S16x8x32x64x512, .f32⟩
  | .hbm, ⟨42, _⟩ => ⟨S16x8x32x64x256, .f32⟩
  | .hbm, ⟨43, _⟩ => ⟨S_, .f32⟩
  | .hbm, ⟨44, _⟩ => ⟨S16x8x32x64x256, .f32⟩
  | .hbm, ⟨45, _⟩ => ⟨S16x8x32x64x256, .f32⟩
  | .hbm, ⟨46, _⟩ => ⟨S16x8x32x64x768, .f32⟩
  | .hbm, ⟨47, _⟩ => ⟨S_, .f32⟩
  | .hbm, ⟨48, _⟩ => ⟨S16x8x32x64, .f32⟩
  | .hbm, ⟨49, _⟩ => ⟨S_, .f32⟩
  | .hbm, ⟨50, _⟩ => ⟨S16x8x32x64, .f32⟩
  | .hbm, ⟨51, _⟩ => ⟨S16x8x32x64, .f32⟩
  | .hbm, ⟨52, _⟩ => ⟨S16x8x32x64x1, .f32⟩
  | .hbm, ⟨53, _⟩ => ⟨S16x8x32x64x768, .f32⟩
  | .hbm, ⟨54, _⟩ => ⟨S16x8x32x64x768, .f32⟩
  | .hbm, ⟨55, _⟩ => ⟨S16x8x32x64x768, .f32⟩
  | .hbm, ⟨56, _⟩ => ⟨S_, .f32⟩
  | .hbm, ⟨57, _⟩ => ⟨S16x8x32x64, .f32⟩
  | .hbm, ⟨58, _⟩ => ⟨S16x8x32x64x1, .f32⟩
  | .hbm, ⟨59, _⟩ => ⟨S16x8x32x64x768, .f32⟩
  | .hbm, ⟨60, _⟩ => ⟨S16x8x32x64x768, .f32⟩
  | .hbm, ⟨61, _⟩ => ⟨S16x8x32x64x256, .f32⟩
  | .hbm, ⟨62, _⟩ => ⟨S16x8x32x64x128, .f32⟩
  | .hbm, ⟨63, _⟩ => ⟨S16x8x32x64x512, .f32⟩
  | .hbm, ⟨64, _⟩ => ⟨S16x8x32x64x128, .f32⟩
  | .hbm, ⟨65, _⟩ => ⟨S16x8x32x64x128, .f32⟩
  | .hbm, ⟨66, _⟩ => ⟨S16x8x2048x128, .f32⟩
  | .hbm, ⟨67, _⟩ => ⟨S16x2048x8x128, .f32⟩
  | .hbm, ⟨68, _⟩ => ⟨S16x2048x1024, .f32⟩
  | .hbm, ⟨69, _⟩ => ⟨S16x2048x1024, .bf16⟩
  | _, _ => ⟨S16x2304x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_cst : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_cst_0 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_cst_1 : Ref sig .tc := ⟨.hbm, 47, rfl⟩
abbrev main_v43 : Ref sig .tc := ⟨.hbm, 48, rfl⟩
abbrev main_cst_2 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_cst_3 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩

abbrev nD : Nat := 1
abbrev τ : Topo := Topo.v7x

variable {F : FTy → Type} [FloatOps F]
-- ==== Proof.Softmax.lean ====
/-
  Attention weights on the extended reals. The kernels divide the weighted sum of the values once, by the sum
  of the exponentials; a softmax divides each exponential first. On finite scores the two agree, whatever the
  values are.
-/
module

public import Idealize.ShloMosaic.PureOps.Ideal
public import Idealize.ShloMosaic.PureOps.Ideal.Laws

@[expose] public section

noncomputable section

namespace Cert.Softmax

open Idealize.ShloMosaic

/-- The greatest score. -/
def top {n : Nat} (s : Fin n → EReal) : EReal := Finset.univ.fold max ⊥ s

/-- The exponential of a score less the greatest score. -/
def num {n : Nat} (s : Fin n → EReal) (k : Fin n) : EReal := Ideal.exp (s k - top s)

/-- The sum of these exponentials. -/
def den {n : Nat} (s : Fin n → EReal) : EReal := ∑ k, num s k

/-- Softmax attention of one row: the values weighted by the normalised exponentials of the scores. -/
def attend {n : Nat} (s v : Fin n → EReal) : EReal := ∑ k, Ideal.div (num s k) (den s) * v k

/-- An f32 minus infinity denotes the bottom of the extended reals. -/
theorem ofBits_neg_inf : Ideal.ofBits .f32 0xFF800000#32 = ⊥ := by simp [Ideal.ofBits, Ideal.ieee]

/-- An f32 plus infinity denotes the top of the extended reals. -/
theorem ofBits_inf : Ideal.ofBits .f32 0x7F800000#32 = ⊤ := by simp [Ideal.ofBits, Ideal.ieee]

/-- A finite sum of reals, read as extended reals, is the sum of the reals. -/
theorem coe_sum {ι : Type} (t : Finset ι) (f : ι → ℝ) : (∑ k ∈ t, (f k : EReal)) = ((∑ k ∈ t, f k : ℝ) : EReal) := by
  classical
  induction t using Finset.induction_on with
  | empty => simp
  | insert a t ha ih => rw [Finset.sum_insert ha, Finset.sum_insert ha, ih, EReal.coe_add]

/-- Multiplication by a nonnegative real distributes over any sum of extended reals. -/
theorem sum_mul_real {ι : Type} (t : Finset ι) (f : ι → EReal) {c : ℝ} (hc : 0 ≤ c) :
    (∑ k ∈ t, f k) * (c : EReal) = ∑ k ∈ t, f k * (c : EReal) := by
  classical
  have hc' : (0 : EReal) ≤ (c : EReal) := by exact_mod_cast hc
  induction t using Finset.induction_on with
  | empty => simp
  | insert a t ha ih =>
    rw [Finset.sum_insert ha, Finset.sum_insert ha, mul_comm,
      EReal.left_distrib_of_nonneg_of_ne_top hc' (EReal.coe_ne_top c), mul_comm, ← ih, mul_comm (c : EReal)]

/-- A finite extended real is a real. -/
theorem exists_real {x : EReal} (h : x ≠ ⊥ ∧ x ≠ ⊤) : ∃ r : ℝ, x = (r : EReal) :=
  ⟨x.toReal, (EReal.coe_toReal h.2 h.1).symm⟩

/-- An extended real whose magnitude is below infinity is finite. -/
theorem finite_of_abs_lt {x : EReal} (h : max x (-x) < ⊤) : x ≠ ⊥ ∧ x ≠ ⊤ := by
  constructor
  · rintro rfl; simp at h
  · rintro rfl; simp at h

/-- A product of finite numbers is finite. -/
theorem finite_mul {x y : EReal} (hx : x ≠ ⊥ ∧ x ≠ ⊤) (hy : y ≠ ⊥ ∧ y ≠ ⊤) : x * y ≠ ⊥ ∧ x * y ≠ ⊤ := by
  obtain ⟨a, rfl⟩ := exists_real hx
  obtain ⟨b, rfl⟩ := exists_real hy
  rw [← EReal.coe_mul]
  exact ⟨EReal.coe_ne_bot _, EReal.coe_ne_top _⟩

/-- A finite sum of finite numbers is finite. -/
theorem finite_sum {n : Nat} (f : Fin n → EReal) (h : ∀ k, f k ≠ ⊥ ∧ f k ≠ ⊤) :
    (∑ k, f k) ≠ ⊥ ∧ (∑ k, f k) ≠ ⊤ := by
  choose r hr using fun k => exists_real (h k)
  obtain rfl : f = fun k => (r k : EReal) := funext hr
  rw [coe_sum]
  exact ⟨EReal.coe_ne_bot _, EReal.coe_ne_top _⟩

/-- Dividing the weighted sum of the values by the sum of the exponentials, once, is softmax attention, where the
    scores are finite: the sum of the exponentials is then a real that is at least one. -/
theorem div_eq_attend {n : Nat} (hn : 0 < n) (s v : Fin n → EReal) (hs : ∀ k, s k ≠ ⊥ ∧ s k ≠ ⊤) :
    Ideal.div (∑ k, num s k * v k) (den s) = attend s v := by
  choose r hr using fun k => exists_real (hs k)
  have hne : (Finset.univ : Finset (Fin n)).Nonempty := ⟨⟨0, hn⟩, Finset.mem_univ _⟩
  obtain ⟨k0, -, hk0⟩ := Finset.exists_mem_eq_sup Finset.univ hne s
  have ht : top s = (r k0 : EReal) := by
    rw [← hr k0, ← hk0]; rfl
  have hnum : ∀ k, num s k = ((Real.exp (r k - r k0) : ℝ) : EReal) := fun k => by
    unfold num
    rw [ht, hr k, ← EReal.coe_sub]
    rfl
  have hden : den s = ((∑ k, Real.exp (r k - r k0) : ℝ) : EReal) := by
    unfold den
    rw [← coe_sum]
    exact Finset.sum_congr rfl fun k _ => hnum k
  have hpos : 0 < ∑ k, Real.exp (r k - r k0) := Finset.sum_pos (fun k _ => Real.exp_pos _) hne
  have hc : (0 : ℝ) ≤ 1 / ∑ k, Real.exp (r k - r k0) := (one_div_pos.mpr hpos).le
  unfold attend
  rw [hden, Ideal.div_coe hpos.ne', sum_mul_real _ _ hc]
  refine Finset.sum_congr rfl fun k _ => ?_
  rw [Ideal.div_coe hpos.ne', mul_assoc, mul_comm (v k), ← mul_assoc]

end Cert.Softmax

end
-- ==== Proof.GqaBlock.lean ====
/-
  What one grid point of the grouped-query attention call computes, entry by entry.
-/
module

public import proofs.«01_k».proof.Proof.Softmax
public import proofs.«01_k».proof.Proof.Gen.KernelIdeal.Skeleton
public import Idealize.ShloMosaic.Lib.Pointwise.Tactic
public import Idealize.ShloMosaic.Lib.Pointwise

@[expose] public section

noncomputable section

namespace Cert.KernelIdeal.Attn

open Cert.KernelIdeal Cert.KernelIdeal.Gen Idealize.ShloMosaic

/-- The score of key row `k` against query row `r`: their inner product times the scale. -/
def score {n : Nat} (q : Vec Ideal S1x256x128 .bf16) (key : Fin n → Fin 128 → EReal) (r : Fin 256) (k : Fin n) : EReal :=
  (∑ e : Fin 128, q (ix3 0 r e) * key k e) * Ideal.ofBits .f32 0x3DB504F3#32

/-- A block of query rows against all 2304 keys. -/
theorem pay3_apply (q : Vec Ideal S1x256x128 .bf16) (k v : Vec Ideal S1x2304x128 .bf16) (r : Fin 256) (d : Fin 128) :
    k0_pay3 (F := Ideal) q k v (ix3 0 r d)
      = Ideal.div (∑ j : Fin 2304, Softmax.num (score q (fun a e => k (ix3 0 a e)) r) j * v (ix3 0 j d))
          (Softmax.den (score q (fun a e => k (ix3 0 a e)) r)) := by
  unfold k0_pay3 k0_pay1
  pointwise [Softmax.num, Softmax.den, Softmax.top, score, Softmax.ofBits_neg_inf]

/-- A block of context query rows against the 256 context keys. -/
theorem pay2_apply (q k v : Vec Ideal S1x256x128 .bf16) (r : Fin 256) (d : Fin 128) :
    k0_pay2 (F := Ideal) q k v (ix3 0 r d)
      = Ideal.div (∑ j : Fin 256, Softmax.num (score q (fun a e => k (ix3 0 a e)) r) j * v (ix3 0 j d))
          (Softmax.den (score q (fun a e => k (ix3 0 a e)) r)) := by
  unfold k0_pay2 k0_pay1
  pointwise [Softmax.num, Softmax.den, Softmax.top, score, Softmax.ofBits_neg_inf]

end Cert.KernelIdeal.Attn

end
-- ==== Proof.GqaSpec.lean ====
/-
  Grouped-query attention as one function of the projected array: eight query heads, two key heads and two value
  heads of width 128 lie side by side in its columns. A context row attends to the 256 context rows, every other
  row to all 2304.
-/
module

public import proofs.«01_k».proof.Proof.Softmax
public import Idealize.ShloMosaic.Lib.Pointwise.Index

@[expose] public section

noncomputable section

namespace Cert.Gqa

open Idealize.ShloMosaic

/-- The projected array: sixteen sequences of 2304 rows, 1536 columns. -/
abbrev Qkv := (⟨3, ![16, 2304, 1536]⟩ : Shape).Idx → EReal

/-- The score of key row `k` against query row `r`, in head `h` of sequence `b`. -/
def score (X : Qkv) (b : Fin 16) (h : Fin 8) (r : Fin 2304) {n : Nat} (hn : n ≤ 2304) (k : Fin n) : EReal :=
  (∑ e : Fin 128, X (ix3 b r ⟨h * 128 + e, by omega⟩) * X (ix3 b ⟨k, by omega⟩ ⟨1024 + h / 4 * 128 + e, by omega⟩))
    * Ideal.ofBits .f32 0x3DB504F3#32

/-- Column `d` of the value head that head `h` reads, at key row `k`. -/
def value (X : Qkv) (b : Fin 16) (h : Fin 8) (d : Fin 128) {n : Nat} (hn : n ≤ 2304) (k : Fin n) : EReal :=
  X (ix3 b ⟨k, by omega⟩ ⟨1280 + h / 4 * 128 + d, by omega⟩)

/-- One entry of the attention, over the first `n` keys. -/
def entry (X : Qkv) (b : Fin 16) (h : Fin 8) (r : Fin 2304) (d : Fin 128) {n : Nat} (hn : n ≤ 2304) : EReal :=
  Softmax.attend (score X b h r hn) (value X b h d hn)

/-- The same with the one division by the sum of the exponentials. -/
def entryDiv (X : Qkv) (b : Fin 16) (h : Fin 8) (r : Fin 2304) (d : Fin 128) {n : Nat} (hn : n ≤ 2304) : EReal :=
  Ideal.div (∑ k, Softmax.num (score X b h r hn) k * value X b h d hn k) (Softmax.den (score X b h r hn))

/-- The attention of every row: context rows over the context, the others over all rows. -/
def result (X : Qkv) (b : Fin 16) (r : Fin 2304) (h : Fin 8) (d : Fin 128) : EReal :=
  if r.val < 256 then entry X b h r d (n := 256) (by omega) else entry X b h r d (n := 2304) le_rfl

/-- The same with the one division. -/
def resultDiv (X : Qkv) (b : Fin 16) (r : Fin 2304) (h : Fin 8) (d : Fin 128) : EReal :=
  if r.val < 256 then entryDiv X b h r d (n := 256) (by omega) else entryDiv X b h r d (n := 2304) le_rfl

/-- Where the query and key columns are finite, so are the scores. -/
theorem score_finite (X : Qkv) (hX : ∀ (b : Fin 16) (r : Fin 2304) (j : Fin 1536), j.val < 1280 → X (ix3 b r j) ≠ ⊥ ∧ X (ix3 b r j) ≠ ⊤)
    (hc : Ideal.ofBits .f32 0x3DB504F3#32 ≠ ⊥ ∧ Ideal.ofBits .f32 0x3DB504F3#32 ≠ ⊤)
    (b : Fin 16) (h : Fin 8) (r : Fin 2304) {n : Nat} (hn : n ≤ 2304) (k : Fin n) :
    score X b h r hn k ≠ ⊥ ∧ score X b h r hn k ≠ ⊤ := by
  refine Softmax.finite_mul (Softmax.finite_sum _ fun e => Softmax.finite_mul (hX _ _ _ ?_) (hX _ _ _ ?_)) hc
  · show h.val * 128 + e.val < 1280; omega
  · show 1024 + h.val / 4 * 128 + e.val < 1280; omega

/-- The scale is a finite number. -/
theorem scale_finite : Ideal.ofBits .f32 0x3DB504F3#32 ≠ ⊥ ∧ Ideal.ofBits .f32 0x3DB504F3#32 ≠ ⊤ := by
  have h : Ideal.ofBits .f32 0x3DB504F3#32 = (((8388608 + 3474675 : ℕ) : ℝ) * (2 : ℝ) ^ (-27 : ℤ) : ℝ) := by
    simp [Ideal.ofBits, Ideal.ieee]
  rw [h]
  exact ⟨EReal.coe_ne_bot _, EReal.coe_ne_top _⟩

/-- On finite queries and keys the one division gives the softmax attention. -/
theorem resultDiv_eq (X : Qkv) (hX : ∀ (b : Fin 16) (r : Fin 2304) (j : Fin 1536), j.val < 1280 → X (ix3 b r j) ≠ ⊥ ∧ X (ix3 b r j) ≠ ⊤)
    (b : Fin 16) (r : Fin 2304) (h : Fin 8) (d : Fin 128) : resultDiv X b r h d = result X b r h d := by
  unfold resultDiv result entryDiv entry
  rw [Softmax.div_eq_attend (by omega) _ _ fun k => score_finite X hX scale_finite b h r _ k,
    Softmax.div_eq_attend (by omega) _ _ fun k => score_finite X hX scale_finite b h r _ k]

end Cert.Gqa

end
-- ==== Proof.GqaArray.lean ====
/-
  The array that the grouped-query attention call leaves: every block a grid point writes back is a block of one
  function of the argument, and the blocks tile the array.
-/
module

public import proofs.«01_k».proof.Proof.GqaBlock
public import proofs.«01_k».proof.Proof.GqaSpec
public import proofs.«01_k».proof.Proof.Gen.KernelIdeal.Value

@[expose] public section

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The projected array of device `c`. -/
abbrev X (c : Dev nD) : Gqa.Qkv := m ((c : Thread nD τ).loc main_arg0)

/-- The query block moves with the sequence, the row block and the head. -/
theorem idx0 : ∀ t : Fin cfg0.N, win0_0.index t 0 = t.val / 72 ∧ win0_0.index t 1 = t.val % 9 ∧ win0_0.index t 2 = t.val / 9 % 8 :=
  (by decide +kernel : ∀ t : Fin grid0.N, win0_0.index t 0 = t.val / 72 ∧ win0_0.index t 1 = t.val % 9 ∧ win0_0.index t 2 = t.val / 9 % 8)

/-- The key block holds every row of the key head that the head's group reads. -/
theorem idx1 : ∀ t : Fin cfg0.N, win0_1.index t 0 = t.val / 72 ∧ win0_1.index t 1 = 0 ∧ win0_1.index t 2 = 8 + t.val / 9 % 8 / 4 :=
  (by decide +kernel : ∀ t : Fin grid0.N, win0_1.index t 0 = t.val / 72 ∧ win0_1.index t 1 = 0 ∧ win0_1.index t 2 = 8 + t.val / 9 % 8 / 4)

/-- The value block holds every row of the value head that the head's group reads. -/
theorem idx2 : ∀ t : Fin cfg0.N, win0_2.index t 0 = t.val / 72 ∧ win0_2.index t 1 = 0 ∧ win0_2.index t 2 = 10 + t.val / 9 % 8 / 4 :=
  (by decide +kernel : ∀ t : Fin grid0.N, win0_2.index t 0 = t.val / 72 ∧ win0_2.index t 1 = 0 ∧ win0_2.index t 2 = 10 + t.val / 9 % 8 / 4)

/-- The result block moves as the query block. -/
theorem idx3 : ∀ t : Fin cfg0.N, win0_3.index t 0 = t.val / 72 ∧ win0_3.index t 1 = t.val % 9 ∧ win0_3.index t 2 = t.val / 9 % 8 :=
  (by decide +kernel : ∀ t : Fin grid0.N, win0_3.index t 0 = t.val / 72 ∧ win0_3.index t 1 = t.val % 9 ∧ win0_3.index t 2 = t.val / 9 % 8)

theorem lt_N (t : Fin cfg0.N) : t.val < 1152 := lt_of_lt_of_eq t.isLt N_0

/-- The sequence of a grid point. -/
def bOf (t : Fin cfg0.N) : Fin 16 := ⟨t.val / 72, by have := lt_N t; omega⟩

/-- The head of a grid point. -/
def hOf (t : Fin cfg0.N) : Fin 8 := ⟨t.val / 9 % 8, by omega⟩

/-- Row `r` of a grid point's block of rows. -/
def rOf (t : Fin cfg0.N) (r : Fin 256) : Fin 2304 := ⟨t.val % 9 * 256 + r, by omega⟩

/-- The query block at a point. -/
theorem q_apply (c : Dev nD) (t : Fin cfg0.N) (r : Fin 256) (e : Fin 128) :
    (iblk m c 0 t : Vec Ideal S1x256x128 .bf16) (ix3 0 r e)
      = X m c (ix3 (bOf t) (rOf t r) ⟨(hOf t).val * 128 + e, by have := (hOf t).isLt; omega⟩) := by
  obtain ⟨i0, i1, i2⟩ := idx0 t
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val / 72; omega
  | ⟨1, _⟩ => show win0_0.index t 1 * 256 + 1 * r.val = t.val % 9 * 256 + r.val; omega
  | ⟨2, _⟩ => show win0_0.index t 2 * 128 + 1 * e.val = t.val / 9 % 8 * 128 + e.val; omega

/-- The key block at a point. -/
theorem k_apply (c : Dev nD) (t : Fin cfg0.N) (k : Fin 2304) (e : Fin 128) :
    (iblk m c 1 t : Vec Ideal S1x2304x128 .bf16) (ix3 0 k e)
      = X m c (ix3 (bOf t) k ⟨1024 + (hOf t).val / 4 * 128 + e, by have := (hOf t).isLt; omega⟩) := by
  obtain ⟨i0, i1, i2⟩ := idx1 t
  unfold iblk
  rw [View.read_apply]
  show V m c main_arg0 _ = m (c.tc.loc main_arg0) _
  unfold V
  congr 1
  funext a
  apply Fin.ext
  match a with
  | ⟨0, _⟩ => show win0_1.index t 0 * 1 + 1 * 0 = t.val / 72; omega
  | ⟨1, _⟩ => show win0_1.index t 1 * 2304 + 1 * k.val = k.val; omega
  | ⟨2, _⟩ => show win0_1.index t 2 * 128 + 1 * e.val = 1024 + t.val / 9 % 8 / 4 * 128 + e.val; omega

/-- The value block at a point. -/
theorem v_apply (c : Dev nD) (t : Fin cfg0.N) (k : Fin 2304) (e : Fin 128) :
    (iblk m c 2 t : Vec Ideal S1x2304x128 .bf16) (ix3 0 k e)
      = X m c (ix3 (bOf t) k ⟨1280 + (hOf t).val / 4 * 128 + e, by have := (hOf t).isLt; omega⟩) := by
  obtain ⟨i0, i1, i2⟩ := idx2 t
  unfold iblk
  rw [View.read_apply]
  show V m c main_arg0 _ = m (c.tc.loc main_arg0) _
  unfold V
  congr 1
  funext a
  apply Fin.ext
  match a with
  | ⟨0, _⟩ => show win0_2.index t 0 * 1 + 1 * 0 = t.val / 72; omega
  | ⟨1, _⟩ => show win0_2.index t 1 * 2304 + 1 * k.val = k.val; omega
  | ⟨2, _⟩ => show win0_2.index t 2 * 128 + 1 * e.val = 1280 + t.val / 9 % 8 / 4 * 128 + e.val; omega

/-- What the array holds at the end. -/
def G (c : Dev nD) : S16x2304x1024.Idx → EReal := fun i =>
  Gqa.resultDiv (X m c) (i 0) (i 1) ⟨(i 2).val / 128, by have : (i 2).val < 1024 := (i 2).isLt; omega⟩
    ⟨(i 2).val % 128, Nat.mod_lt _ (by decide)⟩

theorem hz : (fun a => (![0, 0, 0] : Fin 3 → Nat) a) = fun _ => 0 := by funext a; fin_cases a <;> rfl

/-- Where a point's block lies in the array. -/
theorem blk_idx (t : Fin cfg0.N) (y : S1x256x128.Idx) (g : S16x2304x1024.Idx → EReal) :
    ((cfg0.win 3).blk t).view.read (Elt Ideal) g y
      = g (ix3 (bOf t) (rOf t (y 1)) ⟨(hOf t).val * 128 + (y 2).val, by have := (hOf t).isLt; have : (y 2).val < 128 := (y 2).isLt; omega⟩) := by
  obtain ⟨i0, i1, i2⟩ := idx3 t
  rw [View.read_apply]
  show g _ = g _
  congr 1
  funext a
  apply Fin.ext
  have h0 : (y 0).val < 1 := (y 0).isLt
  match a with
  | ⟨0, _⟩ => show win0_3.index t 0 * 1 + 1 * (y 0).val = t.val / 72; omega
  | ⟨1, _⟩ => show win0_3.index t 1 * 256 + 1 * (y 1).val = t.val % 9 * 256 + (y 1).val; omega
  | ⟨2, _⟩ => show win0_3.index t 2 * 128 + 1 * (y 2).val = t.val / 9 % 8 * 128 + (y 2).val; omega

/-- The array's entry at row `r` and column `d` of a point's block. -/
theorem G_block (c : Dev nD) (t : Fin cfg0.N) (y : S1x256x128.Idx) (h) :
    G m c (ix3 (bOf t) (rOf t (y 1)) ⟨(hOf t).val * 128 + (y 2).val, h⟩)
      = Gqa.resultDiv (X m c) (bOf t) (rOf t (y 1)) (hOf t) (y 2) := by
  have h2 : (y 2).val < 128 := (y 2).isLt
  have hh : (hOf t).val < 8 := (hOf t).isLt
  unfold G
  congr 1
  · apply Fin.ext
    show ((hOf t).val * 128 + (y 2).val) / 128 = (hOf t).val
    omega
  · apply Fin.ext
    show ((hOf t).val * 128 + (y 2).val) % 128 = (y 2).val
    omega

/-- A block has one row of rows. -/
theorem eq_row (y : S1x256x128.Idx) : ∃ (r : Fin 256) (d : Fin 128), y = ix3 0 r d :=
  ⟨y 1, y 2, by
    funext a
    match a with
    | ⟨0, _⟩ => exact Subsingleton.elim (α := Fin 1) _ _
    | ⟨1, _⟩ => rfl
    | ⟨2, _⟩ => rfl⟩

/-- What a point past the context computes is its block of the array. -/
theorem block_B (c : Dev nD) (t : Fin cfg0.N) (h1 : 1 ≤ t.val % 9) (r : Fin 256) (d : Fin 128) :
    k0_pay3 (F := Ideal) (iblk m c 0 t) (iblk m c 1 t) (iblk m c 2 t) (ix3 0 r d)
      = Gqa.resultDiv (X m c) (bOf t) (rOf t r) (hOf t) d := by
  have hr : ¬ (rOf t r).val < 256 := by
    show ¬ t.val % 9 * 256 + r.val < 256
    omega
  have hs : score (iblk m c 0 t) (fun (a : Fin 2304) e => (iblk m c 1 t : Vec Ideal S1x2304x128 .bf16) (ix3 0 a e)) r
      = Gqa.score (X m c) (bOf t) (hOf t) (rOf t r) le_rfl := by
    funext k
    unfold score Gqa.score
    simp only [q_apply, k_apply]
  refine (pay3_apply _ _ _ r d).trans ?_
  rw [Gqa.resultDiv, if_neg hr]
  exact congrArg₂ Ideal.div (Finset.sum_congr rfl fun k _ =>
    congrArg₂ (· * ·) (congrFun (congrArg Softmax.num hs) k) (v_apply m c t k d)) (congrArg Softmax.den hs)

/-- What a point in the context computes is its block of the array. -/
theorem block_A (c : Dev nD) (t : Fin cfg0.N) (h0 : t.val % 9 = 0) (k v : Vec Ideal S1x256x128 .bf16)
    (hk : ∀ (a : Fin 256) (e : Fin 128), k (ix3 0 a e) = (iblk m c 1 t : Vec Ideal S1x2304x128 .bf16) (ix3 0 ⟨a, by omega⟩ e))
    (hv : ∀ (a : Fin 256) (e : Fin 128), v (ix3 0 a e) = (iblk m c 2 t : Vec Ideal S1x2304x128 .bf16) (ix3 0 ⟨a, by omega⟩ e))
    (r : Fin 256) (d : Fin 128) :
    k0_pay2 (F := Ideal) (iblk m c 0 t) k v (ix3 0 r d)
      = Gqa.resultDiv (X m c) (bOf t) (rOf t r) (hOf t) d := by
  have hr : (rOf t r).val < 256 := by
    show t.val % 9 * 256 + r.val < 256
    omega
  have hs : score (iblk m c 0 t) (fun (a : Fin 256) e => k (ix3 0 a e)) r
      = Gqa.score (X m c) (bOf t) (hOf t) (rOf t r) (n := 256) (by omega) := by
    funext j
    unfold score Gqa.score
    simp only [q_apply, hk, k_apply]
  refine (pay2_apply _ _ _ r d).trans ?_
  rw [Gqa.resultDiv, if_pos hr]
  exact congrArg₂ Ideal.div (Finset.sum_congr rfl fun j _ =>
    congrArg₂ (· * ·) (congrFun (congrArg Softmax.num hs) j) ((hv j d).trans (v_apply m c t _ d))) (congrArg Softmax.den hs)

/-- The array's entries at a point's block, given the block entry by entry. -/
theorem eq_block (c : Dev nD) (t : Fin cfg0.N) (f : S1x256x128.Idx → EReal)
    (hf : ∀ (r : Fin 256) (d : Fin 128), f (ix3 0 r d) = Gqa.resultDiv (X m c) (bOf t) (rOf t r) (hOf t) d)
    (y : S1x256x128.Idx) : f y = ((cfg0.win 3).blk t).view.read (Elt Ideal) (G m c) y := by
  refine Eq.trans ?_ ((G_block m c t y _).symm.trans (blk_idx t y (G m c)).symm)
  obtain ⟨r, d, rfl⟩ := eq_row y
  exact hf r d

/-- A point past the context writes its block of the array. -/
theorem flushed_B (c : Dev nD) (t : Fin cfg0.N) (h0 : ¬t.val % 9 = 0) (h1 : 1 ≤ t.val % 9) :
    (dats m 0 c).flushed 3 t = ((cfg0.win 3).blk t).view.read (Elt Ideal) (G m c) := by
  rw [Value.flushed3_B m c t h0 h1]
  unfold out0_B_3
  rw [View.read_writes_eq_canon _ _ _ (fun y => cover0_B_3 c _ _ _ _ _ _ _ _ _ _ _ _ _ _ y)]
  unfold kernelRun0_B
  dsimp only
  sl_unfold_words
  rw [View.canon_unit_zero hz]
  simp only [View.readAt_eq_ld, (hs0_0 t).read_unread, (hs0_1 t).read_unread, (hs0_2 t).read_unread,
    View.ld_unit_zero (S := S1x256x128) hz, View.ld_unit_zero (S := S1x2304x128) hz]
  funext y
  exact eq_block m c t _ (block_B m c t h1) y

/-- A point in the context writes its block of the array. -/
theorem flushed_A (c : Dev nD) (t : Fin cfg0.N) (h0 : t.val % 9 = 0) (h1 : ¬1 ≤ t.val % 9) :
    (dats m 0 c).flushed 3 t = ((cfg0.win 3).blk t).view.read (Elt Ideal) (G m c) := by
  rw [Value.flushed3_A m c t h0 h1]
  unfold out0_A_3
  rw [View.read_writes_eq_canon _ _ _ (fun y => cover0_A_3 c _ _ _ _ _ _ _ _ _ _ _ _ _ _ y)]
  unfold kernelRun0_A
  dsimp only
  sl_unfold_words
  rw [View.canon_unit_zero hz]
  simp only [View.readAt_eq_ld, (hs0_0 t).read_unread, (hs0_1 t).read_unread, (hs0_2 t).read_unread,
    View.ld_unit_zero (S := S1x256x128) hz]
  funext y
  refine eq_block m c t _ (block_A m c t h0 _ _ (fun a e => ?_) (fun a e => ?_)) y
  · show (iblk m c 1 t : Vec Ideal S1x2304x128 .bf16) _ = _
    congr 1
    funext x
    apply Fin.ext
    match x with
    | ⟨0, _⟩ => rfl
    | ⟨1, _⟩ => show 0 + 1 * a.val = a.val; omega
    | ⟨2, _⟩ => show 0 + 1 * e.val = e.val; omega
  · show (iblk m c 2 t : Vec Ideal S1x2304x128 .bf16) _ = _
    congr 1
    funext x
    apply Fin.ext
    match x with
    | ⟨0, _⟩ => rfl
    | ⟨1, _⟩ => show 0 + 1 * a.val = a.val; omega
    | ⟨2, _⟩ => show 0 + 1 * e.val = e.val; omega

/-- Every point writes its block of the array. -/
theorem flushed_eq (c : Dev nD) (t : Fin cfg0.N) :
    (dats m 0 c).flushed 3 t = ((cfg0.win 3).blk t).view.read (Elt Ideal) (G m c) := by
  by_cases h0 : t.val % 9 = 0
  · exact flushed_A m c t h0 (by omega)
  · exact flushed_B m c t h0 (by omega)

/-- The blocks tile the array. -/
theorem cover (i : S16x2304x1024.Idx) :
    ∃ t : Fin cfg0.N, (cfg0.win 3).flush t = true ∧ i ∈ ((cfg0.win 3).blk t).view.set := by
  have h0 : (i 0).val < 16 := (i 0).isLt
  have h1 : (i 1).val < 2304 := (i 1).isLt
  have h2 : (i 2).val < 1024 := (i 2).isLt
  let t : Fin cfg0.N := ⟨(i 0).val * 72 + (i 2).val / 128 * 9 + (i 1).val / 256, by rw [show cfg0.N = 1152 from N_0]; omega⟩
  have ht : t.val = (i 0).val * 72 + (i 2).val / 128 * 9 + (i 1).val / 256 := rfl
  obtain ⟨e0, e1, e2⟩ := idx3 t
  refine ⟨t, flush0_3 t, ?_⟩
  show i ∈ ((View.whole main_v0).slice (win0_3.rect t)).set
  rw [View.set_slice_whole, Rect.mem_set_unit]
  intro a
  match a with
  | ⟨0, _⟩ => show win0_3.index t 0 * 1 ≤ (i 0).val ∧ (i 0).val < win0_3.index t 0 * 1 + 1; omega
  | ⟨1, _⟩ => show win0_3.index t 1 * 256 ≤ (i 1).val ∧ (i 1).val < win0_3.index t 1 * 256 + 256; omega
  | ⟨2, _⟩ => show win0_3.index t 2 * 128 ≤ (i 2).val ∧ (i 2).val < win0_3.index t 2 * 128 + 128; omega

/-- So the array ends holding the attention. -/
theorem final (c : Dev nD) : (dats m 0 c).arrAt 3 cfg0.N = G m c :=
  (dats m 0 c).arrAt_eq_of_cover 3 (G m c) (fun t _ => flushed_eq m c t) cover

/-- The run, read: the result array holds the attention, the argument is unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.KernelIdeal.Attn

end
-- ==== Proof.HostMax.lean ====
/-
  A maximum along the last axis of a host array, read at an index.
-/
module

public import proofs.«01_k».proof.Proof.Softmax
public import Idealize.ShloMosaic.PureOps
public import Idealize.ShloMosaic.Lib.Pointwise

@[expose] public section

noncomputable section

namespace Cert.HostMax

open Idealize.ShloMosaic

/-- The greatest entry along the fifth axis, from an initial value. -/
theorem last5 {n0 n1 n2 n3 n4 : Nat} {u : Shape} (x : (⟨5, ![n0, n1, n2, n3, n4]⟩ : Shape).Idx → Ideal .f32)
    (init : u.Idx → Ideal .f32) (h : (⟨5, ![n0, n1, n2, n3, n4]⟩ : Shape).ReducesTo [4] ⟨4, ![n0, n1, n2, n3]⟩)
    (hu : 0 < u.numel) (a : Fin n0) (b : Fin n1) (c : Fin n2) (d : Fin n3) :
    Host.reduce (FloatOps.maximumf : Ideal .f32 → Ideal .f32 → Ideal .f32) x init h hu (ix4 a b c d)
      = (Finset.univ : Finset (Fin n4)).fold max (init (Shape.Idx.first hu)) fun k => x (ix5 a b c d k) := by
  rw [Ideal.maximumf_eq_max, Host.reduce_eq_fold, Shape.ReducesTo.fold_fiber_r5_a4]
  rfl

end Cert.HostMax

end
-- ==== Proof.GqaRef.lean ====
/-
  What the reference of the grouped-query attention computes, entry by entry.
-/
module

public import proofs.«01_k».proof.Proof.GqaSpec
public import proofs.«01_k».proof.Proof.HostMax
public import proofs.«01_k».proof.Proof.Gen.ReferenceIdeal.Read
public import Idealize.ShloMosaic.Lib.Pointwise

@[expose] public section

noncomputable section

namespace Cert.ReferenceIdeal.Attn

open Cert.ReferenceIdeal Cert.ReferenceIdeal.Gen Cert.ReferenceIdeal.Read Idealize.ShloMosaic Idealize.ShloMosaic.TcCoe

variable (x : Gqa.Qkv) (b : Fin 16) (g : Fin 2) (u : Fin 4)

/-- Two entries of one array at indices that are equal number by number. -/
theorem at_eq {i i' : Fin 2304} {j j' : Fin 1536} (hi : i.val = i'.val) (hj : j.val = j'.val) :
    x (ix3 b i j) = x (ix3 b i' j') := by rw [Fin.ext hi, Fin.ext hj]

/-- The keys: the context's rows, then the others. -/
theorem keys (k : Fin 2304) (e : Fin 128) :
    val_main_v23 (F := Ideal) x (ix4 b g k e) = x (ix3 b k ⟨1024 + g * 128 + e, by omega⟩) := by
  unfold val_main_v23 val_main_v8 val_main_v19 val_main_v7 val_main_v18 val_main_v3 val_main_v14 val_main_v1 val_main_v12 val_main_v0
  pointwise
  by_cases h : k.val < 256
  · rw [dif_pos h]
    exact at_eq x b rfl (by show 1024 + (g.val * 128 + e.val) = 1024 + g.val * 128 + e.val; omega)
  · rw [dif_neg h]
    exact at_eq x b (by show 256 + (k.val - 256) = k.val; omega)
      (by show 1024 + (g.val * 128 + e.val) = 1024 + g.val * 128 + e.val; omega)

/-- The values: the context's rows, then the others. -/
theorem values (k : Fin 2304) (e : Fin 128) :
    val_main_v24 (F := Ideal) x (ix4 b g k e) = x (ix3 b k ⟨1280 + g * 128 + e, by omega⟩) := by
  unfold val_main_v24 val_main_v10 val_main_v21 val_main_v9 val_main_v20 val_main_v4 val_main_v15 val_main_v1 val_main_v12 val_main_v0
  pointwise
  by_cases h : k.val < 256
  · rw [dif_pos h]
    exact at_eq x b rfl (by show 1280 + (g.val * 128 + e.val) = 1280 + g.val * 128 + e.val; omega)
  · rw [dif_neg h]
    exact at_eq x b (by show 256 + (k.val - 256) = k.val; omega)
      (by show 1280 + (g.val * 128 + e.val) = 1280 + g.val * 128 + e.val; omega)

/-- The head of a group's query. -/
abbrev head : Fin 8 := ⟨g * 4 + u, by omega⟩

/-- The scores of a row past the context. -/
theorem scores (r : Fin 2048) (k : Fin 2304) :
    val_main_v27 (F := Ideal) x (ix5 b g u r k) = Gqa.score x b (head g u) ⟨256 + r, by omega⟩ le_rfl k := by
  unfold val_main_v27 val_main_v25 val_main_v26 val_main_cst val_main_v22 val_main_v17 val_main_v16 val_main_v13 val_main_v12 val_main_v0
  pointwise [keys]
  refine congrArg (· * _) (Finset.sum_congr rfl fun e _ => ?_)
  refine congrArg₂ (· * ·) rfl (at_eq x b rfl ?_)
  show 1024 + g.val * 128 + e.val = 1024 + (g.val * 4 + u.val) / 4 * 128 + e.val
  omega

/-- The greatest score of a row past the context. -/
theorem tops (r : Fin 2048) :
    val_main_v30 (F := Ideal) x (ix4 b g u r) = Softmax.top (Gqa.score x b (head g u) ⟨256 + r, by omega⟩ le_rfl) := by
  have h : val_main_v28 (F := Ideal) x (ix4 b g u r)
      = Softmax.top (Gqa.score x b (head g u) ⟨256 + r, by omega⟩ le_rfl) := by
    refine (HostMax.last5 (val_main_v27 (F := Ideal) x) (val_main_cst_0 (F := Ideal)) _ _ b g u r).trans ?_
    exact congrArg₂ (fun (i : EReal) f => (Finset.univ : Finset (Fin 2304)).fold max i f)
      Softmax.ofBits_neg_inf (funext fun k => scores x b g u r k)
  rw [val_main_v30_apply, h]
  exact (congrArg (max · _) Softmax.ofBits_neg_inf).trans (max_eq_right bot_le)

/-- The exponentials of a row past the context. -/
theorem nums (r : Fin 2048) (k : Fin 2304) :
    val_main_v34 (F := Ideal) x (ix5 b g u r k) = Softmax.num (Gqa.score x b (head g u) ⟨256 + r, by omega⟩ le_rfl) k := by
  unfold val_main_v34 val_main_v33 val_main_v32 val_main_v31
  pointwise [scores, tops, Softmax.num]

/-- The weights of a row past the context. -/
theorem weights (r : Fin 2048) (k : Fin 2304) :
    val_main_v38 (F := Ideal) x (ix5 b g u r k)
      = Ideal.div (Softmax.num (Gqa.score x b (head g u) ⟨256 + r, by omega⟩ le_rfl) k)
          (Softmax.den (Gqa.score x b (head g u) ⟨256 + r, by omega⟩ le_rfl)) := by
  unfold val_main_v38 val_main_v37 val_main_v36 val_main_v35 val_main_cst_2
  pointwise [nums, Softmax.den]

/-- The attention of a row past the context. -/
theorem rows (r : Fin 2048) (d : Fin 128) :
    val_main_v39 (F := Ideal) x (ix5 b g u r d) = Gqa.entry x b (head g u) ⟨256 + r, by omega⟩ d (n := 2304) le_rfl := by
  unfold val_main_v39
  pointwise [weights, values]
  unfold Gqa.entry Softmax.attend
  refine Finset.sum_congr rfl fun k _ => congrArg (_ * ·) (at_eq x b rfl ?_)
  show 1280 + g.val * 128 + d.val = 1280 + (g.val * 4 + u.val) / 4 * 128 + d.val
  omega

/-- The scores of a context row. -/
theorem ctxScores (r : Fin 256) (k : Fin 256) :
    val_main_v45 (F := Ideal) x (ix5 b g u r k)
      = Gqa.score x b (head g u) ⟨r, by omega⟩ (n := 256) (by omega) k := by
  unfold val_main_v45 val_main_v43 val_main_v44 val_main_cst_3 val_main_v11 val_main_v8 val_main_v7 val_main_v6 val_main_v5
    val_main_v3 val_main_v2 val_main_v1 val_main_v0
  pointwise
  refine congrArg (· * _) (Finset.sum_congr rfl fun e _ => ?_)
  refine congrArg₂ (· * ·) (at_eq x b rfl ?_) (at_eq x b rfl ?_)
  · show (g.val * 4 + u.val) * 128 + e.val = (g.val * 4 + u.val) * 128 + e.val
    rfl
  · show 1024 + (g.val * 128 + e.val) = 1024 + (g.val * 4 + u.val) / 4 * 128 + e.val
    omega

/-- The greatest score of a context row. -/
theorem ctxTops (r : Fin 256) :
    val_main_v48 (F := Ideal) x (ix4 b g u r)
      = Softmax.top (Gqa.score x b (head g u) ⟨r, by omega⟩ (n := 256) (by omega)) := by
  have h : val_main_v46 (F := Ideal) x (ix4 b g u r)
      = Softmax.top (Gqa.score x b (head g u) ⟨r, by omega⟩ (n := 256) (by omega)) := by
    refine (HostMax.last5 (val_main_v45 (F := Ideal) x) (val_main_cst_4 (F := Ideal)) _ _ b g u r).trans ?_
    exact congrArg₂ (fun (i : EReal) f => (Finset.univ : Finset (Fin 256)).fold max i f)
      Softmax.ofBits_neg_inf (funext fun k => ctxScores x b g u r k)
  rw [val_main_v48_apply, h]
  exact (congrArg (max · _) Softmax.ofBits_neg_inf).trans (max_eq_right bot_le)

/-- The exponentials of a context row. -/
theorem ctxNums (r : Fin 256) (k : Fin 256) :
    val_main_v52 (F := Ideal) x (ix5 b g u r k)
      = Softmax.num (Gqa.score x b (head g u) ⟨r, by omega⟩ (n := 256) (by omega)) k := by
  unfold val_main_v52 val_main_v51 val_main_v50 val_main_v49
  pointwise [ctxScores, ctxTops, Softmax.num]

/-- The weights of a context row. -/
theorem ctxWeights (r : Fin 256) (k : Fin 256) :
    val_main_v56 (F := Ideal) x (ix5 b g u r k)
      = Ideal.div (Softmax.num (Gqa.score x b (head g u) ⟨r, by omega⟩ (n := 256) (by omega)) k)
          (Softmax.den (Gqa.score x b (head g u) ⟨r, by omega⟩ (n := 256) (by omega))) := by
  unfold val_main_v56 val_main_v55 val_main_v54 val_main_v53 val_main_cst_6
  pointwise [ctxNums, Softmax.den]

/-- The attention of a context row. -/
theorem ctxRows (r : Fin 256) (d : Fin 128) :
    val_main_v57 (F := Ideal) x (ix5 b g u r d)
      = Gqa.entry x b (head g u) ⟨r, by omega⟩ d (n := 256) (by omega) := by
  unfold val_main_v57 val_main_v10 val_main_v9 val_main_v4 val_main_v1 val_main_v0
  pointwise [ctxWeights]
  unfold Gqa.entry Softmax.attend
  refine Finset.sum_congr rfl fun k _ => congrArg (_ * ·) (at_eq x b rfl ?_)
  show 1280 + (g.val * 128 + d.val) = 1280 + (g.val * 4 + u.val) / 4 * 128 + d.val
  omega

/-- The whole result: context rows first, the heads side by side in the columns. -/
theorem result (r : Fin 2304) (j : Fin 1024) :
    val_main_v62 (F := Ideal) x (ix3 b r j)
      = Gqa.result x b r ⟨j / 128, by omega⟩ ⟨j % 128, Nat.mod_lt _ (by decide)⟩ := by
  unfold val_main_v62 val_main_v61 val_main_v60 val_main_v59 val_main_v58 val_main_v42 val_main_v41 val_main_v40
  pointwise [rows, ctxRows]
  unfold Gqa.result
  have hh : head ⟨j.val / 128 / 4, by omega⟩ ⟨j.val / 128 % 4, by omega⟩ = ⟨j.val / 128, by omega⟩ :=
    Fin.ext (by show j.val / 128 / 4 * 4 + j.val / 128 % 4 = j.val / 128; omega)
  by_cases h : r.val < 256
  · rw [dif_pos h, if_pos h]
    exact congrArg (fun q => Gqa.entry x b q r _ _) hh
  · rw [dif_neg h, if_neg h]
    exact congrArg₂ (fun q w => Gqa.entry x b q w _ _) hh (Fin.ext (by show 256 + (r.val - 256) = r.val; omega))

end Cert.ReferenceIdeal.Attn

end
-- ==== Proof.GqaClaim.lean ====
/-
  The grouped-query attention call and its reference leave the same array, on finite queries and keys.
-/
module

public import proofs.«01_k».proof.Defs
public import proofs.«01_k».proof.Proof.GqaArray
public import proofs.«01_k».proof.Proof.GqaRef
public import proofs.«01_k».proof.Proof.Gen.ReferenceIdeal.Run
public import Idealize.ShloMosaic.Lib.Quiescent

@[expose] public section

noncomputable section

namespace Cert.GqaClaim

open Idealize.ShloMosaic Idealize.SL.Sem Idealize.ShloMosaic.TcCoe

/-- The facts the precondition states hold. -/
theorem preFacts : Cert.Pre_finite_qk.Facts := by constructor <;> decide +kernel

/-- The precondition says that every query and key entry is finite. -/
theorem finite [Cert.Pre_finite_qk.Facts] (X : Gqa.Qkv) (h : Cert.Pre_finite_qk.fn (F := Ideal) X = fun _ => 1#1)
    (b : Fin 16) (r : Fin 2304) (j : Fin 1536) (hj : j.val < 1280) : X (ix3 b r j) ≠ ⊥ ∧ X (ix3 b r j) ≠ ⊤ := by
  have e := congrFun h (ix3 b r (⟨j.val, hj⟩ : Fin 1280))
  refine Softmax.finite_of_abs_lt ?_
  unfold Cert.Pre_finite_qk.fn at e
  dsimp only at e
  pointwise at e
  rw [Softmax.ofBits_inf] at e
  by_contra hn
  exact absurd (e.symm.trans (congrArg BitVec.ofBool (decide_eq_false hn))) (by decide)

/-- The two programs leave the same array. -/
theorem algebraic [Cert.Pre_finite_qk.Facts] :
    Cert.algebraic_KernelIdeal_ReferenceIdeal_pre_finite_qk (hKernelIdeal := Cert.KernelIdeal.Gen.facts)
      (hReferenceIdeal := Cert.ReferenceIdeal.Gen.facts) := by
  intro m ρ m' ρ' hpre hag
  refine ⟨fun c => Cert.KernelIdeal.Attn.G m c, Cert.KernelIdeal.Attn.run m ρ,
    (θ_run _ _ _).mono (fun _ h c => ⟨(h c).1.trans ?_, (h c).2⟩) (Cert.ReferenceIdeal.Value.run m' ρ')⟩
  rw [Cert.ReferenceIdeal.Read.val_main_v62_eq, hag c]
  funext i
  obtain ⟨b, r, j, rfl⟩ : ∃ (b : Fin 16) (r : Fin 2304) (j : Fin 1024), i = ix3 b r j := ⟨i 0, i 1, i 2, eq_ix3 i⟩
  rw [Cert.ReferenceIdeal.Attn.result]
  exact (Gqa.resultDiv_eq _ (finite _ (hpre c)) b r _ _).symm

/-- The reference terminates, leaves its arguments as they were and declares no semaphore. -/
theorem referenceFrame : Cert.quiescent_ReferenceIdeal (hReferenceIdeal := Cert.ReferenceIdeal.Gen.facts) := fun m ρ _ =>
  (θ_run Cert.ReferenceIdeal.defs _ _).mono (fun r h => And.intro (fun c => (h c).2) (sem_eq_zero_of_no_sems (by decide) r.2))
    (Cert.ReferenceIdeal.Value.run (F := Ideal) m ρ)

end Cert.GqaClaim

end
-- ==== Proof.MlaBlock.lean ====
/-
  What one grid point of the latent attention call computes: a block of 256 query rows of one head against all
  key rows, at widths padded to 256.
-/
module

public import proofs.«01_k».proof.Proof.Softmax
public import proofs.«01_k».proof.Proof.Gen.Kernel2Ideal.Skeleton
public import Idealize.ShloMosaic.Lib.Pointwise

@[expose] public section

noncomputable section

namespace Cert.Kernel2Ideal.Attn

open Cert.Kernel2Ideal Cert.Kernel2Ideal.Gen Idealize.ShloMosaic

/-- The score of key row `j` against query row `r` of the block. -/
def score (q : Vec Ideal S1x256x256 .bf16) (k : Vec Ideal S1x2304x256 .bf16) (r : Fin 256) (j : Fin 2304) : EReal :=
  (∑ e : Fin 256, q (ix3 0 r e) * k (ix3 0 j e)) * Ideal.ofBits .f32 0x3D93CD3A#32

/-- The block's entry at row `r` and column `d`. -/
theorem pay1_apply (q : Vec Ideal S1x256x256 .bf16) (k : Vec Ideal S1x2304x256 .bf16) (v : Vec Ideal S1x2304x128 .bf16)
    (r : Fin 256) (d : Fin 128) :
    k0_pay1 (F := Ideal) q k v (ix3 0 r d)
      = Ideal.div (∑ j : Fin 2304, Softmax.num (score q k r) j * v (ix3 0 j d)) (Softmax.den (score q k r)) := by
  unfold k0_pay1
  pointwise [Softmax.num, Softmax.den, Softmax.top, score, Softmax.ofBits_neg_inf]

end Cert.Kernel2Ideal.Attn

end
-- ==== Proof.MlaSpec.lean ====
/-
  Multi-head latent attention as one function of the queries, keys and values: eight heads, width 192 for queries
  and keys and 128 for values. Every row past the 256 context rows attends to all 2304 rows.
-/
module

public import proofs.«01_k».proof.Proof.Softmax
public import Idealize.ShloMosaic.Lib.Pointwise.Index

@[expose] public section

noncomputable section

namespace Cert.Mla

open Idealize.ShloMosaic

/-- Queries or keys: sixteen sequences, eight heads, 2304 rows, 192 columns. -/
abbrev Qk := (⟨4, ![16, 8, 2304, 192]⟩ : Shape).Idx → EReal

/-- Values: sixteen sequences, eight heads, 2304 rows, 128 columns. -/
abbrev Val := (⟨4, ![16, 8, 2304, 128]⟩ : Shape).Idx → EReal

/-- The score of key row `k` against row `r` past the context, in head `h` of sequence `b`. -/
def score (q k : Qk) (b : Fin 16) (h : Fin 8) (r : Fin 2048) (j : Fin 2304) : EReal :=
  (∑ e : Fin 192, q (ix4 b h ⟨256 + r, by omega⟩ e) * k (ix4 b h j e)) * Ideal.ofBits .f32 0x3D93CD3A#32

/-- One entry of the attention. -/
def result (q k : Qk) (v : Val) (b : Fin 16) (r : Fin 2048) (h : Fin 8) (d : Fin 128) : EReal :=
  Softmax.attend (score q k b h r) fun j => v (ix4 b h j d)

/-- The same with the one division by the sum of the exponentials. -/
def resultDiv (q k : Qk) (v : Val) (b : Fin 16) (r : Fin 2048) (h : Fin 8) (d : Fin 128) : EReal :=
  Ideal.div (∑ j, Softmax.num (score q k b h r) j * v (ix4 b h j d)) (Softmax.den (score q k b h r))

/-- The scale is a finite number. -/
theorem scale_finite : Ideal.ofBits .f32 0x3D93CD3A#32 ≠ ⊥ ∧ Ideal.ofBits .f32 0x3D93CD3A#32 ≠ ⊤ := by
  have h : Ideal.ofBits .f32 0x3D93CD3A#32 = (((8388608 + 1297722 : ℕ) : ℝ) * (2 : ℝ) ^ (-27 : ℤ) : ℝ) := by
    simp [Ideal.ofBits, Ideal.ieee]
  rw [h]
  exact ⟨EReal.coe_ne_bot _, EReal.coe_ne_top _⟩

/-- On finite queries and keys the one division gives the softmax attention. -/
theorem resultDiv_eq (q k : Qk) (v : Val) (hq : ∀ b h r e, q (ix4 b h r e) ≠ ⊥ ∧ q (ix4 b h r e) ≠ ⊤)
    (hk : ∀ b h r e, k (ix4 b h r e) ≠ ⊥ ∧ k (ix4 b h r e) ≠ ⊤)
    (b : Fin 16) (r : Fin 2048) (h : Fin 8) (d : Fin 128) : resultDiv q k v b r h d = result q k v b r h d :=
  Softmax.div_eq_attend (by omega) _ _ fun _ =>
    Softmax.finite_mul (Softmax.finite_sum _ fun _ => Softmax.finite_mul (hq _ _ _ _) (hk _ _ _ _)) scale_finite

end Cert.Mla

end
-- ==== Proof.MlaHost.lean ====
/-
  The arrays the latent attention call reads: queries, keys and values with the heads side by side in the columns,
  queries and keys padded with zeros from 192 to 256 columns.
-/
module

public import proofs.«01_k».proof.Proof.MlaSpec
public import proofs.«01_k».proof.Proof.Gen.Kernel2Ideal.Frame
public import Idealize.ShloMosaic.Lib.Pointwise

@[expose] public section

noncomputable section

namespace Cert.Kernel2Ideal.Attn

open Cert.Kernel2Ideal Cert.Kernel2Ideal.Gen Idealize.ShloMosaic Idealize.ShloMosaic.TcCoe Idealize.SL.Sem

/-- Queries or keys as the call takes them. -/
def lay (z : Mla.Qk) : S16x2304x2048.Idx → EReal :=
  (truncf (F := Ideal) .bf16 · bitsLt_bf16_f32) (shapeCast S16x2304x2048 (transpose S16x2304x8x256 [0, 2, 1, 3]
    (pad S16x8x2304x256 ![0, 0, 0, 0] ![0, 0, 0, 64] ![0, 0, 0, 0] (z : FVec Ideal S16x8x2304x192 .f32) (sitofp (F := Ideal) .f32 (constantI S_ 32 0#32)) pads_S16x8x2304x192_S16x8x2304x256_000_000_000_0640 h_S_)
    transposes_S16x8x2304x256_S16x2304x8x256_0_2_1_3) shapeCasts_S16x2304x8x256_S16x2304x2048)

/-- A padded column holds the array's column below 192 and zero from there on. -/
theorem lay_apply (z : Mla.Qk) (b : Fin 16) (r : Fin 2304) (h : Fin 8) (e : Fin 256) :
    lay z (ix3 b r ⟨h * 256 + e, by omega⟩) = if he : e.val < 192 then z (ix4 b h r ⟨e, he⟩) else 0 := by
  unfold lay
  pointwise
  rw [show (FloatOps.sitofp .f32 (0#32 : BitVec 32) : Ideal .f32) = (0 : EReal) by simp [FloatOps.sitofp]]

/-- Values as the call takes them. -/
def layV (z : Mla.Val) : S16x2304x1024.Idx → EReal :=
  (truncf (F := Ideal) .bf16 · bitsLt_bf16_f32) (shapeCast S16x2304x1024 (transpose S16x2304x8x128 [0, 2, 1, 3]
    (pad S16x8x2304x128 ![0, 0, 0, 0] ![0, 0, 0, 0] ![0, 0, 0, 0] (z : FVec Ideal S16x8x2304x128 .f32) (sitofp (F := Ideal) .f32 (constantI S_ 32 0#32)) pads_S16x8x2304x128_S16x8x2304x128_000_000_000_000 h_S_)
    transposes_S16x8x2304x128_S16x2304x8x128_0_2_1_3) shapeCasts_S16x2304x8x128_S16x2304x1024)

/-- A column holds the array's column. -/
theorem layV_apply (z : Mla.Val) (b : Fin 16) (r : Fin 2304) (h : Fin 8) (e : Fin 128) :
    layV z (ix3 b r ⟨h * 128 + e, by omega⟩) = z (ix4 b h r e) := by
  unfold layV
  pointwise

variable (m : (ℓ : Loc nD τ sig) → Buf (Elt Ideal) ℓ)

/-- The queries the call reads. -/
theorem V_q (c : Dev nD) : V m c main_v3 = lay (m ((c : Thread nD τ).loc main_arg0)) := by
  simp only [V, hostOps0, hostOps0_1, hostOps0_2, hostOps0_3, hostOps0_4, hostOps0_5, hostOps0_6, List.flatten_cons, List.flatten_nil, List.append_nil, List.cons_append,
      List.nil_append]
  after_results <;> rfl

/-- The keys the call reads. -/
theorem V_k (c : Dev nD) : V m c main_v7 = lay (m ((c : Thread nD τ).loc main_arg1)) := by
  simp only [V, hostOps0, hostOps0_1, hostOps0_2, hostOps0_3, hostOps0_4, hostOps0_5, hostOps0_6, List.flatten_cons, List.flatten_nil, List.append_nil, List.cons_append,
      List.nil_append]
  after_results <;> rfl

/-- The values the call reads. -/
theorem V_v (c : Dev nD) : V m c main_v11 = layV (m ((c : Thread nD τ).loc main_arg2)) := by
  simp only [V, hostOps0, hostOps0_1, hostOps0_2, hostOps0_3, hostOps0_4, hostOps0_5, hostOps0_6, List.flatten_cons, List.flatten_nil, List.append_nil, List.cons_append,
      List.nil_append]
  after_results <;> rfl

end Cert.Kernel2Ideal.Attn

end
-- ==== Proof.MlaArray.lean ====
/-
  The array that the latent attention call leaves: every block a grid point writes back is a block of one function
  of the arguments, and the blocks tile the array.
-/
module

public import proofs.«01_k».proof.Proof.MlaBlock
public import proofs.«01_k».proof.Proof.MlaHost
public import proofs.«01_k».proof.Proof.Gen.Kernel2Ideal.Value

@[expose] public section

noncomputable section

namespace Cert.Kernel2Ideal.Attn

open Cert.Kernel2Ideal Cert.Kernel2Ideal.Gen Idealize.ShloMosaic Idealize.ShloMosaic.TcCoe Idealize.SL.Sem

variable (m : (ℓ : Loc nD τ sig) → Buf (Elt Ideal) ℓ) (ρ : Dev nD → PrngReg)

/-- The queries of device `c`. -/
abbrev Q (c : Dev nD) : Mla.Qk := m ((c : Thread nD τ).loc main_arg0)

/-- The keys of device `c`. -/
abbrev K (c : Dev nD) : Mla.Qk := m ((c : Thread nD τ).loc main_arg1)

/-- The values of device `c`. -/
abbrev W (c : Dev nD) : Mla.Val := m ((c : Thread nD τ).loc main_arg2)

/-- The query block moves with the sequence, the row block and the head, past the context. -/
theorem idx0 : ∀ t : Fin cfg0.N, win0_0.index t 0 = t.val / 64 ∧ win0_0.index t 1 = 1 + t.val % 8 ∧ win0_0.index t 2 = t.val / 8 % 8 :=
  (by decide +kernel : ∀ t : Fin grid0.N, win0_0.index t 0 = t.val / 64 ∧ win0_0.index t 1 = 1 + t.val % 8 ∧ win0_0.index t 2 = t.val / 8 % 8)

/-- The key block holds every row of the head. -/
theorem idx1 : ∀ t : Fin cfg0.N, win0_1.index t 0 = t.val / 64 ∧ win0_1.index t 1 = 0 ∧ win0_1.index t 2 = t.val / 8 % 8 :=
  (by decide +kernel : ∀ t : Fin grid0.N, win0_1.index t 0 = t.val / 64 ∧ win0_1.index t 1 = 0 ∧ win0_1.index t 2 = t.val / 8 % 8)

/-- The value block holds every row of the head. -/
theorem idx2 : ∀ t : Fin cfg0.N, win0_2.index t 0 = t.val / 64 ∧ win0_2.index t 1 = 0 ∧ win0_2.index t 2 = t.val / 8 % 8 :=
  (by decide +kernel : ∀ t : Fin grid0.N, win0_2.index t 0 = t.val / 64 ∧ win0_2.index t 1 = 0 ∧ win0_2.index t 2 = t.val / 8 % 8)

/-- The result block moves with the sequence, the row block and the head. -/
theorem idx3 : ∀ t : Fin cfg0.N, win0_3.index t 0 = t.val / 64 ∧ win0_3.index t 1 = t.val % 8 ∧ win0_3.index t 2 = t.val / 8 % 8 :=
  (by decide +kernel : ∀ t : Fin grid0.N, win0_3.index t 0 = t.val / 64 ∧ win0_3.index t 1 = t.val % 8 ∧ win0_3.index t 2 = t.val / 8 % 8)

theorem lt_N (t : Fin cfg0.N) : t.val < 1024 := lt_of_lt_of_eq t.isLt N_0

/-- The sequence of a grid point. -/
def bOf (t : Fin cfg0.N) : Fin 16 := ⟨t.val / 64, by have := lt_N t; omega⟩

/-- The head of a grid point. -/
def hOf (t : Fin cfg0.N) : Fin 8 := ⟨t.val / 8 % 8, by omega⟩

/-- Row `r` of a grid point's block of rows, counted past the context. -/
def rOf (t : Fin cfg0.N) (r : Fin 256) : Fin 2048 := ⟨t.val % 8 * 256 + r, by omega⟩

/-- Where the query block at a point lies in its array. -/
theorem q_read (t : Fin cfg0.N) (A : S16x2304x2048.Idx → EReal) (r : Fin 256) (e : Fin 256) :
    (((cfg0.win 0).blk t).view.read (Elt Ideal) A : S1x256x256.Idx → EReal) (ix3 0 r e)
      = A (ix3 (bOf t) ⟨256 + rOf t r, by omega⟩ ⟨(hOf t).val * 256 + e, by have := (hOf t).isLt; omega⟩) := by
  obtain ⟨i0, i1, i2⟩ := idx0 t
  rw [View.read_apply]
  show A _ = A _
  congr 1
  funext a
  apply Fin.ext
  match a with
  | ⟨0, _⟩ => show win0_0.index t 0 * 1 + 1 * 0 = t.val / 64; omega
  | ⟨1, _⟩ => show win0_0.index t 1 * 256 + 1 * r.val = 256 + (t.val % 8 * 256 + r.val); omega
  | ⟨2, _⟩ => show win0_0.index t 2 * 256 + 1 * e.val = t.val / 8 % 8 * 256 + e.val; omega

/-- Where the key block at a point lies in its array. -/
theorem k_read (t : Fin cfg0.N) (A : S16x2304x2048.Idx → EReal) (r : Fin 2304) (e : Fin 256) :
    (((cfg0.win 1).blk t).view.read (Elt Ideal) A : S1x2304x256.Idx → EReal) (ix3 0 r e)
      = A (ix3 (bOf t) r ⟨(hOf t).val * 256 + e, by have := (hOf t).isLt; omega⟩) := by
  obtain ⟨i0, i1, i2⟩ := idx1 t
  rw [View.read_apply]
  show A _ = A _
  congr 1
  funext a
  apply Fin.ext
  match a with
  | ⟨0, _⟩ => show win0_1.index t 0 * 1 + 1 * 0 = t.val / 64; omega
  | ⟨1, _⟩ => show win0_1.index t 1 * 2304 + 1 * r.val = r.val; omega
  | ⟨2, _⟩ => show win0_1.index t 2 * 256 + 1 * e.val = t.val / 8 % 8 * 256 + e.val; omega

/-- Where the value block at a point lies in its array. -/
theorem v_read (t : Fin cfg0.N) (A : S16x2304x1024.Idx → EReal) (r : Fin 2304) (e : Fin 128) :
    (((cfg0.win 2).blk t).view.read (Elt Ideal) A : S1x2304x128.Idx → EReal) (ix3 0 r e)
      = A (ix3 (bOf t) r ⟨(hOf t).val * 128 + e, by have := (hOf t).isLt; omega⟩) := by
  obtain ⟨i0, i1, i2⟩ := idx2 t
  rw [View.read_apply]
  show A _ = A _
  congr 1
  funext a
  apply Fin.ext
  match a with
  | ⟨0, _⟩ => show win0_2.index t 0 * 1 + 1 * 0 = t.val / 64; omega
  | ⟨1, _⟩ => show win0_2.index t 1 * 2304 + 1 * r.val = r.val; omega
  | ⟨2, _⟩ => show win0_2.index t 2 * 128 + 1 * e.val = t.val / 8 % 8 * 128 + e.val; omega

/-- The query block at a point. -/
theorem q_apply (c : Dev nD) (t : Fin cfg0.N) (r : Fin 256) (e : Fin 256) :
    (iblk m c 0 t : Vec Ideal S1x256x256 .bf16) (ix3 0 r e)
      = if he : e.val < 192 then Q m c (ix4 (bOf t) (hOf t) ⟨256 + rOf t r, by omega⟩ ⟨e, he⟩) else 0 := by
  have h : iblk m c 0 t = ((cfg0.win 0).blk t).view.read (Elt Ideal) (lay (Q m c)) :=
    congrArg (fun A => ((cfg0.win 0).blk t).view.read (Elt Ideal) A) (V_q m c)
  rw [h]
  exact (q_read t _ r e).trans (lay_apply (Q m c) (bOf t) ⟨256 + rOf t r, by omega⟩ (hOf t) e)

/-- The key block at a point. -/
theorem k_apply (c : Dev nD) (t : Fin cfg0.N) (k : Fin 2304) (e : Fin 256) :
    (iblk m c 1 t : Vec Ideal S1x2304x256 .bf16) (ix3 0 k e)
      = if he : e.val < 192 then K m c (ix4 (bOf t) (hOf t) k ⟨e, he⟩) else 0 := by
  have h : iblk m c 1 t = ((cfg0.win 1).blk t).view.read (Elt Ideal) (lay (K m c)) :=
    congrArg (fun A => ((cfg0.win 1).blk t).view.read (Elt Ideal) A) (V_k m c)
  rw [h]
  exact (k_read t _ k e).trans (lay_apply (K m c) (bOf t) k (hOf t) e)

/-- The value block at a point. -/
theorem v_apply (c : Dev nD) (t : Fin cfg0.N) (k : Fin 2304) (e : Fin 128) :
    (iblk m c 2 t : Vec Ideal S1x2304x128 .bf16) (ix3 0 k e) = W m c (ix4 (bOf t) (hOf t) k e) := by
  have h : iblk m c 2 t = ((cfg0.win 2).blk t).view.read (Elt Ideal) (layV (W m c)) :=
    congrArg (fun A => ((cfg0.win 2).blk t).view.read (Elt Ideal) A) (V_v m c)
  rw [h]
  exact (v_read t _ k e).trans (layV_apply (W m c) (bOf t) k (hOf t) e)

/-- The padded columns add nothing to an inner product. -/
theorem sum_pad (f g : Fin 192 → EReal) :
    (∑ e : Fin 256, (if he : e.val < 192 then f ⟨e, he⟩ else 0) * (if he : e.val < 192 then g ⟨e, he⟩ else 0))
      = ∑ e : Fin 192, f e * g e := by
  rw [show (256 : ℕ) = 192 + 64 from rfl, Fin.sum_univ_add]
  have h : ∀ i : Fin 64, ((if he : (Fin.natAdd 192 i).val < 192 then f ⟨_, he⟩ else 0)
      * (if he : (Fin.natAdd 192 i).val < 192 then g ⟨_, he⟩ else 0) : EReal) = 0 := fun i => by
    rw [dif_neg (by show ¬ 192 + i.val < 192; omega), zero_mul]
  rw [Finset.sum_congr rfl fun i _ => h i, Finset.sum_const_zero, add_zero]
  refine Finset.sum_congr rfl fun e _ => ?_
  have he : (Fin.castAdd 64 e).val < 192 := e.isLt
  rw [dif_pos he, dif_pos he]
  rfl

/-- What the array holds at the end. -/
def G (c : Dev nD) : S16x2048x1024.Idx → EReal := fun i =>
  Mla.resultDiv (Q m c) (K m c) (W m c) (i 0) (i 1) ⟨(i 2).val / 128, by have : (i 2).val < 1024 := (i 2).isLt; omega⟩
    ⟨(i 2).val % 128, Nat.mod_lt _ (by decide)⟩

theorem hz : (fun a => (![0, 0, 0] : Fin 3 → Nat) a) = fun _ => 0 := by funext a; fin_cases a <;> rfl

/-- Where a point's block lies in the array. -/
theorem blk_idx (t : Fin cfg0.N) (y : S1x256x128.Idx) (g : S16x2048x1024.Idx → EReal) :
    ((cfg0.win 3).blk t).view.read (Elt Ideal) g y
      = g (ix3 (bOf t) (rOf t (y 1)) ⟨(hOf t).val * 128 + (y 2).val, by have := (hOf t).isLt; have : (y 2).val < 128 := (y 2).isLt; omega⟩) := by
  obtain ⟨i0, i1, i2⟩ := idx3 t
  rw [View.read_apply]
  show g _ = g _
  congr 1
  funext a
  apply Fin.ext
  have h0 : (y 0).val < 1 := (y 0).isLt
  match a with
  | ⟨0, _⟩ => show win0_3.index t 0 * 1 + 1 * (y 0).val = t.val / 64; omega
  | ⟨1, _⟩ => show win0_3.index t 1 * 256 + 1 * (y 1).val = t.val % 8 * 256 + (y 1).val; omega
  | ⟨2, _⟩ => show win0_3.index t 2 * 128 + 1 * (y 2).val = t.val / 8 % 8 * 128 + (y 2).val; omega

/-- The array's entry at row `r` and column `d` of a point's block. -/
theorem G_block (c : Dev nD) (t : Fin cfg0.N) (y : S1x256x128.Idx) (h) :
    G m c (ix3 (bOf t) (rOf t (y 1)) ⟨(hOf t).val * 128 + (y 2).val, h⟩)
      = Mla.resultDiv (Q m c) (K m c) (W m c) (bOf t) (rOf t (y 1)) (hOf t) (y 2) := by
  have h2 : (y 2).val < 128 := (y 2).isLt
  have hh : (hOf t).val < 8 := (hOf t).isLt
  unfold G
  congr 1
  · apply Fin.ext
    show ((hOf t).val * 128 + (y 2).val) / 128 = (hOf t).val
    omega
  · apply Fin.ext
    show ((hOf t).val * 128 + (y 2).val) % 128 = (y 2).val
    omega

/-- A block has one row of rows. -/
theorem eq_row (y : S1x256x128.Idx) : ∃ (r : Fin 256) (d : Fin 128), y = ix3 0 r d :=
  ⟨y 1, y 2, by
    funext a
    match a with
    | ⟨0, _⟩ => exact Subsingleton.elim (α := Fin 1) _ _
    | ⟨1, _⟩ => rfl
    | ⟨2, _⟩ => rfl⟩

/-- What a point computes is its block of the array. -/
theorem block (c : Dev nD) (t : Fin cfg0.N) (r : Fin 256) (d : Fin 128) :
    k0_pay1 (F := Ideal) (iblk m c 0 t) (iblk m c 1 t) (iblk m c 2 t) (ix3 0 r d)
      = Mla.resultDiv (Q m c) (K m c) (W m c) (bOf t) (rOf t r) (hOf t) d := by
  have hs : score (iblk m c 0 t) (iblk m c 1 t) r = Mla.score (Q m c) (K m c) (bOf t) (hOf t) (rOf t r) := by
    funext k
    unfold score Mla.score
    simp only [q_apply, k_apply]
    exact congrArg (· * _) (sum_pad (fun e => Q m c (ix4 (bOf t) (hOf t) ⟨256 + rOf t r, by omega⟩ e))
      fun e => K m c (ix4 (bOf t) (hOf t) k e))
  refine (pay1_apply _ _ _ r d).trans ?_
  rw [Mla.resultDiv]
  exact congrArg₂ Ideal.div (Finset.sum_congr rfl fun k _ =>
    congrArg₂ (· * ·) (congrFun (congrArg Softmax.num hs) k) (v_apply m c t k d)) (congrArg Softmax.den hs)

/-- The array's entries at a point's block, given the block entry by entry. -/
theorem eq_block (c : Dev nD) (t : Fin cfg0.N) (f : S1x256x128.Idx → EReal)
    (hf : ∀ (r : Fin 256) (d : Fin 128),
      f (ix3 0 r d) = Mla.resultDiv (Q m c) (K m c) (W m c) (bOf t) (rOf t r) (hOf t) d)
    (y : S1x256x128.Idx) : f y = ((cfg0.win 3).blk t).view.read (Elt Ideal) (G m c) y := by
  refine Eq.trans ?_ ((G_block m c t y _).symm.trans (blk_idx t y (G m c)).symm)
  obtain ⟨r, d, rfl⟩ := eq_row y
  exact hf r d

/-- Every point writes its block of the array. -/
theorem flushed_eq (c : Dev nD) (t : Fin cfg0.N) :
    (dats m 0 c).flushed 3 t = ((cfg0.win 3).blk t).view.read (Elt Ideal) (G m c) := by
  rw [Value.flushed3]
  unfold out0_3
  rw [View.canon_unit_zero hz, View.ld_unit_zero (S := S1x256x256) hz, View.ld_unit_zero (S := S1x2304x256) hz,
    View.ld_unit_zero (S := S1x2304x128) hz]
  funext y
  exact eq_block m c t _ (block m c t) y

/-- The blocks tile the array. -/
theorem cover (i : S16x2048x1024.Idx) :
    ∃ t : Fin cfg0.N, (cfg0.win 3).flush t = true ∧ i ∈ ((cfg0.win 3).blk t).view.set := by
  have h0 : (i 0).val < 16 := (i 0).isLt
  have h1 : (i 1).val < 2048 := (i 1).isLt
  have h2 : (i 2).val < 1024 := (i 2).isLt
  let t : Fin cfg0.N := ⟨(i 0).val * 64 + (i 2).val / 128 * 8 + (i 1).val / 256, by rw [show cfg0.N = 1024 from N_0]; omega⟩
  have ht : t.val = (i 0).val * 64 + (i 2).val / 128 * 8 + (i 1).val / 256 := rfl
  obtain ⟨e0, e1, e2⟩ := idx3 t
  refine ⟨t, flush0_3 t, ?_⟩
  show i ∈ ((View.whole main_v12).slice (win0_3.rect t)).set
  rw [View.set_slice_whole, Rect.mem_set_unit]
  intro a
  match a with
  | ⟨0, _⟩ => show win0_3.index t 0 * 1 ≤ (i 0).val ∧ (i 0).val < win0_3.index t 0 * 1 + 1; omega
  | ⟨1, _⟩ => show win0_3.index t 1 * 256 ≤ (i 1).val ∧ (i 1).val < win0_3.index t 1 * 256 + 256; omega
  | ⟨2, _⟩ => show win0_3.index t 2 * 128 ≤ (i 2).val ∧ (i 2).val < win0_3.index t 2 * 128 + 128; omega

/-- So the array ends holding the attention. -/
theorem final (c : Dev nD) : (dats m 0 c).arrAt 3 cfg0.N = G m c :=
  (dats m 0 c).arrAt_eq_of_cover 3 (G m c) (fun t _ => flushed_eq m c t) cover

/-- The run, read: the result array holds the attention, the arguments are unchanged. -/
theorem run : θ_run defs (onTc (τ := τ) (main (F := Ideal))) ⟨m, fun _ => 0, ρ⟩ fun r => ∀ c : Dev nD,
      r.2.mem ((c : Thread nD τ).loc main_v12) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Kernel2Ideal.Attn

end
-- ==== Proof.MlaRef.lean ====
/-
  What the reference of the latent attention computes, entry by entry.
-/
module

public import proofs.«01_k».proof.Proof.MlaSpec
public import proofs.«01_k».proof.Proof.HostMax
public import proofs.«01_k».proof.Proof.Gen.Reference2Ideal.Read
public import Idealize.ShloMosaic.Lib.Pointwise

@[expose] public section

noncomputable section

namespace Cert.Reference2Ideal.Attn

open Cert.Reference2Ideal Cert.Reference2Ideal.Gen Cert.Reference2Ideal.Read Idealize.ShloMosaic Idealize.ShloMosaic.TcCoe

variable (q k : Mla.Qk) (v : Mla.Val) (b : Fin 16) (h : Fin 8) (r : Fin 2048)

/-- The scores. -/
theorem scores (j : Fin 2304) : val_main_v4 (F := Ideal) q k (ix5 b h 0 r j) = Mla.score q k b h r j := by
  unfold val_main_v4 val_main_v3 val_main_v2 val_main_v1 val_main_v0 val_main_cst
  pointwise [Mla.score]

/-- The greatest score. -/
theorem tops : val_main_v7 (F := Ideal) q k (ix4 b h 0 r) = Softmax.top (Mla.score q k b h r) := by
  have e : val_main_v5 (F := Ideal) q k (ix4 b h 0 r) = Softmax.top (Mla.score q k b h r) := by
    refine (HostMax.last5 (val_main_v4 (F := Ideal) q k) (val_main_cst_0 (F := Ideal)) _ _ b h (0 : Fin 1) r).trans ?_
    exact congrArg₂ (fun (i : EReal) f => (Finset.univ : Finset (Fin 2304)).fold max i f)
      Softmax.ofBits_neg_inf (funext fun j => scores q k b h r j)
  rw [val_main_v7_apply, e]
  exact (congrArg (max · _) Softmax.ofBits_neg_inf).trans (max_eq_right bot_le)

/-- The exponentials. -/
theorem nums (j : Fin 2304) : val_main_v11 (F := Ideal) q k (ix5 b h 0 r j) = Softmax.num (Mla.score q k b h r) j := by
  unfold val_main_v11 val_main_v10 val_main_v9 val_main_v8
  pointwise [scores, tops, Softmax.num]

/-- The weights. -/
theorem weights (j : Fin 2304) : val_main_v15 (F := Ideal) q k (ix5 b h 0 r j)
    = Ideal.div (Softmax.num (Mla.score q k b h r) j) (Softmax.den (Mla.score q k b h r)) := by
  unfold val_main_v15 val_main_v14 val_main_v13 val_main_v12 val_main_cst_2
  pointwise [nums, Softmax.den]

/-- The whole result, the heads side by side in the columns. -/
theorem result (j : Fin 1024) : val_main_v20 (F := Ideal) q k v (ix3 b r j)
    = Mla.result q k v b r ⟨j / 128, by omega⟩ ⟨j % 128, Nat.mod_lt _ (by decide)⟩ := by
  unfold val_main_v20 val_main_v19 val_main_v18 val_main_v17 val_main_v16
  pointwise [weights, Mla.result, Softmax.attend]

end Cert.Reference2Ideal.Attn

end
-- ==== Proof.MlaClaim.lean ====
/-
  The latent attention call and its reference leave the same array, on finite queries and keys.
-/
module

public import proofs.«01_k».proof.Defs
public import proofs.«01_k».proof.Proof.MlaArray
public import proofs.«01_k».proof.Proof.MlaRef
public import proofs.«01_k».proof.Proof.Gen.Reference2Ideal.Run
public import Idealize.ShloMosaic.Lib.Quiescent

@[expose] public section

noncomputable section

namespace Cert.MlaClaim

open Idealize.ShloMosaic Idealize.SL.Sem Idealize.ShloMosaic.TcCoe

/-- The fact the precondition states holds. -/
theorem preFacts : Cert.Pre_finite_qk2.Facts := by constructor <;> decide +kernel

/-- A comparison that came out true held. -/
theorem of_bit {p : Prop} [Decidable p] (e : BitVec.ofBool (decide p) = 1#1) : p := by
  by_contra hn
  exact absurd (e.symm.trans (congrArg BitVec.ofBool (decide_eq_false hn))) (by decide)

/-- The precondition says that every query and every key entry is finite. -/
theorem finite [Cert.Pre_finite_qk2.Facts] (q k : Mla.Qk) (v : Mla.Val)
    (h : (Cert.Pre_finite_qk2.fn (F := Ideal) q k v).1 = (fun _ => 1#1) ∧ (Cert.Pre_finite_qk2.fn (F := Ideal) q k v).2 = fun _ => 1#1) :
    (∀ b h r e, q (ix4 b h r e) ≠ ⊥ ∧ q (ix4 b h r e) ≠ ⊤) ∧ ∀ b h r e, k (ix4 b h r e) ≠ ⊥ ∧ k (ix4 b h r e) ≠ ⊤ := by
  refine ⟨fun b n r e => Softmax.finite_of_abs_lt ?_, fun b n r e => Softmax.finite_of_abs_lt ?_⟩
  · have e := congrFun h.1 (ix4 b n r e)
    unfold Cert.Pre_finite_qk2.fn at e
    dsimp only at e
    pointwise at e
    rw [Softmax.ofBits_inf] at e
    exact of_bit e
  · have e := congrFun h.2 (ix4 b n r e)
    unfold Cert.Pre_finite_qk2.fn at e
    dsimp only at e
    pointwise at e
    rw [Softmax.ofBits_inf] at e
    exact of_bit e

/-- The two programs leave the same array. -/
theorem algebraic [Cert.Pre_finite_qk2.Facts] :
    Cert.algebraic_Kernel2Ideal_Reference2Ideal_pre_finite_qk2 (hKernel2Ideal := Cert.Kernel2Ideal.Gen.facts)
      (hReference2Ideal := Cert.Reference2Ideal.Gen.facts) := by
  intro m ρ m' ρ' hpre hag
  refine ⟨fun c => Cert.Kernel2Ideal.Attn.G m c, Cert.Kernel2Ideal.Attn.run m ρ,
    (θ_run _ _ _).mono (fun _ h c => ⟨(h c).1.trans ?_, (h c).2⟩) (Cert.Reference2Ideal.Value.run m' ρ')⟩
  rw [Cert.Reference2Ideal.Read.val_main_v20_eq, (hag c).1, (hag c).2.1, (hag c).2.2]
  funext i
  obtain ⟨b, r, j, rfl⟩ : ∃ (b : Fin 16) (r : Fin 2048) (j : Fin 1024), i = ix3 b r j := ⟨i 0, i 1, i 2, eq_ix3 i⟩
  rw [Cert.Reference2Ideal.Attn.result]
  obtain ⟨hq, hk⟩ := finite _ _ _ (hpre c)
  exact (Mla.resultDiv_eq _ _ _ hq hk b r _ _).symm

/-- The reference terminates, leaves its arguments as they were and declares no semaphore. -/
theorem referenceFrame : Cert.quiescent_Reference2Ideal (hReference2Ideal := Cert.Reference2Ideal.Gen.facts) := fun m ρ _ =>
  (θ_run Cert.Reference2Ideal.defs _ _).mono (fun r h => And.intro (fun c => (h c).2) (sem_eq_zero_of_no_sems (by decide) r.2))
    (Cert.Reference2Ideal.Value.run (F := Ideal) m ρ)

end Cert.MlaClaim

end
-- ==== Proof.InProj3Block.lean ====
/-
  What one grid point of the input projection computes: the normalised rows it keeps, and their product with a block
  of the weight.
-/
module

public import proofs.«01_k».proof.Proof.Gen.Kernel3Ideal.Skeleton
public import Idealize.ShloMosaic.Lib.Pointwise

@[expose] public section

noncomputable section

namespace Cert.Kernel3Ideal.Proj

open Cert.Kernel3Ideal Cert.Kernel3Ideal.Gen Idealize.ShloMosaic

/-- The normalised rows' entry at row `r` and column `k`. -/
theorem pay1_apply (x : Vec Ideal S1x256x2048 .f32) (w : Vec Ideal S1x2048 .f32) (sh sc : Vec Ideal S1x1x2048 .f32)
    (r : Fin 256) (k : Fin 2048) :
    k0_pay1 (F := Ideal) x w sh sc (ix2 r k)
      = x (ix3 0 r k) * Ideal.rsqrt (Ideal.div (∑ e : Fin 2048, x (ix3 0 r e) * x (ix3 0 r e)) (Ideal.ofBits .f32 0x45000000#32)
            + Ideal.ofBits .f32 0x358637BD#32)
          * w (ix2 0 k) * (1 + sc (ix3 0 0 k))
        + sh (ix3 0 0 k) := by
  unfold k0_pay1
  pointwise

/-- The product's entry at row `r` and column `d`. -/
theorem pay2_apply (a : Vec Ideal S256x2048 .bf16) (w : Vec Ideal S2048x1664 .bf16) (r : Fin 256) (d : Fin 1664) :
    k0_pay2 (F := Ideal) a w (ix3 0 r d) = ∑ k : Fin 2048, a (ix2 r k) * w (ix2 k d) := by
  unfold k0_pay2
  pointwise

end Cert.Kernel3Ideal.Proj

end
-- ==== Proof.InProj3Scratch.lean ====
/-
  What each grid point of the input projection leaves: the first point of a block of rows computes the normalised rows
  and keeps them; every point writes their product with its block of the weight.
-/
module

public import proofs.«01_k».proof.Proof.InProj3Block
public import proofs.«01_k».proof.Proof.Gen.Kernel3Ideal.Value

@[expose] public section

noncomputable section

namespace Cert.Kernel3Ideal.Proj

open Cert.Kernel3Ideal Cert.Kernel3Ideal.Gen Idealize.ShloMosaic Idealize.ShloMosaic.TcCoe Idealize.SL.Sem

variable (m : (ℓ : Loc nD τ sig) → Buf (Elt Ideal) ℓ) (ρ : Dev nD → PrngReg)

theorem hz3 : (fun a => (![0, 0, 0] : Fin 3 → Nat) a) = fun _ => 0 := by funext a; fin_cases a <;> rfl

theorem hz2 : (fun a => (![0, 0] : Fin 2 → Nat) a) = fun _ => 0 := by funext a; fin_cases a <;> rfl

/-- The normalised rows a point computes. -/
def rows (c : Dev nD) (t : Fin cfg0.N) : Vec Ideal S256x2048 .bf16 :=
  k0_pay1 (F := Ideal) (iblk m c 0 t) (iblk m c 1 t)
    (View.ld (iblk m c 2 t : Vec Ideal S1x6x2048 .f32) (Rect.unit (s := S1x6x2048) ![0, 0, 0] S1x1x2048.size inb_S1x6x2048_S1x1x2048_0_0_0))
    (View.ld (iblk m c 2 t : Vec Ideal S1x6x2048 .f32) (Rect.unit (s := S1x6x2048) ![0, 1, 0] S1x1x2048.size inb_S1x6x2048_S1x1x2048_0_1_0))

/-- The first point of a block of rows keeps the normalised rows. -/
theorem kept_A (c : Dev nD) (t : Fin cfg0.N) (h0 : t.val % 4 = 0) : (outsAt0 m c t.val t.isLt).2 = rows m c t := by
  rw [outsAt0_A m c t h0]
  dsimp only
  unfold sout0_A_0
  rw [View.read_writes_eq_canon _ _ _ (fun y => scover0_A_0 c _ _ _ _ _ _ _ _ _ _ _ _ _ _ _ _ _ _ y)]
  unfold kernelRun0_A
  dsimp only
  sl_unfold_words
  rw [View.canon_unit_zero hz2]
  simp only [View.readAt_eq_ld, (hs0_0 t).read_unread, (hs0_1 t).read_unread, (hs0_2 t).read_unread,
    View.ld_unit_zero (S := S1x256x2048) hz3, View.ld_unit_zero (S := S1x2048) hz2]
  rfl

/-- A later point keeps what the point before kept. -/
theorem kept_B (c : Dev nD) (t : Fin cfg0.N) (h0 : ¬t.val % 4 = 0) : (outsAt0 m c t.val t.isLt).2
    = (outsAt0 m c (t.val - 1) (Nat.lt_of_le_of_lt (Nat.sub_le _ _) t.isLt)).2 := by
  rw [outsAt0_B m c t h0]
  rfl

/-- What the first point of a block of rows writes. -/
theorem wrote_A (c : Dev nD) (t : Fin cfg0.N) (h0 : t.val % 4 = 0) :
    (outsAt0 m c t.val t.isLt).1 = k0_pay2 (F := Ideal) (rows m c t) (iblk m c 3 t) := by
  rw [outsAt0_A m c t h0]
  dsimp only
  unfold out0_A_4
  rw [View.read_writes_eq_canon _ _ _ (fun y => cover0_A_4 c _ _ _ _ _ _ _ _ _ _ _ _ _ _ _ _ _ _ y)]
  unfold kernelRun0_A
  dsimp only
  sl_unfold_words
  rw [View.canon_unit_zero hz3]
  simp only [View.readAt_eq_ld, (hs0_0 t).read_unread, (hs0_1 t).read_unread, (hs0_2 t).read_unread, (hs0_3 t).read_unread,
    View.ld_unit_zero (S := S1x256x2048) hz3, View.ld_unit_zero (S := S1x2048) hz2, View.ld_unit_zero (S := S2048x1664) hz2,
    View.readCov_unit_zero (S := S256x2048) _ hz2]
  rfl

/-- What a later point writes: from the rows the point before kept. -/
theorem wrote_B (c : Dev nD) (t : Fin cfg0.N) (h0 : ¬t.val % 4 = 0) :
    (outsAt0 m c t.val t.isLt).1 = k0_pay2 (F := Ideal)
      (outsAt0 m c (t.val - 1) (Nat.lt_of_le_of_lt (Nat.sub_le _ _) t.isLt)).2 (iblk m c 3 t) := by
  rw [outsAt0_B m c t h0]
  dsimp only
  unfold out0_B_4
  rw [View.read_writes_eq_canon _ _ _ (fun y => cover0_B_4 c _ _ _ _ _ _ _ _ _ _ _ _ _ _ _ _ _ _ _ y)]
  unfold kernelRun0_B
  dsimp only
  sl_unfold_words
  rw [View.canon_unit_zero hz3]
  simp only [View.readAt_eq_ld, (hs0_3 t).read_unread, (Memref.isWhole_whole _).read_unread, View.ld_unit_zero (S := S2048x1664) hz2, View.ld_unit_zero (S := S256x2048) hz2]

end Cert.Kernel3Ideal.Proj

end
-- ==== Proof.InProjSpec.lean ====
/-
  The input projection as one function of its arguments: each row of the joint array (the context's rows, then the
  sequence's) normalised by its mean square, scaled by the norm's weight, modulated, and multiplied by a weight.
-/
module

public import Idealize.ShloMosaic.Lib.Pointwise.Index
public import Idealize.ShloMosaic.PureOps.Ideal

@[expose] public section

noncomputable section

namespace Cert.InProj

open Idealize.ShloMosaic

/-- The sequences: sixteen, 2048 rows, 2048 columns. -/
abbrev Seq := (⟨3, ![16, 2048, 2048]⟩ : Shape).Idx → EReal

/-- The context: sixteen, 256 rows, 2048 columns. -/
abbrev Ctx := (⟨3, ![16, 256, 2048]⟩ : Shape).Idx → EReal

/-- The modulation: one row for each of the sixteen sequences and one for the context, six parts of 2048 columns. -/
abbrev Mod := (⟨2, ![17, 12288]⟩ : Shape).Idx → EReal

/-- The norm's weight. -/
abbrev Norm := (⟨1, ![2048]⟩ : Shape).Idx → EReal

/-- Row `r` of the joint array of sequence `b`. -/
def row (x : Seq) (ctx : Ctx) (b : Fin 16) (r : Fin 2304) (k : Fin 2048) : EReal :=
  if h : r.val < 256 then ctx (ix3 b ⟨r, h⟩ k) else x (ix3 b ⟨r.val - 256, by omega⟩ k)

/-- The modulation row of row `r` of sequence `b`: the context's below 256, else the sequence's. -/
def modRow (b : Fin 16) (r : Fin 2304) : Fin 17 := if r.val < 256 then 16 else ⟨b, by omega⟩

/-- Entry `k` of a row normalised and modulated: its shift is the modulation's first part, its scale the second. -/
def normed (x : Fin 2048 → EReal) (w : Norm) (md : Mod) (g : Fin 17) (k : Fin 2048) : EReal :=
  x k * Ideal.rsqrt (Ideal.div (∑ e : Fin 2048, x e * x e) (Ideal.ofBits .f32 0x45000000#32) + Ideal.ofBits .f32 0x358637BD#32)
      * w (ix1 k) * (1 + md (ix2 g ⟨2048 + k, by omega⟩))
    + md (ix2 g ⟨k, by omega⟩)

/-- A weight of 4160 columns with 64 columns of zeros after its own. -/
def wide (w : (⟨2, ![2048, 4160]⟩ : Shape).Idx → EReal) (k : Fin 2048) (j : Fin 4224) : EReal :=
  if h : j.val < 4160 then w (ix2 k ⟨j, h⟩) else 0

/-- The number of the zero word is zero. -/
theorem zero_word : FloatOps.sitofp (F := Ideal) .f32 (0#32) = 0 := by
  show ((((0#32 : BitVec 32).toInt : ℤ) : ℝ) : EReal) = 0
  simp

end Cert.InProj

end
-- ==== Proof.InProj3Host.lean ====
/-
  The arrays the input projection reads: the joint array, the modulation in six parts, the norm's weight as a row and
  the weight.
-/
module

public import proofs.«01_k».proof.Proof.InProjSpec
public import proofs.«01_k».proof.Proof.Gen.Kernel3Ideal.Frame
public import Idealize.ShloMosaic.Lib.Pointwise

@[expose] public section

noncomputable section

namespace Cert.Kernel3Ideal.Proj

open Cert.Kernel3Ideal Cert.Kernel3Ideal.Gen Idealize.ShloMosaic Idealize.ShloMosaic.TcCoe Idealize.SL.Sem

/-- The joint array: the context's rows, then the sequence's. -/
def joint (x : InProj.Seq) (ctx : InProj.Ctx) : S16x2304x2048.Idx → EReal :=
  concatenate S16x2304x2048 1 [⟨S16x256x2048, (ctx : FVec Ideal S16x256x2048 .f32)⟩, ⟨S16x2048x2048, (x : FVec Ideal S16x2048x2048 .f32)⟩]
    concatenates_S16x256x2048_S16x2048x2048_S16x2304x2048_d1

theorem joint_apply (x : InProj.Seq) (ctx : InProj.Ctx) (b : Fin 16) (r : Fin 2304) (k : Fin 2048) :
    joint x ctx (ix3 b r k) = InProj.row x ctx b r k := by
  unfold joint
  pointwise
  rfl

/-- The modulation in six parts. -/
def parts (md : InProj.Mod) : S17x6x2048.Idx → EReal :=
  shapeCast S17x6x2048 (md : FVec Ideal S17x12288 .f32) shapeCasts_S17x12288_S17x6x2048

/-- Part `p` of a row holds that row's columns from `2048 * p`. -/
theorem parts_apply (md : InProj.Mod) (g : Fin 17) (p : Fin 6) (j : Fin 2048) :
    parts md (ix3 g p j) = md (ix2 g ⟨p * 2048 + j, by omega⟩) := by
  unfold parts
  pointwise

/-- The norm's weight as one row. -/
def normRow (w : InProj.Norm) : S1x2048.Idx → EReal :=
  shapeCast S1x2048 (w : FVec Ideal S2048 .f32) shapeCasts_S2048_S1x2048

theorem normRow_apply (w : InProj.Norm) (k : Fin 2048) : normRow w (ix2 0 k) = w (ix1 k) := by
  unfold normRow
  pointwise

/-- The weight. -/
def weight (w : S2048x6656.Idx → EReal) : S2048x6656.Idx → EReal :=
  (truncf (F := Ideal) .bf16 · bitsLt_bf16_f32) (w : FVec Ideal S2048x6656 .f32)

theorem weight_apply (w : S2048x6656.Idx → EReal) (k : Fin 2048) (j : Fin 6656) : weight w (ix2 k j) = w (ix2 k j) := by
  unfold weight
  pointwise

variable (m : (ℓ : Loc nD τ sig) → Buf (Elt Ideal) ℓ)

/-- The joint array the call reads. -/
theorem V_joint (c : Dev nD) : V m c main_v0 = joint (m ((c : Thread nD τ).loc main_arg0)) (m ((c : Thread nD τ).loc main_arg1)) := by
  simp only [V, hostOps0]
  after_results <;> rfl

/-- The modulation the call reads. -/
theorem V_mod (c : Dev nD) : V m c main_v1 = parts (m ((c : Thread nD τ).loc main_arg2)) := by
  simp only [V, hostOps0]
  after_results <;> rfl

/-- The norm's weight the call reads. -/
theorem V_norm (c : Dev nD) : V m c main_v3 = normRow (m ((c : Thread nD τ).loc main_arg3)) := by
  simp only [V, hostOps0]
  after_results <;> rfl

/-- The weight the call reads. -/
theorem V_weight (c : Dev nD) : V m c main_v2 = weight (m ((c : Thread nD τ).loc main_arg4)) := by
  simp only [V, hostOps0]
  after_results <;> rfl

end Cert.Kernel3Ideal.Proj

end
-- ==== Proof.InProj3Array.lean ====
/-
  The array that the input projection leaves: every block a grid point writes back is a block of one function of the
  arguments, and the blocks tile the array.
-/
module

public import proofs.«01_k».proof.Proof.InProj3Scratch
public import proofs.«01_k».proof.Proof.InProj3Host

@[expose] public section

noncomputable section

namespace Cert.Kernel3Ideal.Proj

open Cert.Kernel3Ideal Cert.Kernel3Ideal.Gen Idealize.ShloMosaic Idealize.ShloMosaic.TcCoe Idealize.SL.Sem

variable (m : (ℓ : Loc nD τ sig) → Buf (Elt Ideal) ℓ) (ρ : Dev nD → PrngReg)

/-- The sequences of device `c`. -/
abbrev Xs (c : Dev nD) : InProj.Seq := m ((c : Thread nD τ).loc main_arg0)

/-- The context of device `c`. -/
abbrev Cx (c : Dev nD) : InProj.Ctx := m ((c : Thread nD τ).loc main_arg1)

/-- The modulation of device `c`. -/
abbrev Md (c : Dev nD) : InProj.Mod := m ((c : Thread nD τ).loc main_arg2)

/-- The norm's weight of device `c`. -/
abbrev Nw (c : Dev nD) : InProj.Norm := m ((c : Thread nD τ).loc main_arg3)

/-- The weight of device `c`. -/
abbrev W (c : Dev nD) : S2048x6656.Idx → EReal := m ((c : Thread nD τ).loc main_arg4)

/-- The joint array's block moves with the sequence and the row block. -/
theorem idx0 : ∀ t : Fin cfg0.N, win0_0.index t 0 = t.val / 36 ∧ win0_0.index t 1 = t.val / 4 % 9 ∧ win0_0.index t 2 = 0 :=
  (by decide +kernel : ∀ t : Fin grid0.N, win0_0.index t 0 = t.val / 36 ∧ win0_0.index t 1 = t.val / 4 % 9 ∧ win0_0.index t 2 = 0)

/-- The norm's weight does not move. -/
theorem idx1 : ∀ t : Fin cfg0.N, win0_1.index t 0 = 0 ∧ win0_1.index t 1 = 0 :=
  (by decide +kernel : ∀ t : Fin grid0.N, win0_1.index t 0 = 0 ∧ win0_1.index t 1 = 0)

/-- The modulation's block holds all parts of one row. -/
theorem idx2 : ∀ t : Fin cfg0.N, win0_2.index t 0 = (if t.val / 4 % 9 = 0 then 16 else t.val / 36) ∧ win0_2.index t 1 = 0 ∧ win0_2.index t 2 = 0 :=
  (by decide +kernel : ∀ t : Fin grid0.N, win0_2.index t 0 = (if t.val / 4 % 9 = 0 then 16 else t.val / 36) ∧ win0_2.index t 1 = 0 ∧ win0_2.index t 2 = 0)

/-- The weight's block moves with the column block. -/
theorem idx3 : ∀ t : Fin cfg0.N, win0_3.index t 0 = 0 ∧ win0_3.index t 1 = t.val % 4 :=
  (by decide +kernel : ∀ t : Fin grid0.N, win0_3.index t 0 = 0 ∧ win0_3.index t 1 = t.val % 4)

/-- The result's block moves with the sequence, the row block and the column block. -/
theorem idx4 : ∀ t : Fin cfg0.N, win0_4.index t 0 = t.val / 36 ∧ win0_4.index t 1 = t.val / 4 % 9 ∧ win0_4.index t 2 = t.val % 4 :=
  (by decide +kernel : ∀ t : Fin grid0.N, win0_4.index t 0 = t.val / 36 ∧ win0_4.index t 1 = t.val / 4 % 9 ∧ win0_4.index t 2 = t.val % 4)

theorem lt_N (t : Fin cfg0.N) : t.val < 576 := lt_of_lt_of_eq t.isLt N_0

/-- The sequence of a grid point. -/
def bOf (t : Fin cfg0.N) : Fin 16 := ⟨t.val / 36, by have := lt_N t; omega⟩

/-- Row `r` of a grid point's block of rows. -/
def rOf (t : Fin cfg0.N) (r : Fin 256) : Fin 2304 := ⟨t.val / 4 % 9 * 256 + r, by omega⟩

/-- Column `d` of a grid point's block of columns. -/
def jOf (t : Fin cfg0.N) (d : Fin 1664) : Fin 6656 := ⟨t.val % 4 * 1664 + d, by omega⟩

/-- The modulation row of a grid point: the context's for the first block of rows, else the sequence's. -/
def gOf (t : Fin cfg0.N) : Fin 17 := if t.val / 4 % 9 = 0 then 16 else ⟨t.val / 36, by have := lt_N t; omega⟩

theorem gOf_val (t : Fin cfg0.N) : (gOf t).val = if t.val / 4 % 9 = 0 then 16 else t.val / 36 := by
  unfold gOf
  split <;> rfl

/-- A block's rows have one modulation row. -/
theorem gOf_eq (t : Fin cfg0.N) (r : Fin 256) : gOf t = InProj.modRow (bOf t) (rOf t r) := by
  have hr : (rOf t r).val = t.val / 4 % 9 * 256 + r.val := rfl
  unfold gOf InProj.modRow
  by_cases h : t.val / 4 % 9 = 0
  · rw [if_pos h, if_pos (by omega)]
  · rw [if_neg h, if_neg (by omega)]
    rfl

/-- Where the joint array's block at a point lies. -/
theorem joint_read (t : Fin cfg0.N) (A : S16x2304x2048.Idx → EReal) (r : Fin 256) (k : Fin 2048) :
    (((cfg0.win 0).blk t).view.read (Elt Ideal) A : S1x256x2048.Idx → EReal) (ix3 0 r k) = A (ix3 (bOf t) (rOf t r) k) := by
  obtain ⟨i0, i1, i2⟩ := idx0 t
  rw [View.read_apply]
  show A _ = A _
  congr 1
  funext a
  apply Fin.ext
  match a with
  | ⟨0, _⟩ => show win0_0.index t 0 * 1 + 1 * 0 = t.val / 36; omega
  | ⟨1, _⟩ => show win0_0.index t 1 * 256 + 1 * r.val = t.val / 4 % 9 * 256 + r.val; omega
  | ⟨2, _⟩ => show win0_0.index t 2 * 2048 + 1 * k.val = k.val; omega

/-- The norm's weight is read whole. -/
theorem norm_read (t : Fin cfg0.N) (A : S1x2048.Idx → EReal) (k : Fin 2048) :
    (((cfg0.win 1).blk t).view.read (Elt Ideal) A : S1x2048.Idx → EReal) (ix2 0 k) = A (ix2 0 k) := by
  obtain ⟨i0, i1⟩ := idx1 t
  rw [View.read_apply]
  show A _ = A _
  congr 1
  funext a
  apply Fin.ext
  match a with
  | ⟨0, _⟩ => show win0_1.index t 0 * 1 + 1 * 0 = 0; omega
  | ⟨1, _⟩ => show win0_1.index t 1 * 2048 + 1 * k.val = k.val; omega

/-- Where the modulation's block at a point lies. -/
theorem mod_read (t : Fin cfg0.N) (A : S17x6x2048.Idx → EReal) (p : Fin 6) (k : Fin 2048) :
    (((cfg0.win 2).blk t).view.read (Elt Ideal) A : S1x6x2048.Idx → EReal) (ix3 0 p k) = A (ix3 (gOf t) p k) := by
  obtain ⟨i0, i1, i2⟩ := idx2 t
  have hg := gOf_val t
  rw [View.read_apply]
  show A _ = A _
  congr 1
  funext a
  apply Fin.ext
  match a with
  | ⟨0, _⟩ => show win0_2.index t 0 * 1 + 1 * 0 = (gOf t).val; rw [hg, i0, Nat.mul_one, Nat.mul_zero, Nat.add_zero]
  | ⟨1, _⟩ => show win0_2.index t 1 * 6 + 1 * p.val = p.val; omega
  | ⟨2, _⟩ => show win0_2.index t 2 * 2048 + 1 * k.val = k.val; omega

/-- Where the weight's block at a point lies. -/
theorem weight_read (t : Fin cfg0.N) (A : S2048x6656.Idx → EReal) (k : Fin 2048) (d : Fin 1664) :
    (((cfg0.win 3).blk t).view.read (Elt Ideal) A : S2048x1664.Idx → EReal) (ix2 k d) = A (ix2 k (jOf t d)) := by
  obtain ⟨i0, i1⟩ := idx3 t
  rw [View.read_apply]
  show A _ = A _
  congr 1
  funext a
  apply Fin.ext
  match a with
  | ⟨0, _⟩ => show win0_3.index t 0 * 2048 + 1 * k.val = k.val; omega
  | ⟨1, _⟩ => show win0_3.index t 1 * 1664 + 1 * d.val = t.val % 4 * 1664 + d.val; omega

/-- The joint array's block at a point. -/
theorem joint_blk (c : Dev nD) (t : Fin cfg0.N) (r : Fin 256) (k : Fin 2048) :
    (iblk m c 0 t : Vec Ideal S1x256x2048 .f32) (ix3 0 r k) = InProj.row (Xs m c) (Cx m c) (bOf t) (rOf t r) k := by
  have h : iblk m c 0 t = ((cfg0.win 0).blk t).view.read (Elt Ideal) (joint (Xs m c) (Cx m c)) :=
    congrArg (fun A => ((cfg0.win 0).blk t).view.read (Elt Ideal) A) (V_joint m c)
  rw [h]
  exact (joint_read t _ r k).trans (joint_apply (Xs m c) (Cx m c) (bOf t) (rOf t r) k)

/-- The norm's weight at a point. -/
theorem norm_blk (c : Dev nD) (t : Fin cfg0.N) (k : Fin 2048) :
    (iblk m c 1 t : Vec Ideal S1x2048 .f32) (ix2 0 k) = Nw m c (ix1 k) := by
  have h : iblk m c 1 t = ((cfg0.win 1).blk t).view.read (Elt Ideal) (normRow (Nw m c)) :=
    congrArg (fun A => ((cfg0.win 1).blk t).view.read (Elt Ideal) A) (V_norm m c)
  rw [h]
  exact (norm_read t _ k).trans (normRow_apply (Nw m c) k)

/-- The modulation's block at a point. -/
theorem mod_blk (c : Dev nD) (t : Fin cfg0.N) (p : Fin 6) (k : Fin 2048) :
    (iblk m c 2 t : Vec Ideal S1x6x2048 .f32) (ix3 0 p k) = Md m c (ix2 (gOf t) ⟨p * 2048 + k, by omega⟩) := by
  have h : iblk m c 2 t = ((cfg0.win 2).blk t).view.read (Elt Ideal) (parts (Md m c)) :=
    congrArg (fun A => ((cfg0.win 2).blk t).view.read (Elt Ideal) A) (V_mod m c)
  rw [h]
  exact (mod_read t _ p k).trans (parts_apply (Md m c) (gOf t) p k)

/-- The weight's block at a point. -/
theorem weight_blk (c : Dev nD) (t : Fin cfg0.N) (k : Fin 2048) (d : Fin 1664) :
    (iblk m c 3 t : Vec Ideal S2048x1664 .bf16) (ix2 k d) = W m c (ix2 k (jOf t d)) := by
  have h : iblk m c 3 t = ((cfg0.win 3).blk t).view.read (Elt Ideal) (weight (W m c)) :=
    congrArg (fun A => ((cfg0.win 3).blk t).view.read (Elt Ideal) A) (V_weight m c)
  rw [h]
  exact (weight_read t _ k d).trans (weight_apply (W m c) k (jOf t d))

/-- Reading the first part of a modulation block. -/
theorem ld_shift (X : S1x6x2048.Idx → EReal) (inb : ∀ a, (![0, 0, 0] : Fin 3 → Nat) a + S1x1x2048.size a ≤ S1x6x2048.size a) (k : Fin 2048) :
    (View.ld (Val := Elt Ideal) (e' := .f32) X (Rect.unit (s := S1x6x2048) ![0, 0, 0] S1x1x2048.size inb) : S1x1x2048.Idx → EReal)
      (ix3 0 0 k) = X (ix3 0 0 k) := by
  show X _ = X _
  congr 1
  funext a
  apply Fin.ext
  match a with
  | ⟨0, _⟩ => rfl
  | ⟨1, _⟩ => rfl
  | ⟨2, _⟩ => show 0 + 1 * k.val = k.val; omega

/-- Reading the second part of a modulation block. -/
theorem ld_scale (X : S1x6x2048.Idx → EReal) (inb : ∀ a, (![0, 1, 0] : Fin 3 → Nat) a + S1x1x2048.size a ≤ S1x6x2048.size a) (k : Fin 2048) :
    (View.ld (Val := Elt Ideal) (e' := .f32) X (Rect.unit (s := S1x6x2048) ![0, 1, 0] S1x1x2048.size inb) : S1x1x2048.Idx → EReal)
      (ix3 0 0 k) = X (ix3 0 1 k) := by
  show X _ = X _
  congr 1
  funext a
  apply Fin.ext
  match a with
  | ⟨0, _⟩ => rfl
  | ⟨1, _⟩ => rfl
  | ⟨2, _⟩ => show 0 + 1 * k.val = k.val; omega

/-- The shift at a point. -/
theorem shift_blk (c : Dev nD) (t : Fin cfg0.N) (inb) (k : Fin 2048) :
    (View.ld (iblk m c 2 t : Vec Ideal S1x6x2048 .f32) (Rect.unit (s := S1x6x2048) ![0, 0, 0] S1x1x2048.size inb) : S1x1x2048.Idx → EReal)
      (ix3 0 0 k) = Md m c (ix2 (gOf t) ⟨k, by omega⟩) :=
  (ld_shift (iblk m c 2 t) inb k).trans ((mod_blk m c t 0 k).trans (congrArg (fun z => Md m c (ix2 (gOf t) z))
    (Fin.ext (by show 0 * 2048 + k.val = k.val; omega))))

/-- The scale at a point. -/
theorem scale_blk (c : Dev nD) (t : Fin cfg0.N) (inb) (k : Fin 2048) :
    (View.ld (iblk m c 2 t : Vec Ideal S1x6x2048 .f32) (Rect.unit (s := S1x6x2048) ![0, 1, 0] S1x1x2048.size inb) : S1x1x2048.Idx → EReal)
      (ix3 0 0 k) = Md m c (ix2 (gOf t) ⟨2048 + k, by omega⟩) :=
  (ld_scale (iblk m c 2 t) inb k).trans ((mod_blk m c t 1 k).trans (congrArg (fun z => Md m c (ix2 (gOf t) z))
    (Fin.ext (by show 1 * 2048 + k.val = 2048 + k.val; omega))))

/-- Entry `k` of the normalised row `r` of sequence `b`. -/
def N (c : Dev nD) (b : Fin 16) (r : Fin 2304) (k : Fin 2048) : EReal :=
  InProj.normed (InProj.row (Xs m c) (Cx m c) b r) (Nw m c) (Md m c) (InProj.modRow b r) k

/-- The normalised rows a point computes. -/
theorem rows_apply (c : Dev nD) (t : Fin cfg0.N) (r : Fin 256) (k : Fin 2048) :
    rows m c t (ix2 r k) = N m c (bOf t) (rOf t r) k := by
  unfold rows
  refine (pay1_apply _ _ _ _ r k).trans ?_
  unfold N InProj.normed
  rw [← gOf_eq t r, shift_blk m c t _ k, scale_blk m c t _ k, norm_blk m c t k, joint_blk m c t r k]
  have hs : ∀ X : S1x256x2048.Idx → EReal, (∀ e, X (ix3 0 r e) = InProj.row (Xs m c) (Cx m c) (bOf t) (rOf t r) e) →
      (∑ e : Fin 2048, X (ix3 0 r e) * X (ix3 0 r e))
        = ∑ e : Fin 2048, InProj.row (Xs m c) (Cx m c) (bOf t) (rOf t r) e * InProj.row (Xs m c) (Cx m c) (bOf t) (rOf t r) e :=
    fun X hX => Finset.sum_congr rfl fun e _ => congrArg₂ (· * ·) (hX e) (hX e)
  rw [hs (iblk m c 0 t) (fun e => joint_blk m c t r e)]

/-- What a point keeps: the normalised rows of its row block, for every column block. -/
theorem kept (c : Dev nD) (n : Nat) : ∀ (hn : n < cfg0.N) (r : Fin 256) (k : Fin 2048),
    (outsAt0 m c n hn).2 (ix2 r k) = N m c (bOf ⟨n, hn⟩) (rOf ⟨n, hn⟩ r) k := by
  induction n with
  | zero =>
    intro hn r k
    exact (congrFun (kept_A m c ⟨0, hn⟩ rfl) (ix2 r k)).trans (rows_apply m c ⟨0, hn⟩ r k)
  | succ n ih =>
    intro hn r k
    by_cases h0 : (n + 1) % 4 = 0
    · exact (congrFun (kept_A m c ⟨n + 1, hn⟩ h0) (ix2 r k)).trans (rows_apply m c ⟨n + 1, hn⟩ r k)
    · have e : (outsAt0 m c (n + 1) hn).2 = (outsAt0 m c n (Nat.lt_of_succ_lt hn)).2 := kept_B m c ⟨n + 1, hn⟩ h0
      have hd : (n + 1) / 4 = n / 4 := by omega
      have hp : (n + 1) / 36 = n / 36 := by omega
      have hb : bOf ⟨n + 1, hn⟩ = bOf ⟨n, Nat.lt_of_succ_lt hn⟩ := Fin.ext hp
      have hr : rOf ⟨n + 1, hn⟩ r = rOf ⟨n, Nat.lt_of_succ_lt hn⟩ r :=
        Fin.ext (congrArg (fun z => z % 9 * 256 + r.val) hd)
      rw [e, hb, hr]
      exact ih (Nat.lt_of_succ_lt hn) r k

/-- What the array holds at the end. -/
def G (c : Dev nD) (b : Fin 16) (r : Fin 2304) (j : Fin 6656) : EReal :=
  ∑ k : Fin 2048, N m c b r k * W m c (ix2 k j)

/-- The same, as an array. -/
def GA (c : Dev nD) : S16x2304x6656.Idx → EReal := fun i => G m c (i 0) (i 1) (i 2)

/-- Where a point's block lies in the array. -/
theorem o_read (t : Fin cfg0.N) (A : S16x2304x6656.Idx → EReal) (r : Fin 256) (d : Fin 1664) :
    (((cfg0.win 4).blk t).view.read (Elt Ideal) A : S1x256x1664.Idx → EReal) (ix3 0 r d) = A (ix3 (bOf t) (rOf t r) (jOf t d)) := by
  obtain ⟨i0, i1, i2⟩ := idx4 t
  rw [View.read_apply]
  show A _ = A _
  congr 1
  funext a
  apply Fin.ext
  match a with
  | ⟨0, _⟩ => show win0_4.index t 0 * 1 + 1 * 0 = t.val / 36; omega
  | ⟨1, _⟩ => show win0_4.index t 1 * 256 + 1 * r.val = t.val / 4 % 9 * 256 + r.val; omega
  | ⟨2, _⟩ => show win0_4.index t 2 * 1664 + 1 * d.val = t.val % 4 * 1664 + d.val; omega

/-- A block has one row of rows. -/
theorem eq_row (y : S1x256x1664.Idx) : ∃ (r : Fin 256) (d : Fin 1664), y = ix3 0 r d :=
  ⟨y 1, y 2, by
    funext a
    match a with
    | ⟨0, _⟩ => exact Subsingleton.elim (α := Fin 1) _ _
    | ⟨1, _⟩ => rfl
    | ⟨2, _⟩ => rfl⟩

/-- The product of a point's normalised rows with its weight block is its block of the array. -/
theorem block (c : Dev nD) (t : Fin cfg0.N) (a : Vec Ideal S256x2048 .bf16)
    (ha : ∀ (r : Fin 256) (k : Fin 2048), a (ix2 r k) = N m c (bOf t) (rOf t r) k) (r : Fin 256) (d : Fin 1664) :
    k0_pay2 (F := Ideal) a (iblk m c 3 t) (ix3 0 r d) = G m c (bOf t) (rOf t r) (jOf t d) := by
  refine (pay2_apply _ _ r d).trans ?_
  unfold G
  exact Finset.sum_congr rfl fun k _ => congrArg₂ (· * ·) (ha r k) (weight_blk m c t k d)

/-- What a point writes, entry by entry. -/
theorem wrote (c : Dev nD) (t : Fin cfg0.N) (r : Fin 256) (d : Fin 1664) :
    (outsAt0 m c t.val t.isLt).1 (ix3 0 r d) = G m c (bOf t) (rOf t r) (jOf t d) := by
  by_cases h0 : t.val % 4 = 0
  · exact (congrFun (wrote_A m c t h0) (ix3 0 r d)).trans (block m c t _ (rows_apply m c t) r d)
  · refine (congrFun (wrote_B m c t h0) (ix3 0 r d)).trans (block m c t _ (fun r k => ?_) r d)
    have e := kept_B m c t h0
    exact (congrFun e (ix2 r k)).symm.trans (kept m c t.val t.isLt r k)

/-- The array's entries at a point's block, given the block entry by entry. -/
theorem eq_block (c : Dev nD) (t : Fin cfg0.N) (f : S1x256x1664.Idx → EReal)
    (hf : ∀ (r : Fin 256) (d : Fin 1664), f (ix3 0 r d) = G m c (bOf t) (rOf t r) (jOf t d))
    (y : S1x256x1664.Idx) : f y = ((cfg0.win 4).blk t).view.read (Elt Ideal) (GA m c) y := by
  obtain ⟨r, d, rfl⟩ := eq_row y
  exact (hf r d).trans (o_read t (GA m c) r d).symm

/-- Every point writes its block of the array. -/
theorem flushed_eq (c : Dev nD) (t : Fin cfg0.N) :
    (dats m 0 c).flushed 4 t = ((cfg0.win 4).blk t).view.read (Elt Ideal) (GA m c) := by
  have e : (dats m 0 c).flushed 4 t = (outsAt0 m c t.val t.isLt).1 := Value.flushed4 m c t
  rw [e]
  funext y
  exact eq_block m c t _ (wrote m c t) y

/-- The blocks tile the array. -/
theorem cover (i : S16x2304x6656.Idx) :
    ∃ t : Fin cfg0.N, (cfg0.win 4).flush t = true ∧ i ∈ ((cfg0.win 4).blk t).view.set := by
  have h0 : (i 0).val < 16 := (i 0).isLt
  have h1 : (i 1).val < 2304 := (i 1).isLt
  have h2 : (i 2).val < 6656 := (i 2).isLt
  let t : Fin cfg0.N := ⟨(i 0).val * 36 + (i 1).val / 256 * 4 + (i 2).val / 1664, by rw [show cfg0.N = 576 from N_0]; omega⟩
  have ht : t.val = (i 0).val * 36 + (i 1).val / 256 * 4 + (i 2).val / 1664 := rfl
  obtain ⟨e0, e1, e2⟩ := idx4 t
  refine ⟨t, flush0_4 t, ?_⟩
  show i ∈ ((View.whole main_v4).slice (win0_4.rect t)).set
  rw [View.set_slice_whole, Rect.mem_set_unit]
  intro a
  match a with
  | ⟨0, _⟩ => show win0_4.index t 0 * 1 ≤ (i 0).val ∧ (i 0).val < win0_4.index t 0 * 1 + 1; omega
  | ⟨1, _⟩ => show win0_4.index t 1 * 256 ≤ (i 1).val ∧ (i 1).val < win0_4.index t 1 * 256 + 256; omega
  | ⟨2, _⟩ => show win0_4.index t 2 * 1664 ≤ (i 2).val ∧ (i 2).val < win0_4.index t 2 * 1664 + 1664; omega

/-- So the array ends holding the input projection. -/
theorem final (c : Dev nD) : (dats m 0 c).arrAt 4 cfg0.N = GA m c :=
  (dats m 0 c).arrAt_eq_of_cover 4 (GA m c) (fun t _ => flushed_eq m c t) cover

/-- The run, read: the result array holds the input projection, the arguments are unchanged. -/
theorem run : θ_run defs (onTc (τ := τ) (main (F := Ideal))) ⟨m, fun _ => 0, ρ⟩ fun r => ∀ c : Dev nD,
      r.2.mem ((c : Thread nD τ).loc main_v4) = GA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.Kernel3Ideal.Proj

end
-- ==== Proof.InProj3Ref.lean ====
/-
  What the reference of the input projection computes, entry by entry.
-/
module

public import proofs.«01_k».proof.Proof.InProjSpec
public import proofs.«01_k».proof.Proof.Gen.Reference3Ideal.Read
public import Idealize.ShloMosaic.Lib.Pointwise

@[expose] public section

noncomputable section

namespace Cert.Reference3Ideal.Proj

open Cert.Reference3Ideal Cert.Reference3Ideal.Gen Cert.Reference3Ideal.Read Idealize.ShloMosaic Idealize.ShloMosaic.TcCoe

variable (x : InProj.Seq) (ctx : InProj.Ctx) (md : InProj.Mod) (nw : InProj.Norm) (w : S2048x6656.Idx → EReal) (b : Fin 16)

/-- A sequence's row scaled by its mean square. -/
theorem scaled_x (r : Fin 2048) (k : Fin 2048) : val_main_v28 (F := Ideal) x nw (ix3 b r k)
    = x (ix3 b r k) * Ideal.rsqrt (Ideal.div (∑ e : Fin 2048, x (ix3 b r e) * x (ix3 b r e)) (Ideal.ofBits .f32 0x45000000#32)
        + Ideal.ofBits .f32 0x358637BD#32) * nw (ix1 k) := by
  unfold val_main_v28 val_main_v27 val_main_v26 val_main_v25 val_main_v24 val_main_v23 val_main_v22 val_main_v21 val_main_v20
    val_main_v19 val_main_v18 val_main_v17 val_main_v16 val_main_cst val_main_cst_0 val_main_cst_1
  pointwise

/-- A context's row scaled by its mean square. -/
theorem scaled_c (r : Fin 256) (k : Fin 2048) : val_main_v47 (F := Ideal) ctx nw (ix3 b r k)
    = ctx (ix3 b r k) * Ideal.rsqrt (Ideal.div (∑ e : Fin 2048, ctx (ix3 b r e) * ctx (ix3 b r e)) (Ideal.ofBits .f32 0x45000000#32)
        + Ideal.ofBits .f32 0x358637BD#32) * nw (ix1 k) := by
  unfold val_main_v47 val_main_v46 val_main_v45 val_main_v44 val_main_v43 val_main_v42 val_main_v41 val_main_v40 val_main_v39
    val_main_v38 val_main_v37 val_main_v36 val_main_v35 val_main_cst_3 val_main_cst_4 val_main_cst_5
  pointwise

/-- The sequence's scale. -/
theorem scale_x (r : Fin 2048) (k : Fin 2048) : val_main_v31 (F := Ideal) md (ix3 b r k)
    = 1 + md (ix2 ⟨b, by omega⟩ ⟨2048 + k, by omega⟩) := by
  unfold val_main_v31 val_main_v30 val_main_v29 val_main_v3 val_main_v1 val_main_v0 val_main_cst_2
  pointwise

/-- The sequence's shift. -/
theorem shift_x (r : Fin 2048) (k : Fin 2048) : val_main_v33 (F := Ideal) md (ix3 b r k)
    = md (ix2 ⟨b, by omega⟩ ⟨k, by omega⟩) := by
  unfold val_main_v33 val_main_v2 val_main_v1 val_main_v0
  pointwise

/-- The context's scale. -/
theorem scale_c (r : Fin 256) (k : Fin 2048) : val_main_v50 (F := Ideal) md (ix3 b r k)
    = 1 + md (ix2 16 ⟨2048 + k, by omega⟩) := by
  unfold val_main_v50 val_main_v49 val_main_v48 val_main_v11 val_main_v9 val_main_v8 val_main_cst_6
  pointwise

/-- The context's shift. -/
theorem shift_c (r : Fin 256) (k : Fin 2048) : val_main_v52 (F := Ideal) md (ix3 b r k)
    = md (ix2 16 ⟨k, by omega⟩) := by
  unfold val_main_v52 val_main_v10 val_main_v9 val_main_v8
  pointwise

/-- A sequence's row normalised and modulated. -/
theorem normed_x (r : Fin 2048) (k : Fin 2048) : val_main_v34 (F := Ideal) x md nw (ix3 b r k)
    = InProj.normed (fun k => x (ix3 b r k)) nw md ⟨b, by omega⟩ k := by
  unfold val_main_v34 val_main_v32
  pointwise [scaled_x, scale_x, shift_x, InProj.normed]

/-- A context's row normalised and modulated. -/
theorem normed_c (r : Fin 256) (k : Fin 2048) : val_main_v53 (F := Ideal) ctx md nw (ix3 b r k)
    = InProj.normed (fun k => ctx (ix3 b r k)) nw md 16 k := by
  unfold val_main_v53 val_main_v51
  pointwise [scaled_c, scale_c, shift_c, InProj.normed]

/-- The result in the sequence. -/
theorem result_x (r : Fin 2048) (j : Fin 6656) : val_main_v54 (F := Ideal) x md nw w (ix3 b r j)
    = ∑ k : Fin 2048, InProj.normed (fun k => x (ix3 b r k)) nw md ⟨b, by omega⟩ k * w (ix2 k j) := by
  unfold val_main_v54
  pointwise [normed_x]

/-- The result in the context. -/
theorem result_c (r : Fin 256) (j : Fin 6656) : val_main_v55 (F := Ideal) ctx md nw w (ix3 b r j)
    = ∑ k : Fin 2048, InProj.normed (fun k => ctx (ix3 b r k)) nw md 16 k * w (ix2 k j) := by
  unfold val_main_v55
  pointwise [normed_c]

/-- The whole result, the context's rows first. -/
theorem result (r : Fin 2304) (j : Fin 6656) : val_main_v56 (F := Ideal) x ctx md nw w (ix3 b r j)
    = ∑ k : Fin 2048, InProj.normed (InProj.row x ctx b r) nw md (InProj.modRow b r) k * w (ix2 k j) := by
  unfold val_main_v56
  pointwise
  by_cases hr : r.val < 256
  · have e : InProj.row x ctx b r = fun k => ctx (ix3 b ⟨r, hr⟩ k) := funext fun k => dif_pos hr
    have g : InProj.modRow b r = 16 := if_pos hr
    rw [dif_pos hr, e, g]
    exact result_c ctx md nw w b ⟨r, hr⟩ j
  · have e : InProj.row x ctx b r = fun k => x (ix3 b ⟨r.val - 256, by omega⟩ k) := funext fun k => dif_neg hr
    have g : InProj.modRow b r = ⟨b, by omega⟩ := if_neg hr
    rw [dif_neg hr, e, g]
    exact result_x x md nw w b ⟨r.val - 256, by omega⟩ j

end Cert.Reference3Ideal.Proj

end
-- ==== Proof.InProj3Claim.lean ====
/-
  The input projection of the first layer and its reference leave the same array, whatever the arguments.
-/
module

public import proofs.«01_k».proof.Defs
public import proofs.«01_k».proof.Proof.InProj3Array
public import proofs.«01_k».proof.Proof.InProj3Ref
public import proofs.«01_k».proof.Proof.Gen.Reference3Ideal.Run
public import Idealize.ShloMosaic.Lib.Quiescent

@[expose] public section

noncomputable section

namespace Cert.InProj3Claim

open Idealize.ShloMosaic Idealize.SL.Sem Idealize.ShloMosaic.TcCoe

/-- The two programs leave the same array. -/
theorem algebraic :
    Cert.algebraic_Kernel3Ideal_Reference3Ideal (hKernel3Ideal := Cert.Kernel3Ideal.Gen.facts)
      (hReference3Ideal := Cert.Reference3Ideal.Gen.facts) := by
  intro m ρ m' ρ' _ hag
  refine ⟨fun c => Cert.Kernel3Ideal.Proj.GA m c, Cert.Kernel3Ideal.Proj.run m ρ,
    (θ_run _ _ _).mono (fun _ h c => ⟨(h c).1.trans ?_, (h c).2⟩) (Cert.Reference3Ideal.Value.run m' ρ')⟩
  rw [Cert.Reference3Ideal.Read.val_main_v56_eq, (hag c).1, (hag c).2.1, (hag c).2.2.1, (hag c).2.2.2.1, (hag c).2.2.2.2]
  funext i
  obtain ⟨b, r, j, rfl⟩ : ∃ (b : Fin 16) (r : Fin 2304) (j : Fin 6656), i = ix3 b r j := ⟨i 0, i 1, i 2, eq_ix3 i⟩
  exact Cert.Reference3Ideal.Proj.result _ _ _ _ _ b r j

/-- The reference terminates, leaves its arguments as they were and declares no semaphore. -/
theorem referenceFrame : Cert.quiescent_Reference3Ideal (hReference3Ideal := Cert.Reference3Ideal.Gen.facts) := fun m ρ _ =>
  (θ_run Cert.Reference3Ideal.defs _ _).mono (fun r h => And.intro (fun c => (h c).2) (sem_eq_zero_of_no_sems (by decide) r.2))
    (Cert.Reference3Ideal.Value.run (F := Ideal) m ρ)

end Cert.InProj3Claim

end
-- ==== Proof.InProj4Block.lean ====
/-
  What one grid point of the input projection computes: the normalised rows it keeps, and their product with a block
  of the weight.
-/
module

public import proofs.«01_k».proof.Proof.Gen.Kernel4Ideal.Skeleton
public import Idealize.ShloMosaic.Lib.Pointwise

@[expose] public section

noncomputable section

namespace Cert.Kernel4Ideal.Proj

open Cert.Kernel4Ideal Cert.Kernel4Ideal.Gen Idealize.ShloMosaic

/-- The normalised rows' entry at row `r` and column `k`. -/
theorem pay1_apply (x : Vec Ideal S1x256x2048 .f32) (w : Vec Ideal S1x2048 .f32) (sh sc : Vec Ideal S1x1x2048 .f32)
    (r : Fin 256) (k : Fin 2048) :
    k0_pay1 (F := Ideal) x w sh sc (ix2 r k)
      = x (ix3 0 r k) * Ideal.rsqrt (Ideal.div (∑ e : Fin 2048, x (ix3 0 r e) * x (ix3 0 r e)) (Ideal.ofBits .f32 0x45000000#32)
            + Ideal.ofBits .f32 0x358637BD#32)
          * w (ix2 0 k) * (1 + sc (ix3 0 0 k))
        + sh (ix3 0 0 k) := by
  unfold k0_pay1
  pointwise

/-- The product's entry at row `r` and column `d`. -/
theorem pay2_apply (a : Vec Ideal S256x2048 .bf16) (w : Vec Ideal S2048x1408 .bf16) (r : Fin 256) (d : Fin 1408) :
    k0_pay2 (F := Ideal) a w (ix3 0 r d) = ∑ k : Fin 2048, a (ix2 r k) * w (ix2 k d) := by
  unfold k0_pay2
  pointwise

end Cert.Kernel4Ideal.Proj

end
-- ==== Proof.InProj4Scratch.lean ====
/-
  What each grid point of the input projection leaves: the first point of a block of rows computes the normalised rows
  and keeps them; every point writes their product with its block of the weight.
-/
module

public import proofs.«01_k».proof.Proof.InProj4Block
public import proofs.«01_k».proof.Proof.Gen.Kernel4Ideal.Value

@[expose] public section

noncomputable section

namespace Cert.Kernel4Ideal.Proj

open Cert.Kernel4Ideal Cert.Kernel4Ideal.Gen Idealize.ShloMosaic Idealize.ShloMosaic.TcCoe Idealize.SL.Sem

variable (m : (ℓ : Loc nD τ sig) → Buf (Elt Ideal) ℓ) (ρ : Dev nD → PrngReg)

theorem hz3 : (fun a => (![0, 0, 0] : Fin 3 → Nat) a) = fun _ => 0 := by funext a; fin_cases a <;> rfl

theorem hz2 : (fun a => (![0, 0] : Fin 2 → Nat) a) = fun _ => 0 := by funext a; fin_cases a <;> rfl

/-- The normalised rows a point computes. -/
def rows (c : Dev nD) (t : Fin cfg0.N) : Vec Ideal S256x2048 .bf16 :=
  k0_pay1 (F := Ideal) (iblk m c 0 t) (iblk m c 1 t)
    (View.ld (iblk m c 2 t : Vec Ideal S1x6x2048 .f32) (Rect.unit (s := S1x6x2048) ![0, 0, 0] S1x1x2048.size inb_S1x6x2048_S1x1x2048_0_0_0))
    (View.ld (iblk m c 2 t : Vec Ideal S1x6x2048 .f32) (Rect.unit (s := S1x6x2048) ![0, 1, 0] S1x1x2048.size inb_S1x6x2048_S1x1x2048_0_1_0))

/-- The first point of a block of rows keeps the normalised rows. -/
theorem kept_A (c : Dev nD) (t : Fin cfg0.N) (h0 : t.val % 3 = 0) : (outsAt0 m c t.val t.isLt).2 = rows m c t := by
  rw [outsAt0_A m c t h0]
  dsimp only
  unfold sout0_A_0
  rw [View.read_writes_eq_canon _ _ _ (fun y => scover0_A_0 c _ _ _ _ _ _ _ _ _ _ _ _ _ _ _ _ _ _ y)]
  unfold kernelRun0_A
  dsimp only
  sl_unfold_words
  rw [View.canon_unit_zero hz2]
  simp only [View.readAt_eq_ld, (hs0_0 t).read_unread, (hs0_1 t).read_unread, (hs0_2 t).read_unread,
    View.ld_unit_zero (S := S1x256x2048) hz3, View.ld_unit_zero (S := S1x2048) hz2]
  rfl

/-- A later point keeps what the point before kept. -/
theorem kept_B (c : Dev nD) (t : Fin cfg0.N) (h0 : ¬t.val % 3 = 0) : (outsAt0 m c t.val t.isLt).2
    = (outsAt0 m c (t.val - 1) (Nat.lt_of_le_of_lt (Nat.sub_le _ _) t.isLt)).2 := by
  rw [outsAt0_B m c t h0]
  rfl

/-- What the first point of a block of rows writes. -/
theorem wrote_A (c : Dev nD) (t : Fin cfg0.N) (h0 : t.val % 3 = 0) :
    (outsAt0 m c t.val t.isLt).1 = k0_pay2 (F := Ideal) (rows m c t) (iblk m c 3 t) := by
  rw [outsAt0_A m c t h0]
  dsimp only
  unfold out0_A_4
  rw [View.read_writes_eq_canon _ _ _ (fun y => cover0_A_4 c _ _ _ _ _ _ _ _ _ _ _ _ _ _ _ _ _ _ y)]
  unfold kernelRun0_A
  dsimp only
  sl_unfold_words
  rw [View.canon_unit_zero hz3]
  simp only [View.readAt_eq_ld, (hs0_0 t).read_unread, (hs0_1 t).read_unread, (hs0_2 t).read_unread, (hs0_3 t).read_unread,
    View.ld_unit_zero (S := S1x256x2048) hz3, View.ld_unit_zero (S := S1x2048) hz2, View.ld_unit_zero (S := S2048x1408) hz2,
    View.readCov_unit_zero (S := S256x2048) _ hz2]
  rfl

/-- What a later point writes: from the rows the point before kept. -/
theorem wrote_B (c : Dev nD) (t : Fin cfg0.N) (h0 : ¬t.val % 3 = 0) :
    (outsAt0 m c t.val t.isLt).1 = k0_pay2 (F := Ideal)
      (outsAt0 m c (t.val - 1) (Nat.lt_of_le_of_lt (Nat.sub_le _ _) t.isLt)).2 (iblk m c 3 t) := by
  rw [outsAt0_B m c t h0]
  dsimp only
  unfold out0_B_4
  rw [View.read_writes_eq_canon _ _ _ (fun y => cover0_B_4 c _ _ _ _ _ _ _ _ _ _ _ _ _ _ _ _ _ _ _ y)]
  unfold kernelRun0_B
  dsimp only
  sl_unfold_words
  rw [View.canon_unit_zero hz3]
  simp only [View.readAt_eq_ld, (hs0_3 t).read_unread, (Memref.isWhole_whole _).read_unread, View.ld_unit_zero (S := S2048x1408) hz2, View.ld_unit_zero (S := S256x2048) hz2]

end Cert.Kernel4Ideal.Proj

end
-- ==== Proof.InProj4Host.lean ====
/-
  The arrays the input projection reads: the joint array, the modulation in six parts, the norm's weight as a row and
  the weight.
-/
module

public import proofs.«01_k».proof.Proof.InProjSpec
public import proofs.«01_k».proof.Proof.Gen.Kernel4Ideal.Frame
public import Idealize.ShloMosaic.Lib.Pointwise

@[expose] public section

noncomputable section

namespace Cert.Kernel4Ideal.Proj

open Cert.Kernel4Ideal Cert.Kernel4Ideal.Gen Idealize.ShloMosaic Idealize.ShloMosaic.TcCoe Idealize.SL.Sem

/-- The joint array: the context's rows, then the sequence's. -/
def joint (x : InProj.Seq) (ctx : InProj.Ctx) : S16x2304x2048.Idx → EReal :=
  concatenate S16x2304x2048 1 [⟨S16x256x2048, (ctx : FVec Ideal S16x256x2048 .f32)⟩, ⟨S16x2048x2048, (x : FVec Ideal S16x2048x2048 .f32)⟩]
    concatenates_S16x256x2048_S16x2048x2048_S16x2304x2048_d1

theorem joint_apply (x : InProj.Seq) (ctx : InProj.Ctx) (b : Fin 16) (r : Fin 2304) (k : Fin 2048) :
    joint x ctx (ix3 b r k) = InProj.row x ctx b r k := by
  unfold joint
  pointwise
  rfl

/-- The modulation in six parts. -/
def parts (md : InProj.Mod) : S17x6x2048.Idx → EReal :=
  shapeCast S17x6x2048 (md : FVec Ideal S17x12288 .f32) shapeCasts_S17x12288_S17x6x2048

/-- Part `p` of a row holds that row's columns from `2048 * p`. -/
theorem parts_apply (md : InProj.Mod) (g : Fin 17) (p : Fin 6) (j : Fin 2048) :
    parts md (ix3 g p j) = md (ix2 g ⟨p * 2048 + j, by omega⟩) := by
  unfold parts
  pointwise

/-- The norm's weight as one row. -/
def normRow (w : InProj.Norm) : S1x2048.Idx → EReal :=
  shapeCast S1x2048 (w : FVec Ideal S2048 .f32) shapeCasts_S2048_S1x2048

theorem normRow_apply (w : InProj.Norm) (k : Fin 2048) : normRow w (ix2 0 k) = w (ix1 k) := by
  unfold normRow
  pointwise

/-- The weight, with 64 columns of zeros after its own. -/
def weight (w : S2048x4160.Idx → EReal) : S2048x4224.Idx → EReal :=
  (truncf (F := Ideal) .bf16 · bitsLt_bf16_f32) (pad S2048x4224 ![0, 0] ![0, 64] ![0, 0] (w : FVec Ideal S2048x4160 .f32)
    (sitofp (F := Ideal) .f32 (constantI S_ 32 0#32)) pads_S2048x4160_S2048x4224_000_0640 h_S_)

theorem weight_apply (w : S2048x4160.Idx → EReal) (k : Fin 2048) (j : Fin 4224) : weight w (ix2 k j) = InProj.wide w k j := by
  unfold weight
  pointwise [InProj.wide, InProj.zero_word]

variable (m : (ℓ : Loc nD τ sig) → Buf (Elt Ideal) ℓ)

/-- The joint array the call reads. -/
theorem V_joint (c : Dev nD) : V m c main_v0 = joint (m ((c : Thread nD τ).loc main_arg0)) (m ((c : Thread nD τ).loc main_arg1)) := by
  simp only [V, hostOps0, hostOps0_1, hostOps0_2, List.flatten_cons, List.flatten_nil, List.append_nil, List.cons_append, List.nil_append]
  after_results <;> rfl

/-- The modulation the call reads. -/
theorem V_mod (c : Dev nD) : V m c main_v1 = parts (m ((c : Thread nD τ).loc main_arg2)) := by
  simp only [V, hostOps0, hostOps0_1, hostOps0_2, List.flatten_cons, List.flatten_nil, List.append_nil, List.cons_append, List.nil_append]
  after_results <;> rfl

/-- The norm's weight the call reads. -/
theorem V_norm (c : Dev nD) : V m c main_v4 = normRow (m ((c : Thread nD τ).loc main_arg3)) := by
  simp only [V, hostOps0, hostOps0_1, hostOps0_2, List.flatten_cons, List.flatten_nil, List.append_nil, List.cons_append, List.nil_append]
  after_results <;> rfl

/-- The weight the call reads. -/
theorem V_weight (c : Dev nD) : V m c main_v3 = weight (m ((c : Thread nD τ).loc main_arg4)) := by
  simp only [V, hostOps0, hostOps0_1, hostOps0_2, List.flatten_cons, List.flatten_nil, List.append_nil, List.cons_append, List.nil_append]
  after_results <;> rfl

end Cert.Kernel4Ideal.Proj

end
-- ==== Proof.InProj4Array.lean ====
/-
  The array that the input projection leaves: every block a grid point writes back is a block of one function of the
  arguments, and the blocks tile the array.
-/
module

public import proofs.«01_k».proof.Proof.InProj4Scratch
public import proofs.«01_k».proof.Proof.InProj4Host

@[expose] public section

noncomputable section

namespace Cert.Kernel4Ideal.Proj

open Cert.Kernel4Ideal Cert.Kernel4Ideal.Gen Idealize.ShloMosaic Idealize.ShloMosaic.TcCoe Idealize.SL.Sem

variable (m : (ℓ : Loc nD τ sig) → Buf (Elt Ideal) ℓ) (ρ : Dev nD → PrngReg)

/-- The sequences of device `c`. -/
abbrev Xs (c : Dev nD) : InProj.Seq := m ((c : Thread nD τ).loc main_arg0)

/-- The context of device `c`. -/
abbrev Cx (c : Dev nD) : InProj.Ctx := m ((c : Thread nD τ).loc main_arg1)

/-- The modulation of device `c`. -/
abbrev Md (c : Dev nD) : InProj.Mod := m ((c : Thread nD τ).loc main_arg2)

/-- The norm's weight of device `c`. -/
abbrev Nw (c : Dev nD) : InProj.Norm := m ((c : Thread nD τ).loc main_arg3)

/-- The weight of device `c`. -/
abbrev W (c : Dev nD) : S2048x4160.Idx → EReal := m ((c : Thread nD τ).loc main_arg4)

/-- The joint array's block moves with the sequence and the row block. -/
theorem idx0 : ∀ t : Fin cfg0.N, win0_0.index t 0 = t.val / 27 ∧ win0_0.index t 1 = t.val / 3 % 9 ∧ win0_0.index t 2 = 0 :=
  (by decide +kernel : ∀ t : Fin grid0.N, win0_0.index t 0 = t.val / 27 ∧ win0_0.index t 1 = t.val / 3 % 9 ∧ win0_0.index t 2 = 0)

/-- The norm's weight does not move. -/
theorem idx1 : ∀ t : Fin cfg0.N, win0_1.index t 0 = 0 ∧ win0_1.index t 1 = 0 :=
  (by decide +kernel : ∀ t : Fin grid0.N, win0_1.index t 0 = 0 ∧ win0_1.index t 1 = 0)

/-- The modulation's block holds all parts of one row. -/
theorem idx2 : ∀ t : Fin cfg0.N, win0_2.index t 0 = (if t.val / 3 % 9 = 0 then 16 else t.val / 27) ∧ win0_2.index t 1 = 0 ∧ win0_2.index t 2 = 0 :=
  (by decide +kernel : ∀ t : Fin grid0.N, win0_2.index t 0 = (if t.val / 3 % 9 = 0 then 16 else t.val / 27) ∧ win0_2.index t 1 = 0 ∧ win0_2.index t 2 = 0)

/-- The weight's block moves with the column block. -/
theorem idx3 : ∀ t : Fin cfg0.N, win0_3.index t 0 = 0 ∧ win0_3.index t 1 = t.val % 3 :=
  (by decide +kernel : ∀ t : Fin grid0.N, win0_3.index t 0 = 0 ∧ win0_3.index t 1 = t.val % 3)

/-- The result's block moves with the sequence, the row block and the column block. -/
theorem idx4 : ∀ t : Fin cfg0.N, win0_4.index t 0 = t.val / 27 ∧ win0_4.index t 1 = t.val / 3 % 9 ∧ win0_4.index t 2 = t.val % 3 :=
  (by decide +kernel : ∀ t : Fin grid0.N, win0_4.index t 0 = t.val / 27 ∧ win0_4.index t 1 = t.val / 3 % 9 ∧ win0_4.index t 2 = t.val % 3)

theorem lt_N (t : Fin cfg0.N) : t.val < 432 := lt_of_lt_of_eq t.isLt N_0

/-- The sequence of a grid point. -/
def bOf (t : Fin cfg0.N) : Fin 16 := ⟨t.val / 27, by have := lt_N t; omega⟩

/-- Row `r` of a grid point's block of rows. -/
def rOf (t : Fin cfg0.N) (r : Fin 256) : Fin 2304 := ⟨t.val / 3 % 9 * 256 + r, by omega⟩

/-- Column `d` of a grid point's block of columns. -/
def jOf (t : Fin cfg0.N) (d : Fin 1408) : Fin 4224 := ⟨t.val % 3 * 1408 + d, by omega⟩

/-- The modulation row of a grid point: the context's for the first block of rows, else the sequence's. -/
def gOf (t : Fin cfg0.N) : Fin 17 := if t.val / 3 % 9 = 0 then 16 else ⟨t.val / 27, by have := lt_N t; omega⟩

theorem gOf_val (t : Fin cfg0.N) : (gOf t).val = if t.val / 3 % 9 = 0 then 16 else t.val / 27 := by
  unfold gOf
  split <;> rfl

/-- A block's rows have one modulation row. -/
theorem gOf_eq (t : Fin cfg0.N) (r : Fin 256) : gOf t = InProj.modRow (bOf t) (rOf t r) := by
  have hr : (rOf t r).val = t.val / 3 % 9 * 256 + r.val := rfl
  unfold gOf InProj.modRow
  by_cases h : t.val / 3 % 9 = 0
  · rw [if_pos h, if_pos (by omega)]
  · rw [if_neg h, if_neg (by omega)]
    rfl

/-- Where the joint array's block at a point lies. -/
theorem joint_read (t : Fin cfg0.N) (A : S16x2304x2048.Idx → EReal) (r : Fin 256) (k : Fin 2048) :
    (((cfg0.win 0).blk t).view.read (Elt Ideal) A : S1x256x2048.Idx → EReal) (ix3 0 r k) = A (ix3 (bOf t) (rOf t r) k) := by
  obtain ⟨i0, i1, i2⟩ := idx0 t
  rw [View.read_apply]
  show A _ = A _
  congr 1
  funext a
  apply Fin.ext
  match a with
  | ⟨0, _⟩ => show win0_0.index t 0 * 1 + 1 * 0 = t.val / 27; omega
  | ⟨1, _⟩ => show win0_0.index t 1 * 256 + 1 * r.val = t.val / 3 % 9 * 256 + r.val; omega
  | ⟨2, _⟩ => show win0_0.index t 2 * 2048 + 1 * k.val = k.val; omega

/-- The norm's weight is read whole. -/
theorem norm_read (t : Fin cfg0.N) (A : S1x2048.Idx → EReal) (k : Fin 2048) :
    (((cfg0.win 1).blk t).view.read (Elt Ideal) A : S1x2048.Idx → EReal) (ix2 0 k) = A (ix2 0 k) := by
  obtain ⟨i0, i1⟩ := idx1 t
  rw [View.read_apply]
  show A _ = A _
  congr 1
  funext a
  apply Fin.ext
  match a with
  | ⟨0, _⟩ => show win0_1.index t 0 * 1 + 1 * 0 = 0; omega
  | ⟨1, _⟩ => show win0_1.index t 1 * 2048 + 1 * k.val = k.val; omega

/-- Where the modulation's block at a point lies. -/
theorem mod_read (t : Fin cfg0.N) (A : S17x6x2048.Idx → EReal) (p : Fin 6) (k : Fin 2048) :
    (((cfg0.win 2).blk t).view.read (Elt Ideal) A : S1x6x2048.Idx → EReal) (ix3 0 p k) = A (ix3 (gOf t) p k) := by
  obtain ⟨i0, i1, i2⟩ := idx2 t
  have hg := gOf_val t
  rw [View.read_apply]
  show A _ = A _
  congr 1
  funext a
  apply Fin.ext
  match a with
  | ⟨0, _⟩ => show win0_2.index t 0 * 1 + 1 * 0 = (gOf t).val; rw [hg, i0, Nat.mul_one, Nat.mul_zero, Nat.add_zero]
  | ⟨1, _⟩ => show win0_2.index t 1 * 6 + 1 * p.val = p.val; omega
  | ⟨2, _⟩ => show win0_2.index t 2 * 2048 + 1 * k.val = k.val; omega

/-- Where the weight's block at a point lies. -/
theorem weight_read (t : Fin cfg0.N) (A : S2048x4224.Idx → EReal) (k : Fin 2048) (d : Fin 1408) :
    (((cfg0.win 3).blk t).view.read (Elt Ideal) A : S2048x1408.Idx → EReal) (ix2 k d) = A (ix2 k (jOf t d)) := by
  obtain ⟨i0, i1⟩ := idx3 t
  rw [View.read_apply]
  show A _ = A _
  congr 1
  funext a
  apply Fin.ext
  match a with
  | ⟨0, _⟩ => show win0_3.index t 0 * 2048 + 1 * k.val = k.val; omega
  | ⟨1, _⟩ => show win0_3.index t 1 * 1408 + 1 * d.val = t.val % 3 * 1408 + d.val; omega

/-- The joint array's block at a point. -/
theorem joint_blk (c : Dev nD) (t : Fin cfg0.N) (r : Fin 256) (k : Fin 2048) :
    (iblk m c 0 t : Vec Ideal S1x256x2048 .f32) (ix3 0 r k) = InProj.row (Xs m c) (Cx m c) (bOf t) (rOf t r) k := by
  have h : iblk m c 0 t = ((cfg0.win 0).blk t).view.read (Elt Ideal) (joint (Xs m c) (Cx m c)) :=
    congrArg (fun A => ((cfg0.win 0).blk t).view.read (Elt Ideal) A) (V_joint m c)
  rw [h]
  exact (joint_read t _ r k).trans (joint_apply (Xs m c) (Cx m c) (bOf t) (rOf t r) k)

/-- The norm's weight at a point. -/
theorem norm_blk (c : Dev nD) (t : Fin cfg0.N) (k : Fin 2048) :
    (iblk m c 1 t : Vec Ideal S1x2048 .f32) (ix2 0 k) = Nw m c (ix1 k) := by
  have h : iblk m c 1 t = ((cfg0.win 1).blk t).view.read (Elt Ideal) (normRow (Nw m c)) :=
    congrArg (fun A => ((cfg0.win 1).blk t).view.read (Elt Ideal) A) (V_norm m c)
  rw [h]
  exact (norm_read t _ k).trans (normRow_apply (Nw m c) k)

/-- The modulation's block at a point. -/
theorem mod_blk (c : Dev nD) (t : Fin cfg0.N) (p : Fin 6) (k : Fin 2048) :
    (iblk m c 2 t : Vec Ideal S1x6x2048 .f32) (ix3 0 p k) = Md m c (ix2 (gOf t) ⟨p * 2048 + k, by omega⟩) := by
  have h : iblk m c 2 t = ((cfg0.win 2).blk t).view.read (Elt Ideal) (parts (Md m c)) :=
    congrArg (fun A => ((cfg0.win 2).blk t).view.read (Elt Ideal) A) (V_mod m c)
  rw [h]
  exact (mod_read t _ p k).trans (parts_apply (Md m c) (gOf t) p k)

/-- The weight's block at a point. -/
theorem weight_blk (c : Dev nD) (t : Fin cfg0.N) (k : Fin 2048) (d : Fin 1408) :
    (iblk m c 3 t : Vec Ideal S2048x1408 .bf16) (ix2 k d) = InProj.wide (W m c) k (jOf t d) := by
  have h : iblk m c 3 t = ((cfg0.win 3).blk t).view.read (Elt Ideal) (weight (W m c)) :=
    congrArg (fun A => ((cfg0.win 3).blk t).view.read (Elt Ideal) A) (V_weight m c)
  rw [h]
  exact (weight_read t _ k d).trans (weight_apply (W m c) k (jOf t d))

/-- Reading the first part of a modulation block. -/
theorem ld_shift (X : S1x6x2048.Idx → EReal) (inb : ∀ a, (![0, 0, 0] : Fin 3 → Nat) a + S1x1x2048.size a ≤ S1x6x2048.size a) (k : Fin 2048) :
    (View.ld (Val := Elt Ideal) (e' := .f32) X (Rect.unit (s := S1x6x2048) ![0, 0, 0] S1x1x2048.size inb) : S1x1x2048.Idx → EReal)
      (ix3 0 0 k) = X (ix3 0 0 k) := by
  show X _ = X _
  congr 1
  funext a
  apply Fin.ext
  match a with
  | ⟨0, _⟩ => rfl
  | ⟨1, _⟩ => rfl
  | ⟨2, _⟩ => show 0 + 1 * k.val = k.val; omega

/-- Reading the second part of a modulation block. -/
theorem ld_scale (X : S1x6x2048.Idx → EReal) (inb : ∀ a, (![0, 1, 0] : Fin 3 → Nat) a + S1x1x2048.size a ≤ S1x6x2048.size a) (k : Fin 2048) :
    (View.ld (Val := Elt Ideal) (e' := .f32) X (Rect.unit (s := S1x6x2048) ![0, 1, 0] S1x1x2048.size inb) : S1x1x2048.Idx → EReal)
      (ix3 0 0 k) = X (ix3 0 1 k) := by
  show X _ = X _
  congr 1
  funext a
  apply Fin.ext
  match a with
  | ⟨0, _⟩ => rfl
  | ⟨1, _⟩ => rfl
  | ⟨2, _⟩ => show 0 + 1 * k.val = k.val; omega

/-- The shift at a point. -/
theorem shift_blk (c : Dev nD) (t : Fin cfg0.N) (inb) (k : Fin 2048) :
    (View.ld (iblk m c 2 t : Vec Ideal S1x6x2048 .f32) (Rect.unit (s := S1x6x2048) ![0, 0, 0] S1x1x2048.size inb) : S1x1x2048.Idx → EReal)
      (ix3 0 0 k) = Md m c (ix2 (gOf t) ⟨k, by omega⟩) :=
  (ld_shift (iblk m c 2 t) inb k).trans ((mod_blk m c t 0 k).trans (congrArg (fun z => Md m c (ix2 (gOf t) z))
    (Fin.ext (by show 0 * 2048 + k.val = k.val; omega))))

/-- The scale at a point. -/
theorem scale_blk (c : Dev nD) (t : Fin cfg0.N) (inb) (k : Fin 2048) :
    (View.ld (iblk m c 2 t : Vec Ideal S1x6x2048 .f32) (Rect.unit (s := S1x6x2048) ![0, 1, 0] S1x1x2048.size inb) : S1x1x2048.Idx → EReal)
      (ix3 0 0 k) = Md m c (ix2 (gOf t) ⟨2048 + k, by omega⟩) :=
  (ld_scale (iblk m c 2 t) inb k).trans ((mod_blk m c t 1 k).trans (congrArg (fun z => Md m c (ix2 (gOf t) z))
    (Fin.ext (by show 1 * 2048 + k.val = 2048 + k.val; omega))))

/-- Entry `k` of the normalised row `r` of sequence `b`. -/
def N (c : Dev nD) (b : Fin 16) (r : Fin 2304) (k : Fin 2048) : EReal :=
  InProj.normed (InProj.row (Xs m c) (Cx m c) b r) (Nw m c) (Md m c) (InProj.modRow b r) k

/-- The normalised rows a point computes. -/
theorem rows_apply (c : Dev nD) (t : Fin cfg0.N) (r : Fin 256) (k : Fin 2048) :
    rows m c t (ix2 r k) = N m c (bOf t) (rOf t r) k := by
  unfold rows
  refine (pay1_apply _ _ _ _ r k).trans ?_
  unfold N InProj.normed
  rw [← gOf_eq t r, shift_blk m c t _ k, scale_blk m c t _ k, norm_blk m c t k, joint_blk m c t r k]
  have hs : ∀ X : S1x256x2048.Idx → EReal, (∀ e, X (ix3 0 r e) = InProj.row (Xs m c) (Cx m c) (bOf t) (rOf t r) e) →
      (∑ e : Fin 2048, X (ix3 0 r e) * X (ix3 0 r e))
        = ∑ e : Fin 2048, InProj.row (Xs m c) (Cx m c) (bOf t) (rOf t r) e * InProj.row (Xs m c) (Cx m c) (bOf t) (rOf t r) e :=
    fun X hX => Finset.sum_congr rfl fun e _ => congrArg₂ (· * ·) (hX e) (hX e)
  rw [hs (iblk m c 0 t) (fun e => joint_blk m c t r e)]

/-- What a point keeps: the normalised rows of its row block, for every column block. -/
theorem kept (c : Dev nD) (n : Nat) : ∀ (hn : n < cfg0.N) (r : Fin 256) (k : Fin 2048),
    (outsAt0 m c n hn).2 (ix2 r k) = N m c (bOf ⟨n, hn⟩) (rOf ⟨n, hn⟩ r) k := by
  induction n with
  | zero =>
    intro hn r k
    exact (congrFun (kept_A m c ⟨0, hn⟩ rfl) (ix2 r k)).trans (rows_apply m c ⟨0, hn⟩ r k)
  | succ n ih =>
    intro hn r k
    by_cases h0 : (n + 1) % 3 = 0
    · exact (congrFun (kept_A m c ⟨n + 1, hn⟩ h0) (ix2 r k)).trans (rows_apply m c ⟨n + 1, hn⟩ r k)
    · have e : (outsAt0 m c (n + 1) hn).2 = (outsAt0 m c n (Nat.lt_of_succ_lt hn)).2 := kept_B m c ⟨n + 1, hn⟩ h0
      have hd : (n + 1) / 3 = n / 3 := by omega
      have hp : (n + 1) / 27 = n / 27 := by omega
      have hb : bOf ⟨n + 1, hn⟩ = bOf ⟨n, Nat.lt_of_succ_lt hn⟩ := Fin.ext hp
      have hr : rOf ⟨n + 1, hn⟩ r = rOf ⟨n, Nat.lt_of_succ_lt hn⟩ r :=
        Fin.ext (congrArg (fun z => z % 9 * 256 + r.val) hd)
      rw [e, hb, hr]
      exact ih (Nat.lt_of_succ_lt hn) r k

/-- What the array holds at the end. -/
def G (c : Dev nD) (b : Fin 16) (r : Fin 2304) (j : Fin 4224) : EReal :=
  ∑ k : Fin 2048, N m c b r k * InProj.wide (W m c) k j

/-- The same, as an array. -/
def GA (c : Dev nD) : S16x2304x4224.Idx → EReal := fun i => G m c (i 0) (i 1) (i 2)

/-- Where a point's block lies in the array. -/
theorem o_read (t : Fin cfg0.N) (A : S16x2304x4224.Idx → EReal) (r : Fin 256) (d : Fin 1408) :
    (((cfg0.win 4).blk t).view.read (Elt Ideal) A : S1x256x1408.Idx → EReal) (ix3 0 r d) = A (ix3 (bOf t) (rOf t r) (jOf t d)) := by
  obtain ⟨i0, i1, i2⟩ := idx4 t
  rw [View.read_apply]
  show A _ = A _
  congr 1
  funext a
  apply Fin.ext
  match a with
  | ⟨0, _⟩ => show win0_4.index t 0 * 1 + 1 * 0 = t.val / 27; omega
  | ⟨1, _⟩ => show win0_4.index t 1 * 256 + 1 * r.val = t.val / 3 % 9 * 256 + r.val; omega
  | ⟨2, _⟩ => show win0_4.index t 2 * 1408 + 1 * d.val = t.val % 3 * 1408 + d.val; omega

/-- A block has one row of rows. -/
theorem eq_row (y : S1x256x1408.Idx) : ∃ (r : Fin 256) (d : Fin 1408), y = ix3 0 r d :=
  ⟨y 1, y 2, by
    funext a
    match a with
    | ⟨0, _⟩ => exact Subsingleton.elim (α := Fin 1) _ _
    | ⟨1, _⟩ => rfl
    | ⟨2, _⟩ => rfl⟩

/-- The product of a point's normalised rows with its weight block is its block of the array. -/
theorem block (c : Dev nD) (t : Fin cfg0.N) (a : Vec Ideal S256x2048 .bf16)
    (ha : ∀ (r : Fin 256) (k : Fin 2048), a (ix2 r k) = N m c (bOf t) (rOf t r) k) (r : Fin 256) (d : Fin 1408) :
    k0_pay2 (F := Ideal) a (iblk m c 3 t) (ix3 0 r d) = G m c (bOf t) (rOf t r) (jOf t d) := by
  refine (pay2_apply _ _ r d).trans ?_
  unfold G
  exact Finset.sum_congr rfl fun k _ => congrArg₂ (· * ·) (ha r k) (weight_blk m c t k d)

/-- What a point writes, entry by entry. -/
theorem wrote (c : Dev nD) (t : Fin cfg0.N) (r : Fin 256) (d : Fin 1408) :
    (outsAt0 m c t.val t.isLt).1 (ix3 0 r d) = G m c (bOf t) (rOf t r) (jOf t d) := by
  by_cases h0 : t.val % 3 = 0
  · exact (congrFun (wrote_A m c t h0) (ix3 0 r d)).trans (block m c t _ (rows_apply m c t) r d)
  · refine (congrFun (wrote_B m c t h0) (ix3 0 r d)).trans (block m c t _ (fun r k => ?_) r d)
    have e := kept_B m c t h0
    exact (congrFun e (ix2 r k)).symm.trans (kept m c t.val t.isLt r k)

/-- The array's entries at a point's block, given the block entry by entry. -/
theorem eq_block (c : Dev nD) (t : Fin cfg0.N) (f : S1x256x1408.Idx → EReal)
    (hf : ∀ (r : Fin 256) (d : Fin 1408), f (ix3 0 r d) = G m c (bOf t) (rOf t r) (jOf t d))
    (y : S1x256x1408.Idx) : f y = ((cfg0.win 4).blk t).view.read (Elt Ideal) (GA m c) y := by
  obtain ⟨r, d, rfl⟩ := eq_row y
  exact (hf r d).trans (o_read t (GA m c) r d).symm

/-- Every point writes its block of the array. -/
theorem flushed_eq (c : Dev nD) (t : Fin cfg0.N) :
    (dats m 0 c).flushed 4 t = ((cfg0.win 4).blk t).view.read (Elt Ideal) (GA m c) := by
  have e : (dats m 0 c).flushed 4 t = (outsAt0 m c t.val t.isLt).1 := Value.flushed4 m c t
  rw [e]
  funext y
  exact eq_block m c t _ (wrote m c t) y

/-- The blocks tile the array. -/
theorem cover (i : S16x2304x4224.Idx) :
    ∃ t : Fin cfg0.N, (cfg0.win 4).flush t = true ∧ i ∈ ((cfg0.win 4).blk t).view.set := by
  have h0 : (i 0).val < 16 := (i 0).isLt
  have h1 : (i 1).val < 2304 := (i 1).isLt
  have h2 : (i 2).val < 4224 := (i 2).isLt
  let t : Fin cfg0.N := ⟨(i 0).val * 27 + (i 1).val / 256 * 3 + (i 2).val / 1408, by rw [show cfg0.N = 432 from N_0]; omega⟩
  have ht : t.val = (i 0).val * 27 + (i 1).val / 256 * 3 + (i 2).val / 1408 := rfl
  obtain ⟨e0, e1, e2⟩ := idx4 t
  refine ⟨t, flush0_4 t, ?_⟩
  show i ∈ ((View.whole main_v5).slice (win0_4.rect t)).set
  rw [View.set_slice_whole, Rect.mem_set_unit]
  intro a
  match a with
  | ⟨0, _⟩ => show win0_4.index t 0 * 1 ≤ (i 0).val ∧ (i 0).val < win0_4.index t 0 * 1 + 1; omega
  | ⟨1, _⟩ => show win0_4.index t 1 * 256 ≤ (i 1).val ∧ (i 1).val < win0_4.index t 1 * 256 + 256; omega
  | ⟨2, _⟩ => show win0_4.index t 2 * 1408 ≤ (i 2).val ∧ (i 2).val < win0_4.index t 2 * 1408 + 1408; omega

/-- So the array ends holding the input projection. -/
theorem final (c : Dev nD) : (dats m 0 c).arrAt 4 cfg0.N = GA m c :=
  (dats m 0 c).arrAt_eq_of_cover 4 (GA m c) (fun t _ => flushed_eq m c t) cover

/-- The run, read: the result array holds the input projection, the arguments are unchanged. -/
theorem run : θ_run defs (onTc (τ := τ) (main (F := Ideal))) ⟨m, fun _ => 0, ρ⟩ fun r => ∀ c : Dev nD,
      r.2.mem ((c : Thread nD τ).loc main_v5) = GA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.Kernel4Ideal.Proj

end
-- ==== Proof.InProj4Ref.lean ====
/-
  What the reference of the input projection computes, entry by entry.
-/
module

public import proofs.«01_k».proof.Proof.InProjSpec
public import proofs.«01_k».proof.Proof.Gen.Reference4Ideal.Read
public import Idealize.ShloMosaic.Lib.Pointwise

@[expose] public section

noncomputable section

namespace Cert.Reference4Ideal.Proj

open Cert.Reference4Ideal Cert.Reference4Ideal.Gen Cert.Reference4Ideal.Read Idealize.ShloMosaic Idealize.ShloMosaic.TcCoe

variable (x : InProj.Seq) (ctx : InProj.Ctx) (md : InProj.Mod) (nw : InProj.Norm) (w : S2048x4160.Idx → EReal) (b : Fin 16)

/-- A sequence's row scaled by its mean square. -/
theorem scaled_x (r : Fin 2048) (k : Fin 2048) : val_main_v28 (F := Ideal) x nw (ix3 b r k)
    = x (ix3 b r k) * Ideal.rsqrt (Ideal.div (∑ e : Fin 2048, x (ix3 b r e) * x (ix3 b r e)) (Ideal.ofBits .f32 0x45000000#32)
        + Ideal.ofBits .f32 0x358637BD#32) * nw (ix1 k) := by
  unfold val_main_v28 val_main_v27 val_main_v26 val_main_v25 val_main_v24 val_main_v23 val_main_v22 val_main_v21 val_main_v20
    val_main_v19 val_main_v18 val_main_v17 val_main_v16 val_main_cst val_main_cst_0 val_main_cst_1
  pointwise

/-- A context's row scaled by its mean square. -/
theorem scaled_c (r : Fin 256) (k : Fin 2048) : val_main_v47 (F := Ideal) ctx nw (ix3 b r k)
    = ctx (ix3 b r k) * Ideal.rsqrt (Ideal.div (∑ e : Fin 2048, ctx (ix3 b r e) * ctx (ix3 b r e)) (Ideal.ofBits .f32 0x45000000#32)
        + Ideal.ofBits .f32 0x358637BD#32) * nw (ix1 k) := by
  unfold val_main_v47 val_main_v46 val_main_v45 val_main_v44 val_main_v43 val_main_v42 val_main_v41 val_main_v40 val_main_v39
    val_main_v38 val_main_v37 val_main_v36 val_main_v35 val_main_cst_3 val_main_cst_4 val_main_cst_5
  pointwise

/-- The sequence's scale. -/
theorem scale_x (r : Fin 2048) (k : Fin 2048) : val_main_v31 (F := Ideal) md (ix3 b r k)
    = 1 + md (ix2 ⟨b, by omega⟩ ⟨2048 + k, by omega⟩) := by
  unfold val_main_v31 val_main_v30 val_main_v29 val_main_v3 val_main_v1 val_main_v0 val_main_cst_2
  pointwise

/-- The sequence's shift. -/
theorem shift_x (r : Fin 2048) (k : Fin 2048) : val_main_v33 (F := Ideal) md (ix3 b r k)
    = md (ix2 ⟨b, by omega⟩ ⟨k, by omega⟩) := by
  unfold val_main_v33 val_main_v2 val_main_v1 val_main_v0
  pointwise

/-- The context's scale. -/
theorem scale_c (r : Fin 256) (k : Fin 2048) : val_main_v50 (F := Ideal) md (ix3 b r k)
    = 1 + md (ix2 16 ⟨2048 + k, by omega⟩) := by
  unfold val_main_v50 val_main_v49 val_main_v48 val_main_v11 val_main_v9 val_main_v8 val_main_cst_6
  pointwise

/-- The context's shift. -/
theorem shift_c (r : Fin 256) (k : Fin 2048) : val_main_v52 (F := Ideal) md (ix3 b r k)
    = md (ix2 16 ⟨k, by omega⟩) := by
  unfold val_main_v52 val_main_v10 val_main_v9 val_main_v8
  pointwise

/-- A sequence's row normalised and modulated. -/
theorem normed_x (r : Fin 2048) (k : Fin 2048) : val_main_v34 (F := Ideal) x md nw (ix3 b r k)
    = InProj.normed (fun k => x (ix3 b r k)) nw md ⟨b, by omega⟩ k := by
  unfold val_main_v34 val_main_v32
  pointwise [scaled_x, scale_x, shift_x, InProj.normed]

/-- A context's row normalised and modulated. -/
theorem normed_c (r : Fin 256) (k : Fin 2048) : val_main_v53 (F := Ideal) ctx md nw (ix3 b r k)
    = InProj.normed (fun k => ctx (ix3 b r k)) nw md 16 k := by
  unfold val_main_v53 val_main_v51
  pointwise [scaled_c, scale_c, shift_c, InProj.normed]

/-- The result in the sequence. -/
theorem result_x (r : Fin 2048) (j : Fin 4160) : val_main_v54 (F := Ideal) x md nw w (ix3 b r j)
    = ∑ k : Fin 2048, InProj.normed (fun k => x (ix3 b r k)) nw md ⟨b, by omega⟩ k * w (ix2 k j) := by
  unfold val_main_v54
  pointwise [normed_x]

/-- The result in the context. -/
theorem result_c (r : Fin 256) (j : Fin 4160) : val_main_v55 (F := Ideal) ctx md nw w (ix3 b r j)
    = ∑ k : Fin 2048, InProj.normed (fun k => ctx (ix3 b r k)) nw md 16 k * w (ix2 k j) := by
  unfold val_main_v55
  pointwise [normed_c]

/-- The whole result, the context's rows first. -/
theorem result (r : Fin 2304) (j : Fin 4160) : val_main_v56 (F := Ideal) x ctx md nw w (ix3 b r j)
    = ∑ k : Fin 2048, InProj.normed (InProj.row x ctx b r) nw md (InProj.modRow b r) k * w (ix2 k j) := by
  unfold val_main_v56
  pointwise
  by_cases hr : r.val < 256
  · have e : InProj.row x ctx b r = fun k => ctx (ix3 b ⟨r, hr⟩ k) := funext fun k => dif_pos hr
    have g : InProj.modRow b r = 16 := if_pos hr
    rw [dif_pos hr, e, g]
    exact result_c ctx md nw w b ⟨r, hr⟩ j
  · have e : InProj.row x ctx b r = fun k => x (ix3 b ⟨r.val - 256, by omega⟩ k) := funext fun k => dif_neg hr
    have g : InProj.modRow b r = ⟨b, by omega⟩ := if_neg hr
    rw [dif_neg hr, e, g]
    exact result_x x md nw w b ⟨r.val - 256, by omega⟩ j

/-- The result with 64 columns of zeros after its own: the columns of zeros in the weight. -/
theorem padded (r : Fin 2304) (j : Fin 4224) : val_main_v57 (F := Ideal) x ctx md nw w (ix3 b r j)
    = ∑ k : Fin 2048, InProj.normed (InProj.row x ctx b r) nw md (InProj.modRow b r) k * InProj.wide w k j := by
  unfold val_main_v57 val_main_call0_v0 val_main_c
  pointwise [InProj.zero_word]
  by_cases hj : j.val < 4160
  · rw [dif_pos hj]
    refine (result x ctx md nw w b r ⟨j, hj⟩).trans (Finset.sum_congr rfl fun k _ => ?_)
    rw [show InProj.wide w k j = w (ix2 k ⟨j, hj⟩) from dif_pos hj]
  · rw [dif_neg hj]
    symm
    apply Finset.sum_eq_zero
    intro k _
    rw [show InProj.wide w k j = 0 from dif_neg hj, mul_zero]

end Cert.Reference4Ideal.Proj

end
-- ==== Proof.InProj4Claim.lean ====
/-
  The input projection of the second layer and its reference leave the same array, whatever the arguments.
-/
module

public import proofs.«01_k».proof.Defs
public import proofs.«01_k».proof.Proof.InProj4Array
public import proofs.«01_k».proof.Proof.InProj4Ref
public import proofs.«01_k».proof.Proof.Gen.Reference4Ideal.Run
public import Idealize.ShloMosaic.Lib.Quiescent

@[expose] public section

noncomputable section

namespace Cert.InProj4Claim

open Idealize.ShloMosaic Idealize.SL.Sem Idealize.ShloMosaic.TcCoe

/-- The two programs leave the same array. -/
theorem algebraic :
    Cert.algebraic_Kernel4Ideal_Reference4Ideal (hKernel4Ideal := Cert.Kernel4Ideal.Gen.facts)
      (hReference4Ideal := Cert.Reference4Ideal.Gen.facts) := by
  intro m ρ m' ρ' _ hag
  refine ⟨fun c => Cert.Kernel4Ideal.Proj.GA m c, Cert.Kernel4Ideal.Proj.run m ρ,
    (θ_run _ _ _).mono (fun _ h c => ⟨(h c).1.trans ?_, (h c).2⟩) (Cert.Reference4Ideal.Value.run m' ρ')⟩
  rw [Cert.Reference4Ideal.Read.val_main_v57_eq, (hag c).1, (hag c).2.1, (hag c).2.2.1, (hag c).2.2.2.1, (hag c).2.2.2.2]
  funext i
  obtain ⟨b, r, j, rfl⟩ : ∃ (b : Fin 16) (r : Fin 2304) (j : Fin 4224), i = ix3 b r j := ⟨i 0, i 1, i 2, eq_ix3 i⟩
  exact Cert.Reference4Ideal.Proj.padded _ _ _ _ _ b r j

/-- The reference terminates, leaves its arguments as they were and declares no semaphore. -/
theorem referenceFrame : Cert.quiescent_Reference4Ideal (hReference4Ideal := Cert.Reference4Ideal.Gen.facts) := fun m ρ _ =>
  (θ_run Cert.Reference4Ideal.defs _ _).mono (fun r h => And.intro (fun c => (h c).2) (sem_eq_zero_of_no_sems (by decide) r.2))
    (Cert.Reference4Ideal.Value.run (F := Ideal) m ρ)

end Cert.InProj4Claim

end
-- ==== Proof.OutProj5Block.lean ====
/-
  What one grid point of the output projection computes, from the blocks it reads.
-/
module

public import proofs.«01_k».proof.Proof.Gen.Kernel5Ideal.Skeleton
public import Idealize.ShloMosaic.Lib.Pointwise

@[expose] public section

noncomputable section

namespace Cert.Kernel5Ideal.Proj

open Cert.Kernel5Ideal Cert.Kernel5Ideal.Gen Idealize.ShloMosaic

/-- The block's entry at row `r` and column `d`. -/
theorem pay1_apply (a : Vec Ideal S1x256x1024 .bf16) (wa : Vec Ideal S1024x1024 .bf16) (b : Vec Ideal S1x256x1024 .bf16)
    (wb : Vec Ideal S1024x1024 .bf16) (g : Vec Ideal S1x1x1024 .f32) (h : Vec Ideal S1x256x1024 .f32)
    (r : Fin 256) (d : Fin 1024) :
    k0_pay1 (F := Ideal) a wa b wb g h (ix3 0 r d)
      = h (ix3 0 r d) + g (ix3 0 0 d) * ((∑ k : Fin 1024, a (ix3 0 r k) * wa (ix2 k d))
          + ∑ k : Fin 1024, b (ix3 0 r k) * wb (ix2 k d)) := by
  unfold k0_pay1
  pointwise

end Cert.Kernel5Ideal.Proj

end
-- ==== Proof.OutProjSpec.lean ====
/-
  The output projection as one function of its arguments: the two halves of the attention's columns times the
  weight's two halves of rows, gated by a row of the modulation and added to the residual.
-/
module

public import Idealize.ShloMosaic.Lib.Pointwise.Index
public import Idealize.ShloMosaic.PureOps.Ideal

@[expose] public section

noncomputable section

namespace Cert.OutProj

open Idealize.ShloMosaic

/-- The weight: 2048 rows, 2048 columns. -/
abbrev Weight := (⟨2, ![2048, 2048]⟩ : Shape).Idx → EReal

/-- The modulation: one row for each of the sixteen sequences and one for the context, six parts of 2048 columns. -/
abbrev Mod := (⟨2, ![17, 12288]⟩ : Shape).Idx → EReal

/-- The product of a row of the two halves laid side by side with column `j` of the weight, as two sums. -/
def dot (ya yb : Fin 1024 → EReal) (w : Weight) (j : Fin 2048) : EReal :=
  (∑ k : Fin 1024, ya k * w (ix2 ⟨k, by omega⟩ j)) + ∑ k : Fin 1024, yb k * w (ix2 ⟨1024 + k, by omega⟩ j)

/-- The gate of column `j` in row `g` of the modulation: its third part. -/
def gate (md : Mod) (g : Fin 17) (j : Fin 2048) : EReal := md (ix2 g ⟨4096 + j, by omega⟩)

/-- One entry of the output projection. -/
def result (h : EReal) (ya yb : Fin 1024 → EReal) (md : Mod) (g : Fin 17) (w : Weight) (j : Fin 2048) : EReal :=
  h + gate md g j * dot ya yb w j

/-- The sum over all columns of the two halves laid side by side is the two sums. -/
theorem sum_concat (f : Fin 2048 → EReal) (ya yb : Fin 1024 → EReal) (w : Weight) (j : Fin 2048)
    (ha : ∀ k : Fin 1024, f ⟨k, by omega⟩ = ya k) (hb : ∀ k : Fin 1024, f ⟨1024 + k, by omega⟩ = yb k) :
    ∑ k : Fin 2048, f k * w (ix2 k j) = dot ya yb w j := by
  refine (Fin.sum_univ_add (a := 1024) (b := 1024) fun k => f k * w (ix2 k j)).trans ?_
  exact congrArg₂ (· + ·) (Finset.sum_congr rfl fun k _ => congrArg (· * _) (ha k))
    (Finset.sum_congr rfl fun k _ => congrArg (· * _) (hb k))

end Cert.OutProj

end
-- ==== Proof.OutProj5Host.lean ====
/-
  The arrays the output projection reads: the modulation in six parts and the two halves of the weight's rows.
-/
module

public import proofs.«01_k».proof.Proof.OutProjSpec
public import proofs.«01_k».proof.Proof.Gen.Kernel5Ideal.Frame
public import Idealize.ShloMosaic.Lib.Pointwise

@[expose] public section

noncomputable section

namespace Cert.Kernel5Ideal.Proj

open Cert.Kernel5Ideal Cert.Kernel5Ideal.Gen Idealize.ShloMosaic Idealize.ShloMosaic.TcCoe Idealize.SL.Sem

/-- The modulation in six parts. -/
def parts (md : OutProj.Mod) : S17x6x2048.Idx → EReal :=
  shapeCast S17x6x2048 (md : FVec Ideal S17x12288 .f32) shapeCasts_S17x12288_S17x6x2048

/-- Part `p` of a row holds that row's columns from `2048 * p`. -/
theorem parts_apply (md : OutProj.Mod) (g : Fin 17) (p : Fin 6) (j : Fin 2048) :
    parts md (ix3 g p j) = md (ix2 g ⟨p * 2048 + j, by omega⟩) := by
  unfold parts
  pointwise

/-- The weight's first 1024 rows. -/
def upper (w : OutProj.Weight) : S1024x2048.Idx → EReal :=
  (truncf (F := Ideal) .bf16 · bitsLt_bf16_f32) (extractStridedSlice S1024x2048 ![0, 0] (w : FVec Ideal S2048x2048 .f32) slices_S2048x2048_S1024x2048_0_0)

/-- The weight's last 1024 rows. -/
def lower (w : OutProj.Weight) : S1024x2048.Idx → EReal :=
  (truncf (F := Ideal) .bf16 · bitsLt_bf16_f32) (extractStridedSlice S1024x2048 ![1024, 0] (w : FVec Ideal S2048x2048 .f32) slices_S2048x2048_S1024x2048_1024_0)

theorem upper_apply (w : OutProj.Weight) (k : Fin 1024) (j : Fin 2048) : upper w (ix2 k j) = w (ix2 ⟨k, by omega⟩ j) := by
  unfold upper
  pointwise

theorem lower_apply (w : OutProj.Weight) (k : Fin 1024) (j : Fin 2048) : lower w (ix2 k j) = w (ix2 ⟨1024 + k, by omega⟩ j) := by
  unfold lower
  pointwise

variable (m : (ℓ : Loc nD τ sig) → Buf (Elt Ideal) ℓ)

/-- The modulation the call reads. -/
theorem V_mod (c : Dev nD) : V m c main_v0 = parts (m ((c : Thread nD τ).loc main_arg3)) := by
  simp only [V, hostOps0]
  after_results <;> rfl

/-- The first half of the weight the call reads. -/
theorem V_upper (c : Dev nD) : V m c main_v2 = upper (m ((c : Thread nD τ).loc main_arg4)) := by
  simp only [V, hostOps0]
  after_results <;> rfl

/-- The second half of the weight the call reads. -/
theorem V_lower (c : Dev nD) : V m c main_v4 = lower (m ((c : Thread nD τ).loc main_arg4)) := by
  simp only [V, hostOps0]
  after_results <;> rfl

end Cert.Kernel5Ideal.Proj

end
-- ==== Proof.OutProj5Array.lean ====
/-
  The array that the output projection leaves: every block a grid point writes back is a block of one function of
  the arguments, and the blocks tile the array.
-/
module

public import proofs.«01_k».proof.Proof.OutProj5Block
public import proofs.«01_k».proof.Proof.OutProj5Host
public import proofs.«01_k».proof.Proof.Gen.Kernel5Ideal.Value

@[expose] public section

noncomputable section

namespace Cert.Kernel5Ideal.Proj

open Cert.Kernel5Ideal Cert.Kernel5Ideal.Gen Idealize.ShloMosaic Idealize.ShloMosaic.TcCoe Idealize.SL.Sem

variable (m : (ℓ : Loc nD τ sig) → Buf (Elt Ideal) ℓ) (ρ : Dev nD → PrngReg)

/-- The residual of device `c`. -/
abbrev H (c : Dev nD) : S16x2304x2048.Idx → EReal := m ((c : Thread nD τ).loc main_arg0)

/-- The first half of the attention's columns of device `c`. -/
abbrev Ya (c : Dev nD) : S16x2304x1024.Idx → EReal := m ((c : Thread nD τ).loc main_arg1)

/-- The second half of the attention's columns of device `c`. -/
abbrev Yb (c : Dev nD) : S16x2304x1024.Idx → EReal := m ((c : Thread nD τ).loc main_arg2)

/-- The modulation of device `c`. -/
abbrev Md (c : Dev nD) : OutProj.Mod := m ((c : Thread nD τ).loc main_arg3)

/-- The weight of device `c`. -/
abbrev W (c : Dev nD) : OutProj.Weight := m ((c : Thread nD τ).loc main_arg4)

/-- The first half's block moves with the sequence and the row block. -/
theorem idx0 : ∀ t : Fin cfg0.N, win0_0.index t 0 = t.val / 18 ∧ win0_0.index t 1 = t.val / 2 % 9 ∧ win0_0.index t 2 = 0 :=
  (by decide +kernel : ∀ t : Fin grid0.N, win0_0.index t 0 = t.val / 18 ∧ win0_0.index t 1 = t.val / 2 % 9 ∧ win0_0.index t 2 = 0)

/-- The second half's block moves likewise. -/
theorem idx1 : ∀ t : Fin cfg0.N, win0_1.index t 0 = t.val / 18 ∧ win0_1.index t 1 = t.val / 2 % 9 ∧ win0_1.index t 2 = 0 :=
  (by decide +kernel : ∀ t : Fin grid0.N, win0_1.index t 0 = t.val / 18 ∧ win0_1.index t 1 = t.val / 2 % 9 ∧ win0_1.index t 2 = 0)

/-- The upper weight's block moves with the column block. -/
theorem idx2 : ∀ t : Fin cfg0.N, win0_2.index t 0 = 0 ∧ win0_2.index t 1 = t.val % 2 :=
  (by decide +kernel : ∀ t : Fin grid0.N, win0_2.index t 0 = 0 ∧ win0_2.index t 1 = t.val % 2)

/-- The lower weight's block moves likewise. -/
theorem idx3 : ∀ t : Fin cfg0.N, win0_3.index t 0 = 0 ∧ win0_3.index t 1 = t.val % 2 :=
  (by decide +kernel : ∀ t : Fin grid0.N, win0_3.index t 0 = 0 ∧ win0_3.index t 1 = t.val % 2)

/-- The residual's block moves with the sequence, the row block and the column block. -/
theorem idx4 : ∀ t : Fin cfg0.N, win0_4.index t 0 = t.val / 18 ∧ win0_4.index t 1 = t.val / 2 % 9 ∧ win0_4.index t 2 = t.val % 2 :=
  (by decide +kernel : ∀ t : Fin grid0.N, win0_4.index t 0 = t.val / 18 ∧ win0_4.index t 1 = t.val / 2 % 9 ∧ win0_4.index t 2 = t.val % 2)

/-- The modulation's block holds all parts of one row. -/
theorem idx5 : ∀ t : Fin cfg0.N, win0_5.index t 0 = (if t.val / 2 % 9 = 0 then 16 else t.val / 18) ∧ win0_5.index t 1 = 0 ∧ win0_5.index t 2 = t.val % 2 :=
  (by decide +kernel : ∀ t : Fin grid0.N, win0_5.index t 0 = (if t.val / 2 % 9 = 0 then 16 else t.val / 18) ∧ win0_5.index t 1 = 0 ∧ win0_5.index t 2 = t.val % 2)

/-- The result's block moves with the sequence, the row block and the column block. -/
theorem idx6 : ∀ t : Fin cfg0.N, win0_6.index t 0 = t.val / 18 ∧ win0_6.index t 1 = t.val / 2 % 9 ∧ win0_6.index t 2 = t.val % 2 :=
  (by decide +kernel : ∀ t : Fin grid0.N, win0_6.index t 0 = t.val / 18 ∧ win0_6.index t 1 = t.val / 2 % 9 ∧ win0_6.index t 2 = t.val % 2)

theorem lt_N (t : Fin cfg0.N) : t.val < 288 := lt_of_lt_of_eq t.isLt N_0

/-- The sequence of a grid point. -/
def bOf (t : Fin cfg0.N) : Fin 16 := ⟨t.val / 18, by have := lt_N t; omega⟩

/-- Row `r` of a grid point's block of rows. -/
def rOf (t : Fin cfg0.N) (r : Fin 256) : Fin 2304 := ⟨t.val / 2 % 9 * 256 + r, by omega⟩

/-- Column `d` of a grid point's block of columns. -/
def jOf (t : Fin cfg0.N) (d : Fin 1024) : Fin 2048 := ⟨t.val % 2 * 1024 + d, by omega⟩

/-- The modulation row of a grid point: the context's for the first block of rows, else the sequence's. -/
def gOf (t : Fin cfg0.N) : Fin 17 := if t.val / 2 % 9 = 0 then 16 else ⟨t.val / 18, by have := lt_N t; omega⟩

theorem gOf_val (t : Fin cfg0.N) : (gOf t).val = if t.val / 2 % 9 = 0 then 16 else t.val / 18 := by
  unfold gOf
  split <;> rfl

/-- Where the first half's block at a point lies in its array. -/
theorem ya_read (t : Fin cfg0.N) (A : S16x2304x1024.Idx → EReal) (r : Fin 256) (d : Fin 1024) :
    (((cfg0.win 0).blk t).view.read (Elt Ideal) A : S1x256x1024.Idx → EReal) (ix3 0 r d) = A (ix3 (bOf t) (rOf t r) d) := by
  obtain ⟨i0, i1, i2⟩ := idx0 t
  rw [View.read_apply]
  show A _ = A _
  congr 1
  funext a
  apply Fin.ext
  match a with
  | ⟨0, _⟩ => show win0_0.index t 0 * 1 + 1 * 0 = t.val / 18; omega
  | ⟨1, _⟩ => show win0_0.index t 1 * 256 + 1 * r.val = t.val / 2 % 9 * 256 + r.val; omega
  | ⟨2, _⟩ => show win0_0.index t 2 * 1024 + 1 * d.val = d.val; omega

/-- Where the second half's block at a point lies in its array. -/
theorem yb_read (t : Fin cfg0.N) (A : S16x2304x1024.Idx → EReal) (r : Fin 256) (d : Fin 1024) :
    (((cfg0.win 1).blk t).view.read (Elt Ideal) A : S1x256x1024.Idx → EReal) (ix3 0 r d) = A (ix3 (bOf t) (rOf t r) d) := by
  obtain ⟨i0, i1, i2⟩ := idx1 t
  rw [View.read_apply]
  show A _ = A _
  congr 1
  funext a
  apply Fin.ext
  match a with
  | ⟨0, _⟩ => show win0_1.index t 0 * 1 + 1 * 0 = t.val / 18; omega
  | ⟨1, _⟩ => show win0_1.index t 1 * 256 + 1 * r.val = t.val / 2 % 9 * 256 + r.val; omega
  | ⟨2, _⟩ => show win0_1.index t 2 * 1024 + 1 * d.val = d.val; omega

/-- Where the upper weight's block at a point lies in its array. -/
theorem upper_read (t : Fin cfg0.N) (A : S1024x2048.Idx → EReal) (k : Fin 1024) (d : Fin 1024) :
    (((cfg0.win 2).blk t).view.read (Elt Ideal) A : S1024x1024.Idx → EReal) (ix2 k d) = A (ix2 k (jOf t d)) := by
  obtain ⟨i0, i1⟩ := idx2 t
  rw [View.read_apply]
  show A _ = A _
  congr 1
  funext a
  apply Fin.ext
  match a with
  | ⟨0, _⟩ => show win0_2.index t 0 * 1024 + 1 * k.val = k.val; omega
  | ⟨1, _⟩ => show win0_2.index t 1 * 1024 + 1 * d.val = t.val % 2 * 1024 + d.val; omega

/-- Where the lower weight's block at a point lies in its array. -/
theorem lower_read (t : Fin cfg0.N) (A : S1024x2048.Idx → EReal) (k : Fin 1024) (d : Fin 1024) :
    (((cfg0.win 3).blk t).view.read (Elt Ideal) A : S1024x1024.Idx → EReal) (ix2 k d) = A (ix2 k (jOf t d)) := by
  obtain ⟨i0, i1⟩ := idx3 t
  rw [View.read_apply]
  show A _ = A _
  congr 1
  funext a
  apply Fin.ext
  match a with
  | ⟨0, _⟩ => show win0_3.index t 0 * 1024 + 1 * k.val = k.val; omega
  | ⟨1, _⟩ => show win0_3.index t 1 * 1024 + 1 * d.val = t.val % 2 * 1024 + d.val; omega

/-- Where the residual's block at a point lies in its array. -/
theorem h_read (t : Fin cfg0.N) (A : S16x2304x2048.Idx → EReal) (r : Fin 256) (d : Fin 1024) :
    (((cfg0.win 4).blk t).view.read (Elt Ideal) A : S1x256x1024.Idx → EReal) (ix3 0 r d) = A (ix3 (bOf t) (rOf t r) (jOf t d)) := by
  obtain ⟨i0, i1, i2⟩ := idx4 t
  rw [View.read_apply]
  show A _ = A _
  congr 1
  funext a
  apply Fin.ext
  match a with
  | ⟨0, _⟩ => show win0_4.index t 0 * 1 + 1 * 0 = t.val / 18; omega
  | ⟨1, _⟩ => show win0_4.index t 1 * 256 + 1 * r.val = t.val / 2 % 9 * 256 + r.val; omega
  | ⟨2, _⟩ => show win0_4.index t 2 * 1024 + 1 * d.val = t.val % 2 * 1024 + d.val; omega

/-- Where the modulation's block at a point lies in its array. -/
theorem mod_read (t : Fin cfg0.N) (A : S17x6x2048.Idx → EReal) (p : Fin 6) (d : Fin 1024) :
    (((cfg0.win 5).blk t).view.read (Elt Ideal) A : S1x6x1024.Idx → EReal) (ix3 0 p d) = A (ix3 (gOf t) p (jOf t d)) := by
  obtain ⟨i0, i1, i2⟩ := idx5 t
  have hg := gOf_val t
  rw [View.read_apply]
  show A _ = A _
  congr 1
  funext a
  apply Fin.ext
  match a with
  | ⟨0, _⟩ => show win0_5.index t 0 * 1 + 1 * 0 = (gOf t).val; rw [hg, i0, Nat.mul_one, Nat.mul_zero, Nat.add_zero]
  | ⟨1, _⟩ => show win0_5.index t 1 * 6 + 1 * p.val = p.val; omega
  | ⟨2, _⟩ => show win0_5.index t 2 * 1024 + 1 * d.val = t.val % 2 * 1024 + d.val; omega

/-- The first half's block at a point. -/
theorem ya_apply (c : Dev nD) (t : Fin cfg0.N) (r : Fin 256) (d : Fin 1024) :
    (iblk m c 0 t : Vec Ideal S1x256x1024 .bf16) (ix3 0 r d) = Ya m c (ix3 (bOf t) (rOf t r) d) := by
  have h : iblk m c 0 t = ((cfg0.win 0).blk t).view.read (Elt Ideal) (Ya m c) :=
    congrArg (fun A => ((cfg0.win 0).blk t).view.read (Elt Ideal) A) (V_main_arg1 m c)
  rw [h]
  exact ya_read t _ r d

/-- The second half's block at a point. -/
theorem yb_apply (c : Dev nD) (t : Fin cfg0.N) (r : Fin 256) (d : Fin 1024) :
    (iblk m c 1 t : Vec Ideal S1x256x1024 .bf16) (ix3 0 r d) = Yb m c (ix3 (bOf t) (rOf t r) d) := by
  have h : iblk m c 1 t = ((cfg0.win 1).blk t).view.read (Elt Ideal) (Yb m c) :=
    congrArg (fun A => ((cfg0.win 1).blk t).view.read (Elt Ideal) A) (V_main_arg2 m c)
  rw [h]
  exact yb_read t _ r d

/-- The upper weight's block at a point. -/
theorem upper_blk (c : Dev nD) (t : Fin cfg0.N) (k : Fin 1024) (d : Fin 1024) :
    (iblk m c 2 t : Vec Ideal S1024x1024 .bf16) (ix2 k d) = W m c (ix2 ⟨k, by omega⟩ (jOf t d)) := by
  have h : iblk m c 2 t = ((cfg0.win 2).blk t).view.read (Elt Ideal) (upper (W m c)) :=
    congrArg (fun A => ((cfg0.win 2).blk t).view.read (Elt Ideal) A) (V_upper m c)
  rw [h]
  exact (upper_read t _ k d).trans (upper_apply (W m c) k (jOf t d))

/-- The lower weight's block at a point. -/
theorem lower_blk (c : Dev nD) (t : Fin cfg0.N) (k : Fin 1024) (d : Fin 1024) :
    (iblk m c 3 t : Vec Ideal S1024x1024 .bf16) (ix2 k d) = W m c (ix2 ⟨1024 + k, by omega⟩ (jOf t d)) := by
  have h : iblk m c 3 t = ((cfg0.win 3).blk t).view.read (Elt Ideal) (lower (W m c)) :=
    congrArg (fun A => ((cfg0.win 3).blk t).view.read (Elt Ideal) A) (V_lower m c)
  rw [h]
  exact (lower_read t _ k d).trans (lower_apply (W m c) k (jOf t d))

/-- The residual's block at a point. -/
theorem h_apply (c : Dev nD) (t : Fin cfg0.N) (r : Fin 256) (d : Fin 1024) :
    (iblk m c 4 t : Vec Ideal S1x256x1024 .f32) (ix3 0 r d) = H m c (ix3 (bOf t) (rOf t r) (jOf t d)) := by
  have h : iblk m c 4 t = ((cfg0.win 4).blk t).view.read (Elt Ideal) (H m c) :=
    congrArg (fun A => ((cfg0.win 4).blk t).view.read (Elt Ideal) A) (V_main_arg0 m c)
  rw [h]
  exact h_read t _ r d

/-- Reading the third part of a modulation block. -/
theorem ld_gate (X : S1x6x1024.Idx → EReal) (d : Fin 1024) :
    (View.ld (Val := Elt Ideal) (e' := .f32) X r0_2 : S1x1x1024.Idx → EReal) (ix3 0 0 d) = X (ix3 0 2 d) := by
  show X _ = X _
  congr 1
  funext a
  apply Fin.ext
  match a with
  | ⟨0, _⟩ => rfl
  | ⟨1, _⟩ => rfl
  | ⟨2, _⟩ => show 0 + 1 * d.val = d.val; omega

/-- The modulation's block at a point. -/
theorem mod_apply (c : Dev nD) (t : Fin cfg0.N) (p : Fin 6) (d : Fin 1024) :
    (iblk m c 5 t : Vec Ideal S1x6x1024 .f32) (ix3 0 p d) = Md m c (ix2 (gOf t) ⟨p * 2048 + jOf t d, by omega⟩) := by
  have h : iblk m c 5 t = ((cfg0.win 5).blk t).view.read (Elt Ideal) (parts (Md m c)) :=
    congrArg (fun A => ((cfg0.win 5).blk t).view.read (Elt Ideal) A) (V_mod m c)
  rw [h]
  exact (mod_read t _ p d).trans (parts_apply (Md m c) (gOf t) p (jOf t d))

/-- The gate at a point: the third part of its modulation row. -/
theorem gate_apply (c : Dev nD) (t : Fin cfg0.N) (d : Fin 1024) :
    (View.ld (iblk m c 5 t : Vec Ideal S1x6x1024 .f32) r0_2 : S1x1x1024.Idx → EReal) (ix3 0 0 d)
      = OutProj.gate (Md m c) (gOf t) (jOf t d) :=
  (ld_gate (iblk m c 5 t) d).trans (mod_apply m c t 2 d)

/-- What the array holds at the end. -/
def G (c : Dev nD) (b : Fin 16) (r : Fin 2304) (j : Fin 2048) : EReal :=
  OutProj.result (H m c (ix3 b r j)) (fun k => Ya m c (ix3 b r k)) (fun k => Yb m c (ix3 b r k)) (Md m c)
    (if r.val < 256 then 16 else ⟨b, by omega⟩) (W m c) j

/-- The same, as an array. -/
def GA (c : Dev nD) : S16x2304x2048.Idx → EReal := fun i => G m c (i 0) (i 1) (i 2)

theorem hz3 : (fun a => (![0, 0, 0] : Fin 3 → Nat) a) = fun _ => 0 := by funext a; fin_cases a <;> rfl

theorem hz2 : (fun a => (![0, 0] : Fin 2 → Nat) a) = fun _ => 0 := by funext a; fin_cases a <;> rfl

/-- Where a point's block lies in the array. -/
theorem o_read (t : Fin cfg0.N) (A : S16x2304x2048.Idx → EReal) (r : Fin 256) (d : Fin 1024) :
    (((cfg0.win 6).blk t).view.read (Elt Ideal) A : S1x256x1024.Idx → EReal) (ix3 0 r d) = A (ix3 (bOf t) (rOf t r) (jOf t d)) := by
  obtain ⟨i0, i1, i2⟩ := idx6 t
  rw [View.read_apply]
  show A _ = A _
  congr 1
  funext a
  apply Fin.ext
  match a with
  | ⟨0, _⟩ => show win0_6.index t 0 * 1 + 1 * 0 = t.val / 18; omega
  | ⟨1, _⟩ => show win0_6.index t 1 * 256 + 1 * r.val = t.val / 2 % 9 * 256 + r.val; omega
  | ⟨2, _⟩ => show win0_6.index t 2 * 1024 + 1 * d.val = t.val % 2 * 1024 + d.val; omega

/-- A block has one row of rows. -/
theorem eq_row (y : S1x256x1024.Idx) : ∃ (r : Fin 256) (d : Fin 1024), y = ix3 0 r d :=
  ⟨y 1, y 2, by
    funext a
    match a with
    | ⟨0, _⟩ => exact Subsingleton.elim (α := Fin 1) _ _
    | ⟨1, _⟩ => rfl
    | ⟨2, _⟩ => rfl⟩

/-- A block's rows have one modulation row. -/
theorem gOf_eq (t : Fin cfg0.N) (r : Fin 256) : gOf t = if (rOf t r).val < 256 then 16 else ⟨bOf t, by omega⟩ := by
  have hr : (rOf t r).val = t.val / 2 % 9 * 256 + r.val := rfl
  unfold gOf
  by_cases h : t.val / 2 % 9 = 0
  · rw [if_pos h, if_pos (by omega)]
  · rw [if_neg h, if_neg (by omega)]
    rfl

/-- What a point computes is its block of the array. -/
theorem block (c : Dev nD) (t : Fin cfg0.N) (r : Fin 256) (d : Fin 1024) :
    k0_pay1 (F := Ideal) (iblk m c 0 t) (iblk m c 2 t) (iblk m c 1 t) (iblk m c 3 t) (View.ld (iblk m c 5 t) r0_2)
        (iblk m c 4 t) (ix3 0 r d)
      = G m c (bOf t) (rOf t r) (jOf t d) := by
  refine (pay1_apply _ _ _ _ _ _ r d).trans ?_
  unfold G OutProj.result OutProj.dot
  rw [← gOf_eq t r]
  exact congrArg₂ (· + ·) (h_apply m c t r d) (congrArg₂ (· * ·) (gate_apply m c t d) (congrArg₂ (· + ·)
    (Finset.sum_congr rfl fun k _ => congrArg₂ (· * ·) (ya_apply m c t r k) (upper_blk m c t k d))
    (Finset.sum_congr rfl fun k _ => congrArg₂ (· * ·) (yb_apply m c t r k) (lower_blk m c t k d))))

/-- The array's entries at a point's block, given the block entry by entry. -/
theorem eq_block (c : Dev nD) (t : Fin cfg0.N) (f : S1x256x1024.Idx → EReal)
    (hf : ∀ (r : Fin 256) (d : Fin 1024), f (ix3 0 r d) = G m c (bOf t) (rOf t r) (jOf t d))
    (y : S1x256x1024.Idx) : f y = ((cfg0.win 6).blk t).view.read (Elt Ideal) (GA m c) y := by
  obtain ⟨r, d, rfl⟩ := eq_row y
  exact (hf r d).trans (o_read t (GA m c) r d).symm

/-- Every point writes its block of the array. -/
theorem flushed_eq (c : Dev nD) (t : Fin cfg0.N) :
    (dats m 0 c).flushed 6 t = ((cfg0.win 6).blk t).view.read (Elt Ideal) (GA m c) := by
  rw [Value.flushed6]
  unfold out0_6
  rw [View.canon_unit_zero hz3, View.ld_unit_zero (S := S1x256x1024) hz3, View.ld_unit_zero (S := S1x256x1024) hz3,
    View.ld_unit_zero (S := S1x256x1024) hz3, View.ld_unit_zero (S := S1024x1024) hz2, View.ld_unit_zero (S := S1024x1024) hz2]
  funext y
  exact eq_block m c t _ (block m c t) y

/-- The blocks tile the array. -/
theorem cover (i : S16x2304x2048.Idx) :
    ∃ t : Fin cfg0.N, (cfg0.win 6).flush t = true ∧ i ∈ ((cfg0.win 6).blk t).view.set := by
  have h0 : (i 0).val < 16 := (i 0).isLt
  have h1 : (i 1).val < 2304 := (i 1).isLt
  have h2 : (i 2).val < 2048 := (i 2).isLt
  let t : Fin cfg0.N := ⟨(i 0).val * 18 + (i 1).val / 256 * 2 + (i 2).val / 1024, by rw [show cfg0.N = 288 from N_0]; omega⟩
  have ht : t.val = (i 0).val * 18 + (i 1).val / 256 * 2 + (i 2).val / 1024 := rfl
  obtain ⟨e0, e1, e2⟩ := idx6 t
  refine ⟨t, flush0_6 t, ?_⟩
  show i ∈ ((View.whole main_v5).slice (win0_6.rect t)).set
  rw [View.set_slice_whole, Rect.mem_set_unit]
  intro a
  match a with
  | ⟨0, _⟩ => show win0_6.index t 0 * 1 ≤ (i 0).val ∧ (i 0).val < win0_6.index t 0 * 1 + 1; omega
  | ⟨1, _⟩ => show win0_6.index t 1 * 256 ≤ (i 1).val ∧ (i 1).val < win0_6.index t 1 * 256 + 256; omega
  | ⟨2, _⟩ => show win0_6.index t 2 * 1024 ≤ (i 2).val ∧ (i 2).val < win0_6.index t 2 * 1024 + 1024; omega

/-- So the array ends holding the output projection. -/
theorem final (c : Dev nD) : (dats m 0 c).arrAt 6 cfg0.N = GA m c :=
  (dats m 0 c).arrAt_eq_of_cover 6 (GA m c) (fun t _ => flushed_eq m c t) cover

/-- The run, read: the result array holds the output projection, the arguments are unchanged. -/
theorem run : θ_run defs (onTc (τ := τ) (main (F := Ideal))) ⟨m, fun _ => 0, ρ⟩ fun r => ∀ c : Dev nD,
      r.2.mem ((c : Thread nD τ).loc main_v5) = GA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.Kernel5Ideal.Proj

end
-- ==== Proof.OutProj5Ref.lean ====
/-
  What the reference of the first layer's output projection computes, entry by entry.
-/
module

public import proofs.«01_k».proof.Proof.OutProjSpec
public import proofs.«01_k».proof.Proof.Gen.Reference5Ideal.Read
public import Idealize.ShloMosaic.Lib.Pointwise

@[expose] public section

noncomputable section

namespace Cert.Reference5Ideal.Proj

open Cert.Reference5Ideal Cert.Reference5Ideal.Gen Cert.Reference5Ideal.Read Idealize.ShloMosaic Idealize.ShloMosaic.TcCoe

variable (h : S16x2304x2048.Idx → EReal) (ya yb : S16x2304x1024.Idx → EReal) (md : OutProj.Mod) (w : OutProj.Weight)
  (b : Fin 16)

/-- The first 1024 columns are the first array's. -/
theorem left (r : Fin 2304) (k : Fin 1024) : val_main_v17 (F := Ideal) ya yb (ix3 b r ⟨k, by omega⟩) = ya (ix3 b r k) := by
  unfold val_main_v17 val_main_v16
  pointwise

/-- The last 1024 columns are the second array's. -/
theorem right (r : Fin 2304) (k : Fin 1024) : val_main_v17 (F := Ideal) ya yb (ix3 b r ⟨1024 + k, by omega⟩) = yb (ix3 b r k) := by
  unfold val_main_v17 val_main_v16
  pointwise

/-- The product with the weight, past the context. -/
theorem product_x (r : Fin 2048) (j : Fin 2048) : val_main_v20 (F := Ideal) ya yb w (ix3 b r j)
    = OutProj.dot (fun k => ya (ix3 b ⟨256 + r, by omega⟩ k)) (fun k => yb (ix3 b ⟨256 + r, by omega⟩ k)) w j := by
  have e : val_main_v20 (F := Ideal) ya yb w (ix3 b r j)
      = ∑ k : Fin 2048, val_main_v17 (F := Ideal) ya yb (ix3 b ⟨256 + r, by omega⟩ k) * w (ix2 k j) := by
    unfold val_main_v20 val_main_v19
    pointwise
  rw [e]
  exact OutProj.sum_concat (fun k => val_main_v17 (F := Ideal) ya yb (ix3 b _ k)) _ _ w j (left ya yb b _) (right ya yb b _)

/-- The product with the weight, in the context. -/
theorem product_c (r : Fin 256) (j : Fin 2048) : val_main_v26 (F := Ideal) ya yb w (ix3 b r j)
    = OutProj.dot (fun k => ya (ix3 b ⟨r, by omega⟩ k)) (fun k => yb (ix3 b ⟨r, by omega⟩ k)) w j := by
  have e : val_main_v26 (F := Ideal) ya yb w (ix3 b r j)
      = ∑ k : Fin 2048, val_main_v17 (F := Ideal) ya yb (ix3 b ⟨r, by omega⟩ k) * w (ix2 k j) := by
    unfold val_main_v26 val_main_v25
    pointwise
  rw [e]
  exact OutProj.sum_concat (fun k => val_main_v17 (F := Ideal) ya yb (ix3 b _ k)) _ _ w j (left ya yb b _) (right ya yb b _)

/-- The gate past the context is the sequence's. -/
theorem gates_x (r : Fin 2048) (j : Fin 2048) : val_main_v21 (F := Ideal) md (ix3 b r j) = OutProj.gate md ⟨b, by omega⟩ j := by
  unfold val_main_v21 val_main_v4 val_main_v1 val_main_v0
  pointwise [OutProj.gate]

/-- The gate in the context is the context's. -/
theorem gates_c (r : Fin 256) (j : Fin 2048) : val_main_v27 (F := Ideal) md (ix3 b r j) = OutProj.gate md 16 j := by
  unfold val_main_v27 val_main_v12 val_main_v9 val_main_v8
  pointwise [OutProj.gate]

/-- The result past the context. -/
theorem result_x (r : Fin 2048) (j : Fin 2048) : val_main_v23 (F := Ideal) h ya yb md w (ix3 b r j)
    = OutProj.result (h (ix3 b ⟨256 + r, by omega⟩ j)) (fun k => ya (ix3 b ⟨256 + r, by omega⟩ k))
        (fun k => yb (ix3 b ⟨256 + r, by omega⟩ k)) md ⟨b, by omega⟩ w j := by
  unfold val_main_v23 val_main_v22 val_main_v18
  pointwise [gates_x, product_x, OutProj.result]

/-- The result in the context. -/
theorem result_c (r : Fin 256) (j : Fin 2048) : val_main_v29 (F := Ideal) h ya yb md w (ix3 b r j)
    = OutProj.result (h (ix3 b ⟨r, by omega⟩ j)) (fun k => ya (ix3 b ⟨r, by omega⟩ k))
        (fun k => yb (ix3 b ⟨r, by omega⟩ k)) md 16 w j := by
  unfold val_main_v29 val_main_v28 val_main_v24
  pointwise [gates_c, product_c, OutProj.result]

/-- The whole result, the context's rows first. -/
theorem result (r : Fin 2304) (j : Fin 2048) : val_main_v30 (F := Ideal) h ya yb md w (ix3 b r j)
    = OutProj.result (h (ix3 b r j)) (fun k => ya (ix3 b r k)) (fun k => yb (ix3 b r k)) md
        (if r.val < 256 then 16 else ⟨b, by omega⟩) w j := by
  unfold val_main_v30
  pointwise
  by_cases hr : r.val < 256
  · rw [dif_pos hr, if_pos hr]
    exact result_c h ya yb md w b ⟨r, hr⟩ j
  · rw [dif_neg hr, if_neg hr]
    refine (result_x h ya yb md w b ⟨r.val - 256, by omega⟩ j).trans ?_
    have e : (⟨256 + (r.val - 256), by omega⟩ : Fin 2304) = r := Fin.ext (by show 256 + (r.val - 256) = r.val; omega)
    simp only [e]

end Cert.Reference5Ideal.Proj

end
-- ==== Proof.OutProj5Claim.lean ====
/-
  The output projection of the first layer and its reference leave the same array, whatever the arguments.
-/
module

public import proofs.«01_k».proof.Defs
public import proofs.«01_k».proof.Proof.OutProj5Array
public import proofs.«01_k».proof.Proof.OutProj5Ref
public import proofs.«01_k».proof.Proof.Gen.Reference5Ideal.Run
public import Idealize.ShloMosaic.Lib.Quiescent

@[expose] public section

noncomputable section

namespace Cert.OutProj5Claim

open Idealize.ShloMosaic Idealize.SL.Sem Idealize.ShloMosaic.TcCoe

/-- The two programs leave the same array. -/
theorem algebraic :
    Cert.algebraic_Kernel5Ideal_Reference5Ideal (hKernel5Ideal := Cert.Kernel5Ideal.Gen.facts)
      (hReference5Ideal := Cert.Reference5Ideal.Gen.facts) := by
  intro m ρ m' ρ' _ hag
  refine ⟨fun c => Cert.Kernel5Ideal.Proj.GA m c, Cert.Kernel5Ideal.Proj.run m ρ,
    (θ_run _ _ _).mono (fun _ h c => ⟨(h c).1.trans ?_, (h c).2⟩) (Cert.Reference5Ideal.Value.run m' ρ')⟩
  rw [Cert.Reference5Ideal.Read.val_main_v30_eq, (hag c).1, (hag c).2.1, (hag c).2.2.1, (hag c).2.2.2.1, (hag c).2.2.2.2]
  funext i
  obtain ⟨b, r, j, rfl⟩ : ∃ (b : Fin 16) (r : Fin 2304) (j : Fin 2048), i = ix3 b r j := ⟨i 0, i 1, i 2, eq_ix3 i⟩
  exact Cert.Reference5Ideal.Proj.result _ _ _ _ _ b r j

/-- The reference terminates, leaves its arguments as they were and declares no semaphore. -/
theorem referenceFrame : Cert.quiescent_Reference5Ideal (hReference5Ideal := Cert.Reference5Ideal.Gen.facts) := fun m ρ _ =>
  (θ_run Cert.Reference5Ideal.defs _ _).mono (fun r h => And.intro (fun c => (h c).2) (sem_eq_zero_of_no_sems (by decide) r.2))
    (Cert.Reference5Ideal.Value.run (F := Ideal) m ρ)

end Cert.OutProj5Claim

end
-- ==== Proof.OutProj6Block.lean ====
/-
  What one grid point of the output projection computes, from the blocks it reads.
-/
module

public import proofs.«01_k».proof.Proof.Gen.Kernel6Ideal.Skeleton
public import Idealize.ShloMosaic.Lib.Pointwise

@[expose] public section

noncomputable section

namespace Cert.Kernel6Ideal.Proj

open Cert.Kernel6Ideal Cert.Kernel6Ideal.Gen Idealize.ShloMosaic

/-- The block's entry at row `r` and column `d`. -/
theorem pay1_apply (a : Vec Ideal S1x256x1024 .bf16) (wa : Vec Ideal S1024x1024 .bf16) (b : Vec Ideal S1x256x1024 .bf16)
    (wb : Vec Ideal S1024x1024 .bf16) (g : Vec Ideal S1x1x1024 .f32) (h : Vec Ideal S1x256x1024 .f32)
    (r : Fin 256) (d : Fin 1024) :
    k0_pay1 (F := Ideal) a wa b wb g h (ix3 0 r d)
      = h (ix3 0 r d) + g (ix3 0 0 d) * ((∑ k : Fin 1024, a (ix3 0 r k) * wa (ix2 k d))
          + ∑ k : Fin 1024, b (ix3 0 r k) * wb (ix2 k d)) := by
  unfold k0_pay1
  pointwise

end Cert.Kernel6Ideal.Proj

end
-- ==== Proof.OutProj6Host.lean ====
/-
  The arrays the output projection reads: the modulation in six parts and the two halves of the weight's rows.
-/
module

public import proofs.«01_k».proof.Proof.OutProjSpec
public import proofs.«01_k».proof.Proof.Gen.Kernel6Ideal.Frame
public import Idealize.ShloMosaic.Lib.Pointwise

@[expose] public section

noncomputable section

namespace Cert.Kernel6Ideal.Proj

open Cert.Kernel6Ideal Cert.Kernel6Ideal.Gen Idealize.ShloMosaic Idealize.ShloMosaic.TcCoe Idealize.SL.Sem

/-- The modulation in six parts. -/
def parts (md : OutProj.Mod) : S17x6x2048.Idx → EReal :=
  shapeCast S17x6x2048 (md : FVec Ideal S17x12288 .f32) shapeCasts_S17x12288_S17x6x2048

/-- Part `p` of a row holds that row's columns from `2048 * p`. -/
theorem parts_apply (md : OutProj.Mod) (g : Fin 17) (p : Fin 6) (j : Fin 2048) :
    parts md (ix3 g p j) = md (ix2 g ⟨p * 2048 + j, by omega⟩) := by
  unfold parts
  pointwise

/-- The weight's first 1024 rows. -/
def upper (w : OutProj.Weight) : S1024x2048.Idx → EReal :=
  (truncf (F := Ideal) .bf16 · bitsLt_bf16_f32) (extractStridedSlice S1024x2048 ![0, 0] (w : FVec Ideal S2048x2048 .f32) slices_S2048x2048_S1024x2048_0_0)

/-- The weight's last 1024 rows. -/
def lower (w : OutProj.Weight) : S1024x2048.Idx → EReal :=
  (truncf (F := Ideal) .bf16 · bitsLt_bf16_f32) (extractStridedSlice S1024x2048 ![1024, 0] (w : FVec Ideal S2048x2048 .f32) slices_S2048x2048_S1024x2048_1024_0)

theorem upper_apply (w : OutProj.Weight) (k : Fin 1024) (j : Fin 2048) : upper w (ix2 k j) = w (ix2 ⟨k, by omega⟩ j) := by
  unfold upper
  pointwise

theorem lower_apply (w : OutProj.Weight) (k : Fin 1024) (j : Fin 2048) : lower w (ix2 k j) = w (ix2 ⟨1024 + k, by omega⟩ j) := by
  unfold lower
  pointwise

variable (m : (ℓ : Loc nD τ sig) → Buf (Elt Ideal) ℓ)

/-- The modulation the call reads. -/
theorem V_mod (c : Dev nD) : V m c main_v0 = parts (m ((c : Thread nD τ).loc main_arg3)) := by
  simp only [V, hostOps0]
  after_results <;> rfl

/-- The first half of the weight the call reads. -/
theorem V_upper (c : Dev nD) : V m c main_v2 = upper (m ((c : Thread nD τ).loc main_arg4)) := by
  simp only [V, hostOps0]
  after_results <;> rfl

/-- The second half of the weight the call reads. -/
theorem V_lower (c : Dev nD) : V m c main_v4 = lower (m ((c : Thread nD τ).loc main_arg4)) := by
  simp only [V, hostOps0]
  after_results <;> rfl

end Cert.Kernel6Ideal.Proj

end
-- ==== Proof.OutProj6Array.lean ====
/-
  The array that the output projection leaves: every block a grid point writes back is a block of one function of
  the arguments, and the blocks tile the array.
-/
module

public import proofs.«01_k».proof.Proof.OutProj6Block
public import proofs.«01_k».proof.Proof.OutProj6Host
public import proofs.«01_k».proof.Proof.Gen.Kernel6Ideal.Value

@[expose] public section

noncomputable section

namespace Cert.Kernel6Ideal.Proj

open Cert.Kernel6Ideal Cert.Kernel6Ideal.Gen Idealize.ShloMosaic Idealize.ShloMosaic.TcCoe Idealize.SL.Sem

variable (m : (ℓ : Loc nD τ sig) → Buf (Elt Ideal) ℓ) (ρ : Dev nD → PrngReg)

/-- The residual of device `c`. -/
abbrev H (c : Dev nD) : S16x2304x2048.Idx → EReal := m ((c : Thread nD τ).loc main_arg0)

/-- The first half of the attention's columns of device `c`. -/
abbrev Ya (c : Dev nD) : S16x2048x1024.Idx → EReal := m ((c : Thread nD τ).loc main_arg1)

/-- The second half of the attention's columns of device `c`. -/
abbrev Yb (c : Dev nD) : S16x2048x1024.Idx → EReal := m ((c : Thread nD τ).loc main_arg2)

/-- The modulation of device `c`. -/
abbrev Md (c : Dev nD) : OutProj.Mod := m ((c : Thread nD τ).loc main_arg3)

/-- The weight of device `c`. -/
abbrev W (c : Dev nD) : OutProj.Weight := m ((c : Thread nD τ).loc main_arg4)

/-- The first half's block moves with the sequence and the row block. -/
theorem idx0 : ∀ t : Fin cfg0.N, win0_0.index t 0 = t.val / 16 ∧ win0_0.index t 1 = t.val / 2 % 8 ∧ win0_0.index t 2 = 0 :=
  (by decide +kernel : ∀ t : Fin grid0.N, win0_0.index t 0 = t.val / 16 ∧ win0_0.index t 1 = t.val / 2 % 8 ∧ win0_0.index t 2 = 0)

/-- The second half's block moves likewise. -/
theorem idx1 : ∀ t : Fin cfg0.N, win0_1.index t 0 = t.val / 16 ∧ win0_1.index t 1 = t.val / 2 % 8 ∧ win0_1.index t 2 = 0 :=
  (by decide +kernel : ∀ t : Fin grid0.N, win0_1.index t 0 = t.val / 16 ∧ win0_1.index t 1 = t.val / 2 % 8 ∧ win0_1.index t 2 = 0)

/-- The upper weight's block moves with the column block. -/
theorem idx2 : ∀ t : Fin cfg0.N, win0_2.index t 0 = 0 ∧ win0_2.index t 1 = t.val % 2 :=
  (by decide +kernel : ∀ t : Fin grid0.N, win0_2.index t 0 = 0 ∧ win0_2.index t 1 = t.val % 2)

/-- The lower weight's block moves likewise. -/
theorem idx3 : ∀ t : Fin cfg0.N, win0_3.index t 0 = 0 ∧ win0_3.index t 1 = t.val % 2 :=
  (by decide +kernel : ∀ t : Fin grid0.N, win0_3.index t 0 = 0 ∧ win0_3.index t 1 = t.val % 2)

/-- The residual's block moves with the sequence, the row block and the column block. -/
theorem idx4 : ∀ t : Fin cfg0.N, win0_4.index t 0 = t.val / 16 ∧ win0_4.index t 1 = 1 + t.val / 2 % 8 ∧ win0_4.index t 2 = t.val % 2 :=
  (by decide +kernel : ∀ t : Fin grid0.N, win0_4.index t 0 = t.val / 16 ∧ win0_4.index t 1 = 1 + t.val / 2 % 8 ∧ win0_4.index t 2 = t.val % 2)

/-- The modulation's block holds all parts of one row. -/
theorem idx5 : ∀ t : Fin cfg0.N, win0_5.index t 0 = t.val / 16 ∧ win0_5.index t 1 = 0 ∧ win0_5.index t 2 = t.val % 2 :=
  (by decide +kernel : ∀ t : Fin grid0.N, win0_5.index t 0 = t.val / 16 ∧ win0_5.index t 1 = 0 ∧ win0_5.index t 2 = t.val % 2)

/-- The result's block moves with the sequence, the row block and the column block. -/
theorem idx6 : ∀ t : Fin cfg0.N, win0_6.index t 0 = t.val / 16 ∧ win0_6.index t 1 = t.val / 2 % 8 ∧ win0_6.index t 2 = t.val % 2 :=
  (by decide +kernel : ∀ t : Fin grid0.N, win0_6.index t 0 = t.val / 16 ∧ win0_6.index t 1 = t.val / 2 % 8 ∧ win0_6.index t 2 = t.val % 2)

theorem lt_N (t : Fin cfg0.N) : t.val < 256 := lt_of_lt_of_eq t.isLt N_0

/-- The sequence of a grid point. -/
def bOf (t : Fin cfg0.N) : Fin 16 := ⟨t.val / 16, by have := lt_N t; omega⟩

/-- Row `r` of a grid point's block of rows. -/
def rOf (t : Fin cfg0.N) (r : Fin 256) : Fin 2048 := ⟨t.val / 2 % 8 * 256 + r, by omega⟩

/-- Column `d` of a grid point's block of columns. -/
def jOf (t : Fin cfg0.N) (d : Fin 1024) : Fin 2048 := ⟨t.val % 2 * 1024 + d, by omega⟩

/-- The modulation row of a grid point: the sequence's. -/
def gOf (t : Fin cfg0.N) : Fin 17 := ⟨t.val / 16, by have := lt_N t; omega⟩

theorem gOf_val (t : Fin cfg0.N) : (gOf t).val = t.val / 16 := rfl

/-- Where the first half's block at a point lies in its array. -/
theorem ya_read (t : Fin cfg0.N) (A : S16x2048x1024.Idx → EReal) (r : Fin 256) (d : Fin 1024) :
    (((cfg0.win 0).blk t).view.read (Elt Ideal) A : S1x256x1024.Idx → EReal) (ix3 0 r d) = A (ix3 (bOf t) (rOf t r) d) := by
  obtain ⟨i0, i1, i2⟩ := idx0 t
  rw [View.read_apply]
  show A _ = A _
  congr 1
  funext a
  apply Fin.ext
  match a with
  | ⟨0, _⟩ => show win0_0.index t 0 * 1 + 1 * 0 = t.val / 16; omega
  | ⟨1, _⟩ => show win0_0.index t 1 * 256 + 1 * r.val = t.val / 2 % 8 * 256 + r.val; omega
  | ⟨2, _⟩ => show win0_0.index t 2 * 1024 + 1 * d.val = d.val; omega

/-- Where the second half's block at a point lies in its array. -/
theorem yb_read (t : Fin cfg0.N) (A : S16x2048x1024.Idx → EReal) (r : Fin 256) (d : Fin 1024) :
    (((cfg0.win 1).blk t).view.read (Elt Ideal) A : S1x256x1024.Idx → EReal) (ix3 0 r d) = A (ix3 (bOf t) (rOf t r) d) := by
  obtain ⟨i0, i1, i2⟩ := idx1 t
  rw [View.read_apply]
  show A _ = A _
  congr 1
  funext a
  apply Fin.ext
  match a with
  | ⟨0, _⟩ => show win0_1.index t 0 * 1 + 1 * 0 = t.val / 16; omega
  | ⟨1, _⟩ => show win0_1.index t 1 * 256 + 1 * r.val = t.val / 2 % 8 * 256 + r.val; omega
  | ⟨2, _⟩ => show win0_1.index t 2 * 1024 + 1 * d.val = d.val; omega

/-- Where the upper weight's block at a point lies in its array. -/
theorem upper_read (t : Fin cfg0.N) (A : S1024x2048.Idx → EReal) (k : Fin 1024) (d : Fin 1024) :
    (((cfg0.win 2).blk t).view.read (Elt Ideal) A : S1024x1024.Idx → EReal) (ix2 k d) = A (ix2 k (jOf t d)) := by
  obtain ⟨i0, i1⟩ := idx2 t
  rw [View.read_apply]
  show A _ = A _
  congr 1
  funext a
  apply Fin.ext
  match a with
  | ⟨0, _⟩ => show win0_2.index t 0 * 1024 + 1 * k.val = k.val; omega
  | ⟨1, _⟩ => show win0_2.index t 1 * 1024 + 1 * d.val = t.val % 2 * 1024 + d.val; omega

/-- Where the lower weight's block at a point lies in its array. -/
theorem lower_read (t : Fin cfg0.N) (A : S1024x2048.Idx → EReal) (k : Fin 1024) (d : Fin 1024) :
    (((cfg0.win 3).blk t).view.read (Elt Ideal) A : S1024x1024.Idx → EReal) (ix2 k d) = A (ix2 k (jOf t d)) := by
  obtain ⟨i0, i1⟩ := idx3 t
  rw [View.read_apply]
  show A _ = A _
  congr 1
  funext a
  apply Fin.ext
  match a with
  | ⟨0, _⟩ => show win0_3.index t 0 * 1024 + 1 * k.val = k.val; omega
  | ⟨1, _⟩ => show win0_3.index t 1 * 1024 + 1 * d.val = t.val % 2 * 1024 + d.val; omega

/-- Where the residual's block at a point lies in its array. -/
theorem h_read (t : Fin cfg0.N) (A : S16x2304x2048.Idx → EReal) (r : Fin 256) (d : Fin 1024) :
    (((cfg0.win 4).blk t).view.read (Elt Ideal) A : S1x256x1024.Idx → EReal) (ix3 0 r d) = A (ix3 (bOf t) ⟨256 + rOf t r, by omega⟩ (jOf t d)) := by
  obtain ⟨i0, i1, i2⟩ := idx4 t
  rw [View.read_apply]
  show A _ = A _
  congr 1
  funext a
  apply Fin.ext
  match a with
  | ⟨0, _⟩ => show win0_4.index t 0 * 1 + 1 * 0 = t.val / 16; omega
  | ⟨1, _⟩ => show win0_4.index t 1 * 256 + 1 * r.val = 256 + (t.val / 2 % 8 * 256 + r.val); omega
  | ⟨2, _⟩ => show win0_4.index t 2 * 1024 + 1 * d.val = t.val % 2 * 1024 + d.val; omega

/-- Where the modulation's block at a point lies in its array. -/
theorem mod_read (t : Fin cfg0.N) (A : S17x6x2048.Idx → EReal) (p : Fin 6) (d : Fin 1024) :
    (((cfg0.win 5).blk t).view.read (Elt Ideal) A : S1x6x1024.Idx → EReal) (ix3 0 p d) = A (ix3 (gOf t) p (jOf t d)) := by
  obtain ⟨i0, i1, i2⟩ := idx5 t
  have hg := gOf_val t
  rw [View.read_apply]
  show A _ = A _
  congr 1
  funext a
  apply Fin.ext
  match a with
  | ⟨0, _⟩ => show win0_5.index t 0 * 1 + 1 * 0 = (gOf t).val; rw [hg, i0, Nat.mul_one, Nat.mul_zero, Nat.add_zero]
  | ⟨1, _⟩ => show win0_5.index t 1 * 6 + 1 * p.val = p.val; omega
  | ⟨2, _⟩ => show win0_5.index t 2 * 1024 + 1 * d.val = t.val % 2 * 1024 + d.val; omega

/-- The first half's block at a point. -/
theorem ya_apply (c : Dev nD) (t : Fin cfg0.N) (r : Fin 256) (d : Fin 1024) :
    (iblk m c 0 t : Vec Ideal S1x256x1024 .bf16) (ix3 0 r d) = Ya m c (ix3 (bOf t) (rOf t r) d) := by
  have h : iblk m c 0 t = ((cfg0.win 0).blk t).view.read (Elt Ideal) (Ya m c) :=
    congrArg (fun A => ((cfg0.win 0).blk t).view.read (Elt Ideal) A) (V_main_arg1 m c)
  rw [h]
  exact ya_read t _ r d

/-- The second half's block at a point. -/
theorem yb_apply (c : Dev nD) (t : Fin cfg0.N) (r : Fin 256) (d : Fin 1024) :
    (iblk m c 1 t : Vec Ideal S1x256x1024 .bf16) (ix3 0 r d) = Yb m c (ix3 (bOf t) (rOf t r) d) := by
  have h : iblk m c 1 t = ((cfg0.win 1).blk t).view.read (Elt Ideal) (Yb m c) :=
    congrArg (fun A => ((cfg0.win 1).blk t).view.read (Elt Ideal) A) (V_main_arg2 m c)
  rw [h]
  exact yb_read t _ r d

/-- The upper weight's block at a point. -/
theorem upper_blk (c : Dev nD) (t : Fin cfg0.N) (k : Fin 1024) (d : Fin 1024) :
    (iblk m c 2 t : Vec Ideal S1024x1024 .bf16) (ix2 k d) = W m c (ix2 ⟨k, by omega⟩ (jOf t d)) := by
  have h : iblk m c 2 t = ((cfg0.win 2).blk t).view.read (Elt Ideal) (upper (W m c)) :=
    congrArg (fun A => ((cfg0.win 2).blk t).view.read (Elt Ideal) A) (V_upper m c)
  rw [h]
  exact (upper_read t _ k d).trans (upper_apply (W m c) k (jOf t d))

/-- The lower weight's block at a point. -/
theorem lower_blk (c : Dev nD) (t : Fin cfg0.N) (k : Fin 1024) (d : Fin 1024) :
    (iblk m c 3 t : Vec Ideal S1024x1024 .bf16) (ix2 k d) = W m c (ix2 ⟨1024 + k, by omega⟩ (jOf t d)) := by
  have h : iblk m c 3 t = ((cfg0.win 3).blk t).view.read (Elt Ideal) (lower (W m c)) :=
    congrArg (fun A => ((cfg0.win 3).blk t).view.read (Elt Ideal) A) (V_lower m c)
  rw [h]
  exact (lower_read t _ k d).trans (lower_apply (W m c) k (jOf t d))

/-- The residual's block at a point. -/
theorem h_apply (c : Dev nD) (t : Fin cfg0.N) (r : Fin 256) (d : Fin 1024) :
    (iblk m c 4 t : Vec Ideal S1x256x1024 .f32) (ix3 0 r d) = H m c (ix3 (bOf t) ⟨256 + rOf t r, by omega⟩ (jOf t d)) := by
  have h : iblk m c 4 t = ((cfg0.win 4).blk t).view.read (Elt Ideal) (H m c) :=
    congrArg (fun A => ((cfg0.win 4).blk t).view.read (Elt Ideal) A) (V_main_arg0 m c)
  rw [h]
  exact h_read t _ r d

/-- Reading the third part of a modulation block. -/
theorem ld_gate (X : S1x6x1024.Idx → EReal) (d : Fin 1024) :
    (View.ld (Val := Elt Ideal) (e' := .f32) X r0_2 : S1x1x1024.Idx → EReal) (ix3 0 0 d) = X (ix3 0 2 d) := by
  show X _ = X _
  congr 1
  funext a
  apply Fin.ext
  match a with
  | ⟨0, _⟩ => rfl
  | ⟨1, _⟩ => rfl
  | ⟨2, _⟩ => show 0 + 1 * d.val = d.val; omega

/-- The modulation's block at a point. -/
theorem mod_apply (c : Dev nD) (t : Fin cfg0.N) (p : Fin 6) (d : Fin 1024) :
    (iblk m c 5 t : Vec Ideal S1x6x1024 .f32) (ix3 0 p d) = Md m c (ix2 (gOf t) ⟨p * 2048 + jOf t d, by omega⟩) := by
  have h : iblk m c 5 t = ((cfg0.win 5).blk t).view.read (Elt Ideal) (parts (Md m c)) :=
    congrArg (fun A => ((cfg0.win 5).blk t).view.read (Elt Ideal) A) (V_mod m c)
  rw [h]
  exact (mod_read t _ p d).trans (parts_apply (Md m c) (gOf t) p (jOf t d))

/-- The gate at a point: the third part of its modulation row. -/
theorem gate_apply (c : Dev nD) (t : Fin cfg0.N) (d : Fin 1024) :
    (View.ld (iblk m c 5 t : Vec Ideal S1x6x1024 .f32) r0_2 : S1x1x1024.Idx → EReal) (ix3 0 0 d)
      = OutProj.gate (Md m c) (gOf t) (jOf t d) :=
  (ld_gate (iblk m c 5 t) d).trans (mod_apply m c t 2 d)

/-- What the array holds at the end. -/
def G (c : Dev nD) (b : Fin 16) (r : Fin 2048) (j : Fin 2048) : EReal :=
  OutProj.result (H m c (ix3 b ⟨256 + r, by omega⟩ j)) (fun k => Ya m c (ix3 b r k)) (fun k => Yb m c (ix3 b r k)) (Md m c)
    ⟨b, by omega⟩ (W m c) j

/-- The same, as an array. -/
def GA (c : Dev nD) : S16x2048x2048.Idx → EReal := fun i => G m c (i 0) (i 1) (i 2)

theorem hz3 : (fun a => (![0, 0, 0] : Fin 3 → Nat) a) = fun _ => 0 := by funext a; fin_cases a <;> rfl

theorem hz2 : (fun a => (![0, 0] : Fin 2 → Nat) a) = fun _ => 0 := by funext a; fin_cases a <;> rfl

/-- Where a point's block lies in the array. -/
theorem o_read (t : Fin cfg0.N) (A : S16x2048x2048.Idx → EReal) (r : Fin 256) (d : Fin 1024) :
    (((cfg0.win 6).blk t).view.read (Elt Ideal) A : S1x256x1024.Idx → EReal) (ix3 0 r d) = A (ix3 (bOf t) (rOf t r) (jOf t d)) := by
  obtain ⟨i0, i1, i2⟩ := idx6 t
  rw [View.read_apply]
  show A _ = A _
  congr 1
  funext a
  apply Fin.ext
  match a with
  | ⟨0, _⟩ => show win0_6.index t 0 * 1 + 1 * 0 = t.val / 16; omega
  | ⟨1, _⟩ => show win0_6.index t 1 * 256 + 1 * r.val = t.val / 2 % 8 * 256 + r.val; omega
  | ⟨2, _⟩ => show win0_6.index t 2 * 1024 + 1 * d.val = t.val % 2 * 1024 + d.val; omega

/-- A block has one row of rows. -/
theorem eq_row (y : S1x256x1024.Idx) : ∃ (r : Fin 256) (d : Fin 1024), y = ix3 0 r d :=
  ⟨y 1, y 2, by
    funext a
    match a with
    | ⟨0, _⟩ => exact Subsingleton.elim (α := Fin 1) _ _
    | ⟨1, _⟩ => rfl
    | ⟨2, _⟩ => rfl⟩

/-- A block's rows have one modulation row. -/
theorem gOf_eq (t : Fin cfg0.N) : gOf t = ⟨bOf t, by omega⟩ := rfl

/-- What a point computes is its block of the array. -/
theorem block (c : Dev nD) (t : Fin cfg0.N) (r : Fin 256) (d : Fin 1024) :
    k0_pay1 (F := Ideal) (iblk m c 0 t) (iblk m c 2 t) (iblk m c 1 t) (iblk m c 3 t) (View.ld (iblk m c 5 t) r0_2)
        (iblk m c 4 t) (ix3 0 r d)
      = G m c (bOf t) (rOf t r) (jOf t d) := by
  refine (pay1_apply _ _ _ _ _ _ r d).trans ?_
  unfold G OutProj.result OutProj.dot
  rw [← gOf_eq t]
  exact congrArg₂ (· + ·) (h_apply m c t r d) (congrArg₂ (· * ·) (gate_apply m c t d) (congrArg₂ (· + ·)
    (Finset.sum_congr rfl fun k _ => congrArg₂ (· * ·) (ya_apply m c t r k) (upper_blk m c t k d))
    (Finset.sum_congr rfl fun k _ => congrArg₂ (· * ·) (yb_apply m c t r k) (lower_blk m c t k d))))

/-- The array's entries at a point's block, given the block entry by entry. -/
theorem eq_block (c : Dev nD) (t : Fin cfg0.N) (f : S1x256x1024.Idx → EReal)
    (hf : ∀ (r : Fin 256) (d : Fin 1024), f (ix3 0 r d) = G m c (bOf t) (rOf t r) (jOf t d))
    (y : S1x256x1024.Idx) : f y = ((cfg0.win 6).blk t).view.read (Elt Ideal) (GA m c) y := by
  obtain ⟨r, d, rfl⟩ := eq_row y
  exact (hf r d).trans (o_read t (GA m c) r d).symm

/-- Every point writes its block of the array. -/
theorem flushed_eq (c : Dev nD) (t : Fin cfg0.N) :
    (dats m 0 c).flushed 6 t = ((cfg0.win 6).blk t).view.read (Elt Ideal) (GA m c) := by
  rw [Value.flushed6]
  unfold out0_6
  rw [View.canon_unit_zero hz3, View.ld_unit_zero (S := S1x256x1024) hz3, View.ld_unit_zero (S := S1x256x1024) hz3,
    View.ld_unit_zero (S := S1x256x1024) hz3, View.ld_unit_zero (S := S1024x1024) hz2, View.ld_unit_zero (S := S1024x1024) hz2]
  funext y
  exact eq_block m c t _ (block m c t) y

/-- The blocks tile the array. -/
theorem cover (i : S16x2048x2048.Idx) :
    ∃ t : Fin cfg0.N, (cfg0.win 6).flush t = true ∧ i ∈ ((cfg0.win 6).blk t).view.set := by
  have h0 : (i 0).val < 16 := (i 0).isLt
  have h1 : (i 1).val < 2048 := (i 1).isLt
  have h2 : (i 2).val < 2048 := (i 2).isLt
  let t : Fin cfg0.N := ⟨(i 0).val * 16 + (i 1).val / 256 * 2 + (i 2).val / 1024, by rw [show cfg0.N = 256 from N_0]; omega⟩
  have ht : t.val = (i 0).val * 16 + (i 1).val / 256 * 2 + (i 2).val / 1024 := rfl
  obtain ⟨e0, e1, e2⟩ := idx6 t
  refine ⟨t, flush0_6 t, ?_⟩
  show i ∈ ((View.whole main_v5).slice (win0_6.rect t)).set
  rw [View.set_slice_whole, Rect.mem_set_unit]
  intro a
  match a with
  | ⟨0, _⟩ => show win0_6.index t 0 * 1 ≤ (i 0).val ∧ (i 0).val < win0_6.index t 0 * 1 + 1; omega
  | ⟨1, _⟩ => show win0_6.index t 1 * 256 ≤ (i 1).val ∧ (i 1).val < win0_6.index t 1 * 256 + 256; omega
  | ⟨2, _⟩ => show win0_6.index t 2 * 1024 ≤ (i 2).val ∧ (i 2).val < win0_6.index t 2 * 1024 + 1024; omega

/-- So the array ends holding the output projection. -/
theorem final (c : Dev nD) : (dats m 0 c).arrAt 6 cfg0.N = GA m c :=
  (dats m 0 c).arrAt_eq_of_cover 6 (GA m c) (fun t _ => flushed_eq m c t) cover

/-- The run, read: the result array holds the output projection, the arguments are unchanged. -/
theorem run : θ_run defs (onTc (τ := τ) (main (F := Ideal))) ⟨m, fun _ => 0, ρ⟩ fun r => ∀ c : Dev nD,
      r.2.mem ((c : Thread nD τ).loc main_v5) = GA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.Kernel6Ideal.Proj

end
-- ==== Proof.OutProj6Ref.lean ====
/-
  What the reference of the second layer's output projection computes, entry by entry.
-/
module

public import proofs.«01_k».proof.Proof.OutProjSpec
public import proofs.«01_k».proof.Proof.Gen.Reference6Ideal.Read
public import Idealize.ShloMosaic.Lib.Pointwise

@[expose] public section

noncomputable section

namespace Cert.Reference6Ideal.Proj

open Cert.Reference6Ideal Cert.Reference6Ideal.Gen Cert.Reference6Ideal.Read Idealize.ShloMosaic Idealize.ShloMosaic.TcCoe

variable (h : S16x2304x2048.Idx → EReal) (ya yb : S16x2048x1024.Idx → EReal) (md : OutProj.Mod) (w : OutProj.Weight)
  (b : Fin 16) (r : Fin 2048)

/-- The first 1024 columns are the first array's. -/
theorem left (k : Fin 1024) : val_main_v9 (F := Ideal) ya yb (ix3 b r ⟨k, by omega⟩) = ya (ix3 b r k) := by
  unfold val_main_v9 val_main_v8
  pointwise

/-- The last 1024 columns are the second array's. -/
theorem right (k : Fin 1024) : val_main_v9 (F := Ideal) ya yb (ix3 b r ⟨1024 + k, by omega⟩) = yb (ix3 b r k) := by
  unfold val_main_v9 val_main_v8
  pointwise

/-- The product with the weight. -/
theorem product (j : Fin 2048) : val_main_v11 (F := Ideal) ya yb w (ix3 b r j)
    = OutProj.dot (fun k => ya (ix3 b r k)) (fun k => yb (ix3 b r k)) w j := by
  have e : val_main_v11 (F := Ideal) ya yb w (ix3 b r j)
      = ∑ k : Fin 2048, val_main_v9 (F := Ideal) ya yb (ix3 b r k) * w (ix2 k j) := by
    unfold val_main_v11
    pointwise
  rw [e]
  exact OutProj.sum_concat (fun k => val_main_v9 (F := Ideal) ya yb (ix3 b r k)) _ _ w j (left ya yb b r) (right ya yb b r)

/-- The gate. -/
theorem gates (j : Fin 2048) : val_main_v12 (F := Ideal) md (ix3 b r j) = OutProj.gate md ⟨b, by omega⟩ j := by
  unfold val_main_v12 val_main_v4 val_main_v1 val_main_v0
  pointwise [OutProj.gate]

/-- The whole result. -/
theorem result (j : Fin 2048) : val_main_v14 (F := Ideal) h ya yb md w (ix3 b r j)
    = OutProj.result (h (ix3 b ⟨256 + r, by omega⟩ j)) (fun k => ya (ix3 b r k)) (fun k => yb (ix3 b r k)) md ⟨b, by omega⟩ w j := by
  unfold val_main_v14 val_main_v13 val_main_v10
  pointwise [gates, product, OutProj.result]

end Cert.Reference6Ideal.Proj

end
-- ==== Proof.OutProj6Claim.lean ====
/-
  The output projection of the second layer and its reference leave the same array, whatever the arguments.
-/
module

public import proofs.«01_k».proof.Defs
public import proofs.«01_k».proof.Proof.OutProj6Array
public import proofs.«01_k».proof.Proof.OutProj6Ref
public import proofs.«01_k».proof.Proof.Gen.Reference6Ideal.Run
public import Idealize.ShloMosaic.Lib.Quiescent

@[expose] public section

noncomputable section

namespace Cert.OutProj6Claim

open Idealize.ShloMosaic Idealize.SL.Sem Idealize.ShloMosaic.TcCoe

/-- The two programs leave the same array. -/
theorem algebraic :
    Cert.algebraic_Kernel6Ideal_Reference6Ideal (hKernel6Ideal := Cert.Kernel6Ideal.Gen.facts)
      (hReference6Ideal := Cert.Reference6Ideal.Gen.facts) := by
  intro m ρ m' ρ' _ hag
  refine ⟨fun c => Cert.Kernel6Ideal.Proj.GA m c, Cert.Kernel6Ideal.Proj.run m ρ,
    (θ_run _ _ _).mono (fun _ h c => ⟨(h c).1.trans ?_, (h c).2⟩) (Cert.Reference6Ideal.Value.run m' ρ')⟩
  rw [Cert.Reference6Ideal.Read.val_main_v14_eq, (hag c).1, (hag c).2.1, (hag c).2.2.1, (hag c).2.2.2.1, (hag c).2.2.2.2]
  funext i
  obtain ⟨b, r, j, rfl⟩ : ∃ (b : Fin 16) (r : Fin 2048) (j : Fin 2048), i = ix3 b r j := ⟨i 0, i 1, i 2, eq_ix3 i⟩
  exact Cert.Reference6Ideal.Proj.result _ _ _ _ _ b r j

/-- The reference terminates, leaves its arguments as they were and declares no semaphore. -/
theorem referenceFrame : Cert.quiescent_Reference6Ideal (hReference6Ideal := Cert.Reference6Ideal.Gen.facts) := fun m ρ _ =>
  (θ_run Cert.Reference6Ideal.defs _ _).mono (fun r h => And.intro (fun c => (h c).2) (sem_eq_zero_of_no_sems (by decide) r.2))
    (Cert.Reference6Ideal.Value.run (F := Ideal) m ρ)

end Cert.OutProj6Claim

end
-- ==== Proof.PeerQueryBlock.lean ====
/-
  What one grid point of the expert queries computes: the normalised rows it keeps and stores, and their product with a
  block of the weight.
-/
module

public import proofs.«01_k».proof.Proof.Gen.Kernel7Ideal.Skeleton
public import Idealize.ShloMosaic.Lib.Pointwise

@[expose] public section

noncomputable section

namespace Cert.Kernel7Ideal.Peer

open Cert.Kernel7Ideal Cert.Kernel7Ideal.Gen Idealize.ShloMosaic

/-- The normalised rows' entry at row `r` and column `k`. -/
theorem pay1_apply (x : Vec Ideal S1x256x2048 .f32) (w : Vec Ideal S1x2048 .f32) (sh sc : Vec Ideal S1x1x2048 .f32)
    (r : Fin 256) (k : Fin 2048) :
    k0_pay1 (F := Ideal) x w sh sc (ix2 r k)
      = x (ix3 0 r k) * Ideal.rsqrt (Ideal.div (∑ e : Fin 2048, x (ix3 0 r e) * x (ix3 0 r e)) (Ideal.ofBits .f32 0x45000000#32)
            + Ideal.ofBits .f32 0x358637BD#32)
          * w (ix2 0 k) * (1 + sc (ix3 0 0 k))
        + sh (ix3 0 0 k) := by
  unfold k0_pay1
  pointwise

/-- The rows that are kept are the normalised rows. -/
theorem pay2_apply (x : Vec Ideal S1x256x2048 .f32) (w : Vec Ideal S1x2048 .f32) (sh sc : Vec Ideal S1x1x2048 .f32)
    (r : Fin 256) (k : Fin 2048) : k0_pay2 (F := Ideal) x w sh sc (ix2 r k) = k0_pay1 (F := Ideal) x w sh sc (ix2 r k) := by
  unfold k0_pay2
  generalize k0_pay1 (F := Ideal) x w sh sc = a
  pointwise

/-- The rows that are stored are the normalised rows. -/
theorem pay3_apply (x : Vec Ideal S1x256x2048 .f32) (w : Vec Ideal S1x2048 .f32) (sh sc : Vec Ideal S1x1x2048 .f32)
    (r : Fin 256) (k : Fin 2048) : k0_pay3 (F := Ideal) x w sh sc (ix3 0 r k) = k0_pay1 (F := Ideal) x w sh sc (ix2 r k) := by
  unfold k0_pay3
  generalize k0_pay1 (F := Ideal) x w sh sc = a
  pointwise

/-- The product's entry at row `r` and column `d`. -/
theorem pay4_apply (a : Vec Ideal S256x2048 .bf16) (w : Vec Ideal S2048x1024 .bf16) (r : Fin 256) (d : Fin 1024) :
    k0_pay4 (F := Ideal) a w (ix3 0 r d) = ∑ k : Fin 2048, a (ix2 r k) * w (ix2 k d) := by
  unfold k0_pay4
  pointwise

end Cert.Kernel7Ideal.Peer

end
-- ==== Proof.PeerQueryRuns.lean ====
/-
  The expert queries' call up to its grid: what the grid finds in the arrays, the blocks of its windows, the body's
  condition and the buffers that the body is given.
-/
module

public import proofs.«01_k».proof.Proof.Gen.Kernel7Ideal.Launch
public import proofs.«01_k».proof.Proof.Gen.Kernel7Ideal.Skeleton
public import proofs.«01_k».proof.Proof.Gen.Kernel7Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel7Ideal.Peer

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Device `c`'s buffers when the grid starts: the arguments after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is the host operations, then the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t` of the array that the grid finds. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, fetched there or left from the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's buffer holds its block at every point, fetched there or left from the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's buffer holds its block at every point, fetched there or left from the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's buffer holds its block at every point, fetched there or left from the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The arguments end unchanged, from a run that leaves every array as the grid's writes say. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-- The body's condition: the grid's last coordinate is zero. -/
abbrev cond0_0 (i : grid0.Coords) : Prop := k0_cond1 i = 1#1
/-- It holds at the even points. -/
theorem hcond0_0 : ∀ t : Fin cfg0.N, cond0_0 (grid0.coords t) ↔ t.val % 2 = 0 :=
  (fun t => by
    have ht : t.val < 288 := Nat.lt_of_lt_of_eq t.isLt N_0
    have e0 : (grid0.coords t 0).val = t.val / 18 % 16 := Pipeline.Grid.coords_val t 0 (by decide) rfl
    have e1 : (grid0.coords t 1).val = t.val / 2 % 9 := Pipeline.Grid.coords_val t 1 (by decide) rfl
    have e2 : (grid0.coords t 2).val = t.val / 1 % 2 := Pipeline.Grid.coords_val t 2 (by decide) rfl
    simp only [cond0_0, k0_cond1, e0, e1, e2]
    word_cmp
   : ∀ t : Fin grid0.N, cond0_0 (grid0.coords t) ↔ t.val % 2 = 0)

/-- Window 0 is in use at every point. -/
theorem liveAt0_0 : ∀ t : Fin cfg0.N, cfg0.idle 0 (grid0.coords t) = false := fun _ => rfl
/-- Window 1 is in use at every point. -/
theorem liveAt0_1 : ∀ t : Fin cfg0.N, cfg0.idle 1 (grid0.coords t) = false := fun _ => rfl
/-- Window 2 is in use at every point. -/
theorem liveAt0_2 : ∀ t : Fin cfg0.N, cfg0.idle 2 (grid0.coords t) = false := fun _ => rfl
/-- Window 3 is in use at every point. -/
theorem liveAt0_3 : ∀ t : Fin cfg0.N, cfg0.idle 3 (grid0.coords t) = false := fun _ => rfl
/-- Window 4 is in use at every point. -/
theorem liveAt0_4 : ∀ t : Fin cfg0.N, cfg0.idle 4 (grid0.coords t) = false := fun _ => rfl
/-- Where the condition holds the body stores the normalised rows' block. -/
theorem liveAt0_5_A : ∀ t : Fin cfg0.N, cond0_0 (grid0.coords t) → cfg0.idle 5 (grid0.coords t) = false := by decide +kernel

/-- Where it fails the body leaves that block's buffer alone. -/
theorem idleAt0_5_B : ∀ t : Fin cfg0.N, ¬cond0_0 (grid0.coords t) → cfg0.idle 5 (grid0.coords t) = true := by decide +kernel

/-- The block of the product, as a view of one of its buffers. -/
abbrev VO0_4 : View sig .tc .vmem S1x256x1024 .f32 := (Memref.whole cc0_stg4_0 : Memref sig .tc .vmem S1x256x1024 .f32).view
/-- The block of the normalised rows, as a view of one of its buffers. -/
abbrev VO0_5 : View sig .tc .vmem S1x256x2048 .bf16 := (Memref.whole cc0_stg5_0 : Memref sig .tc .vmem S1x256x2048 .bf16).view
/-- The buffer that the body finds the joint array's block in at point `t`, a whole buffer. -/
abbrev ms0_0 (t : Fin cfg0.N) : Memref sig .tc .vmem S1x256x2048 .f32 := win0_0.stage (cfg0.slots t 0)
abbrev hs0_0 (t : Fin cfg0.N) : (ms0_0 t).IsWhole := hstage0_0 ((cfg0.slots t 0).cast nbuf0_0)
/-- The buffer that the body finds the norm's weight's block in at point `t`, a whole buffer. -/
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
/-- The buffer that the body finds the modulation's block in at point `t`, a whole buffer. -/
abbrev ms0_2 (t : Fin cfg0.N) : Memref sig .tc .vmem S1x6x2048 .f32 := win0_2.stage (cfg0.slots t 2)
abbrev hs0_2 (t : Fin cfg0.N) : (ms0_2 t).IsWhole := hstage0_2 ((cfg0.slots t 2).cast nbuf0_2)
/-- The buffer that the body finds the weight's block in at point `t`, a whole buffer. -/
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
/-- The buffer that the body finds the product's block in at point `t`, a whole buffer. -/
abbrev ms0_4 (t : Fin cfg0.N) : Memref sig .tc .vmem S1x256x1024 .f32 := win0_4.stage (cfg0.slots t 4)
abbrev hs0_4 (t : Fin cfg0.N) : (ms0_4 t).IsWhole := hstage0_4 ((cfg0.slots t 4).cast nbuf0_4)
/-- The buffer that the body finds the normalised rows's block in at point `t`, a whole buffer. -/
abbrev ms0_5 (t : Fin cfg0.N) : Memref sig .tc .vmem S1x256x2048 .bf16 := win0_5.stage (cfg0.slots t 5)
abbrev hs0_5 (t : Fin cfg0.N) : (ms0_5 t).IsWhole := hstage0_5 ((cfg0.slots t 5).cast nbuf0_5)

/-- The buffer that keeps the normalised rows between points. -/
abbrev scM0_0 : Memref sig .tc .vmem S256x2048 .bf16 := Memref.whole cc0_scratch0

/-- The same, as a view. -/
abbrev VS0_0 : View sig .tc .vmem S256x2048 .bf16 := scM0_0.view

/-- The kept buffer at some contents and the generator's register: what the grid starts from. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel7Ideal.Peer

end
-- ==== Proof.PeerQueryRunA.lean ====
/-
  The body at the first point of a block of rows: it computes the normalised rows, keeps and stores them, and stores
  their product with its block of the weight.
-/
module

public import proofs.«01_k».proof.Proof.PeerQueryRuns

@[expose] public section

set_option maxRecDepth 16384

noncomputable section

namespace Cert.Kernel7Ideal.Peer

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces that the body leaves in the product's block, the normalised rows' block and the kept buffer, with the
    proof that it runs, whatever these three held, and leaves its inputs as they were. -/
def kernelRun0_A (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S2048x1024 .bf16) (harg6 : arg6.IsWhole) (arg7 : Memref sig .tc .vmem S1x256x1024 .f32) (harg7 : arg7.IsWhole) (arg8 : Memref sig .tc .vmem S1x256x2048 .bf16) (harg8 : arg8.IsWhole) (arg9 : Memref sig .tc .vmem S256x2048 .bf16) (harg9 : arg9.IsWhole) (hc0 : cond0_0 i)
    (x0 : Vec F S1x256x2048 .f32) (x1 : Vec F S1x2048 .f32) (x2 : Vec F S1x6x2048 .f32) (x3 : Vec F S2048x1024 .bf16) :
    Σ' (L4 : List (View.Piece (Elt F) S1x256x1024 .f32)), Σ' (L5 : List (View.Piece (Elt F) S1x256x2048 .bf16)), { LS0 : List (View.Piece (Elt F) S256x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc0_peer_query i arg3 harg3 arg4 harg4 arg5 harg5 arg6 harg6 arg7 harg7 arg8 harg8 arg9 harg9) K } := by
  refine ⟨?_, ?_, ?_, fun E K => ?run⟩
  case run =>
    simp only [cc0_peer_query_eq_skeleton]; unfold cc0_peer_query_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    iexists _; iexact HS0

end Cert.Kernel7Ideal.Peer

end
-- ==== Proof.PeerQueryRunB.lean ====
/-
  The body at the other points of a block of rows: it stores the product of the kept rows with its block of the weight.
-/
module

public import proofs.«01_k».proof.Proof.PeerQueryRunA

@[expose] public section

set_option maxRecDepth 16384

noncomputable section

namespace Cert.Kernel7Ideal.Peer

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces that the body leaves in the product's block, with the proof that it runs, whatever this block held, and
    leaves its inputs and the kept rows as they were; it does not touch the normalised rows' block. -/
def kernelRun0_B (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S2048x1024 .bf16) (harg6 : arg6.IsWhole) (arg7 : Memref sig .tc .vmem S1x256x1024 .f32) (harg7 : arg7.IsWhole) (arg8 : Memref sig .tc .vmem S1x256x2048 .bf16) (harg8 : arg8.IsWhole) (arg9 : Memref sig .tc .vmem S256x2048 .bf16) (harg9 : arg9.IsWhole) (hc0 : ¬cond0_0 i)
    (x0 : Vec F S1x256x2048 .f32) (x1 : Vec F S1x2048 .f32) (x2 : Vec F S1x6x2048 .f32) (x3 : Vec F S2048x1024 .bf16) (xs0 : Vec F S256x2048 .bf16) :
    { L4 : List (View.Piece (Elt F) S1x256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ owns (c : Thread nD τ) arg9 fullShare xs0) -∗ K ⟨⟩))
          ⊢ wp frame (wpE (defs₀ (F := F)) Variants.none c none) E (cc0_peer_query i arg3 harg3 arg4 harg4 arg5 harg5 arg6 harg6 arg7 harg7 arg8 harg8 arg9 harg9) K } := by
  refine ⟨?_, fun E K => ?run⟩
  case run =>
    simp only [cc0_peer_query_eq_skeleton]; unfold cc0_peer_query_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg9.eq_unread hfs0
    sl_exec (disch := sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; isplitr; · ipureintro; exact harg9.read_unread _
    iexact HS0

end Cert.Kernel7Ideal.Peer

end
-- ==== Proof.PeerQueryFrame.lean ====
/-
  The expert queries' call runs to the end and leaves its arguments unchanged; what its buffers hold after each grid
  point.
-/
module

public import proofs.«01_k».proof.Proof.PeerQueryRunB
public import Idealize.ShloMosaic.Lib.Claim

@[expose] public section

set_option maxRecDepth 16384

noncomputable section

namespace Cert.Kernel7Ideal.Peer

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces of the product's block at a first point cover it. -/
theorem cover0_A_4 (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S2048x1024 .bf16) (harg6 : arg6.IsWhole) (arg7 : Memref sig .tc .vmem S1x256x1024 .f32) (harg7 : arg7.IsWhole) (arg8 : Memref sig .tc .vmem S1x256x2048 .bf16) (harg8 : arg8.IsWhole) (arg9 : Memref sig .tc .vmem S256x2048 .bf16) (harg9 : arg9.IsWhole) (hc0 : cond0_0 i)
    (x0 : Vec F S1x256x2048 .f32) (x1 : Vec F S1x2048 .f32) (x2 : Vec F S1x6x2048 .f32) (x3 : Vec F S2048x1024 .bf16) (y : S1x256x1024.Idx) :
    ∃ pc ∈ (kernelRun0_A c i arg3 harg3 arg4 harg4 arg5 harg5 arg6 harg6 arg7 harg7 arg8 harg8 arg9 harg9 hc0 x0 x1 x2 x3).1, y ∈ pc.1.set :=
  View.cover_of_tiledL (kernelRun0_A c i arg3 harg3 arg4 harg4 arg5 harg5 arg6 harg6 arg7 harg7 arg8 harg8 arg9 harg9 hc0 x0 x1 x2 x3).1 S1x256x1024.size (by sl_kernel_rfl) y

/-- What the product's block at a first point then holds. -/
def out0_A_4 (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S2048x1024 .bf16) (harg6 : arg6.IsWhole) (arg7 : Memref sig .tc .vmem S1x256x1024 .f32) (harg7 : arg7.IsWhole) (arg8 : Memref sig .tc .vmem S1x256x2048 .bf16) (harg8 : arg8.IsWhole) (arg9 : Memref sig .tc .vmem S256x2048 .bf16) (harg9 : arg9.IsWhole) (hc0 : cond0_0 i)
    (x0 : Vec F S1x256x2048 .f32) (x1 : Vec F S1x2048 .f32) (x2 : Vec F S1x6x2048 .f32) (x3 : Vec F S2048x1024 .bf16) : Vec F S1x256x1024 .f32 :=
  VO0_4.read (Elt F) (VO0_4.writes (Elt F) VO0_4.junk (kernelRun0_A c i arg3 harg3 arg4 harg4 arg5 harg5 arg6 harg6 arg7 harg7 arg8 harg8 arg9 harg9 hc0 x0 x1 x2 x3).1)

/-- The pieces of the normalised rows' block at a first point cover it. -/
theorem cover0_A_5 (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S2048x1024 .bf16) (harg6 : arg6.IsWhole) (arg7 : Memref sig .tc .vmem S1x256x1024 .f32) (harg7 : arg7.IsWhole) (arg8 : Memref sig .tc .vmem S1x256x2048 .bf16) (harg8 : arg8.IsWhole) (arg9 : Memref sig .tc .vmem S256x2048 .bf16) (harg9 : arg9.IsWhole) (hc0 : cond0_0 i)
    (x0 : Vec F S1x256x2048 .f32) (x1 : Vec F S1x2048 .f32) (x2 : Vec F S1x6x2048 .f32) (x3 : Vec F S2048x1024 .bf16) (y : S1x256x2048.Idx) :
    ∃ pc ∈ (kernelRun0_A c i arg3 harg3 arg4 harg4 arg5 harg5 arg6 harg6 arg7 harg7 arg8 harg8 arg9 harg9 hc0 x0 x1 x2 x3).2.1, y ∈ pc.1.set :=
  View.cover_of_tiledL (kernelRun0_A c i arg3 harg3 arg4 harg4 arg5 harg5 arg6 harg6 arg7 harg7 arg8 harg8 arg9 harg9 hc0 x0 x1 x2 x3).2.1 S1x256x2048.size (by sl_kernel_rfl) y

/-- What the normalised rows' block at a first point then holds. -/
def out0_A_5 (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S2048x1024 .bf16) (harg6 : arg6.IsWhole) (arg7 : Memref sig .tc .vmem S1x256x1024 .f32) (harg7 : arg7.IsWhole) (arg8 : Memref sig .tc .vmem S1x256x2048 .bf16) (harg8 : arg8.IsWhole) (arg9 : Memref sig .tc .vmem S256x2048 .bf16) (harg9 : arg9.IsWhole) (hc0 : cond0_0 i)
    (x0 : Vec F S1x256x2048 .f32) (x1 : Vec F S1x2048 .f32) (x2 : Vec F S1x6x2048 .f32) (x3 : Vec F S2048x1024 .bf16) : Vec F S1x256x2048 .bf16 :=
  VO0_5.read (Elt F) (VO0_5.writes (Elt F) VO0_5.junk (kernelRun0_A c i arg3 harg3 arg4 harg4 arg5 harg5 arg6 harg6 arg7 harg7 arg8 harg8 arg9 harg9 hc0 x0 x1 x2 x3).2.1)

/-- The pieces of the kept buffer at a first point cover it. -/
theorem scover0_A_0 (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S2048x1024 .bf16) (harg6 : arg6.IsWhole) (arg7 : Memref sig .tc .vmem S1x256x1024 .f32) (harg7 : arg7.IsWhole) (arg8 : Memref sig .tc .vmem S1x256x2048 .bf16) (harg8 : arg8.IsWhole) (arg9 : Memref sig .tc .vmem S256x2048 .bf16) (harg9 : arg9.IsWhole) (hc0 : cond0_0 i)
    (x0 : Vec F S1x256x2048 .f32) (x1 : Vec F S1x2048 .f32) (x2 : Vec F S1x6x2048 .f32) (x3 : Vec F S2048x1024 .bf16) (y : S256x2048.Idx) :
    ∃ pc ∈ (kernelRun0_A c i arg3 harg3 arg4 harg4 arg5 harg5 arg6 harg6 arg7 harg7 arg8 harg8 arg9 harg9 hc0 x0 x1 x2 x3).2.2.1, y ∈ pc.1.set :=
  View.cover_of_tiledL (kernelRun0_A c i arg3 harg3 arg4 harg4 arg5 harg5 arg6 harg6 arg7 harg7 arg8 harg8 arg9 harg9 hc0 x0 x1 x2 x3).2.2.1 S256x2048.size (by sl_kernel_rfl) y

/-- What the kept buffer at a first point then holds. -/
def sout0_A_0 (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S2048x1024 .bf16) (harg6 : arg6.IsWhole) (arg7 : Memref sig .tc .vmem S1x256x1024 .f32) (harg7 : arg7.IsWhole) (arg8 : Memref sig .tc .vmem S1x256x2048 .bf16) (harg8 : arg8.IsWhole) (arg9 : Memref sig .tc .vmem S256x2048 .bf16) (harg9 : arg9.IsWhole) (hc0 : cond0_0 i)
    (x0 : Vec F S1x256x2048 .f32) (x1 : Vec F S1x2048 .f32) (x2 : Vec F S1x6x2048 .f32) (x3 : Vec F S2048x1024 .bf16) : Vec F S256x2048 .bf16 :=
  VS0_0.read (Elt F) (VS0_0.writes (Elt F) VS0_0.junk (kernelRun0_A c i arg3 harg3 arg4 harg4 arg5 harg5 arg6 harg6 arg7 harg7 arg8 harg8 arg9 harg9 hc0 x0 x1 x2 x3).2.2.1)

/-- The pieces of the product's block at another point cover it. -/
theorem cover0_B_4 (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S2048x1024 .bf16) (harg6 : arg6.IsWhole) (arg7 : Memref sig .tc .vmem S1x256x1024 .f32) (harg7 : arg7.IsWhole) (arg8 : Memref sig .tc .vmem S1x256x2048 .bf16) (harg8 : arg8.IsWhole) (arg9 : Memref sig .tc .vmem S256x2048 .bf16) (harg9 : arg9.IsWhole) (hc0 : ¬cond0_0 i)
    (x0 : Vec F S1x256x2048 .f32) (x1 : Vec F S1x2048 .f32) (x2 : Vec F S1x6x2048 .f32) (x3 : Vec F S2048x1024 .bf16) (xs0 : Vec F S256x2048 .bf16) (y : S1x256x1024.Idx) :
    ∃ pc ∈ (kernelRun0_B c i arg3 harg3 arg4 harg4 arg5 harg5 arg6 harg6 arg7 harg7 arg8 harg8 arg9 harg9 hc0 x0 x1 x2 x3 xs0).1, y ∈ pc.1.set :=
  View.cover_of_tiledL (kernelRun0_B c i arg3 harg3 arg4 harg4 arg5 harg5 arg6 harg6 arg7 harg7 arg8 harg8 arg9 harg9 hc0 x0 x1 x2 x3 xs0).1 S1x256x1024.size (by sl_kernel_rfl) y

/-- What the product's block at another point then holds. -/
def out0_B_4 (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S2048x1024 .bf16) (harg6 : arg6.IsWhole) (arg7 : Memref sig .tc .vmem S1x256x1024 .f32) (harg7 : arg7.IsWhole) (arg8 : Memref sig .tc .vmem S1x256x2048 .bf16) (harg8 : arg8.IsWhole) (arg9 : Memref sig .tc .vmem S256x2048 .bf16) (harg9 : arg9.IsWhole) (hc0 : ¬cond0_0 i)
    (x0 : Vec F S1x256x2048 .f32) (x1 : Vec F S1x2048 .f32) (x2 : Vec F S1x6x2048 .f32) (x3 : Vec F S2048x1024 .bf16) (xs0 : Vec F S256x2048 .bf16) : Vec F S1x256x1024 .f32 :=
  VO0_4.read (Elt F) (VO0_4.writes (Elt F) VO0_4.junk (kernelRun0_B c i arg3 harg3 arg4 harg4 arg5 harg5 arg6 harg6 arg7 harg7 arg8 harg8 arg9 harg9 hc0 x0 x1 x2 x3 xs0).1)

/-- What the product's block, the normalised rows' block and the kept buffer hold after the body at a point: at a point
    that is not the first of its block of rows the last two are as the point before left them. -/
def outsAt0 (c : Dev nD) : (n : ℕ) → n < cfg0.N → Vec F S1x256x1024 .f32 × Vec F S1x256x2048 .bf16 × Vec F S256x2048 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩),
       out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩),
       sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 2 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩),
       out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩),
       sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2,
       (outsAt0 c n (Nat.lt_of_succ_lt hn)).2.1, (outsAt0 c n (Nat.lt_of_succ_lt hn)).2.2)

/-- The same at a first point. -/
theorem outsAt0_A (c : Dev nD) (t : Fin cfg0.N) (h0 : t.val % 2 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t),
       out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t),
       sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- The same at another point. -/
theorem outsAt0_B (c : Dev nD) (t : Fin cfg0.N) (h0 : ¬t.val % 2 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2, (outsAt0 m c (t.val - 1) (Nat.lt_of_le_of_lt (Nat.sub_le _ _) t.isLt)).2.1, (outsAt0 m c (t.val - 1) (Nat.lt_of_le_of_lt (Nat.sub_le _ _) t.isLt)).2.2) := by
  obtain ⟨n, hn⟩ := t
  cases n with
  | zero => exact absurd (Nat.zero_mod _) h0
  | succ n => exact (dif_neg h0).trans rfl

/-- What holds between points: the kept buffer at what the point before left, and the generator's register. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

/-- Before the first point the kept buffer holds anything. -/
theorem PhiS_zero (c : Dev nD) (n : ℕ) (h : n ≤ cfg0.N) (hz : n = 0) : PhiS m c n h = Pipeline.ΦA spec0 c := by
  subst hz; rfl

/-- After point `n`. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-- The grid's account: the arrays as found, what every window's buffer holds after each point, what holds between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q _ := fullShare
  owed _ := 0

/-- The arrays are those that the grid finds. -/
theorem A_eq (c : Dev nD) (w : Fin cfg0.W) : (dats m 0 c).A w = V m c (Pipeline.arrRef spec0 w) := by
  dsimp only [dats]

/-- What holds before a point, by the point's number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What window 0's buffer holds after a point. -/
theorem after0_0 (c : Dev nD) (t : Fin cfg0.N) : (dats m 0 c).after 0 t = iblk m c 0 t := by dsimp only [dats]

/-- What window 1's buffer holds after a point. -/
theorem after0_1 (c : Dev nD) (t : Fin cfg0.N) : (dats m 0 c).after 1 t = iblk m c 1 t := by dsimp only [dats]

/-- What window 2's buffer holds after a point. -/
theorem after0_2 (c : Dev nD) (t : Fin cfg0.N) : (dats m 0 c).after 2 t = iblk m c 2 t := by dsimp only [dats]

/-- What window 3's buffer holds after a point. -/
theorem after0_3 (c : Dev nD) (t : Fin cfg0.N) : (dats m 0 c).after 3 t = iblk m c 3 t := by dsimp only [dats]

/-- What window 4's buffer holds after a point. -/
theorem after0_4 (c : Dev nD) (t : Fin cfg0.N) : (dats m 0 c).after 4 t = (outsAt0 m c t.val t.isLt).1 := by dsimp only [dats]

/-- What window 5's buffer holds after a point. -/
theorem after0_5 (c : Dev nD) (t : Fin cfg0.N) : (dats m 0 c).after 5 t = (outsAt0 m c t.val t.isLt).2.1 := by dsimp only [dats]

/-- What window 0's buffer holds before the body: its block. -/
theorem before0_0 (c : Dev nD) (t : Fin cfg0.N) (d) : (dats m 0 c).before 0 t d = iblk m c 0 t :=
  before0_0_of m (dats m 0 c) (A_eq m c 0) (after0_0 m c) t d

/-- What window 1's buffer holds before the body: its block. -/
theorem before0_1 (c : Dev nD) (t : Fin cfg0.N) (d) : (dats m 0 c).before 1 t d = iblk m c 1 t :=
  before0_1_of m (dats m 0 c) (A_eq m c 1) (after0_1 m c) t d

/-- What window 2's buffer holds before the body: its block. -/
theorem before0_2 (c : Dev nD) (t : Fin cfg0.N) (d) : (dats m 0 c).before 2 t d = iblk m c 2 t :=
  before0_2_of m (dats m 0 c) (A_eq m c 2) (after0_2 m c) t d

/-- What window 3's buffer holds before the body: its block. -/
theorem before0_3 (c : Dev nD) (t : Fin cfg0.N) (d) : (dats m 0 c).before 3 t d = iblk m c 3 t :=
  before0_3_of m (dats m 0 c) (A_eq m c 3) (after0_3 m c) t d

/-- At a point that is not the first of its block of rows the normalised rows' buffer holds what the point before left. -/
theorem before0_5_B (c : Dev nD) (t : Fin cfg0.N) (h0 : ¬t.val % 2 = 0) (d) :
    (dats m 0 c).before 5 t d = (outsAt0 m c (t.val - 1) (Nat.lt_of_le_of_lt (Nat.sub_le _ _) t.isLt)).2.1 := by
  have hl : cfg0.idle 5 (cfg0.grid.coords ⟨t.val - 1, Nat.lt_of_le_of_lt (Nat.sub_le _ _) t.isLt⟩) = false :=
    liveAt0_5_A _ ((hcond0_0 _).mpr (show (t.val - 1) % 2 = 0 by omega))
  have hf : ¬(cfg0.win 5).flush ⟨t.val - 1, Nat.lt_of_le_of_lt (Nat.sub_le _ _) t.isLt⟩ = true := fun h => by
    have := (flush0_5 _).mp h
    dsimp only at this
    omega
  rw [Dat.before_of_pos _ 5 t (by omega) rfl d, if_neg hf]
  unfold Dat.left
  rw [hl]
  dsimp only
  unfold Dat.kept
  rw [after0_5]
  rfl

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 3200000 in
/-- The body at any point: the inputs' buffers hold their blocks, so the run of the point's case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val % 2 = 0
  · rw [show (dats m 0 c).leavesExact 5 t = owns (c : Thread nD τ) (ms0_5 t) fullShare ((dats m 0 c).after 5 t) from by
      unfold Dat.leavesExact; rw [liveAt0_5_A t ((hcond0_0 t).mpr h0)], after0_5]
    by_cases hz : t.val = 0
    · rw [PhiS_castSucc m c t, PhiS_zero m c _ _ hz, PhiA0_eq]
      rw [outsAt0_A m c t h0]
      unfold out0_A_4 out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m c 0 t) (iblk m c 1 t) (iblk m c 2 t) (iblk m c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _)
    · rw [PhiS_castSucc m c t, PhiS_pos m c _ _ hz]
      rw [outsAt0_A m c t h0]
      unfold out0_A_4 out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m c 0 t) (iblk m c 1 t) (iblk m c 2 t) (iblk m c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexists _; iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _)
  · have hz : t.val ≠ 0 := by omega
    rw [show (dats m 0 c).leavesExact 5 t = owns (c : Thread nD τ) (ms0_5 t) fullShare ((dats m 0 c).after 5 t) from by
      unfold Dat.leavesExact
      rw [idleAt0_5_B t (fun h => h0 ((hcond0_0 t).mp h)), (flush0_5 t).mpr (by omega)], after0_5]
    rw [PhiS_castSucc m c t, PhiS_pos m c _ _ hz]
    rw [outsAt0_B m c t h0]
    simp only [before0_5_B m c t h0]
    unfold out0_B_4; (try dsimp only)
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ (ms0_5 t) (hs0_5 t) _ _ (fun h => h0 ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _)
    iexact H5

/-- What the grid calls at a point is the body on the point's buffers. -/
theorem defs₀_row (t : Fin cfg0.N) :
    defs₀ (F := F) .tc cfg0.body (cfg0.bodyArgs t (cfg0.slots t)) = bodyAt0 t := by
  unfold defs₀; rw [Defs.onTc_tc]

/-- The body does what the grid's account says of it, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The grid starts from what the account asks. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After a point the kept buffer's contents may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 288 := N_0; omega)

/-! ## The run and the frame -/

set_option backward.isDefEq.respectTransparency.types false in
/-- The program runs to the end, its arrays as the account says, its counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The program terminates, leaves its arguments as they were and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel7Ideal.Peer

end
-- ==== Proof.PeerQueryScratch.lean ====
/-
  What each grid point of the expert queries leaves: the first point of a block of rows computes the normalised rows,
  keeps and stores them; every point stores their product with its block of the weight.
-/
module

public import proofs.«01_k».proof.Proof.PeerQueryBlock
public import proofs.«01_k».proof.Proof.PeerQueryFrame

@[expose] public section

noncomputable section

namespace Cert.Kernel7Ideal.Peer

open Cert.Kernel7Ideal Cert.Kernel7Ideal.Gen Idealize.ShloMosaic Idealize.ShloMosaic.TcCoe Idealize.SL.Sem

variable (m : (ℓ : Loc nD τ sig) → Buf (Elt Ideal) ℓ) (ρ : Dev nD → PrngReg)

theorem hz3 : (fun a => (![0, 0, 0] : Fin 3 → Nat) a) = fun _ => 0 := by funext a; fin_cases a <;> rfl

theorem hz2 : (fun a => (![0, 0] : Fin 2 → Nat) a) = fun _ => 0 := by funext a; fin_cases a <;> rfl

/-- The normalised rows that a point keeps. -/
def rows (c : Dev nD) (t : Fin cfg0.N) : Vec Ideal S256x2048 .bf16 :=
  k0_pay2 (F := Ideal) (iblk m c 0 t) (iblk m c 1 t)
    (View.ld (iblk m c 2 t : Vec Ideal S1x6x2048 .f32) (Rect.unit (s := S1x6x2048) ![0, 3, 0] S1x1x2048.size inb_S1x6x2048_S1x1x2048_0_3_0))
    (View.ld (iblk m c 2 t : Vec Ideal S1x6x2048 .f32) (Rect.unit (s := S1x6x2048) ![0, 4, 0] S1x1x2048.size inb_S1x6x2048_S1x1x2048_0_4_0))

/-- The normalised rows that a point stores. -/
def rowsOut (c : Dev nD) (t : Fin cfg0.N) : Vec Ideal S1x256x2048 .bf16 :=
  k0_pay3 (F := Ideal) (iblk m c 0 t) (iblk m c 1 t)
    (View.ld (iblk m c 2 t : Vec Ideal S1x6x2048 .f32) (Rect.unit (s := S1x6x2048) ![0, 3, 0] S1x1x2048.size inb_S1x6x2048_S1x1x2048_0_3_0))
    (View.ld (iblk m c 2 t : Vec Ideal S1x6x2048 .f32) (Rect.unit (s := S1x6x2048) ![0, 4, 0] S1x1x2048.size inb_S1x6x2048_S1x1x2048_0_4_0))

/-- The first point of a block of rows keeps the normalised rows. -/
theorem kept_A (c : Dev nD) (t : Fin cfg0.N) (h0 : t.val % 2 = 0) : (outsAt0 m c t.val t.isLt).2.2 = rows m c t := by
  rw [outsAt0_A m c t h0]
  dsimp only
  unfold sout0_A_0
  rw [View.read_writes_eq_canon _ _ _ (fun y => scover0_A_0 c _ _ _ _ _ _ _ _ _ _ _ _ _ _ _ _ _ _ _ _ y)]
  unfold kernelRun0_A
  dsimp only
  sl_unfold_words
  rw [View.canon_unit_zero hz2]
  simp only [View.readAt_eq_ld, (hs0_0 t).read_unread, (hs0_1 t).read_unread, (hs0_2 t).read_unread,
    View.ld_unit_zero (S := S1x256x2048) hz3, View.ld_unit_zero (S := S1x2048) hz2]
  rfl

/-- It stores them too. -/
theorem stored_A (c : Dev nD) (t : Fin cfg0.N) (h0 : t.val % 2 = 0) : (outsAt0 m c t.val t.isLt).2.1 = rowsOut m c t := by
  rw [outsAt0_A m c t h0]
  dsimp only
  unfold out0_A_5
  rw [View.read_writes_eq_canon _ _ _ (fun y => cover0_A_5 c _ _ _ _ _ _ _ _ _ _ _ _ _ _ _ _ _ _ _ _ y)]
  unfold kernelRun0_A
  dsimp only
  sl_unfold_words
  rw [View.canon_unit_zero hz3]
  simp only [View.readAt_eq_ld, (hs0_0 t).read_unread, (hs0_1 t).read_unread, (hs0_2 t).read_unread,
    View.ld_unit_zero (S := S1x256x2048) hz3, View.ld_unit_zero (S := S1x2048) hz2]
  rfl

/-- A later point keeps what the point before kept. -/
theorem kept_B (c : Dev nD) (t : Fin cfg0.N) (h0 : ¬t.val % 2 = 0) : (outsAt0 m c t.val t.isLt).2.2
    = (outsAt0 m c (t.val - 1) (Nat.lt_of_le_of_lt (Nat.sub_le _ _) t.isLt)).2.2 := by
  rw [outsAt0_B m c t h0]

/-- It leaves what the point before stored. -/
theorem stored_B (c : Dev nD) (t : Fin cfg0.N) (h0 : ¬t.val % 2 = 0) : (outsAt0 m c t.val t.isLt).2.1
    = (outsAt0 m c (t.val - 1) (Nat.lt_of_le_of_lt (Nat.sub_le _ _) t.isLt)).2.1 := by
  rw [outsAt0_B m c t h0]

/-- What the first point of a block of rows writes. -/
theorem wrote_A (c : Dev nD) (t : Fin cfg0.N) (h0 : t.val % 2 = 0) :
    (outsAt0 m c t.val t.isLt).1 = k0_pay4 (F := Ideal) (rows m c t) (iblk m c 3 t) := by
  rw [outsAt0_A m c t h0]
  dsimp only
  unfold out0_A_4
  rw [View.read_writes_eq_canon _ _ _ (fun y => cover0_A_4 c _ _ _ _ _ _ _ _ _ _ _ _ _ _ _ _ _ _ _ _ y)]
  unfold kernelRun0_A
  dsimp only
  sl_unfold_words
  rw [View.canon_unit_zero hz3]
  simp only [View.readAt_eq_ld, (hs0_3 t).read_unread, (hs0_0 t).read_unread, (hs0_1 t).read_unread, (hs0_2 t).read_unread,
    View.ld_unit_zero (S := S1x256x2048) hz3, View.ld_unit_zero (S := S1x2048) hz2, View.ld_unit_zero (S := S2048x1024) hz2,
    View.readCov_unit_zero (S := S256x2048) _ hz2]
  rfl

/-- What a later point writes: from the rows the point before kept. -/
theorem wrote_B (c : Dev nD) (t : Fin cfg0.N) (h0 : ¬t.val % 2 = 0) :
    (outsAt0 m c t.val t.isLt).1 = k0_pay4 (F := Ideal)
      (outsAt0 m c (t.val - 1) (Nat.lt_of_le_of_lt (Nat.sub_le _ _) t.isLt)).2.2 (iblk m c 3 t) := by
  rw [outsAt0_B m c t h0]
  dsimp only
  unfold out0_B_4
  rw [View.read_writes_eq_canon _ _ _ (fun y => cover0_B_4 c _ _ _ _ _ _ _ _ _ _ _ _ _ _ _ _ _ _ _ _ _ y)]
  unfold kernelRun0_B
  dsimp only
  sl_unfold_words
  rw [View.canon_unit_zero hz3]
  simp only [View.readAt_eq_ld, (hs0_3 t).read_unread, (Memref.isWhole_whole _).read_unread, View.ld_unit_zero (S := S2048x1024) hz2,
    View.ld_unit_zero (S := S256x2048) hz2]

end Cert.Kernel7Ideal.Peer

end
-- ==== Proof.PeerQuerySpec.lean ====
/-
  The expert queries' rows: each row of the joint array normalised by its mean square, scaled by the norm's weight and
  modulated by the fourth and fifth parts of the modulation.
-/
module

public import proofs.«01_k».proof.Proof.InProjSpec

@[expose] public section

noncomputable section

namespace Cert.PeerQuery

open Idealize.ShloMosaic

/-- The joint array: sixteen sequences, 2304 rows (the context's 256, then the sequence's), 2048 columns. -/
abbrev Joint := (⟨3, ![16, 2304, 2048]⟩ : Shape).Idx → EReal

/-- Entry `k` of a row normalised and modulated: its shift is the modulation's fourth part, its scale the fifth. -/
def normed (x : Fin 2048 → EReal) (w : InProj.Norm) (md : InProj.Mod) (g : Fin 17) (k : Fin 2048) : EReal :=
  x k * Ideal.rsqrt (Ideal.div (∑ e : Fin 2048, x e * x e) (Ideal.ofBits .f32 0x45000000#32) + Ideal.ofBits .f32 0x358637BD#32)
      * w (ix1 k) * (1 + md (ix2 g ⟨8192 + k, by omega⟩))
    + md (ix2 g ⟨6144 + k, by omega⟩)

end Cert.PeerQuery

end
-- ==== Proof.PeerQueryHost.lean ====
/-
  The arrays that the expert queries' call reads: the joint array, the modulation in six parts, the norm's weight as a
  row and the weight.
-/
module

public import proofs.«01_k».proof.Proof.PeerQuerySpec
public import proofs.«01_k».proof.Proof.PeerQueryRuns
public import Idealize.ShloMosaic.Lib.Pointwise

@[expose] public section

noncomputable section

namespace Cert.Kernel7Ideal.Peer

open Cert.Kernel7Ideal Cert.Kernel7Ideal.Gen Idealize.ShloMosaic Idealize.ShloMosaic.TcCoe Idealize.SL.Sem

/-- The modulation in six parts. -/
def parts (md : InProj.Mod) : S17x6x2048.Idx → EReal :=
  shapeCast S17x6x2048 (md : FVec Ideal S17x12288 .f32) shapeCasts_S17x12288_S17x6x2048

/-- Part `p` of a row holds that row's columns from `2048 * p`. -/
theorem parts_apply (md : InProj.Mod) (g : Fin 17) (p : Fin 6) (j : Fin 2048) :
    parts md (ix3 g p j) = md (ix2 g ⟨p * 2048 + j, by omega⟩) := by
  unfold parts
  pointwise

/-- The norm's weight as one row. -/
def normRow (w : InProj.Norm) : S1x2048.Idx → EReal :=
  shapeCast S1x2048 (w : FVec Ideal S2048 .f32) shapeCasts_S2048_S1x2048

theorem normRow_apply (w : InProj.Norm) (k : Fin 2048) : normRow w (ix2 0 k) = w (ix1 k) := by
  unfold normRow
  pointwise

/-- The weight. -/
def weight (w : S2048x2048.Idx → EReal) : S2048x2048.Idx → EReal :=
  (truncf (F := Ideal) .bf16 · bitsLt_bf16_f32) (w : FVec Ideal S2048x2048 .f32)

theorem weight_apply (w : S2048x2048.Idx → EReal) (k : Fin 2048) (j : Fin 2048) : weight w (ix2 k j) = w (ix2 k j) := by
  unfold weight
  pointwise

variable (m : (ℓ : Loc nD τ sig) → Buf (Elt Ideal) ℓ)

/-- The joint array the call reads is the argument. -/
theorem V_joint (c : Dev nD) : V m c main_arg0 = m ((c : Thread nD τ).loc main_arg0) := V_main_arg0 m c

/-- The modulation the call reads. -/
theorem V_mod (c : Dev nD) : V m c main_v0 = parts (m ((c : Thread nD τ).loc main_arg1)) := by
  simp only [V, hostOps0]
  after_results <;> rfl

/-- The norm's weight the call reads. -/
theorem V_norm (c : Dev nD) : V m c main_v2 = normRow (m ((c : Thread nD τ).loc main_arg2)) := by
  simp only [V, hostOps0]
  after_results <;> rfl

/-- The weight the call reads. -/
theorem V_weight (c : Dev nD) : V m c main_v1 = weight (m ((c : Thread nD τ).loc main_arg3)) := by
  simp only [V, hostOps0]
  after_results <;> rfl

end Cert.Kernel7Ideal.Peer

end
-- ==== Proof.PeerQueryArray.lean ====
/-
  The two arrays that the expert queries' call leaves: every block a grid point writes back is a block of one function
  of the arguments, and the blocks tile the array.
-/
module

public import proofs.«01_k».proof.Proof.PeerQueryScratch
public import proofs.«01_k».proof.Proof.PeerQueryHost

@[expose] public section

noncomputable section

namespace Cert.Kernel7Ideal.Peer

open Cert.Kernel7Ideal Cert.Kernel7Ideal.Gen Idealize.ShloMosaic Idealize.ShloMosaic.TcCoe Idealize.SL.Sem

variable (m : (ℓ : Loc nD τ sig) → Buf (Elt Ideal) ℓ) (ρ : Dev nD → PrngReg)

/-- The joint array of device `c`. -/
abbrev Hj (c : Dev nD) : PeerQuery.Joint := m ((c : Thread nD τ).loc main_arg0)

/-- The modulation of device `c`. -/
abbrev Md (c : Dev nD) : InProj.Mod := m ((c : Thread nD τ).loc main_arg1)

/-- The norm's weight of device `c`. -/
abbrev Nw (c : Dev nD) : InProj.Norm := m ((c : Thread nD τ).loc main_arg2)

/-- The weight of device `c`. -/
abbrev W (c : Dev nD) : S2048x2048.Idx → EReal := m ((c : Thread nD τ).loc main_arg3)

/-- The joint array's block moves with the sequence and the row block. -/
theorem idx0 : ∀ t : Fin cfg0.N, win0_0.index t 0 = t.val / 18 ∧ win0_0.index t 1 = t.val / 2 % 9 ∧ win0_0.index t 2 = 0 :=
  (by decide +kernel : ∀ t : Fin grid0.N, win0_0.index t 0 = t.val / 18 ∧ win0_0.index t 1 = t.val / 2 % 9 ∧ win0_0.index t 2 = 0)

/-- The norm's weight does not move. -/
theorem idx1 : ∀ t : Fin cfg0.N, win0_1.index t 0 = 0 ∧ win0_1.index t 1 = 0 :=
  (by decide +kernel : ∀ t : Fin grid0.N, win0_1.index t 0 = 0 ∧ win0_1.index t 1 = 0)

/-- The modulation's block holds all parts of one row. -/
theorem idx2 : ∀ t : Fin cfg0.N, win0_2.index t 0 = (if t.val / 2 % 9 = 0 then 16 else t.val / 18) ∧ win0_2.index t 1 = 0 ∧ win0_2.index t 2 = 0 :=
  (by decide +kernel : ∀ t : Fin grid0.N, win0_2.index t 0 = (if t.val / 2 % 9 = 0 then 16 else t.val / 18) ∧ win0_2.index t 1 = 0 ∧ win0_2.index t 2 = 0)

/-- The weight's block moves with the column block. -/
theorem idx3 : ∀ t : Fin cfg0.N, win0_3.index t 0 = 0 ∧ win0_3.index t 1 = t.val % 2 :=
  (by decide +kernel : ∀ t : Fin grid0.N, win0_3.index t 0 = 0 ∧ win0_3.index t 1 = t.val % 2)

/-- The result's block moves with the sequence, the row block and the column block. -/
theorem idx4 : ∀ t : Fin cfg0.N, win0_4.index t 0 = t.val / 18 ∧ win0_4.index t 1 = t.val / 2 % 9 ∧ win0_4.index t 2 = t.val % 2 :=
  (by decide +kernel : ∀ t : Fin grid0.N, win0_4.index t 0 = t.val / 18 ∧ win0_4.index t 1 = t.val / 2 % 9 ∧ win0_4.index t 2 = t.val % 2)

theorem lt_N (t : Fin cfg0.N) : t.val < 288 := lt_of_lt_of_eq t.isLt N_0

/-- The sequence of a grid point. -/
def bOf (t : Fin cfg0.N) : Fin 16 := ⟨t.val / 18, by have := lt_N t; omega⟩

/-- Row `r` of a grid point's block of rows. -/
def rOf (t : Fin cfg0.N) (r : Fin 256) : Fin 2304 := ⟨t.val / 2 % 9 * 256 + r, by omega⟩

/-- Column `d` of a grid point's block of columns. -/
def jOf (t : Fin cfg0.N) (d : Fin 1024) : Fin 2048 := ⟨t.val % 2 * 1024 + d, by omega⟩

/-- The modulation row of a grid point: the context's for the first block of rows, else the sequence's. -/
def gOf (t : Fin cfg0.N) : Fin 17 := if t.val / 2 % 9 = 0 then 16 else ⟨t.val / 18, by have := lt_N t; omega⟩

theorem gOf_val (t : Fin cfg0.N) : (gOf t).val = if t.val / 2 % 9 = 0 then 16 else t.val / 18 := by
  unfold gOf
  split <;> rfl

/-- A block's rows have one modulation row. -/
theorem gOf_eq (t : Fin cfg0.N) (r : Fin 256) : gOf t = InProj.modRow (bOf t) (rOf t r) := by
  have hr : (rOf t r).val = t.val / 2 % 9 * 256 + r.val := rfl
  unfold gOf InProj.modRow
  by_cases h : t.val / 2 % 9 = 0
  · rw [if_pos h, if_pos (by omega)]
  · rw [if_neg h, if_neg (by omega)]
    rfl

/-- Where the joint array's block at a point lies. -/
theorem joint_read (t : Fin cfg0.N) (A : S16x2304x2048.Idx → EReal) (r : Fin 256) (k : Fin 2048) :
    (((cfg0.win 0).blk t).view.read (Elt Ideal) A : S1x256x2048.Idx → EReal) (ix3 0 r k) = A (ix3 (bOf t) (rOf t r) k) := by
  obtain ⟨i0, i1, i2⟩ := idx0 t
  rw [View.read_apply]
  show A _ = A _
  congr 1
  funext a
  apply Fin.ext
  match a with
  | ⟨0, _⟩ => show win0_0.index t 0 * 1 + 1 * 0 = t.val / 18; omega
  | ⟨1, _⟩ => show win0_0.index t 1 * 256 + 1 * r.val = t.val / 2 % 9 * 256 + r.val; omega
  | ⟨2, _⟩ => show win0_0.index t 2 * 2048 + 1 * k.val = k.val; omega

/-- The norm's weight is read whole. -/
theorem norm_read (t : Fin cfg0.N) (A : S1x2048.Idx → EReal) (k : Fin 2048) :
    (((cfg0.win 1).blk t).view.read (Elt Ideal) A : S1x2048.Idx → EReal) (ix2 0 k) = A (ix2 0 k) := by
  obtain ⟨i0, i1⟩ := idx1 t
  rw [View.read_apply]
  show A _ = A _
  congr 1
  funext a
  apply Fin.ext
  match a with
  | ⟨0, _⟩ => show win0_1.index t 0 * 1 + 1 * 0 = 0; omega
  | ⟨1, _⟩ => show win0_1.index t 1 * 2048 + 1 * k.val = k.val; omega

/-- Where the modulation's block at a point lies. -/
theorem mod_read (t : Fin cfg0.N) (A : S17x6x2048.Idx → EReal) (p : Fin 6) (k : Fin 2048) :
    (((cfg0.win 2).blk t).view.read (Elt Ideal) A : S1x6x2048.Idx → EReal) (ix3 0 p k) = A (ix3 (gOf t) p k) := by
  obtain ⟨i0, i1, i2⟩ := idx2 t
  have hg := gOf_val t
  rw [View.read_apply]
  show A _ = A _
  congr 1
  funext a
  apply Fin.ext
  match a with
  | ⟨0, _⟩ => show win0_2.index t 0 * 1 + 1 * 0 = (gOf t).val; rw [hg, i0, Nat.mul_one, Nat.mul_zero, Nat.add_zero]
  | ⟨1, _⟩ => show win0_2.index t 1 * 6 + 1 * p.val = p.val; omega
  | ⟨2, _⟩ => show win0_2.index t 2 * 2048 + 1 * k.val = k.val; omega

/-- Where the weight's block at a point lies. -/
theorem weight_read (t : Fin cfg0.N) (A : S2048x2048.Idx → EReal) (k : Fin 2048) (d : Fin 1024) :
    (((cfg0.win 3).blk t).view.read (Elt Ideal) A : S2048x1024.Idx → EReal) (ix2 k d) = A (ix2 k (jOf t d)) := by
  obtain ⟨i0, i1⟩ := idx3 t
  rw [View.read_apply]
  show A _ = A _
  congr 1
  funext a
  apply Fin.ext
  match a with
  | ⟨0, _⟩ => show win0_3.index t 0 * 2048 + 1 * k.val = k.val; omega
  | ⟨1, _⟩ => show win0_3.index t 1 * 1024 + 1 * d.val = t.val % 2 * 1024 + d.val; omega

/-- The joint array's block at a point. -/
theorem joint_blk (c : Dev nD) (t : Fin cfg0.N) (r : Fin 256) (k : Fin 2048) :
    (iblk m c 0 t : Vec Ideal S1x256x2048 .f32) (ix3 0 r k) = Hj m c (ix3 (bOf t) (rOf t r) k) := by
  have h : iblk m c 0 t = ((cfg0.win 0).blk t).view.read (Elt Ideal) (Hj m c) :=
    congrArg (fun A => ((cfg0.win 0).blk t).view.read (Elt Ideal) A) (V_joint m c)
  rw [h]
  exact joint_read t _ r k

/-- The norm's weight at a point. -/
theorem norm_blk (c : Dev nD) (t : Fin cfg0.N) (k : Fin 2048) :
    (iblk m c 1 t : Vec Ideal S1x2048 .f32) (ix2 0 k) = Nw m c (ix1 k) := by
  have h : iblk m c 1 t = ((cfg0.win 1).blk t).view.read (Elt Ideal) (normRow (Nw m c)) :=
    congrArg (fun A => ((cfg0.win 1).blk t).view.read (Elt Ideal) A) (V_norm m c)
  rw [h]
  exact (norm_read t _ k).trans (normRow_apply (Nw m c) k)

/-- The modulation's block at a point. -/
theorem mod_blk (c : Dev nD) (t : Fin cfg0.N) (p : Fin 6) (k : Fin 2048) :
    (iblk m c 2 t : Vec Ideal S1x6x2048 .f32) (ix3 0 p k) = Md m c (ix2 (gOf t) ⟨p * 2048 + k, by omega⟩) := by
  have h : iblk m c 2 t = ((cfg0.win 2).blk t).view.read (Elt Ideal) (parts (Md m c)) :=
    congrArg (fun A => ((cfg0.win 2).blk t).view.read (Elt Ideal) A) (V_mod m c)
  rw [h]
  exact (mod_read t _ p k).trans (parts_apply (Md m c) (gOf t) p k)

/-- The weight's block at a point. -/
theorem weight_blk (c : Dev nD) (t : Fin cfg0.N) (k : Fin 2048) (d : Fin 1024) :
    (iblk m c 3 t : Vec Ideal S2048x1024 .bf16) (ix2 k d) = W m c (ix2 k (jOf t d)) := by
  have h : iblk m c 3 t = ((cfg0.win 3).blk t).view.read (Elt Ideal) (weight (W m c)) :=
    congrArg (fun A => ((cfg0.win 3).blk t).view.read (Elt Ideal) A) (V_weight m c)
  rw [h]
  exact (weight_read t _ k d).trans (weight_apply (W m c) k (jOf t d))

/-- Reading the fourth part of a modulation block. -/
theorem ld_shift (X : S1x6x2048.Idx → EReal) (inb : ∀ a, (![0, 3, 0] : Fin 3 → Nat) a + S1x1x2048.size a ≤ S1x6x2048.size a) (k : Fin 2048) :
    (View.ld (Val := Elt Ideal) (e' := .f32) X (Rect.unit (s := S1x6x2048) ![0, 3, 0] S1x1x2048.size inb) : S1x1x2048.Idx → EReal)
      (ix3 0 0 k) = X (ix3 0 3 k) := by
  show X _ = X _
  congr 1
  funext a
  apply Fin.ext
  match a with
  | ⟨0, _⟩ => rfl
  | ⟨1, _⟩ => rfl
  | ⟨2, _⟩ => show 0 + 1 * k.val = k.val; omega

/-- Reading the fifth part of a modulation block. -/
theorem ld_scale (X : S1x6x2048.Idx → EReal) (inb : ∀ a, (![0, 4, 0] : Fin 3 → Nat) a + S1x1x2048.size a ≤ S1x6x2048.size a) (k : Fin 2048) :
    (View.ld (Val := Elt Ideal) (e' := .f32) X (Rect.unit (s := S1x6x2048) ![0, 4, 0] S1x1x2048.size inb) : S1x1x2048.Idx → EReal)
      (ix3 0 0 k) = X (ix3 0 4 k) := by
  show X _ = X _
  congr 1
  funext a
  apply Fin.ext
  match a with
  | ⟨0, _⟩ => rfl
  | ⟨1, _⟩ => rfl
  | ⟨2, _⟩ => show 0 + 1 * k.val = k.val; omega

/-- The shift at a point. -/
theorem shift_blk (c : Dev nD) (t : Fin cfg0.N) (inb) (k : Fin 2048) :
    (View.ld (iblk m c 2 t : Vec Ideal S1x6x2048 .f32) (Rect.unit (s := S1x6x2048) ![0, 3, 0] S1x1x2048.size inb) : S1x1x2048.Idx → EReal)
      (ix3 0 0 k) = Md m c (ix2 (gOf t) ⟨6144 + k, by omega⟩) :=
  (ld_shift (iblk m c 2 t) inb k).trans ((mod_blk m c t 3 k).trans (congrArg (fun z => Md m c (ix2 (gOf t) z))
    (Fin.ext (by show 3 * 2048 + k.val = 6144 + k.val; omega))))

/-- The scale at a point. -/
theorem scale_blk (c : Dev nD) (t : Fin cfg0.N) (inb) (k : Fin 2048) :
    (View.ld (iblk m c 2 t : Vec Ideal S1x6x2048 .f32) (Rect.unit (s := S1x6x2048) ![0, 4, 0] S1x1x2048.size inb) : S1x1x2048.Idx → EReal)
      (ix3 0 0 k) = Md m c (ix2 (gOf t) ⟨8192 + k, by omega⟩) :=
  (ld_scale (iblk m c 2 t) inb k).trans ((mod_blk m c t 4 k).trans (congrArg (fun z => Md m c (ix2 (gOf t) z))
    (Fin.ext (by show 4 * 2048 + k.val = 8192 + k.val; omega))))

/-- Entry `k` of the normalised row `r` of sequence `b`. -/
def N (c : Dev nD) (b : Fin 16) (r : Fin 2304) (k : Fin 2048) : EReal :=
  PeerQuery.normed (fun k => Hj m c (ix3 b r k)) (Nw m c) (Md m c) (InProj.modRow b r) k

/-- The normalised rows a point computes. -/
theorem point_apply (c : Dev nD) (t : Fin cfg0.N) (r : Fin 256) (k : Fin 2048) :
    k0_pay1 (F := Ideal) (iblk m c 0 t) (iblk m c 1 t)
    (View.ld (iblk m c 2 t : Vec Ideal S1x6x2048 .f32) (Rect.unit (s := S1x6x2048) ![0, 3, 0] S1x1x2048.size inb_S1x6x2048_S1x1x2048_0_3_0))
    (View.ld (iblk m c 2 t : Vec Ideal S1x6x2048 .f32) (Rect.unit (s := S1x6x2048) ![0, 4, 0] S1x1x2048.size inb_S1x6x2048_S1x1x2048_0_4_0)) (ix2 r k) = N m c (bOf t) (rOf t r) k := by
  refine (pay1_apply _ _ _ _ r k).trans ?_
  unfold N PeerQuery.normed
  rw [← gOf_eq t r, shift_blk m c t _ k, scale_blk m c t _ k, norm_blk m c t k, joint_blk m c t r k]
  have hs : ∀ X : S1x256x2048.Idx → EReal, (∀ e, X (ix3 0 r e) = Hj m c (ix3 (bOf t) (rOf t r) e)) →
      (∑ e : Fin 2048, X (ix3 0 r e) * X (ix3 0 r e))
        = ∑ e : Fin 2048, Hj m c (ix3 (bOf t) (rOf t r) e) * Hj m c (ix3 (bOf t) (rOf t r) e) :=
    fun X hX => Finset.sum_congr rfl fun e _ => congrArg₂ (· * ·) (hX e) (hX e)
  rw [hs (iblk m c 0 t) (fun e => joint_blk m c t r e)]

/-- The normalised rows a point keeps. -/
theorem rows_apply (c : Dev nD) (t : Fin cfg0.N) (r : Fin 256) (k : Fin 2048) :
    rows m c t (ix2 r k) = N m c (bOf t) (rOf t r) k := by
  unfold rows
  refine (pay2_apply _ _ _ _ r k).trans ?_
  exact point_apply m c t r k

/-- The normalised rows a point stores. -/
theorem rowsOut_apply (c : Dev nD) (t : Fin cfg0.N) (r : Fin 256) (k : Fin 2048) :
    rowsOut m c t (ix3 0 r k) = N m c (bOf t) (rOf t r) k := by
  unfold rowsOut
  refine (pay3_apply _ _ _ _ r k).trans ?_
  exact point_apply m c t r k

/-- What a point keeps: the normalised rows of its row block, for every column block. -/
theorem kept (c : Dev nD) (n : Nat) : ∀ (hn : n < cfg0.N) (r : Fin 256) (k : Fin 2048),
    (outsAt0 m c n hn).2.2 (ix2 r k) = N m c (bOf ⟨n, hn⟩) (rOf ⟨n, hn⟩ r) k := by
  induction n with
  | zero =>
    intro hn r k
    exact (congrFun (kept_A m c ⟨0, hn⟩ rfl) (ix2 r k)).trans (rows_apply m c ⟨0, hn⟩ r k)
  | succ n ih =>
    intro hn r k
    by_cases h0 : (n + 1) % 2 = 0
    · exact (congrFun (kept_A m c ⟨n + 1, hn⟩ h0) (ix2 r k)).trans (rows_apply m c ⟨n + 1, hn⟩ r k)
    · have e : (outsAt0 m c (n + 1) hn).2.2 = (outsAt0 m c n (Nat.lt_of_succ_lt hn)).2.2 := kept_B m c ⟨n + 1, hn⟩ h0
      have hd : (n + 1) / 2 = n / 2 := by omega
      have hp : (n + 1) / 18 = n / 18 := by omega
      have hb : bOf ⟨n + 1, hn⟩ = bOf ⟨n, Nat.lt_of_succ_lt hn⟩ := Fin.ext hp
      have hr : rOf ⟨n + 1, hn⟩ r = rOf ⟨n, Nat.lt_of_succ_lt hn⟩ r :=
        Fin.ext (congrArg (fun z => z % 9 * 256 + r.val) hd)
      rw [e, hb, hr]
      exact ih (Nat.lt_of_succ_lt hn) r k

/-- What a point leaves in the normalised rows' block: the normalised rows of its row block, stored there by it or by the
    point before. -/
theorem stored (c : Dev nD) (t : Fin cfg0.N) (r : Fin 256) (k : Fin 2048) :
    (outsAt0 m c t.val t.isLt).2.1 (ix3 0 r k) = N m c (bOf t) (rOf t r) k := by
  by_cases h0 : t.val % 2 = 0
  · exact (congrFun (stored_A m c t h0) (ix3 0 r k)).trans (rowsOut_apply m c t r k)
  · have hp : t.val - 1 < cfg0.N := Nat.lt_of_le_of_lt (Nat.sub_le _ _) t.isLt
    have hb : bOf t = bOf ⟨t.val - 1, hp⟩ := Fin.ext (show t.val / 18 = (t.val - 1) / 18 by omega)
    have hr : rOf t r = rOf ⟨t.val - 1, hp⟩ r :=
      Fin.ext (show t.val / 2 % 9 * 256 + r.val = (t.val - 1) / 2 % 9 * 256 + r.val by omega)
    rw [hb, hr]
    refine (congrFun (stored_B m c t h0) (ix3 0 r k)).trans ?_
    exact (congrFun (stored_A m c ⟨t.val - 1, hp⟩ (show (t.val - 1) % 2 = 0 by omega)) (ix3 0 r k)).trans
      (rowsOut_apply m c ⟨t.val - 1, hp⟩ r k)

/-- What the array of products holds at the end. -/
def G (c : Dev nD) (b : Fin 16) (r : Fin 2304) (j : Fin 2048) : EReal :=
  ∑ k : Fin 2048, N m c b r k * W m c (ix2 k j)

/-- The same, as an array. -/
def GA (c : Dev nD) : S16x2304x2048.Idx → EReal := fun i => G m c (i 0) (i 1) (i 2)

/-- Where a point's block lies in the array. -/
theorem o_read (t : Fin cfg0.N) (A : S16x2304x2048.Idx → EReal) (r : Fin 256) (d : Fin 1024) :
    (((cfg0.win 4).blk t).view.read (Elt Ideal) A : S1x256x1024.Idx → EReal) (ix3 0 r d) = A (ix3 (bOf t) (rOf t r) (jOf t d)) := by
  obtain ⟨i0, i1, i2⟩ := idx4 t
  rw [View.read_apply]
  show A _ = A _
  congr 1
  funext a
  apply Fin.ext
  match a with
  | ⟨0, _⟩ => show win0_4.index t 0 * 1 + 1 * 0 = t.val / 18; omega
  | ⟨1, _⟩ => show win0_4.index t 1 * 256 + 1 * r.val = t.val / 2 % 9 * 256 + r.val; omega
  | ⟨2, _⟩ => show win0_4.index t 2 * 1024 + 1 * d.val = t.val % 2 * 1024 + d.val; omega

/-- A block has one row of rows. -/
theorem eq_row (y : S1x256x1024.Idx) : ∃ (r : Fin 256) (d : Fin 1024), y = ix3 0 r d :=
  ⟨y 1, y 2, by
    funext a
    match a with
    | ⟨0, _⟩ => exact Subsingleton.elim (α := Fin 1) _ _
    | ⟨1, _⟩ => rfl
    | ⟨2, _⟩ => rfl⟩

/-- The product of a point's normalised rows with its weight block is its block of the array. -/
theorem block (c : Dev nD) (t : Fin cfg0.N) (a : Vec Ideal S256x2048 .bf16)
    (ha : ∀ (r : Fin 256) (k : Fin 2048), a (ix2 r k) = N m c (bOf t) (rOf t r) k) (r : Fin 256) (d : Fin 1024) :
    k0_pay4 (F := Ideal) a (iblk m c 3 t) (ix3 0 r d) = G m c (bOf t) (rOf t r) (jOf t d) := by
  refine (pay4_apply _ _ r d).trans ?_
  unfold G
  exact Finset.sum_congr rfl fun k _ => congrArg₂ (· * ·) (ha r k) (weight_blk m c t k d)

/-- What a point writes, entry by entry. -/
theorem wrote (c : Dev nD) (t : Fin cfg0.N) (r : Fin 256) (d : Fin 1024) :
    (outsAt0 m c t.val t.isLt).1 (ix3 0 r d) = G m c (bOf t) (rOf t r) (jOf t d) := by
  by_cases h0 : t.val % 2 = 0
  · exact (congrFun (wrote_A m c t h0) (ix3 0 r d)).trans (block m c t _ (rows_apply m c t) r d)
  · refine (congrFun (wrote_B m c t h0) (ix3 0 r d)).trans (block m c t _ (fun r k => ?_) r d)
    have e := kept_B m c t h0
    exact (congrFun e (ix2 r k)).symm.trans (kept m c t.val t.isLt r k)

/-- The array's entries at a point's block, given the block entry by entry. -/
theorem eq_block (c : Dev nD) (t : Fin cfg0.N) (f : S1x256x1024.Idx → EReal)
    (hf : ∀ (r : Fin 256) (d : Fin 1024), f (ix3 0 r d) = G m c (bOf t) (rOf t r) (jOf t d))
    (y : S1x256x1024.Idx) : f y = ((cfg0.win 4).blk t).view.read (Elt Ideal) (GA m c) y := by
  obtain ⟨r, d, rfl⟩ := eq_row y
  exact (hf r d).trans (o_read t (GA m c) r d).symm

/-- Every point writes its block of the array. -/
theorem flushed_eq (c : Dev nD) (t : Fin cfg0.N) :
    (dats m 0 c).flushed 4 t = ((cfg0.win 4).blk t).view.read (Elt Ideal) (GA m c) := by
  have e : (dats m 0 c).flushed 4 t = (outsAt0 m c t.val t.isLt).1 :=
    congrArg ((cfg0.win 4).cut (grid0.coords t)) (after0_4 m c t)
  rw [e]
  funext y
  exact eq_block m c t _ (wrote m c t) y

/-- The blocks tile the array. -/
theorem cover (i : S16x2304x2048.Idx) :
    ∃ t : Fin cfg0.N, (cfg0.win 4).flush t = true ∧ i ∈ ((cfg0.win 4).blk t).view.set := by
  have h0 : (i 0).val < 16 := (i 0).isLt
  have h1 : (i 1).val < 2304 := (i 1).isLt
  have h2 : (i 2).val < 2048 := (i 2).isLt
  let t : Fin cfg0.N := ⟨(i 0).val * 18 + (i 1).val / 256 * 2 + (i 2).val / 1024, by rw [show cfg0.N = 288 from N_0]; omega⟩
  have ht : t.val = (i 0).val * 18 + (i 1).val / 256 * 2 + (i 2).val / 1024 := rfl
  obtain ⟨e0, e1, e2⟩ := idx4 t
  refine ⟨t, flush0_4 t, ?_⟩
  show i ∈ ((View.whole main_v3_0).slice (win0_4.rect t)).set
  rw [View.set_slice_whole, Rect.mem_set_unit]
  intro a
  match a with
  | ⟨0, _⟩ => show win0_4.index t 0 * 1 ≤ (i 0).val ∧ (i 0).val < win0_4.index t 0 * 1 + 1; omega
  | ⟨1, _⟩ => show win0_4.index t 1 * 256 ≤ (i 1).val ∧ (i 1).val < win0_4.index t 1 * 256 + 256; omega
  | ⟨2, _⟩ => show win0_4.index t 2 * 1024 ≤ (i 2).val ∧ (i 2).val < win0_4.index t 2 * 1024 + 1024; omega

/-- So the array ends holding the expert queries. -/
theorem final (c : Dev nD) : (dats m 0 c).arrAt 4 cfg0.N = GA m c :=
  (dats m 0 c).arrAt_eq_of_cover 4 (GA m c) (fun t _ => flushed_eq m c t) cover

/-- What the array of normalised rows holds at the end. -/
def NA (c : Dev nD) : S16x2304x2048.Idx → EReal := fun i => N m c (i 0) (i 1) (i 2)

/-- The normalised rows' block moves with the sequence and the row block. -/
theorem idx5 : ∀ t : Fin cfg0.N, win0_5.index t 0 = t.val / 18 ∧ win0_5.index t 1 = t.val / 2 % 9 ∧ win0_5.index t 2 = 0 :=
  (by decide +kernel : ∀ t : Fin grid0.N, win0_5.index t 0 = t.val / 18 ∧ win0_5.index t 1 = t.val / 2 % 9 ∧ win0_5.index t 2 = 0)

/-- Where a point's block of normalised rows lies in the array. -/
theorem f_read (t : Fin cfg0.N) (A : S16x2304x2048.Idx → EReal) (r : Fin 256) (k : Fin 2048) :
    (((cfg0.win 5).blk t).view.read (Elt Ideal) A : S1x256x2048.Idx → EReal) (ix3 0 r k) = A (ix3 (bOf t) (rOf t r) k) := by
  obtain ⟨i0, i1, i2⟩ := idx5 t
  rw [View.read_apply]
  show A _ = A _
  congr 1
  funext a
  apply Fin.ext
  match a with
  | ⟨0, _⟩ => show win0_5.index t 0 * 1 + 1 * 0 = t.val / 18; omega
  | ⟨1, _⟩ => show win0_5.index t 1 * 256 + 1 * r.val = t.val / 2 % 9 * 256 + r.val; omega
  | ⟨2, _⟩ => show win0_5.index t 2 * 2048 + 1 * k.val = k.val; omega

/-- The array's entries at a point's block of normalised rows, given the block entry by entry. -/
theorem eq_rows (c : Dev nD) (t : Fin cfg0.N) (f : S1x256x2048.Idx → EReal)
    (hf : ∀ (r : Fin 256) (k : Fin 2048), f (ix3 0 r k) = N m c (bOf t) (rOf t r) k)
    (y : S1x256x2048.Idx) : f y = ((cfg0.win 5).blk t).view.read (Elt Ideal) (NA m c) y := by
  obtain ⟨r, k, rfl⟩ : ∃ (r : Fin 256) (k : Fin 2048), y = ix3 0 r k :=
    ⟨y 1, y 2, by
      funext a
      match a with
      | ⟨0, _⟩ => exact Subsingleton.elim (α := Fin 1) _ _
      | ⟨1, _⟩ => rfl
      | ⟨2, _⟩ => rfl⟩
  exact (hf r k).trans (f_read t (NA m c) r k).symm

/-- Every point that writes the normalised rows back writes its block of the array. -/
theorem flushedRows_eq (c : Dev nD) (t : Fin cfg0.N) :
    (dats m 0 c).flushed 5 t = ((cfg0.win 5).blk t).view.read (Elt Ideal) (NA m c) := by
  have e : (dats m 0 c).flushed 5 t = (outsAt0 m c t.val t.isLt).2.1 :=
    congrArg ((cfg0.win 5).cut (grid0.coords t)) (after0_5 m c t)
  rw [e]
  funext y
  exact eq_rows m c t _ (stored m c t) y

/-- These blocks tile the array. -/
theorem coverRows (i : S16x2304x2048.Idx) :
    ∃ t : Fin cfg0.N, (cfg0.win 5).flush t = true ∧ i ∈ ((cfg0.win 5).blk t).view.set := by
  have h0 : (i 0).val < 16 := (i 0).isLt
  have h1 : (i 1).val < 2304 := (i 1).isLt
  have h2 : (i 2).val < 2048 := (i 2).isLt
  let t : Fin cfg0.N := ⟨(i 0).val * 18 + (i 1).val / 256 * 2 + 1, by rw [show cfg0.N = 288 from N_0]; omega⟩
  have ht : t.val = (i 0).val * 18 + (i 1).val / 256 * 2 + 1 := rfl
  obtain ⟨e0, e1, e2⟩ := idx5 t
  refine ⟨t, (flush0_5 t).mpr (by omega), ?_⟩
  show i ∈ ((View.whole main_v3_1).slice (win0_5.rect t)).set
  rw [View.set_slice_whole, Rect.mem_set_unit]
  intro a
  match a with
  | ⟨0, _⟩ => show win0_5.index t 0 * 1 ≤ (i 0).val ∧ (i 0).val < win0_5.index t 0 * 1 + 1; omega
  | ⟨1, _⟩ => show win0_5.index t 1 * 256 ≤ (i 1).val ∧ (i 1).val < win0_5.index t 1 * 256 + 256; omega
  | ⟨2, _⟩ => show win0_5.index t 2 * 2048 ≤ (i 2).val ∧ (i 2).val < win0_5.index t 2 * 2048 + 2048; omega

/-- So the array ends holding the normalised rows. -/
theorem finalRows (c : Dev nD) : (dats m 0 c).arrAt 5 cfg0.N = NA m c :=
  (dats m 0 c).arrAt_eq_of_cover 5 (NA m c) (fun t _ => flushedRows_eq m c t) coverRows

/-- The run, read: the first result holds the expert queries, the second the normalised rows, the arguments are
    unchanged. -/
theorem run : θ_run defs (onTc (τ := τ) (main (F := Ideal))) ⟨m, fun _ => 0, ρ⟩ fun r => ∀ c : Dev nD,
      r.2.mem ((c : Thread nD τ).loc main_v3_0) = GA m c
      ∧ r.2.mem ((c : Thread nD τ).loc main_v3_1) = NA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).1 4).trans (final m c), ((h.1 c).1 5).trans (finalRows m c), h.2 c⟩)
    (θ_run_and (run_main m ρ) (unchanged m ρ))

end Cert.Kernel7Ideal.Peer

end
-- ==== Proof.PeerQueryRef.lean ====
/-
  What the reference of the expert queries computes, entry by entry.
-/
module

public import proofs.«01_k».proof.Proof.PeerQuerySpec
public import proofs.«01_k».proof.Proof.Gen.Reference7Ideal.Read
public import Idealize.ShloMosaic.Lib.Pointwise

@[expose] public section

noncomputable section

namespace Cert.Reference7Ideal.Peer

open Cert.Reference7Ideal Cert.Reference7Ideal.Gen Cert.Reference7Ideal.Read Idealize.ShloMosaic Idealize.ShloMosaic.TcCoe

variable (h : PeerQuery.Joint) (md : InProj.Mod) (nw : InProj.Norm) (w : S2048x2048.Idx → EReal) (b : Fin 16)

/-- A sequence's row. -/
theorem row_x (r : Fin 2048) (k : Fin 2048) : val_main_v16 (F := Ideal) h (ix3 b r k) = h (ix3 b ⟨256 + r, by omega⟩ k) := by
  unfold val_main_v16
  pointwise

/-- A context's row. -/
theorem row_c (r : Fin 256) (k : Fin 2048) : val_main_v36 (F := Ideal) h (ix3 b r k) = h (ix3 b ⟨r, by omega⟩ k) := by
  unfold val_main_v36
  pointwise

/-- A sequence's row scaled by its mean square. -/
theorem scaled_x (r : Fin 2048) (k : Fin 2048) : val_main_v29 (F := Ideal) h nw (ix3 b r k)
    = h (ix3 b ⟨256 + r, by omega⟩ k) * Ideal.rsqrt (Ideal.div (∑ e : Fin 2048, h (ix3 b ⟨256 + r, by omega⟩ e) * h (ix3 b ⟨256 + r, by omega⟩ e)) (Ideal.ofBits .f32 0x45000000#32)
        + Ideal.ofBits .f32 0x358637BD#32) * nw (ix1 k) := by
  unfold val_main_v29 val_main_v28 val_main_v27 val_main_v26 val_main_v25 val_main_v24 val_main_v23 val_main_v22 val_main_v21
    val_main_v20 val_main_v19 val_main_v18 val_main_v17 val_main_cst val_main_cst_0 val_main_cst_1
  pointwise [row_x]

/-- A context's row scaled by its mean square. -/
theorem scaled_c (r : Fin 256) (k : Fin 2048) : val_main_v49 (F := Ideal) h nw (ix3 b r k)
    = h (ix3 b ⟨r, by omega⟩ k) * Ideal.rsqrt (Ideal.div (∑ e : Fin 2048, h (ix3 b ⟨r, by omega⟩ e) * h (ix3 b ⟨r, by omega⟩ e)) (Ideal.ofBits .f32 0x45000000#32)
        + Ideal.ofBits .f32 0x358637BD#32) * nw (ix1 k) := by
  unfold val_main_v49 val_main_v48 val_main_v47 val_main_v46 val_main_v45 val_main_v44 val_main_v43 val_main_v42 val_main_v41
    val_main_v40 val_main_v39 val_main_v38 val_main_v37 val_main_cst_3 val_main_cst_4 val_main_cst_5
  pointwise [row_c]

/-- The sequence's scale. -/
theorem scale_x (r : Fin 2048) (k : Fin 2048) : val_main_v32 (F := Ideal) md (ix3 b r k)
    = 1 + md (ix2 ⟨b, by omega⟩ ⟨8192 + k, by omega⟩) := by
  unfold val_main_v32 val_main_v31 val_main_v30 val_main_v6 val_main_v1 val_main_v0 val_main_cst_2
  pointwise

/-- The sequence's shift. -/
theorem shift_x (r : Fin 2048) (k : Fin 2048) : val_main_v34 (F := Ideal) md (ix3 b r k)
    = md (ix2 ⟨b, by omega⟩ ⟨6144 + k, by omega⟩) := by
  unfold val_main_v34 val_main_v5 val_main_v1 val_main_v0
  pointwise

/-- The context's scale. -/
theorem scale_c (r : Fin 256) (k : Fin 2048) : val_main_v52 (F := Ideal) md (ix3 b r k)
    = 1 + md (ix2 16 ⟨8192 + k, by omega⟩) := by
  unfold val_main_v52 val_main_v51 val_main_v50 val_main_v14 val_main_v9 val_main_v8 val_main_cst_6
  pointwise

/-- The context's shift. -/
theorem shift_c (r : Fin 256) (k : Fin 2048) : val_main_v54 (F := Ideal) md (ix3 b r k)
    = md (ix2 16 ⟨6144 + k, by omega⟩) := by
  unfold val_main_v54 val_main_v13 val_main_v9 val_main_v8
  pointwise

/-- A sequence's row normalised and modulated. -/
theorem normed_x (r : Fin 2048) (k : Fin 2048) : val_main_v35 (F := Ideal) h md nw (ix3 b r k)
    = PeerQuery.normed (fun k => h (ix3 b ⟨256 + r, by omega⟩ k)) nw md ⟨b, by omega⟩ k := by
  unfold val_main_v35 val_main_v33
  pointwise [scaled_x, scale_x, shift_x, PeerQuery.normed]

/-- A context's row normalised and modulated. -/
theorem normed_c (r : Fin 256) (k : Fin 2048) : val_main_v55 (F := Ideal) h md nw (ix3 b r k)
    = PeerQuery.normed (fun k => h (ix3 b ⟨r, by omega⟩ k)) nw md 16 k := by
  unfold val_main_v55 val_main_v53
  pointwise [scaled_c, scale_c, shift_c, PeerQuery.normed]

/-- All rows normalised and modulated, the context's first. -/
theorem rows (r : Fin 2304) (k : Fin 2048) : val_main_v56 (F := Ideal) h md nw (ix3 b r k)
    = PeerQuery.normed (fun k => h (ix3 b r k)) nw md (InProj.modRow b r) k := by
  unfold val_main_v56
  pointwise
  by_cases hr : r.val < 256
  · have g : InProj.modRow b r = 16 := if_pos hr
    rw [dif_pos hr, g]
    exact normed_c h md nw b ⟨r, hr⟩ k
  · have g : InProj.modRow b r = ⟨b, by omega⟩ := if_neg hr
    have e : r = ⟨256 + (r.val - 256), by omega⟩ := Fin.ext (show r.val = 256 + (r.val - 256) by omega)
    rw [dif_neg hr, g]
    refine (normed_x h md nw b ⟨r.val - 256, by omega⟩ k).trans ?_
    exact congrArg (fun s => PeerQuery.normed (fun k => h (ix3 b s k)) nw md ⟨b, by omega⟩ k) e.symm

/-- The second result: the rows. -/
theorem rows_out (r : Fin 2304) (k : Fin 2048) : val_main_v58 (F := Ideal) h md nw (ix3 b r k)
    = PeerQuery.normed (fun k => h (ix3 b r k)) nw md (InProj.modRow b r) k := by
  unfold val_main_v58
  pointwise [rows]

/-- The first result: their product with the weight. -/
theorem result (r : Fin 2304) (j : Fin 2048) : val_main_v57 (F := Ideal) h md nw w (ix3 b r j)
    = ∑ k : Fin 2048, PeerQuery.normed (fun k => h (ix3 b r k)) nw md (InProj.modRow b r) k * w (ix2 k j) := by
  unfold val_main_v57
  pointwise [rows]

end Cert.Reference7Ideal.Peer

end
-- ==== Proof.PeerQueryClaim.lean ====
/-
  The expert queries' call and its reference leave the same two arrays, whatever the arguments; all three programs
  terminate and leave their arguments as they were.
-/
module

public import proofs.«01_k».proof.Defs
public import proofs.«01_k».proof.Proof.PeerQueryArray
public import proofs.«01_k».proof.Proof.PeerQueryRef
public import proofs.«01_k».proof.Proof.Gen.Kernel7.Launch
public import proofs.«01_k».proof.Proof.Gen.Reference7Ideal.Run
public import Idealize.ShloMosaic.Lib.Quiescent

@[expose] public section

noncomputable section

namespace Cert.PeerQueryClaim

open Idealize.ShloMosaic Idealize.SL.Sem Idealize.ShloMosaic.TcCoe

/-- The two programs leave the same arrays. -/
theorem algebraic :
    Cert.algebraic_Kernel7Ideal_Reference7Ideal (hKernel7Ideal := Cert.Kernel7Ideal.Gen.facts)
      (hReference7Ideal := Cert.Reference7Ideal.Gen.facts) := by
  intro m ρ m' ρ' _ hag
  refine ⟨fun c => Cert.Kernel7Ideal.Peer.GA m c, fun c => Cert.Kernel7Ideal.Peer.NA m c, Cert.Kernel7Ideal.Peer.run m ρ,
    (θ_run _ _ _).mono (fun _ h c => ⟨(h c).1.trans ?_, (h c).2.1.trans ?_, (h c).2.2⟩) (Cert.Reference7Ideal.Value.run m' ρ')⟩
  · rw [Cert.Reference7Ideal.Read.val_main_v57_eq, (hag c).1, (hag c).2.1, (hag c).2.2.1, (hag c).2.2.2]
    funext i
    obtain ⟨b, r, j, rfl⟩ : ∃ (b : Fin 16) (r : Fin 2304) (j : Fin 2048), i = ix3 b r j := ⟨i 0, i 1, i 2, eq_ix3 i⟩
    exact Cert.Reference7Ideal.Peer.result _ _ _ _ b r j
  · rw [Cert.Reference7Ideal.Read.val_main_v58_eq, (hag c).1, (hag c).2.1, (hag c).2.2.1]
    funext i
    obtain ⟨b, r, k, rfl⟩ : ∃ (b : Fin 16) (r : Fin 2304) (k : Fin 2048), i = ix3 b r k := ⟨i 0, i 1, i 2, eq_ix3 i⟩
    exact Cert.Reference7Ideal.Peer.rows_out _ _ _ b r k

/-- The reading of the kernel at exact numbers terminates, leaves its arguments as they were and its counters at zero. -/
theorem idealFrame : Cert.quiescent_Kernel7Ideal (hKernel7Ideal := Cert.Kernel7Ideal.Gen.facts) := fun m ρ _ =>
  Cert.Kernel7Ideal.Peer.frame m ρ

/-- The two readings' kernel functions are one text. -/
theorem bodies_eq : Cert.Kernel7.defs₀ (F := Bits) = Cert.Kernel7Ideal.defs₀ (F := Bits) := by
  unfold Cert.Kernel7.defs₀ Cert.Kernel7Ideal.defs₀
  congr 1
  funext l a
  match l, a with
  | ⟨0, _⟩, (t, s) => rfl

/-- So are their pipelines. -/
theorem defs_eq : Cert.Kernel7.defs (F := Bits) = Cert.Kernel7Ideal.defs (F := Bits) :=
  congrArg (Pipeline.defs (Cert.Kernel7.pcfgs (F := Bits))) bodies_eq

/-- The kernel, the same text read at machine numbers, terminates, leaves its arguments as they were and its counters at zero. -/
theorem kernelFrame : Cert.quiescent_Kernel7 (hKernel7 := Cert.Kernel7.Gen.facts) := by
  intro m ρ _
  rw [defs_eq]
  exact Cert.Kernel7Ideal.Peer.frame (F := Bits) m ρ

/-- The reference terminates, leaves its arguments as they were and declares no semaphore. -/
theorem referenceFrame : Cert.quiescent_Reference7Ideal (hReference7Ideal := Cert.Reference7Ideal.Gen.facts) := fun m ρ _ =>
  (θ_run Cert.Reference7Ideal.defs _ _).mono (fun r h => And.intro (fun c => (h c).2.2) (sem_eq_zero_of_no_sems (by decide) r.2))
    (Cert.Reference7Ideal.Value.run (F := Ideal) m ρ)

end Cert.PeerQueryClaim

end
-- ==== Proof.PeerQuery8Block.lean ====
/-
  What one grid point of the second layer's expert queries computes: the normalised rows it keeps and stores, and their product with a
  block of the weight.
-/
module

public import proofs.«01_k».proof.Proof.Gen.Kernel8Ideal.Skeleton
public import Idealize.ShloMosaic.Lib.Pointwise

@[expose] public section

noncomputable section

namespace Cert.Kernel8Ideal.Peer

open Cert.Kernel8Ideal Cert.Kernel8Ideal.Gen Idealize.ShloMosaic

/-- The normalised rows' entry at row `r` and column `k`. -/
theorem pay1_apply (x : Vec Ideal S1x256x2048 .f32) (w : Vec Ideal S1x2048 .f32) (sh sc : Vec Ideal S1x1x2048 .f32)
    (r : Fin 256) (k : Fin 2048) :
    k0_pay1 (F := Ideal) x w sh sc (ix2 r k)
      = x (ix3 0 r k) * Ideal.rsqrt (Ideal.div (∑ e : Fin 2048, x (ix3 0 r e) * x (ix3 0 r e)) (Ideal.ofBits .f32 0x45000000#32)
            + Ideal.ofBits .f32 0x358637BD#32)
          * w (ix2 0 k) * (1 + sc (ix3 0 0 k))
        + sh (ix3 0 0 k) := by
  unfold k0_pay1
  pointwise

/-- The rows that are kept are the normalised rows. -/
theorem pay2_apply (x : Vec Ideal S1x256x2048 .f32) (w : Vec Ideal S1x2048 .f32) (sh sc : Vec Ideal S1x1x2048 .f32)
    (r : Fin 256) (k : Fin 2048) : k0_pay2 (F := Ideal) x w sh sc (ix2 r k) = k0_pay1 (F := Ideal) x w sh sc (ix2 r k) := by
  unfold k0_pay2
  generalize k0_pay1 (F := Ideal) x w sh sc = a
  pointwise

/-- The rows that are stored are the normalised rows. -/
theorem pay3_apply (x : Vec Ideal S1x256x2048 .f32) (w : Vec Ideal S1x2048 .f32) (sh sc : Vec Ideal S1x1x2048 .f32)
    (r : Fin 256) (k : Fin 2048) : k0_pay3 (F := Ideal) x w sh sc (ix3 0 r k) = k0_pay1 (F := Ideal) x w sh sc (ix2 r k) := by
  unfold k0_pay3
  generalize k0_pay1 (F := Ideal) x w sh sc = a
  pointwise

/-- The product's entry at row `r` and column `d`. -/
theorem pay4_apply (a : Vec Ideal S256x2048 .bf16) (w : Vec Ideal S2048x1024 .bf16) (r : Fin 256) (d : Fin 1024) :
    k0_pay4 (F := Ideal) a w (ix3 0 r d) = ∑ k : Fin 2048, a (ix2 r k) * w (ix2 k d) := by
  unfold k0_pay4
  pointwise

end Cert.Kernel8Ideal.Peer

end
-- ==== Proof.PeerQuery8Runs.lean ====
/-
  The second layer's expert queries' call up to its grid: what the grid finds in the arrays, the blocks of its windows, the body's
  condition and the buffers that the body is given.
-/
module

public import proofs.«01_k».proof.Proof.Gen.Kernel8Ideal.Launch
public import proofs.«01_k».proof.Proof.Gen.Kernel8Ideal.Skeleton
public import proofs.«01_k».proof.Proof.Gen.Kernel8Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel8Ideal.Peer

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Device `c`'s buffers when the grid starts: the arguments after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is the host operations, then the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t` of the array that the grid finds. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, fetched there or left from the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's buffer holds its block at every point, fetched there or left from the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's buffer holds its block at every point, fetched there or left from the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's buffer holds its block at every point, fetched there or left from the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The arguments end unchanged, from a run that leaves every array as the grid's writes say. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-- The body's condition: the grid's last coordinate is zero. -/
abbrev cond0_0 (i : grid0.Coords) : Prop := k0_cond1 i = 1#1
/-- It holds at the even points. -/
theorem hcond0_0 : ∀ t : Fin cfg0.N, cond0_0 (grid0.coords t) ↔ t.val % 2 = 0 :=
  (fun t => by
    have ht : t.val < 256 := Nat.lt_of_lt_of_eq t.isLt N_0
    have e0 : (grid0.coords t 0).val = t.val / 16 % 16 := Pipeline.Grid.coords_val t 0 (by decide) rfl
    have e1 : (grid0.coords t 1).val = t.val / 2 % 8 := Pipeline.Grid.coords_val t 1 (by decide) rfl
    have e2 : (grid0.coords t 2).val = t.val / 1 % 2 := Pipeline.Grid.coords_val t 2 (by decide) rfl
    simp only [cond0_0, k0_cond1, e0, e1, e2]
    word_cmp
   : ∀ t : Fin grid0.N, cond0_0 (grid0.coords t) ↔ t.val % 2 = 0)

/-- Window 0 is in use at every point. -/
theorem liveAt0_0 : ∀ t : Fin cfg0.N, cfg0.idle 0 (grid0.coords t) = false := fun _ => rfl
/-- Window 1 is in use at every point. -/
theorem liveAt0_1 : ∀ t : Fin cfg0.N, cfg0.idle 1 (grid0.coords t) = false := fun _ => rfl
/-- Window 2 is in use at every point. -/
theorem liveAt0_2 : ∀ t : Fin cfg0.N, cfg0.idle 2 (grid0.coords t) = false := fun _ => rfl
/-- Window 3 is in use at every point. -/
theorem liveAt0_3 : ∀ t : Fin cfg0.N, cfg0.idle 3 (grid0.coords t) = false := fun _ => rfl
/-- Window 4 is in use at every point. -/
theorem liveAt0_4 : ∀ t : Fin cfg0.N, cfg0.idle 4 (grid0.coords t) = false := fun _ => rfl
/-- Where the condition holds the body stores the normalised rows' block. -/
theorem liveAt0_5_A : ∀ t : Fin cfg0.N, cond0_0 (grid0.coords t) → cfg0.idle 5 (grid0.coords t) = false := by decide +kernel

/-- Where it fails the body leaves that block's buffer alone. -/
theorem idleAt0_5_B : ∀ t : Fin cfg0.N, ¬cond0_0 (grid0.coords t) → cfg0.idle 5 (grid0.coords t) = true := by decide +kernel

/-- The block of the product, as a view of one of its buffers. -/
abbrev VO0_4 : View sig .tc .vmem S1x256x1024 .f32 := (Memref.whole cc0_stg4_0 : Memref sig .tc .vmem S1x256x1024 .f32).view
/-- The block of the normalised rows, as a view of one of its buffers. -/
abbrev VO0_5 : View sig .tc .vmem S1x256x2048 .bf16 := (Memref.whole cc0_stg5_0 : Memref sig .tc .vmem S1x256x2048 .bf16).view
/-- The buffer that the body finds the array of rows's block in at point `t`, a whole buffer. -/
abbrev ms0_0 (t : Fin cfg0.N) : Memref sig .tc .vmem S1x256x2048 .f32 := win0_0.stage (cfg0.slots t 0)
abbrev hs0_0 (t : Fin cfg0.N) : (ms0_0 t).IsWhole := hstage0_0 ((cfg0.slots t 0).cast nbuf0_0)
/-- The buffer that the body finds the norm's weight's block in at point `t`, a whole buffer. -/
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
/-- The buffer that the body finds the modulation's block in at point `t`, a whole buffer. -/
abbrev ms0_2 (t : Fin cfg0.N) : Memref sig .tc .vmem S1x6x2048 .f32 := win0_2.stage (cfg0.slots t 2)
abbrev hs0_2 (t : Fin cfg0.N) : (ms0_2 t).IsWhole := hstage0_2 ((cfg0.slots t 2).cast nbuf0_2)
/-- The buffer that the body finds the weight's block in at point `t`, a whole buffer. -/
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
/-- The buffer that the body finds the product's block in at point `t`, a whole buffer. -/
abbrev ms0_4 (t : Fin cfg0.N) : Memref sig .tc .vmem S1x256x1024 .f32 := win0_4.stage (cfg0.slots t 4)
abbrev hs0_4 (t : Fin cfg0.N) : (ms0_4 t).IsWhole := hstage0_4 ((cfg0.slots t 4).cast nbuf0_4)
/-- The buffer that the body finds the normalised rows's block in at point `t`, a whole buffer. -/
abbrev ms0_5 (t : Fin cfg0.N) : Memref sig .tc .vmem S1x256x2048 .bf16 := win0_5.stage (cfg0.slots t 5)
abbrev hs0_5 (t : Fin cfg0.N) : (ms0_5 t).IsWhole := hstage0_5 ((cfg0.slots t 5).cast nbuf0_5)

/-- The buffer that keeps the normalised rows between points. -/
abbrev scM0_0 : Memref sig .tc .vmem S256x2048 .bf16 := Memref.whole cc0_scratch0

/-- The same, as a view. -/
abbrev VS0_0 : View sig .tc .vmem S256x2048 .bf16 := scM0_0.view

/-- The kept buffer at some contents and the generator's register: what the grid starts from. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel8Ideal.Peer

end
-- ==== Proof.PeerQuery8RunA.lean ====
/-
  The body at the first point of a block of rows: it computes the normalised rows, keeps and stores them, and stores
  their product with its block of the weight.
-/
module

public import proofs.«01_k».proof.Proof.PeerQuery8Runs

@[expose] public section

set_option maxRecDepth 16384

noncomputable section

namespace Cert.Kernel8Ideal.Peer

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces that the body leaves in the product's block, the normalised rows' block and the kept buffer, with the
    proof that it runs, whatever these three held, and leaves its inputs as they were. -/
def kernelRun0_A (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S2048x1024 .bf16) (harg6 : arg6.IsWhole) (arg7 : Memref sig .tc .vmem S1x256x1024 .f32) (harg7 : arg7.IsWhole) (arg8 : Memref sig .tc .vmem S1x256x2048 .bf16) (harg8 : arg8.IsWhole) (arg9 : Memref sig .tc .vmem S256x2048 .bf16) (harg9 : arg9.IsWhole) (hc0 : cond0_0 i)
    (x0 : Vec F S1x256x2048 .f32) (x1 : Vec F S1x2048 .f32) (x2 : Vec F S1x6x2048 .f32) (x3 : Vec F S2048x1024 .bf16) :
    Σ' (L4 : List (View.Piece (Elt F) S1x256x1024 .f32)), Σ' (L5 : List (View.Piece (Elt F) S1x256x2048 .bf16)), { LS0 : List (View.Piece (Elt F) S256x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc0_peer_query i arg3 harg3 arg4 harg4 arg5 harg5 arg6 harg6 arg7 harg7 arg8 harg8 arg9 harg9) K } := by
  refine ⟨?_, ?_, ?_, fun E K => ?run⟩
  case run =>
    simp only [cc0_peer_query_eq_skeleton]; unfold cc0_peer_query_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    iexists _; iexact HS0

end Cert.Kernel8Ideal.Peer

end
-- ==== Proof.PeerQuery8RunB.lean ====
/-
  The body at the other points of a block of rows: it stores the product of the kept rows with its block of the weight.
-/
module

public import proofs.«01_k».proof.Proof.PeerQuery8RunA

@[expose] public section

set_option maxRecDepth 16384

noncomputable section

namespace Cert.Kernel8Ideal.Peer

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces that the body leaves in the product's block, with the proof that it runs, whatever this block held, and
    leaves its inputs and the kept rows as they were; it does not touch the normalised rows' block. -/
def kernelRun0_B (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S2048x1024 .bf16) (harg6 : arg6.IsWhole) (arg7 : Memref sig .tc .vmem S1x256x1024 .f32) (harg7 : arg7.IsWhole) (arg8 : Memref sig .tc .vmem S1x256x2048 .bf16) (harg8 : arg8.IsWhole) (arg9 : Memref sig .tc .vmem S256x2048 .bf16) (harg9 : arg9.IsWhole) (hc0 : ¬cond0_0 i)
    (x0 : Vec F S1x256x2048 .f32) (x1 : Vec F S1x2048 .f32) (x2 : Vec F S1x6x2048 .f32) (x3 : Vec F S2048x1024 .bf16) (xs0 : Vec F S256x2048 .bf16) :
    { L4 : List (View.Piece (Elt F) S1x256x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ owns (c : Thread nD τ) arg9 fullShare xs0) -∗ K ⟨⟩))
          ⊢ wp frame (wpE (defs₀ (F := F)) Variants.none c none) E (cc0_peer_query i arg3 harg3 arg4 harg4 arg5 harg5 arg6 harg6 arg7 harg7 arg8 harg8 arg9 harg9) K } := by
  refine ⟨?_, fun E K => ?run⟩
  case run =>
    simp only [cc0_peer_query_eq_skeleton]; unfold cc0_peer_query_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg9.eq_unread hfs0
    sl_exec (disch := sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; isplitr; · ipureintro; exact harg9.read_unread _
    iexact HS0

end Cert.Kernel8Ideal.Peer

end
-- ==== Proof.PeerQuery8Frame.lean ====
/-
  The second layer's expert queries' call runs to the end and leaves its arguments unchanged; what its buffers hold after each grid
  point.
-/
module

public import proofs.«01_k».proof.Proof.PeerQuery8RunB
public import Idealize.ShloMosaic.Lib.Claim

@[expose] public section

set_option maxRecDepth 16384

noncomputable section

namespace Cert.Kernel8Ideal.Peer

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces of the product's block at a first point cover it. -/
theorem cover0_A_4 (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S2048x1024 .bf16) (harg6 : arg6.IsWhole) (arg7 : Memref sig .tc .vmem S1x256x1024 .f32) (harg7 : arg7.IsWhole) (arg8 : Memref sig .tc .vmem S1x256x2048 .bf16) (harg8 : arg8.IsWhole) (arg9 : Memref sig .tc .vmem S256x2048 .bf16) (harg9 : arg9.IsWhole) (hc0 : cond0_0 i)
    (x0 : Vec F S1x256x2048 .f32) (x1 : Vec F S1x2048 .f32) (x2 : Vec F S1x6x2048 .f32) (x3 : Vec F S2048x1024 .bf16) (y : S1x256x1024.Idx) :
    ∃ pc ∈ (kernelRun0_A c i arg3 harg3 arg4 harg4 arg5 harg5 arg6 harg6 arg7 harg7 arg8 harg8 arg9 harg9 hc0 x0 x1 x2 x3).1, y ∈ pc.1.set :=
  View.cover_of_tiledL (kernelRun0_A c i arg3 harg3 arg4 harg4 arg5 harg5 arg6 harg6 arg7 harg7 arg8 harg8 arg9 harg9 hc0 x0 x1 x2 x3).1 S1x256x1024.size (by sl_kernel_rfl) y

/-- What the product's block at a first point then holds. -/
def out0_A_4 (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S2048x1024 .bf16) (harg6 : arg6.IsWhole) (arg7 : Memref sig .tc .vmem S1x256x1024 .f32) (harg7 : arg7.IsWhole) (arg8 : Memref sig .tc .vmem S1x256x2048 .bf16) (harg8 : arg8.IsWhole) (arg9 : Memref sig .tc .vmem S256x2048 .bf16) (harg9 : arg9.IsWhole) (hc0 : cond0_0 i)
    (x0 : Vec F S1x256x2048 .f32) (x1 : Vec F S1x2048 .f32) (x2 : Vec F S1x6x2048 .f32) (x3 : Vec F S2048x1024 .bf16) : Vec F S1x256x1024 .f32 :=
  VO0_4.read (Elt F) (VO0_4.writes (Elt F) VO0_4.junk (kernelRun0_A c i arg3 harg3 arg4 harg4 arg5 harg5 arg6 harg6 arg7 harg7 arg8 harg8 arg9 harg9 hc0 x0 x1 x2 x3).1)

/-- The pieces of the normalised rows' block at a first point cover it. -/
theorem cover0_A_5 (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S2048x1024 .bf16) (harg6 : arg6.IsWhole) (arg7 : Memref sig .tc .vmem S1x256x1024 .f32) (harg7 : arg7.IsWhole) (arg8 : Memref sig .tc .vmem S1x256x2048 .bf16) (harg8 : arg8.IsWhole) (arg9 : Memref sig .tc .vmem S256x2048 .bf16) (harg9 : arg9.IsWhole) (hc0 : cond0_0 i)
    (x0 : Vec F S1x256x2048 .f32) (x1 : Vec F S1x2048 .f32) (x2 : Vec F S1x6x2048 .f32) (x3 : Vec F S2048x1024 .bf16) (y : S1x256x2048.Idx) :
    ∃ pc ∈ (kernelRun0_A c i arg3 harg3 arg4 harg4 arg5 harg5 arg6 harg6 arg7 harg7 arg8 harg8 arg9 harg9 hc0 x0 x1 x2 x3).2.1, y ∈ pc.1.set :=
  View.cover_of_tiledL (kernelRun0_A c i arg3 harg3 arg4 harg4 arg5 harg5 arg6 harg6 arg7 harg7 arg8 harg8 arg9 harg9 hc0 x0 x1 x2 x3).2.1 S1x256x2048.size (by sl_kernel_rfl) y

/-- What the normalised rows' block at a first point then holds. -/
def out0_A_5 (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S2048x1024 .bf16) (harg6 : arg6.IsWhole) (arg7 : Memref sig .tc .vmem S1x256x1024 .f32) (harg7 : arg7.IsWhole) (arg8 : Memref sig .tc .vmem S1x256x2048 .bf16) (harg8 : arg8.IsWhole) (arg9 : Memref sig .tc .vmem S256x2048 .bf16) (harg9 : arg9.IsWhole) (hc0 : cond0_0 i)
    (x0 : Vec F S1x256x2048 .f32) (x1 : Vec F S1x2048 .f32) (x2 : Vec F S1x6x2048 .f32) (x3 : Vec F S2048x1024 .bf16) : Vec F S1x256x2048 .bf16 :=
  VO0_5.read (Elt F) (VO0_5.writes (Elt F) VO0_5.junk (kernelRun0_A c i arg3 harg3 arg4 harg4 arg5 harg5 arg6 harg6 arg7 harg7 arg8 harg8 arg9 harg9 hc0 x0 x1 x2 x3).2.1)

/-- The pieces of the kept buffer at a first point cover it. -/
theorem scover0_A_0 (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S2048x1024 .bf16) (harg6 : arg6.IsWhole) (arg7 : Memref sig .tc .vmem S1x256x1024 .f32) (harg7 : arg7.IsWhole) (arg8 : Memref sig .tc .vmem S1x256x2048 .bf16) (harg8 : arg8.IsWhole) (arg9 : Memref sig .tc .vmem S256x2048 .bf16) (harg9 : arg9.IsWhole) (hc0 : cond0_0 i)
    (x0 : Vec F S1x256x2048 .f32) (x1 : Vec F S1x2048 .f32) (x2 : Vec F S1x6x2048 .f32) (x3 : Vec F S2048x1024 .bf16) (y : S256x2048.Idx) :
    ∃ pc ∈ (kernelRun0_A c i arg3 harg3 arg4 harg4 arg5 harg5 arg6 harg6 arg7 harg7 arg8 harg8 arg9 harg9 hc0 x0 x1 x2 x3).2.2.1, y ∈ pc.1.set :=
  View.cover_of_tiledL (kernelRun0_A c i arg3 harg3 arg4 harg4 arg5 harg5 arg6 harg6 arg7 harg7 arg8 harg8 arg9 harg9 hc0 x0 x1 x2 x3).2.2.1 S256x2048.size (by sl_kernel_rfl) y

/-- What the kept buffer at a first point then holds. -/
def sout0_A_0 (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S2048x1024 .bf16) (harg6 : arg6.IsWhole) (arg7 : Memref sig .tc .vmem S1x256x1024 .f32) (harg7 : arg7.IsWhole) (arg8 : Memref sig .tc .vmem S1x256x2048 .bf16) (harg8 : arg8.IsWhole) (arg9 : Memref sig .tc .vmem S256x2048 .bf16) (harg9 : arg9.IsWhole) (hc0 : cond0_0 i)
    (x0 : Vec F S1x256x2048 .f32) (x1 : Vec F S1x2048 .f32) (x2 : Vec F S1x6x2048 .f32) (x3 : Vec F S2048x1024 .bf16) : Vec F S256x2048 .bf16 :=
  VS0_0.read (Elt F) (VS0_0.writes (Elt F) VS0_0.junk (kernelRun0_A c i arg3 harg3 arg4 harg4 arg5 harg5 arg6 harg6 arg7 harg7 arg8 harg8 arg9 harg9 hc0 x0 x1 x2 x3).2.2.1)

/-- The pieces of the product's block at another point cover it. -/
theorem cover0_B_4 (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S2048x1024 .bf16) (harg6 : arg6.IsWhole) (arg7 : Memref sig .tc .vmem S1x256x1024 .f32) (harg7 : arg7.IsWhole) (arg8 : Memref sig .tc .vmem S1x256x2048 .bf16) (harg8 : arg8.IsWhole) (arg9 : Memref sig .tc .vmem S256x2048 .bf16) (harg9 : arg9.IsWhole) (hc0 : ¬cond0_0 i)
    (x0 : Vec F S1x256x2048 .f32) (x1 : Vec F S1x2048 .f32) (x2 : Vec F S1x6x2048 .f32) (x3 : Vec F S2048x1024 .bf16) (xs0 : Vec F S256x2048 .bf16) (y : S1x256x1024.Idx) :
    ∃ pc ∈ (kernelRun0_B c i arg3 harg3 arg4 harg4 arg5 harg5 arg6 harg6 arg7 harg7 arg8 harg8 arg9 harg9 hc0 x0 x1 x2 x3 xs0).1, y ∈ pc.1.set :=
  View.cover_of_tiledL (kernelRun0_B c i arg3 harg3 arg4 harg4 arg5 harg5 arg6 harg6 arg7 harg7 arg8 harg8 arg9 harg9 hc0 x0 x1 x2 x3 xs0).1 S1x256x1024.size (by sl_kernel_rfl) y

/-- What the product's block at another point then holds. -/
def out0_B_4 (c : Dev nD) (i : grid0.Coords) (arg3 : Memref sig .tc .vmem S1x256x2048 .f32) (harg3 : arg3.IsWhole) (arg4 : Memref sig .tc .vmem S1x2048 .f32) (harg4 : arg4.IsWhole) (arg5 : Memref sig .tc .vmem S1x6x2048 .f32) (harg5 : arg5.IsWhole) (arg6 : Memref sig .tc .vmem S2048x1024 .bf16) (harg6 : arg6.IsWhole) (arg7 : Memref sig .tc .vmem S1x256x1024 .f32) (harg7 : arg7.IsWhole) (arg8 : Memref sig .tc .vmem S1x256x2048 .bf16) (harg8 : arg8.IsWhole) (arg9 : Memref sig .tc .vmem S256x2048 .bf16) (harg9 : arg9.IsWhole) (hc0 : ¬cond0_0 i)
    (x0 : Vec F S1x256x2048 .f32) (x1 : Vec F S1x2048 .f32) (x2 : Vec F S1x6x2048 .f32) (x3 : Vec F S2048x1024 .bf16) (xs0 : Vec F S256x2048 .bf16) : Vec F S1x256x1024 .f32 :=
  VO0_4.read (Elt F) (VO0_4.writes (Elt F) VO0_4.junk (kernelRun0_B c i arg3 harg3 arg4 harg4 arg5 harg5 arg6 harg6 arg7 harg7 arg8 harg8 arg9 harg9 hc0 x0 x1 x2 x3 xs0).1)

/-- What the product's block, the normalised rows' block and the kept buffer hold after the body at a point: at a point
    that is not the first of its block of rows the last two are as the point before left them. -/
def outsAt0 (c : Dev nD) : (n : ℕ) → n < cfg0.N → Vec F S1x256x1024 .f32 × Vec F S1x256x2048 .bf16 × Vec F S256x2048 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩),
       out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩),
       sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 2 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩),
       out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩),
       sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2,
       (outsAt0 c n (Nat.lt_of_succ_lt hn)).2.1, (outsAt0 c n (Nat.lt_of_succ_lt hn)).2.2)

/-- The same at a first point. -/
theorem outsAt0_A (c : Dev nD) (t : Fin cfg0.N) (h0 : t.val % 2 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t),
       out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t),
       sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

/-- The same at another point. -/
theorem outsAt0_B (c : Dev nD) (t : Fin cfg0.N) (h0 : ¬t.val % 2 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2, (outsAt0 m c (t.val - 1) (Nat.lt_of_le_of_lt (Nat.sub_le _ _) t.isLt)).2.1, (outsAt0 m c (t.val - 1) (Nat.lt_of_le_of_lt (Nat.sub_le _ _) t.isLt)).2.2) := by
  obtain ⟨n, hn⟩ := t
  cases n with
  | zero => exact absurd (Nat.zero_mod _) h0
  | succ n => exact (dif_neg h0).trans rfl

/-- What holds between points: the kept buffer at what the point before left, and the generator's register. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

/-- Before the first point the kept buffer holds anything. -/
theorem PhiS_zero (c : Dev nD) (n : ℕ) (h : n ≤ cfg0.N) (hz : n = 0) : PhiS m c n h = Pipeline.ΦA spec0 c := by
  subst hz; rfl

/-- After point `n`. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-- The grid's account: the arrays as found, what every window's buffer holds after each point, what holds between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q _ := fullShare
  owed _ := 0

/-- The arrays are those that the grid finds. -/
theorem A_eq (c : Dev nD) (w : Fin cfg0.W) : (dats m 0 c).A w = V m c (Pipeline.arrRef spec0 w) := by
  dsimp only [dats]

/-- What holds before a point, by the point's number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What window 0's buffer holds after a point. -/
theorem after0_0 (c : Dev nD) (t : Fin cfg0.N) : (dats m 0 c).after 0 t = iblk m c 0 t := by dsimp only [dats]

/-- What window 1's buffer holds after a point. -/
theorem after0_1 (c : Dev nD) (t : Fin cfg0.N) : (dats m 0 c).after 1 t = iblk m c 1 t := by dsimp only [dats]

/-- What window 2's buffer holds after a point. -/
theorem after0_2 (c : Dev nD) (t : Fin cfg0.N) : (dats m 0 c).after 2 t = iblk m c 2 t := by dsimp only [dats]

/-- What window 3's buffer holds after a point. -/
theorem after0_3 (c : Dev nD) (t : Fin cfg0.N) : (dats m 0 c).after 3 t = iblk m c 3 t := by dsimp only [dats]

/-- What window 4's buffer holds after a point. -/
theorem after0_4 (c : Dev nD) (t : Fin cfg0.N) : (dats m 0 c).after 4 t = (outsAt0 m c t.val t.isLt).1 := by dsimp only [dats]

/-- What window 5's buffer holds after a point. -/
theorem after0_5 (c : Dev nD) (t : Fin cfg0.N) : (dats m 0 c).after 5 t = (outsAt0 m c t.val t.isLt).2.1 := by dsimp only [dats]

/-- What window 0's buffer holds before the body: its block. -/
theorem before0_0 (c : Dev nD) (t : Fin cfg0.N) (d) : (dats m 0 c).before 0 t d = iblk m c 0 t :=
  before0_0_of m (dats m 0 c) (A_eq m c 0) (after0_0 m c) t d

/-- What window 1's buffer holds before the body: its block. -/
theorem before0_1 (c : Dev nD) (t : Fin cfg0.N) (d) : (dats m 0 c).before 1 t d = iblk m c 1 t :=
  before0_1_of m (dats m 0 c) (A_eq m c 1) (after0_1 m c) t d

/-- What window 2's buffer holds before the body: its block. -/
theorem before0_2 (c : Dev nD) (t : Fin cfg0.N) (d) : (dats m 0 c).before 2 t d = iblk m c 2 t :=
  before0_2_of m (dats m 0 c) (A_eq m c 2) (after0_2 m c) t d

/-- What window 3's buffer holds before the body: its block. -/
theorem before0_3 (c : Dev nD) (t : Fin cfg0.N) (d) : (dats m 0 c).before 3 t d = iblk m c 3 t :=
  before0_3_of m (dats m 0 c) (A_eq m c 3) (after0_3 m c) t d

/-- At a point that is not the first of its block of rows the normalised rows' buffer holds what the point before left. -/
theorem before0_5_B (c : Dev nD) (t : Fin cfg0.N) (h0 : ¬t.val % 2 = 0) (d) :
    (dats m 0 c).before 5 t d = (outsAt0 m c (t.val - 1) (Nat.lt_of_le_of_lt (Nat.sub_le _ _) t.isLt)).2.1 := by
  have hl : cfg0.idle 5 (cfg0.grid.coords ⟨t.val - 1, Nat.lt_of_le_of_lt (Nat.sub_le _ _) t.isLt⟩) = false :=
    liveAt0_5_A _ ((hcond0_0 _).mpr (show (t.val - 1) % 2 = 0 by omega))
  have hf : ¬(cfg0.win 5).flush ⟨t.val - 1, Nat.lt_of_le_of_lt (Nat.sub_le _ _) t.isLt⟩ = true := fun h => by
    have := (flush0_5 _).mp h
    dsimp only at this
    omega
  rw [Dat.before_of_pos _ 5 t (by omega) rfl d, if_neg hf]
  unfold Dat.left
  rw [hl]
  dsimp only
  unfold Dat.kept
  rw [after0_5]
  rfl

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 3200000 in
/-- The body at any point: the inputs' buffers hold their blocks, so the run of the point's case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val % 2 = 0
  · rw [show (dats m 0 c).leavesExact 5 t = owns (c : Thread nD τ) (ms0_5 t) fullShare ((dats m 0 c).after 5 t) from by
      unfold Dat.leavesExact; rw [liveAt0_5_A t ((hcond0_0 t).mpr h0)], after0_5]
    by_cases hz : t.val = 0
    · rw [PhiS_castSucc m c t, PhiS_zero m c _ _ hz, PhiA0_eq]
      rw [outsAt0_A m c t h0]
      unfold out0_A_4 out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m c 0 t) (iblk m c 1 t) (iblk m c 2 t) (iblk m c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _)
    · rw [PhiS_castSucc m c t, PhiS_pos m c _ _ hz]
      rw [outsAt0_A m c t h0]
      unfold out0_A_4 out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m c 0 t) (iblk m c 1 t) (iblk m c 2 t) (iblk m c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexists _; iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _)
  · have hz : t.val ≠ 0 := by omega
    rw [show (dats m 0 c).leavesExact 5 t = owns (c : Thread nD τ) (ms0_5 t) fullShare ((dats m 0 c).after 5 t) from by
      unfold Dat.leavesExact
      rw [idleAt0_5_B t (fun h => h0 ((hcond0_0 t).mp h)), (flush0_5 t).mpr (by omega)], after0_5]
    rw [PhiS_castSucc m c t, PhiS_pos m c _ _ hz]
    rw [outsAt0_B m c t h0]
    simp only [before0_5_B m c t h0]
    unfold out0_B_4; (try dsimp only)
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ (ms0_5 t) (hs0_5 t) _ _ (fun h => h0 ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _)
    iexact H5

/-- What the grid calls at a point is the body on the point's buffers. -/
theorem defs₀_row (t : Fin cfg0.N) :
    defs₀ (F := F) .tc cfg0.body (cfg0.bodyArgs t (cfg0.slots t)) = bodyAt0 t := by
  unfold defs₀; rw [Defs.onTc_tc]

/-- The body does what the grid's account says of it, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The grid starts from what the account asks. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After a point the kept buffer's contents may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- The program runs to the end, its arrays as the account says, its counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The program terminates, leaves its arguments as they were and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel8Ideal.Peer

end
-- ==== Proof.PeerQuery8Scratch.lean ====
/-
  What each grid point of the second layer's expert queries leaves: the first point of a block of rows computes the normalised rows,
  keeps and stores them; every point stores their product with its block of the weight.
-/
module

public import proofs.«01_k».proof.Proof.PeerQuery8Block
public import proofs.«01_k».proof.Proof.PeerQuery8Frame

@[expose] public section

noncomputable section

namespace Cert.Kernel8Ideal.Peer

open Cert.Kernel8Ideal Cert.Kernel8Ideal.Gen Idealize.ShloMosaic Idealize.ShloMosaic.TcCoe Idealize.SL.Sem

variable (m : (ℓ : Loc nD τ sig) → Buf (Elt Ideal) ℓ) (ρ : Dev nD → PrngReg)

theorem hz3 : (fun a => (![0, 0, 0] : Fin 3 → Nat) a) = fun _ => 0 := by funext a; fin_cases a <;> rfl

theorem hz2 : (fun a => (![0, 0] : Fin 2 → Nat) a) = fun _ => 0 := by funext a; fin_cases a <;> rfl

/-- The normalised rows that a point keeps. -/
def rows (c : Dev nD) (t : Fin cfg0.N) : Vec Ideal S256x2048 .bf16 :=
  k0_pay2 (F := Ideal) (iblk m c 0 t) (iblk m c 1 t)
    (View.ld (iblk m c 2 t : Vec Ideal S1x6x2048 .f32) (Rect.unit (s := S1x6x2048) ![0, 3, 0] S1x1x2048.size inb_S1x6x2048_S1x1x2048_0_3_0))
    (View.ld (iblk m c 2 t : Vec Ideal S1x6x2048 .f32) (Rect.unit (s := S1x6x2048) ![0, 4, 0] S1x1x2048.size inb_S1x6x2048_S1x1x2048_0_4_0))

/-- The normalised rows that a point stores. -/
def rowsOut (c : Dev nD) (t : Fin cfg0.N) : Vec Ideal S1x256x2048 .bf16 :=
  k0_pay3 (F := Ideal) (iblk m c 0 t) (iblk m c 1 t)
    (View.ld (iblk m c 2 t : Vec Ideal S1x6x2048 .f32) (Rect.unit (s := S1x6x2048) ![0, 3, 0] S1x1x2048.size inb_S1x6x2048_S1x1x2048_0_3_0))
    (View.ld (iblk m c 2 t : Vec Ideal S1x6x2048 .f32) (Rect.unit (s := S1x6x2048) ![0, 4, 0] S1x1x2048.size inb_S1x6x2048_S1x1x2048_0_4_0))

/-- The first point of a block of rows keeps the normalised rows. -/
theorem kept_A (c : Dev nD) (t : Fin cfg0.N) (h0 : t.val % 2 = 0) : (outsAt0 m c t.val t.isLt).2.2 = rows m c t := by
  rw [outsAt0_A m c t h0]
  dsimp only
  unfold sout0_A_0
  rw [View.read_writes_eq_canon _ _ _ (fun y => scover0_A_0 c _ _ _ _ _ _ _ _ _ _ _ _ _ _ _ _ _ _ _ _ y)]
  unfold kernelRun0_A
  dsimp only
  sl_unfold_words
  rw [View.canon_unit_zero hz2]
  simp only [View.readAt_eq_ld, (hs0_0 t).read_unread, (hs0_1 t).read_unread, (hs0_2 t).read_unread,
    View.ld_unit_zero (S := S1x256x2048) hz3, View.ld_unit_zero (S := S1x2048) hz2]
  rfl

/-- It stores them too. -/
theorem stored_A (c : Dev nD) (t : Fin cfg0.N) (h0 : t.val % 2 = 0) : (outsAt0 m c t.val t.isLt).2.1 = rowsOut m c t := by
  rw [outsAt0_A m c t h0]
  dsimp only
  unfold out0_A_5
  rw [View.read_writes_eq_canon _ _ _ (fun y => cover0_A_5 c _ _ _ _ _ _ _ _ _ _ _ _ _ _ _ _ _ _ _ _ y)]
  unfold kernelRun0_A
  dsimp only
  sl_unfold_words
  rw [View.canon_unit_zero hz3]
  simp only [View.readAt_eq_ld, (hs0_0 t).read_unread, (hs0_1 t).read_unread, (hs0_2 t).read_unread,
    View.ld_unit_zero (S := S1x256x2048) hz3, View.ld_unit_zero (S := S1x2048) hz2]
  rfl

/-- A later point keeps what the point before kept. -/
theorem kept_B (c : Dev nD) (t : Fin cfg0.N) (h0 : ¬t.val % 2 = 0) : (outsAt0 m c t.val t.isLt).2.2
    = (outsAt0 m c (t.val - 1) (Nat.lt_of_le_of_lt (Nat.sub_le _ _) t.isLt)).2.2 := by
  rw [outsAt0_B m c t h0]

/-- It leaves what the point before stored. -/
theorem stored_B (c : Dev nD) (t : Fin cfg0.N) (h0 : ¬t.val % 2 = 0) : (outsAt0 m c t.val t.isLt).2.1
    = (outsAt0 m c (t.val - 1) (Nat.lt_of_le_of_lt (Nat.sub_le _ _) t.isLt)).2.1 := by
  rw [outsAt0_B m c t h0]

/-- What the first point of a block of rows writes. -/
theorem wrote_A (c : Dev nD) (t : Fin cfg0.N) (h0 : t.val % 2 = 0) :
    (outsAt0 m c t.val t.isLt).1 = k0_pay4 (F := Ideal) (rows m c t) (iblk m c 3 t) := by
  rw [outsAt0_A m c t h0]
  dsimp only
  unfold out0_A_4
  rw [View.read_writes_eq_canon _ _ _ (fun y => cover0_A_4 c _ _ _ _ _ _ _ _ _ _ _ _ _ _ _ _ _ _ _ _ y)]
  unfold kernelRun0_A
  dsimp only
  sl_unfold_words
  rw [View.canon_unit_zero hz3]
  simp only [View.readAt_eq_ld, (hs0_3 t).read_unread, (hs0_0 t).read_unread, (hs0_1 t).read_unread, (hs0_2 t).read_unread,
    View.ld_unit_zero (S := S1x256x2048) hz3, View.ld_unit_zero (S := S1x2048) hz2, View.ld_unit_zero (S := S2048x1024) hz2,
    View.readCov_unit_zero (S := S256x2048) _ hz2]
  rfl

/-- What a later point writes: from the rows the point before kept. -/
theorem wrote_B (c : Dev nD) (t : Fin cfg0.N) (h0 : ¬t.val % 2 = 0) :
    (outsAt0 m c t.val t.isLt).1 = k0_pay4 (F := Ideal)
      (outsAt0 m c (t.val - 1) (Nat.lt_of_le_of_lt (Nat.sub_le _ _) t.isLt)).2.2 (iblk m c 3 t) := by
  rw [outsAt0_B m c t h0]
  dsimp only
  unfold out0_B_4
  rw [View.read_writes_eq_canon _ _ _ (fun y => cover0_B_4 c _ _ _ _ _ _ _ _ _ _ _ _ _ _ _ _ _ _ _ _ _ y)]
  unfold kernelRun0_B
  dsimp only
  sl_unfold_words
  rw [View.canon_unit_zero hz3]
  simp only [View.readAt_eq_ld, (hs0_3 t).read_unread, (Memref.isWhole_whole _).read_unread, View.ld_unit_zero (S := S2048x1024) hz2,
    View.ld_unit_zero (S := S256x2048) hz2]

end Cert.Kernel8Ideal.Peer

end
-- ==== Proof.PeerQuery8Host.lean ====
/-
  The arrays that the second layer's expert queries' call reads: the array of rows, the modulation in six parts, the norm's weight as a
  row and the weight.
-/
module

public import proofs.«01_k».proof.Proof.PeerQuerySpec
public import proofs.«01_k».proof.Proof.PeerQuery8Runs
public import Idealize.ShloMosaic.Lib.Pointwise

@[expose] public section

noncomputable section

namespace Cert.Kernel8Ideal.Peer

open Cert.Kernel8Ideal Cert.Kernel8Ideal.Gen Idealize.ShloMosaic Idealize.ShloMosaic.TcCoe Idealize.SL.Sem

/-- The modulation in six parts. -/
def parts (md : InProj.Mod) : S17x6x2048.Idx → EReal :=
  shapeCast S17x6x2048 (md : FVec Ideal S17x12288 .f32) shapeCasts_S17x12288_S17x6x2048

/-- Part `p` of a row holds that row's columns from `2048 * p`. -/
theorem parts_apply (md : InProj.Mod) (g : Fin 17) (p : Fin 6) (j : Fin 2048) :
    parts md (ix3 g p j) = md (ix2 g ⟨p * 2048 + j, by omega⟩) := by
  unfold parts
  pointwise

/-- The norm's weight as one row. -/
def normRow (w : InProj.Norm) : S1x2048.Idx → EReal :=
  shapeCast S1x2048 (w : FVec Ideal S2048 .f32) shapeCasts_S2048_S1x2048

theorem normRow_apply (w : InProj.Norm) (k : Fin 2048) : normRow w (ix2 0 k) = w (ix1 k) := by
  unfold normRow
  pointwise

/-- The weight. -/
def weight (w : S2048x2048.Idx → EReal) : S2048x2048.Idx → EReal :=
  (truncf (F := Ideal) .bf16 · bitsLt_bf16_f32) (w : FVec Ideal S2048x2048 .f32)

theorem weight_apply (w : S2048x2048.Idx → EReal) (k : Fin 2048) (j : Fin 2048) : weight w (ix2 k j) = w (ix2 k j) := by
  unfold weight
  pointwise

variable (m : (ℓ : Loc nD τ sig) → Buf (Elt Ideal) ℓ)

/-- The array of rows the call reads is the argument. -/
theorem V_joint (c : Dev nD) : V m c main_arg0 = m ((c : Thread nD τ).loc main_arg0) := V_main_arg0 m c

/-- The modulation the call reads. -/
theorem V_mod (c : Dev nD) : V m c main_v0 = parts (m ((c : Thread nD τ).loc main_arg1)) := by
  simp only [V, hostOps0]
  after_results <;> rfl

/-- The norm's weight the call reads. -/
theorem V_norm (c : Dev nD) : V m c main_v2 = normRow (m ((c : Thread nD τ).loc main_arg2)) := by
  simp only [V, hostOps0]
  after_results <;> rfl

/-- The weight the call reads. -/
theorem V_weight (c : Dev nD) : V m c main_v1 = weight (m ((c : Thread nD τ).loc main_arg3)) := by
  simp only [V, hostOps0]
  after_results <;> rfl

end Cert.Kernel8Ideal.Peer

end
-- ==== Proof.PeerQuery8Array.lean ====
/-
  The two arrays that the second layer's expert queries' call leaves: every block a grid point writes back is a block of one function
  of the arguments, and the blocks tile the array.
-/
module

public import proofs.«01_k».proof.Proof.PeerQuery8Scratch
public import proofs.«01_k».proof.Proof.PeerQuery8Host

@[expose] public section

noncomputable section

namespace Cert.Kernel8Ideal.Peer

open Cert.Kernel8Ideal Cert.Kernel8Ideal.Gen Idealize.ShloMosaic Idealize.ShloMosaic.TcCoe Idealize.SL.Sem

variable (m : (ℓ : Loc nD τ sig) → Buf (Elt Ideal) ℓ) (ρ : Dev nD → PrngReg)

/-- The array of rows of device `c`. -/
abbrev Hj (c : Dev nD) : InProj.Seq := m ((c : Thread nD τ).loc main_arg0)

/-- The modulation of device `c`. -/
abbrev Md (c : Dev nD) : InProj.Mod := m ((c : Thread nD τ).loc main_arg1)

/-- The norm's weight of device `c`. -/
abbrev Nw (c : Dev nD) : InProj.Norm := m ((c : Thread nD τ).loc main_arg2)

/-- The weight of device `c`. -/
abbrev W (c : Dev nD) : S2048x2048.Idx → EReal := m ((c : Thread nD τ).loc main_arg3)

/-- The array of rows's block moves with the sequence and the row block. -/
theorem idx0 : ∀ t : Fin cfg0.N, win0_0.index t 0 = t.val / 16 ∧ win0_0.index t 1 = t.val / 2 % 8 ∧ win0_0.index t 2 = 0 :=
  (by decide +kernel : ∀ t : Fin grid0.N, win0_0.index t 0 = t.val / 16 ∧ win0_0.index t 1 = t.val / 2 % 8 ∧ win0_0.index t 2 = 0)

/-- The norm's weight does not move. -/
theorem idx1 : ∀ t : Fin cfg0.N, win0_1.index t 0 = 0 ∧ win0_1.index t 1 = 0 :=
  (by decide +kernel : ∀ t : Fin grid0.N, win0_1.index t 0 = 0 ∧ win0_1.index t 1 = 0)

/-- The modulation's block holds all parts of one row. -/
theorem idx2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)

/-- The weight's block moves with the column block. -/
theorem idx3 : ∀ t : Fin cfg0.N, win0_3.index t 0 = 0 ∧ win0_3.index t 1 = t.val % 2 :=
  (by decide +kernel : ∀ t : Fin grid0.N, win0_3.index t 0 = 0 ∧ win0_3.index t 1 = t.val % 2)

/-- The result's block moves with the sequence, the row block and the column block. -/
theorem idx4 : ∀ t : Fin cfg0.N, win0_4.index t 0 = t.val / 16 ∧ win0_4.index t 1 = t.val / 2 % 8 ∧ win0_4.index t 2 = t.val % 2 :=
  (by decide +kernel : ∀ t : Fin grid0.N, win0_4.index t 0 = t.val / 16 ∧ win0_4.index t 1 = t.val / 2 % 8 ∧ win0_4.index t 2 = t.val % 2)

theorem lt_N (t : Fin cfg0.N) : t.val < 256 := lt_of_lt_of_eq t.isLt N_0

/-- The sequence of a grid point. -/
def bOf (t : Fin cfg0.N) : Fin 16 := ⟨t.val / 16, by have := lt_N t; omega⟩

/-- Row `r` of a grid point's block of rows. -/
def rOf (t : Fin cfg0.N) (r : Fin 256) : Fin 2048 := ⟨t.val / 2 % 8 * 256 + r, by omega⟩

/-- Column `d` of a grid point's block of columns. -/
def jOf (t : Fin cfg0.N) (d : Fin 1024) : Fin 2048 := ⟨t.val % 2 * 1024 + d, by omega⟩

/-- The modulation row of a grid point: its sequence's. -/
def gOf (t : Fin cfg0.N) : Fin 17 := ⟨t.val / 16, by have := lt_N t; omega⟩

theorem gOf_val (t : Fin cfg0.N) : (gOf t).val = t.val / 16 := rfl

/-- Where the array of rows's block at a point lies. -/
theorem joint_read (t : Fin cfg0.N) (A : S16x2048x2048.Idx → EReal) (r : Fin 256) (k : Fin 2048) :
    (((cfg0.win 0).blk t).view.read (Elt Ideal) A : S1x256x2048.Idx → EReal) (ix3 0 r k) = A (ix3 (bOf t) (rOf t r) k) := by
  obtain ⟨i0, i1, i2⟩ := idx0 t
  rw [View.read_apply]
  show A _ = A _
  congr 1
  funext a
  apply Fin.ext
  match a with
  | ⟨0, _⟩ => show win0_0.index t 0 * 1 + 1 * 0 = t.val / 16; omega
  | ⟨1, _⟩ => show win0_0.index t 1 * 256 + 1 * r.val = t.val / 2 % 8 * 256 + r.val; omega
  | ⟨2, _⟩ => show win0_0.index t 2 * 2048 + 1 * k.val = k.val; omega

/-- The norm's weight is read whole. -/
theorem norm_read (t : Fin cfg0.N) (A : S1x2048.Idx → EReal) (k : Fin 2048) :
    (((cfg0.win 1).blk t).view.read (Elt Ideal) A : S1x2048.Idx → EReal) (ix2 0 k) = A (ix2 0 k) := by
  obtain ⟨i0, i1⟩ := idx1 t
  rw [View.read_apply]
  show A _ = A _
  congr 1
  funext a
  apply Fin.ext
  match a with
  | ⟨0, _⟩ => show win0_1.index t 0 * 1 + 1 * 0 = 0; omega
  | ⟨1, _⟩ => show win0_1.index t 1 * 2048 + 1 * k.val = k.val; omega

/-- Where the modulation's block at a point lies. -/
theorem mod_read (t : Fin cfg0.N) (A : S17x6x2048.Idx → EReal) (p : Fin 6) (k : Fin 2048) :
    (((cfg0.win 2).blk t).view.read (Elt Ideal) A : S1x6x2048.Idx → EReal) (ix3 0 p k) = A (ix3 (gOf t) p k) := by
  obtain ⟨i0, i1, i2⟩ := idx2 t
  have hg := gOf_val t
  rw [View.read_apply]
  show A _ = A _
  congr 1
  funext a
  apply Fin.ext
  match a with
  | ⟨0, _⟩ => show win0_2.index t 0 * 1 + 1 * 0 = (gOf t).val; rw [hg, i0, Nat.mul_one, Nat.mul_zero, Nat.add_zero]
  | ⟨1, _⟩ => show win0_2.index t 1 * 6 + 1 * p.val = p.val; omega
  | ⟨2, _⟩ => show win0_2.index t 2 * 2048 + 1 * k.val = k.val; omega

/-- Where the weight's block at a point lies. -/
theorem weight_read (t : Fin cfg0.N) (A : S2048x2048.Idx → EReal) (k : Fin 2048) (d : Fin 1024) :
    (((cfg0.win 3).blk t).view.read (Elt Ideal) A : S2048x1024.Idx → EReal) (ix2 k d) = A (ix2 k (jOf t d)) := by
  obtain ⟨i0, i1⟩ := idx3 t
  rw [View.read_apply]
  show A _ = A _
  congr 1
  funext a
  apply Fin.ext
  match a with
  | ⟨0, _⟩ => show win0_3.index t 0 * 2048 + 1 * k.val = k.val; omega
  | ⟨1, _⟩ => show win0_3.index t 1 * 1024 + 1 * d.val = t.val % 2 * 1024 + d.val; omega

/-- The array of rows's block at a point. -/
theorem joint_blk (c : Dev nD) (t : Fin cfg0.N) (r : Fin 256) (k : Fin 2048) :
    (iblk m c 0 t : Vec Ideal S1x256x2048 .f32) (ix3 0 r k) = Hj m c (ix3 (bOf t) (rOf t r) k) := by
  have h : iblk m c 0 t = ((cfg0.win 0).blk t).view.read (Elt Ideal) (Hj m c) :=
    congrArg (fun A => ((cfg0.win 0).blk t).view.read (Elt Ideal) A) (V_joint m c)
  rw [h]
  exact joint_read t _ r k

/-- The norm's weight at a point. -/
theorem norm_blk (c : Dev nD) (t : Fin cfg0.N) (k : Fin 2048) :
    (iblk m c 1 t : Vec Ideal S1x2048 .f32) (ix2 0 k) = Nw m c (ix1 k) := by
  have h : iblk m c 1 t = ((cfg0.win 1).blk t).view.read (Elt Ideal) (normRow (Nw m c)) :=
    congrArg (fun A => ((cfg0.win 1).blk t).view.read (Elt Ideal) A) (V_norm m c)
  rw [h]
  exact (norm_read t _ k).trans (normRow_apply (Nw m c) k)

/-- The modulation's block at a point. -/
theorem mod_blk (c : Dev nD) (t : Fin cfg0.N) (p : Fin 6) (k : Fin 2048) :
    (iblk m c 2 t : Vec Ideal S1x6x2048 .f32) (ix3 0 p k) = Md m c (ix2 (gOf t) ⟨p * 2048 + k, by omega⟩) := by
  have h : iblk m c 2 t = ((cfg0.win 2).blk t).view.read (Elt Ideal) (parts (Md m c)) :=
    congrArg (fun A => ((cfg0.win 2).blk t).view.read (Elt Ideal) A) (V_mod m c)
  rw [h]
  exact (mod_read t _ p k).trans (parts_apply (Md m c) (gOf t) p k)

/-- The weight's block at a point. -/
theorem weight_blk (c : Dev nD) (t : Fin cfg0.N) (k : Fin 2048) (d : Fin 1024) :
    (iblk m c 3 t : Vec Ideal S2048x1024 .bf16) (ix2 k d) = W m c (ix2 k (jOf t d)) := by
  have h : iblk m c 3 t = ((cfg0.win 3).blk t).view.read (Elt Ideal) (weight (W m c)) :=
    congrArg (fun A => ((cfg0.win 3).blk t).view.read (Elt Ideal) A) (V_weight m c)
  rw [h]
  exact (weight_read t _ k d).trans (weight_apply (W m c) k (jOf t d))

/-- Reading the fourth part of a modulation block. -/
theorem ld_shift (X : S1x6x2048.Idx → EReal) (inb : ∀ a, (![0, 3, 0] : Fin 3 → Nat) a + S1x1x2048.size a ≤ S1x6x2048.size a) (k : Fin 2048) :
    (View.ld (Val := Elt Ideal) (e' := .f32) X (Rect.unit (s := S1x6x2048) ![0, 3, 0] S1x1x2048.size inb) : S1x1x2048.Idx → EReal)
      (ix3 0 0 k) = X (ix3 0 3 k) := by
  show X _ = X _
  congr 1
  funext a
  apply Fin.ext
  match a with
  | ⟨0, _⟩ => rfl
  | ⟨1, _⟩ => rfl
  | ⟨2, _⟩ => show 0 + 1 * k.val = k.val; omega

/-- Reading the fifth part of a modulation block. -/
theorem ld_scale (X : S1x6x2048.Idx → EReal) (inb : ∀ a, (![0, 4, 0] : Fin 3 → Nat) a + S1x1x2048.size a ≤ S1x6x2048.size a) (k : Fin 2048) :
    (View.ld (Val := Elt Ideal) (e' := .f32) X (Rect.unit (s := S1x6x2048) ![0, 4, 0] S1x1x2048.size inb) : S1x1x2048.Idx → EReal)
      (ix3 0 0 k) = X (ix3 0 4 k) := by
  show X _ = X _
  congr 1
  funext a
  apply Fin.ext
  match a with
  | ⟨0, _⟩ => rfl
  | ⟨1, _⟩ => rfl
  | ⟨2, _⟩ => show 0 + 1 * k.val = k.val; omega

/-- The shift at a point. -/
theorem shift_blk (c : Dev nD) (t : Fin cfg0.N) (inb) (k : Fin 2048) :
    (View.ld (iblk m c 2 t : Vec Ideal S1x6x2048 .f32) (Rect.unit (s := S1x6x2048) ![0, 3, 0] S1x1x2048.size inb) : S1x1x2048.Idx → EReal)
      (ix3 0 0 k) = Md m c (ix2 (gOf t) ⟨6144 + k, by omega⟩) :=
  (ld_shift (iblk m c 2 t) inb k).trans ((mod_blk m c t 3 k).trans (congrArg (fun z => Md m c (ix2 (gOf t) z))
    (Fin.ext (by show 3 * 2048 + k.val = 6144 + k.val; omega))))

/-- The scale at a point. -/
theorem scale_blk (c : Dev nD) (t : Fin cfg0.N) (inb) (k : Fin 2048) :
    (View.ld (iblk m c 2 t : Vec Ideal S1x6x2048 .f32) (Rect.unit (s := S1x6x2048) ![0, 4, 0] S1x1x2048.size inb) : S1x1x2048.Idx → EReal)
      (ix3 0 0 k) = Md m c (ix2 (gOf t) ⟨8192 + k, by omega⟩) :=
  (ld_scale (iblk m c 2 t) inb k).trans ((mod_blk m c t 4 k).trans (congrArg (fun z => Md m c (ix2 (gOf t) z))
    (Fin.ext (by show 4 * 2048 + k.val = 8192 + k.val; omega))))

/-- Entry `k` of the normalised row `r` of sequence `b`. -/
def N (c : Dev nD) (b : Fin 16) (r : Fin 2048) (k : Fin 2048) : EReal :=
  PeerQuery.normed (fun k => Hj m c (ix3 b r k)) (Nw m c) (Md m c) ⟨b, by omega⟩ k

/-- The normalised rows a point computes. -/
theorem point_apply (c : Dev nD) (t : Fin cfg0.N) (r : Fin 256) (k : Fin 2048) :
    k0_pay1 (F := Ideal) (iblk m c 0 t) (iblk m c 1 t)
    (View.ld (iblk m c 2 t : Vec Ideal S1x6x2048 .f32) (Rect.unit (s := S1x6x2048) ![0, 3, 0] S1x1x2048.size inb_S1x6x2048_S1x1x2048_0_3_0))
    (View.ld (iblk m c 2 t : Vec Ideal S1x6x2048 .f32) (Rect.unit (s := S1x6x2048) ![0, 4, 0] S1x1x2048.size inb_S1x6x2048_S1x1x2048_0_4_0)) (ix2 r k) = N m c (bOf t) (rOf t r) k := by
  refine (pay1_apply _ _ _ _ r k).trans ?_
  unfold N PeerQuery.normed
  rw [show (⟨bOf t, by omega⟩ : Fin 17) = gOf t from rfl, shift_blk m c t _ k, scale_blk m c t _ k, norm_blk m c t k, joint_blk m c t r k]
  have hs : ∀ X : S1x256x2048.Idx → EReal, (∀ e, X (ix3 0 r e) = Hj m c (ix3 (bOf t) (rOf t r) e)) →
      (∑ e : Fin 2048, X (ix3 0 r e) * X (ix3 0 r e))
        = ∑ e : Fin 2048, Hj m c (ix3 (bOf t) (rOf t r) e) * Hj m c (ix3 (bOf t) (rOf t r) e) :=
    fun X hX => Finset.sum_congr rfl fun e _ => congrArg₂ (· * ·) (hX e) (hX e)
  rw [hs (iblk m c 0 t) (fun e => joint_blk m c t r e)]

/-- The normalised rows a point keeps. -/
theorem rows_apply (c : Dev nD) (t : Fin cfg0.N) (r : Fin 256) (k : Fin 2048) :
    rows m c t (ix2 r k) = N m c (bOf t) (rOf t r) k := by
  unfold rows
  refine (pay2_apply _ _ _ _ r k).trans ?_
  exact point_apply m c t r k

/-- The normalised rows a point stores. -/
theorem rowsOut_apply (c : Dev nD) (t : Fin cfg0.N) (r : Fin 256) (k : Fin 2048) :
    rowsOut m c t (ix3 0 r k) = N m c (bOf t) (rOf t r) k := by
  unfold rowsOut
  refine (pay3_apply _ _ _ _ r k).trans ?_
  exact point_apply m c t r k

/-- What a point keeps: the normalised rows of its row block, for every column block. -/
theorem kept (c : Dev nD) (n : Nat) : ∀ (hn : n < cfg0.N) (r : Fin 256) (k : Fin 2048),
    (outsAt0 m c n hn).2.2 (ix2 r k) = N m c (bOf ⟨n, hn⟩) (rOf ⟨n, hn⟩ r) k := by
  induction n with
  | zero =>
    intro hn r k
    exact (congrFun (kept_A m c ⟨0, hn⟩ rfl) (ix2 r k)).trans (rows_apply m c ⟨0, hn⟩ r k)
  | succ n ih =>
    intro hn r k
    by_cases h0 : (n + 1) % 2 = 0
    · exact (congrFun (kept_A m c ⟨n + 1, hn⟩ h0) (ix2 r k)).trans (rows_apply m c ⟨n + 1, hn⟩ r k)
    · have e : (outsAt0 m c (n + 1) hn).2.2 = (outsAt0 m c n (Nat.lt_of_succ_lt hn)).2.2 := kept_B m c ⟨n + 1, hn⟩ h0
      have hd : (n + 1) / 2 = n / 2 := by omega
      have hp : (n + 1) / 16 = n / 16 := by omega
      have hb : bOf ⟨n + 1, hn⟩ = bOf ⟨n, Nat.lt_of_succ_lt hn⟩ := Fin.ext hp
      have hr : rOf ⟨n + 1, hn⟩ r = rOf ⟨n, Nat.lt_of_succ_lt hn⟩ r :=
        Fin.ext (congrArg (fun z => z % 8 * 256 + r.val) hd)
      rw [e, hb, hr]
      exact ih (Nat.lt_of_succ_lt hn) r k

/-- What a point leaves in the normalised rows' block: the normalised rows of its row block, stored there by it or by the
    point before. -/
theorem stored (c : Dev nD) (t : Fin cfg0.N) (r : Fin 256) (k : Fin 2048) :
    (outsAt0 m c t.val t.isLt).2.1 (ix3 0 r k) = N m c (bOf t) (rOf t r) k := by
  by_cases h0 : t.val % 2 = 0
  · exact (congrFun (stored_A m c t h0) (ix3 0 r k)).trans (rowsOut_apply m c t r k)
  · have hp : t.val - 1 < cfg0.N := Nat.lt_of_le_of_lt (Nat.sub_le _ _) t.isLt
    have hb : bOf t = bOf ⟨t.val - 1, hp⟩ := Fin.ext (show t.val / 16 = (t.val - 1) / 16 by omega)
    have hr : rOf t r = rOf ⟨t.val - 1, hp⟩ r :=
      Fin.ext (show t.val / 2 % 8 * 256 + r.val = (t.val - 1) / 2 % 8 * 256 + r.val by omega)
    rw [hb, hr]
    refine (congrFun (stored_B m c t h0) (ix3 0 r k)).trans ?_
    exact (congrFun (stored_A m c ⟨t.val - 1, hp⟩ (show (t.val - 1) % 2 = 0 by omega)) (ix3 0 r k)).trans
      (rowsOut_apply m c ⟨t.val - 1, hp⟩ r k)

/-- What the array of products holds at the end. -/
def G (c : Dev nD) (b : Fin 16) (r : Fin 2048) (j : Fin 2048) : EReal :=
  ∑ k : Fin 2048, N m c b r k * W m c (ix2 k j)

/-- The same, as an array. -/
def GA (c : Dev nD) : S16x2048x2048.Idx → EReal := fun i => G m c (i 0) (i 1) (i 2)

/-- Where a point's block lies in the array. -/
theorem o_read (t : Fin cfg0.N) (A : S16x2048x2048.Idx → EReal) (r : Fin 256) (d : Fin 1024) :
    (((cfg0.win 4).blk t).view.read (Elt Ideal) A : S1x256x1024.Idx → EReal) (ix3 0 r d) = A (ix3 (bOf t) (rOf t r) (jOf t d)) := by
  obtain ⟨i0, i1, i2⟩ := idx4 t
  rw [View.read_apply]
  show A _ = A _
  congr 1
  funext a
  apply Fin.ext
  match a with
  | ⟨0, _⟩ => show win0_4.index t 0 * 1 + 1 * 0 = t.val / 16; omega
  | ⟨1, _⟩ => show win0_4.index t 1 * 256 + 1 * r.val = t.val / 2 % 8 * 256 + r.val; omega
  | ⟨2, _⟩ => show win0_4.index t 2 * 1024 + 1 * d.val = t.val % 2 * 1024 + d.val; omega

/-- A block has one row of rows. -/
theorem eq_row (y : S1x256x1024.Idx) : ∃ (r : Fin 256) (d : Fin 1024), y = ix3 0 r d :=
  ⟨y 1, y 2, by
    funext a
    match a with
    | ⟨0, _⟩ => exact Subsingleton.elim (α := Fin 1) _ _
    | ⟨1, _⟩ => rfl
    | ⟨2, _⟩ => rfl⟩

/-- The product of a point's normalised rows with its weight block is its block of the array. -/
theorem block (c : Dev nD) (t : Fin cfg0.N) (a : Vec Ideal S256x2048 .bf16)
    (ha : ∀ (r : Fin 256) (k : Fin 2048), a (ix2 r k) = N m c (bOf t) (rOf t r) k) (r : Fin 256) (d : Fin 1024) :
    k0_pay4 (F := Ideal) a (iblk m c 3 t) (ix3 0 r d) = G m c (bOf t) (rOf t r) (jOf t d) := by
  refine (pay4_apply _ _ r d).trans ?_
  unfold G
  exact Finset.sum_congr rfl fun k _ => congrArg₂ (· * ·) (ha r k) (weight_blk m c t k d)

/-- What a point writes, entry by entry. -/
theorem wrote (c : Dev nD) (t : Fin cfg0.N) (r : Fin 256) (d : Fin 1024) :
    (outsAt0 m c t.val t.isLt).1 (ix3 0 r d) = G m c (bOf t) (rOf t r) (jOf t d) := by
  by_cases h0 : t.val % 2 = 0
  · exact (congrFun (wrote_A m c t h0) (ix3 0 r d)).trans (block m c t _ (rows_apply m c t) r d)
  · refine (congrFun (wrote_B m c t h0) (ix3 0 r d)).trans (block m c t _ (fun r k => ?_) r d)
    have e := kept_B m c t h0
    exact (congrFun e (ix2 r k)).symm.trans (kept m c t.val t.isLt r k)

/-- The array's entries at a point's block, given the block entry by entry. -/
theorem eq_block (c : Dev nD) (t : Fin cfg0.N) (f : S1x256x1024.Idx → EReal)
    (hf : ∀ (r : Fin 256) (d : Fin 1024), f (ix3 0 r d) = G m c (bOf t) (rOf t r) (jOf t d))
    (y : S1x256x1024.Idx) : f y = ((cfg0.win 4).blk t).view.read (Elt Ideal) (GA m c) y := by
  obtain ⟨r, d, rfl⟩ := eq_row y
  exact (hf r d).trans (o_read t (GA m c) r d).symm

/-- Every point writes its block of the array. -/
theorem flushed_eq (c : Dev nD) (t : Fin cfg0.N) :
    (dats m 0 c).flushed 4 t = ((cfg0.win 4).blk t).view.read (Elt Ideal) (GA m c) := by
  have e : (dats m 0 c).flushed 4 t = (outsAt0 m c t.val t.isLt).1 :=
    congrArg ((cfg0.win 4).cut (grid0.coords t)) (after0_4 m c t)
  rw [e]
  funext y
  exact eq_block m c t _ (wrote m c t) y

/-- The blocks tile the array. -/
theorem cover (i : S16x2048x2048.Idx) :
    ∃ t : Fin cfg0.N, (cfg0.win 4).flush t = true ∧ i ∈ ((cfg0.win 4).blk t).view.set := by
  have h0 : (i 0).val < 16 := (i 0).isLt
  have h1 : (i 1).val < 2048 := (i 1).isLt
  have h2 : (i 2).val < 2048 := (i 2).isLt
  let t : Fin cfg0.N := ⟨(i 0).val * 16 + (i 1).val / 256 * 2 + (i 2).val / 1024, by rw [show cfg0.N = 256 from N_0]; omega⟩
  have ht : t.val = (i 0).val * 16 + (i 1).val / 256 * 2 + (i 2).val / 1024 := rfl
  obtain ⟨e0, e1, e2⟩ := idx4 t
  refine ⟨t, flush0_4 t, ?_⟩
  show i ∈ ((View.whole main_v3_0).slice (win0_4.rect t)).set
  rw [View.set_slice_whole, Rect.mem_set_unit]
  intro a
  match a with
  | ⟨0, _⟩ => show win0_4.index t 0 * 1 ≤ (i 0).val ∧ (i 0).val < win0_4.index t 0 * 1 + 1; omega
  | ⟨1, _⟩ => show win0_4.index t 1 * 256 ≤ (i 1).val ∧ (i 1).val < win0_4.index t 1 * 256 + 256; omega
  | ⟨2, _⟩ => show win0_4.index t 2 * 1024 ≤ (i 2).val ∧ (i 2).val < win0_4.index t 2 * 1024 + 1024; omega

/-- So the array ends holding the second layer's expert queries. -/
theorem final (c : Dev nD) : (dats m 0 c).arrAt 4 cfg0.N = GA m c :=
  (dats m 0 c).arrAt_eq_of_cover 4 (GA m c) (fun t _ => flushed_eq m c t) cover

/-- What the array of normalised rows holds at the end. -/
def NA (c : Dev nD) : S16x2048x2048.Idx → EReal := fun i => N m c (i 0) (i 1) (i 2)

/-- The normalised rows' block moves with the sequence and the row block. -/
theorem idx5 : ∀ t : Fin cfg0.N, win0_5.index t 0 = t.val / 16 ∧ win0_5.index t 1 = t.val / 2 % 8 ∧ win0_5.index t 2 = 0 :=
  (by decide +kernel : ∀ t : Fin grid0.N, win0_5.index t 0 = t.val / 16 ∧ win0_5.index t 1 = t.val / 2 % 8 ∧ win0_5.index t 2 = 0)

/-- Where a point's block of normalised rows lies in the array. -/
theorem f_read (t : Fin cfg0.N) (A : S16x2048x2048.Idx → EReal) (r : Fin 256) (k : Fin 2048) :
    (((cfg0.win 5).blk t).view.read (Elt Ideal) A : S1x256x2048.Idx → EReal) (ix3 0 r k) = A (ix3 (bOf t) (rOf t r) k) := by
  obtain ⟨i0, i1, i2⟩ := idx5 t
  rw [View.read_apply]
  show A _ = A _
  congr 1
  funext a
  apply Fin.ext
  match a with
  | ⟨0, _⟩ => show win0_5.index t 0 * 1 + 1 * 0 = t.val / 16; omega
  | ⟨1, _⟩ => show win0_5.index t 1 * 256 + 1 * r.val = t.val / 2 % 8 * 256 + r.val; omega
  | ⟨2, _⟩ => show win0_5.index t 2 * 2048 + 1 * k.val = k.val; omega

/-- The array's entries at a point's block of normalised rows, given the block entry by entry. -/
theorem eq_rows (c : Dev nD) (t : Fin cfg0.N) (f : S1x256x2048.Idx → EReal)
    (hf : ∀ (r : Fin 256) (k : Fin 2048), f (ix3 0 r k) = N m c (bOf t) (rOf t r) k)
    (y : S1x256x2048.Idx) : f y = ((cfg0.win 5).blk t).view.read (Elt Ideal) (NA m c) y := by
  obtain ⟨r, k, rfl⟩ : ∃ (r : Fin 256) (k : Fin 2048), y = ix3 0 r k :=
    ⟨y 1, y 2, by
      funext a
      match a with
      | ⟨0, _⟩ => exact Subsingleton.elim (α := Fin 1) _ _
      | ⟨1, _⟩ => rfl
      | ⟨2, _⟩ => rfl⟩
  exact (hf r k).trans (f_read t (NA m c) r k).symm

/-- Every point that writes the normalised rows back writes its block of the array. -/
theorem flushedRows_eq (c : Dev nD) (t : Fin cfg0.N) :
    (dats m 0 c).flushed 5 t = ((cfg0.win 5).blk t).view.read (Elt Ideal) (NA m c) := by
  have e : (dats m 0 c).flushed 5 t = (outsAt0 m c t.val t.isLt).2.1 :=
    congrArg ((cfg0.win 5).cut (grid0.coords t)) (after0_5 m c t)
  rw [e]
  funext y
  exact eq_rows m c t _ (stored m c t) y

/-- These blocks tile the array. -/
theorem coverRows (i : S16x2048x2048.Idx) :
    ∃ t : Fin cfg0.N, (cfg0.win 5).flush t = true ∧ i ∈ ((cfg0.win 5).blk t).view.set := by
  have h0 : (i 0).val < 16 := (i 0).isLt
  have h1 : (i 1).val < 2048 := (i 1).isLt
  have h2 : (i 2).val < 2048 := (i 2).isLt
  let t : Fin cfg0.N := ⟨(i 0).val * 16 + (i 1).val / 256 * 2 + 1, by rw [show cfg0.N = 256 from N_0]; omega⟩
  have ht : t.val = (i 0).val * 16 + (i 1).val / 256 * 2 + 1 := rfl
  obtain ⟨e0, e1, e2⟩ := idx5 t
  refine ⟨t, (flush0_5 t).mpr (by omega), ?_⟩
  show i ∈ ((View.whole main_v3_1).slice (win0_5.rect t)).set
  rw [View.set_slice_whole, Rect.mem_set_unit]
  intro a
  match a with
  | ⟨0, _⟩ => show win0_5.index t 0 * 1 ≤ (i 0).val ∧ (i 0).val < win0_5.index t 0 * 1 + 1; omega
  | ⟨1, _⟩ => show win0_5.index t 1 * 256 ≤ (i 1).val ∧ (i 1).val < win0_5.index t 1 * 256 + 256; omega
  | ⟨2, _⟩ => show win0_5.index t 2 * 2048 ≤ (i 2).val ∧ (i 2).val < win0_5.index t 2 * 2048 + 2048; omega

/-- So the array ends holding the normalised rows. -/
theorem finalRows (c : Dev nD) : (dats m 0 c).arrAt 5 cfg0.N = NA m c :=
  (dats m 0 c).arrAt_eq_of_cover 5 (NA m c) (fun t _ => flushedRows_eq m c t) coverRows

/-- The run, read: the first result holds the second layer's expert queries, the second the normalised rows, the arguments are
    unchanged. -/
theorem run : θ_run defs (onTc (τ := τ) (main (F := Ideal))) ⟨m, fun _ => 0, ρ⟩ fun r => ∀ c : Dev nD,
      r.2.mem ((c : Thread nD τ).loc main_v3_0) = GA m c
      ∧ r.2.mem ((c : Thread nD τ).loc main_v3_1) = NA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).1 4).trans (final m c), ((h.1 c).1 5).trans (finalRows m c), h.2 c⟩)
    (θ_run_and (run_main m ρ) (unchanged m ρ))

end Cert.Kernel8Ideal.Peer

end
-- ==== Proof.PeerQuery8Ref.lean ====
/-
  What the reference of the second layer's expert queries computes, entry by entry.
-/
module

public import proofs.«01_k».proof.Proof.PeerQuerySpec
public import proofs.«01_k».proof.Proof.Gen.Reference8Ideal.Read
public import Idealize.ShloMosaic.Lib.Pointwise

@[expose] public section

noncomputable section

namespace Cert.Reference8Ideal.Peer

open Cert.Reference8Ideal Cert.Reference8Ideal.Gen Cert.Reference8Ideal.Read Idealize.ShloMosaic Idealize.ShloMosaic.TcCoe

variable (h : InProj.Seq) (md : InProj.Mod) (nw : InProj.Norm) (w : S2048x2048.Idx → EReal) (b : Fin 16)

/-- A row scaled by its mean square. -/
theorem scaled (r : Fin 2048) (k : Fin 2048) : val_main_v20 (F := Ideal) h nw (ix3 b r k)
    = h (ix3 b r k) * Ideal.rsqrt (Ideal.div (∑ e : Fin 2048, h (ix3 b r e) * h (ix3 b r e)) (Ideal.ofBits .f32 0x45000000#32)
        + Ideal.ofBits .f32 0x358637BD#32) * nw (ix1 k) := by
  unfold val_main_v20 val_main_v19 val_main_v18 val_main_v17 val_main_v16 val_main_v15 val_main_v14 val_main_v13 val_main_v12
    val_main_v11 val_main_v10 val_main_v9 val_main_v8 val_main_cst val_main_cst_0 val_main_cst_1
  pointwise

/-- A row's scale. -/
theorem scale (r : Fin 2048) (k : Fin 2048) : val_main_v23 (F := Ideal) md (ix3 b r k)
    = 1 + md (ix2 ⟨b, by omega⟩ ⟨8192 + k, by omega⟩) := by
  unfold val_main_v23 val_main_v22 val_main_v21 val_main_v6 val_main_v1 val_main_v0 val_main_cst_2
  pointwise

/-- A row's shift. -/
theorem shift (r : Fin 2048) (k : Fin 2048) : val_main_v25 (F := Ideal) md (ix3 b r k)
    = md (ix2 ⟨b, by omega⟩ ⟨6144 + k, by omega⟩) := by
  unfold val_main_v25 val_main_v5 val_main_v1 val_main_v0
  pointwise

/-- A row normalised and modulated. -/
theorem rows (r : Fin 2048) (k : Fin 2048) : val_main_v26 (F := Ideal) h md nw (ix3 b r k)
    = PeerQuery.normed (fun k => h (ix3 b r k)) nw md ⟨b, by omega⟩ k := by
  unfold val_main_v26 val_main_v24
  pointwise [scaled, scale, shift, PeerQuery.normed]

/-- The second result: the rows. -/
theorem rows_out (r : Fin 2048) (k : Fin 2048) : val_main_v28 (F := Ideal) h md nw (ix3 b r k)
    = PeerQuery.normed (fun k => h (ix3 b r k)) nw md ⟨b, by omega⟩ k := by
  unfold val_main_v28
  pointwise [rows]

/-- The first result: their product with the weight. -/
theorem result (r : Fin 2048) (j : Fin 2048) : val_main_v27 (F := Ideal) h md nw w (ix3 b r j)
    = ∑ k : Fin 2048, PeerQuery.normed (fun k => h (ix3 b r k)) nw md ⟨b, by omega⟩ k * w (ix2 k j) := by
  unfold val_main_v27
  pointwise [rows]

end Cert.Reference8Ideal.Peer

end
-- ==== Proof.PeerQuery8Claim.lean ====
/-
  The second layer's expert queries' call and its reference leave the same two arrays, whatever the arguments; all three programs
  terminate and leave their arguments as they were.
-/
module

public import proofs.«01_k».proof.Defs
public import proofs.«01_k».proof.Proof.PeerQuery8Array
public import proofs.«01_k».proof.Proof.PeerQuery8Ref
public import proofs.«01_k».proof.Proof.Gen.Kernel8.Launch
public import proofs.«01_k».proof.Proof.Gen.Reference8Ideal.Run
public import Idealize.ShloMosaic.Lib.Quiescent

@[expose] public section

noncomputable section

namespace Cert.PeerQuery8Claim

open Idealize.ShloMosaic Idealize.SL.Sem Idealize.ShloMosaic.TcCoe

/-- The two programs leave the same arrays. -/
theorem algebraic :
    Cert.algebraic_Kernel8Ideal_Reference8Ideal (hKernel8Ideal := Cert.Kernel8Ideal.Gen.facts)
      (hReference8Ideal := Cert.Reference8Ideal.Gen.facts) := by
  intro m ρ m' ρ' _ hag
  refine ⟨fun c => Cert.Kernel8Ideal.Peer.GA m c, fun c => Cert.Kernel8Ideal.Peer.NA m c, Cert.Kernel8Ideal.Peer.run m ρ,
    (θ_run _ _ _).mono (fun _ h c => ⟨(h c).1.trans ?_, (h c).2.1.trans ?_, (h c).2.2⟩) (Cert.Reference8Ideal.Value.run m' ρ')⟩
  · rw [Cert.Reference8Ideal.Read.val_main_v27_eq, (hag c).1, (hag c).2.1, (hag c).2.2.1, (hag c).2.2.2]
    funext i
    obtain ⟨b, r, j, rfl⟩ : ∃ (b : Fin 16) (r : Fin 2048) (j : Fin 2048), i = ix3 b r j := ⟨i 0, i 1, i 2, eq_ix3 i⟩
    exact Cert.Reference8Ideal.Peer.result _ _ _ _ b r j
  · rw [Cert.Reference8Ideal.Read.val_main_v28_eq, (hag c).1, (hag c).2.1, (hag c).2.2.1]
    funext i
    obtain ⟨b, r, k, rfl⟩ : ∃ (b : Fin 16) (r : Fin 2048) (k : Fin 2048), i = ix3 b r k := ⟨i 0, i 1, i 2, eq_ix3 i⟩
    exact Cert.Reference8Ideal.Peer.rows_out _ _ _ b r k

/-- The reading of the kernel at exact numbers terminates, leaves its arguments as they were and its counters at zero. -/
theorem idealFrame : Cert.quiescent_Kernel8Ideal (hKernel8Ideal := Cert.Kernel8Ideal.Gen.facts) := fun m ρ _ =>
  Cert.Kernel8Ideal.Peer.frame m ρ

/-- The two readings' kernel functions are one text. -/
theorem bodies_eq : Cert.Kernel8.defs₀ (F := Bits) = Cert.Kernel8Ideal.defs₀ (F := Bits) := by
  unfold Cert.Kernel8.defs₀ Cert.Kernel8Ideal.defs₀
  congr 1
  funext l a
  match l, a with
  | ⟨0, _⟩, (t, s) => rfl

/-- So are their pipelines. -/
theorem defs_eq : Cert.Kernel8.defs (F := Bits) = Cert.Kernel8Ideal.defs (F := Bits) :=
  congrArg (Pipeline.defs (Cert.Kernel8.pcfgs (F := Bits))) bodies_eq

/-- The kernel, the same text read at machine numbers, terminates, leaves its arguments as they were and its counters at zero. -/
theorem kernelFrame : Cert.quiescent_Kernel8 (hKernel8 := Cert.Kernel8.Gen.facts) := by
  intro m ρ _
  rw [defs_eq]
  exact Cert.Kernel8Ideal.Peer.frame (F := Bits) m ρ

/-- The reference terminates, leaves its arguments as they were and declares no semaphore. -/
theorem referenceFrame : Cert.quiescent_Reference8Ideal (hReference8Ideal := Cert.Reference8Ideal.Gen.facts) := fun m ρ _ =>
  (θ_run Cert.Reference8Ideal.defs _ _).mono (fun r h => And.intro (fun c => (h c).2.2) (sem_eq_zero_of_no_sems (by decide) r.2))
    (Cert.Reference8Ideal.Value.run (F := Ideal) m ρ)

end Cert.PeerQuery8Claim

end
-- ==== Proof.LatentSpec.lean ====
/-
  The latent projections' rows: 512 columns of the projected joint array normalised by their mean square and scaled by the
  norm's weight.
-/
module

public import proofs.«01_k».proof.Proof.InProjSpec

@[expose] public section

noncomputable section

namespace Cert.Latent

open Idealize.ShloMosaic

/-- The projected joint array: sixteen sequences, 2304 rows, 4224 columns. -/
abbrev Joint := (⟨3, ![16, 2304, 4224]⟩ : Shape).Idx → EReal

/-- A norm's weight: one number for each of the 512 columns. -/
abbrev Norm := (⟨1, ![512]⟩ : Shape).Idx → EReal

/-- Entry `k` of a row normalised by its mean square and scaled. -/
def normed (x : Fin 512 → EReal) (w : Norm) (k : Fin 512) : EReal :=
  x k * Ideal.rsqrt (Ideal.div (∑ e : Fin 512, x e * x e) (Ideal.ofBits .f32 0x44000000#32) + Ideal.ofBits .f32 0x358637BD#32)
    * w (ix1 k)

/-- The queries' weight with each head's 192 columns followed by 64 columns of zeros. -/
def wide (w : (⟨2, ![512, 1536]⟩ : Shape).Idx → EReal) (k : Fin 512) (j : Fin 2048) : EReal :=
  if h : j.val % 256 < 192 then w (ix2 k ⟨j.val / 256 * 192 + j.val % 256, by omega⟩) else 0

end Cert.Latent

end
-- ==== Proof.LatentQPoint.lean ====
/-
  What one grid point of the query up-projection computes: the normalised rows it keeps, and their product with the
  weight.
-/
module

public import proofs.«01_k».proof.Proof.LatentSpec
public import proofs.«01_k».proof.Proof.Gen.Kernel9Ideal.Value
public import Idealize.ShloMosaic.Lib.Pointwise

@[expose] public section

noncomputable section

namespace Cert.Kernel9Ideal.Latent

open Cert.Kernel9Ideal Cert.Kernel9Ideal.Gen Idealize.ShloMosaic Idealize.ShloMosaic.TcCoe Idealize.SL.Sem

/-- The normalised rows' entry at row `r` and column `k`. -/
theorem pay1_apply (x : Vec Ideal S1x256x512 .f32) (w : Vec Ideal S1x512 .f32) (r : Fin 256) (k : Fin 512) :
    k0_pay1 (F := Ideal) x w (ix2 r k)
      = x (ix3 0 r k) * Ideal.rsqrt (Ideal.div (∑ e : Fin 512, x (ix3 0 r e) * x (ix3 0 r e)) (Ideal.ofBits .f32 0x44000000#32)
            + Ideal.ofBits .f32 0x358637BD#32)
          * w (ix2 0 k) := by
  unfold k0_pay1
  pointwise

/-- The product's entry at row `r` and column `j`. -/
theorem pay2_apply (a : Vec Ideal S256x512 .bf16) (w : Vec Ideal S512x2048 .bf16) (r : Fin 256) (j : Fin 2048) :
    k0_pay2 (F := Ideal) a w (ix3 0 r j) = ∑ k : Fin 512, a (ix2 r k) * w (ix2 k j) := by
  unfold k0_pay2
  pointwise

variable (m : (ℓ : Loc nD τ sig) → Buf (Elt Ideal) ℓ)

theorem hz3 : (fun a => (![0, 0, 0] : Fin 3 → Nat) a) = fun _ => 0 := by funext a; fin_cases a <;> rfl

theorem hz2 : (fun a => (![0, 0] : Fin 2 → Nat) a) = fun _ => 0 := by funext a; fin_cases a <;> rfl

/-- What a point leaves in its block: the product of the rows it normalised with the weight. -/
theorem outs_eq (c : Dev nD) (t : Fin cfg0.N) : outsAt0 m c t
    = k0_pay2 (F := Ideal) (k0_pay1 (F := Ideal) (X0_0 m c t) (iblk m c 1 t)) (iblk m c 2 t) := by
  unfold outsAt0 out0_A_3
  rw [View.read_writes_eq_canon _ _ _ (fun y => cover0_A_3 c _ _ _ _ _ _ _ _ _ _ _ _ _ _ _ y)]
  unfold kernelRun0_A
  dsimp only
  sl_unfold_words
  rw [View.canon_unit_zero hz3]
  simp only [View.readAt_eq_ld, (hs0_0 t).read_unread, (hs0_1 t).read_unread, (hs0_2 t).read_unread,
    View.ld_unit_zero (S := S1x256x512) hz3, View.ld_unit_zero (S := S1x512) hz2, View.ld_unit_zero (S := S512x2048) hz2,
    View.readCov_unit_zero (S := S256x512) _ hz2]

end Cert.Kernel9Ideal.Latent

end
-- ==== Proof.LatentQArray.lean ====
/-
  The array that the call of the query up-projection leaves: every block a grid point writes back is a
  block of one function of the arguments, and the blocks tile the array.
-/
module

public import proofs.«01_k».proof.Proof.LatentQPoint

@[expose] public section

noncomputable section

namespace Cert.Kernel9Ideal.Latent

open Cert.Kernel9Ideal Cert.Kernel9Ideal.Gen Idealize.ShloMosaic Idealize.ShloMosaic.TcCoe Idealize.SL.Sem

/-- The norm's weight as one row. -/
def normRow (w : Latent.Norm) : S1x512.Idx → EReal :=
  shapeCast S1x512 (w : FVec Ideal S512 .f32) shapeCasts_S512_S1x512

theorem normRow_apply (w : Latent.Norm) (k : Fin 512) : normRow w (ix2 0 k) = w (ix1 k) := by
  unfold normRow
  pointwise

/-- The weight, each head's 192 columns followed by 64 columns of zeros. -/
def weight (w : S512x1536.Idx → EReal) : S512x2048.Idx → EReal :=
  (truncf (F := Ideal) .bf16 · bitsLt_bf16_f32) (shapeCast S512x2048
    (pad S512x8x256 ![0, 0, 0] ![0, 0, 64] ![0, 0, 0] (shapeCast S512x8x192 (w : FVec Ideal S512x1536 .f32) shapeCasts_S512x1536_S512x8x192)
      (sitofp (F := Ideal) .f32 (constantI S_ 32 0#32)) pads_S512x8x192_S512x8x256_000_000_0640 h_S_)
    shapeCasts_S512x8x256_S512x2048)

/-- Column `d` of head `h`: the weight's column below 192, zero from there on. -/
theorem weight_head (w : S512x1536.Idx → EReal) (k : Fin 512) (h : Fin 8) (d : Fin 256) :
    weight w (ix2 k ⟨h * 256 + d, by omega⟩) = if hd : d.val < 192 then w (ix2 k ⟨h * 192 + d, by omega⟩) else 0 := by
  unfold weight
  pointwise [InProj.zero_word]

theorem weight_apply (w : S512x1536.Idx → EReal) (k : Fin 512) (j : Fin 2048) : weight w (ix2 k j) = Latent.wide w k j := by
  have hj : j = ⟨(⟨j.val / 256, by omega⟩ : Fin 8) * 256 + (⟨j.val % 256, by omega⟩ : Fin 256), by
      show j.val / 256 * 256 + j.val % 256 < 2048; omega⟩ := Fin.ext (by show j.val = j.val / 256 * 256 + j.val % 256; omega)
  refine (congrArg (fun z => weight w (ix2 k z)) hj).trans ?_
  exact weight_head w k ⟨j.val / 256, by omega⟩ ⟨j.val % 256, by omega⟩

variable (m : (ℓ : Loc nD τ sig) → Buf (Elt Ideal) ℓ) (ρ : Dev nD → PrngReg)

/-- The projected joint array of device `c`. -/
abbrev Z (c : Dev nD) : Latent.Joint := m ((c : Thread nD τ).loc main_arg0)

/-- The norm's weight of device `c`. -/
abbrev Nw (c : Dev nD) : Latent.Norm := m ((c : Thread nD τ).loc main_arg1)

/-- The weight of device `c`. -/
abbrev W (c : Dev nD) : S512x1536.Idx → EReal := m ((c : Thread nD τ).loc main_arg2)

/-- The norm's weight the call reads. -/
theorem V_norm (c : Dev nD) : V m c main_v4 = normRow (Nw m c) := by
  simp only [V, hostOps0, hostOps0_1, hostOps0_2, List.flatten_cons, List.flatten_nil, List.append_nil, List.cons_append, List.nil_append]
  after_results <;> rfl

/-- The weight the call reads. -/
theorem V_weight (c : Dev nD) : V m c main_v3 = weight (W m c) := by
  simp only [V, hostOps0, hostOps0_1, hostOps0_2, List.flatten_cons, List.flatten_nil, List.append_nil, List.cons_append, List.nil_append]
  after_results <;> rfl

/-- The projected array's block moves with the sequence and the row block; its columns are those from 3072. -/
theorem idx0 : ∀ t : Fin cfg0.N, win0_0.index t 0 = t.val / 9 ∧ win0_0.index t 1 = t.val % 9 ∧ win0_0.index t 2 = 6 :=
  (by decide +kernel : ∀ t : Fin grid0.N, win0_0.index t 0 = t.val / 9 ∧ win0_0.index t 1 = t.val % 9 ∧ win0_0.index t 2 = 6)

/-- The norm's weight does not move. -/
theorem idx1 : ∀ t : Fin cfg0.N, win0_1.index t 0 = 0 ∧ win0_1.index t 1 = 0 :=
  (by decide +kernel : ∀ t : Fin grid0.N, win0_1.index t 0 = 0 ∧ win0_1.index t 1 = 0)

/-- Nor does the weight. -/
theorem idx2 : ∀ t : Fin cfg0.N, win0_2.index t 0 = 0 ∧ win0_2.index t 1 = 0 :=
  (by decide +kernel : ∀ t : Fin grid0.N, win0_2.index t 0 = 0 ∧ win0_2.index t 1 = 0)

/-- The result's block moves with the sequence and the row block. -/
theorem idx3 : ∀ t : Fin cfg0.N, win0_3.index t 0 = t.val / 9 ∧ win0_3.index t 1 = t.val % 9 ∧ win0_3.index t 2 = 0 :=
  (by decide +kernel : ∀ t : Fin grid0.N, win0_3.index t 0 = t.val / 9 ∧ win0_3.index t 1 = t.val % 9 ∧ win0_3.index t 2 = 0)

theorem lt_N (t : Fin cfg0.N) : t.val < 144 := lt_of_lt_of_eq t.isLt N_0

/-- The sequence of a grid point. -/
def bOf (t : Fin cfg0.N) : Fin 16 := ⟨t.val / 9, by have := lt_N t; omega⟩

/-- Row `r` of a grid point's block of rows. -/
def rOf (t : Fin cfg0.N) (r : Fin 256) : Fin 2304 := ⟨t.val % 9 * 256 + r, by omega⟩

/-- Column `k` of the columns that are read. -/
def col (k : Fin 512) : Fin 4224 := ⟨3072 + k, by omega⟩

/-- The projected array's block at a point. -/
theorem z_blk (c : Dev nD) (t : Fin cfg0.N) (r : Fin 256) (k : Fin 512) :
    (X0_0 m c t : Vec Ideal S1x256x512 .f32) (ix3 0 r k) = Z m c (ix3 (bOf t) (rOf t r) (col k)) := by
  obtain ⟨i0, i1, i2⟩ := idx0 t
  have hV : V m c main_arg0 = Z m c := V_main_arg0 m c
  refine (dif_pos (moved0_0 t (ix3 0 r k))).trans ?_
  refine Eq.trans (b := V m c main_arg0 (ix3 (bOf t) (rOf t r) (col k))) ?_ (congrFun hV _)
  unfold iblk
  rw [View.read_apply]
  show V m c main_arg0 _ = V m c main_arg0 _
  congr 1
  funext a
  apply Fin.ext
  match a with
  | ⟨0, _⟩ => show win0_0.index t 0 * 1 + 1 * 0 = t.val / 9; omega
  | ⟨1, _⟩ => show win0_0.index t 1 * 256 + 1 * r.val = t.val % 9 * 256 + r.val; omega
  | ⟨2, _⟩ => show win0_0.index t 2 * 512 + 1 * k.val = 3072 + k.val; omega

/-- The norm's weight is read whole. -/
theorem norm_read (t : Fin cfg0.N) (A : S1x512.Idx → EReal) (k : Fin 512) :
    (((cfg0.win 1).blk t).view.read (Elt Ideal) A : S1x512.Idx → EReal) (ix2 0 k) = A (ix2 0 k) := by
  obtain ⟨i0, i1⟩ := idx1 t
  rw [View.read_apply]
  show A _ = A _
  congr 1
  funext a
  apply Fin.ext
  match a with
  | ⟨0, _⟩ => show win0_1.index t 0 * 1 + 1 * 0 = 0; omega
  | ⟨1, _⟩ => show win0_1.index t 1 * 512 + 1 * k.val = k.val; omega

/-- So is the weight. -/
theorem weight_read (t : Fin cfg0.N) (A : S512x2048.Idx → EReal) (k : Fin 512) (j : Fin 2048) :
    (((cfg0.win 2).blk t).view.read (Elt Ideal) A : S512x2048.Idx → EReal) (ix2 k j) = A (ix2 k j) := by
  obtain ⟨i0, i1⟩ := idx2 t
  rw [View.read_apply]
  show A _ = A _
  congr 1
  funext a
  apply Fin.ext
  match a with
  | ⟨0, _⟩ => show win0_2.index t 0 * 512 + 1 * k.val = k.val; omega
  | ⟨1, _⟩ => show win0_2.index t 1 * 2048 + 1 * j.val = j.val; omega

/-- The norm's weight at a point. -/
theorem norm_blk (c : Dev nD) (t : Fin cfg0.N) (k : Fin 512) :
    (iblk m c 1 t : Vec Ideal S1x512 .f32) (ix2 0 k) = Nw m c (ix1 k) := by
  have h : iblk m c 1 t = ((cfg0.win 1).blk t).view.read (Elt Ideal) (normRow (Nw m c)) :=
    congrArg (fun A => ((cfg0.win 1).blk t).view.read (Elt Ideal) A) (V_norm m c)
  rw [h]
  exact (norm_read t _ k).trans (normRow_apply (Nw m c) k)

/-- The weight at a point. -/
theorem weight_blk (c : Dev nD) (t : Fin cfg0.N) (k : Fin 512) (j : Fin 2048) :
    (iblk m c 2 t : Vec Ideal S512x2048 .bf16) (ix2 k j) = Latent.wide (W m c) k j := by
  have h : iblk m c 2 t = ((cfg0.win 2).blk t).view.read (Elt Ideal) (weight (W m c)) :=
    congrArg (fun A => ((cfg0.win 2).blk t).view.read (Elt Ideal) A) (V_weight m c)
  rw [h]
  exact (weight_read t _ k j).trans (weight_apply (W m c) k j)

/-- Entry `k` of the normalised row `r` of sequence `b`. -/
def N (c : Dev nD) (b : Fin 16) (r : Fin 2304) (k : Fin 512) : EReal :=
  Latent.normed (fun k => Z m c (ix3 b r (col k))) (Nw m c) k

/-- The normalised rows a point computes. -/
theorem rows_apply (c : Dev nD) (t : Fin cfg0.N) (r : Fin 256) (k : Fin 512) :
    k0_pay1 (F := Ideal) (X0_0 m c t) (iblk m c 1 t) (ix2 r k) = N m c (bOf t) (rOf t r) k := by
  refine (pay1_apply _ _ r k).trans ?_
  unfold N Latent.normed
  rw [norm_blk m c t k, z_blk m c t r k]
  have hs : ∀ X : S1x256x512.Idx → EReal, (∀ e, X (ix3 0 r e) = Z m c (ix3 (bOf t) (rOf t r) (col e))) →
      (∑ e : Fin 512, X (ix3 0 r e) * X (ix3 0 r e))
        = ∑ e : Fin 512, Z m c (ix3 (bOf t) (rOf t r) (col e)) * Z m c (ix3 (bOf t) (rOf t r) (col e)) :=
    fun X hX => Finset.sum_congr rfl fun e _ => congrArg₂ (· * ·) (hX e) (hX e)
  rw [hs (X0_0 m c t) (fun e => z_blk m c t r e)]

/-- What the result holds at the end. -/
def G (c : Dev nD) (b : Fin 16) (r : Fin 2304) (j : Fin 2048) : EReal :=
  ∑ k : Fin 512, N m c b r k * Latent.wide (W m c) k j

/-- The same, as an array. -/
def GA (c : Dev nD) : S16x2304x2048.Idx → EReal := fun i => G m c (i 0) (i 1) (i 2)

/-- Where a point's block lies in the array. -/
theorem o_read (t : Fin cfg0.N) (A : S16x2304x2048.Idx → EReal) (r : Fin 256) (j : Fin 2048) :
    (((cfg0.win 3).blk t).view.read (Elt Ideal) A : S1x256x2048.Idx → EReal) (ix3 0 r j) = A (ix3 (bOf t) (rOf t r) j) := by
  obtain ⟨i0, i1, i2⟩ := idx3 t
  rw [View.read_apply]
  show A _ = A _
  congr 1
  funext a
  apply Fin.ext
  match a with
  | ⟨0, _⟩ => show win0_3.index t 0 * 1 + 1 * 0 = t.val / 9; omega
  | ⟨1, _⟩ => show win0_3.index t 1 * 256 + 1 * r.val = t.val % 9 * 256 + r.val; omega
  | ⟨2, _⟩ => show win0_3.index t 2 * 2048 + 1 * j.val = j.val; omega

/-- What a point writes, entry by entry. -/
theorem wrote (c : Dev nD) (t : Fin cfg0.N) (r : Fin 256) (j : Fin 2048) :
    outsAt0 m c t (ix3 0 r j) = G m c (bOf t) (rOf t r) j := by
  refine (congrFun (outs_eq m c t) (ix3 0 r j)).trans ((pay2_apply _ _ r j).trans ?_)
  unfold G
  exact Finset.sum_congr rfl fun k _ => congrArg₂ (· * ·) (rows_apply m c t r k) (weight_blk m c t k j)

/-- The array's entries at a point's block, given the block entry by entry. -/
theorem eq_block (c : Dev nD) (t : Fin cfg0.N) (f : S1x256x2048.Idx → EReal)
    (hf : ∀ (r : Fin 256) (j : Fin 2048), f (ix3 0 r j) = G m c (bOf t) (rOf t r) j)
    (y : S1x256x2048.Idx) : f y = ((cfg0.win 3).blk t).view.read (Elt Ideal) (GA m c) y := by
  obtain ⟨r, j, rfl⟩ : ∃ (r : Fin 256) (j : Fin 2048), y = ix3 0 r j :=
    ⟨y 1, y 2, by
      funext a
      match a with
      | ⟨0, _⟩ => exact Subsingleton.elim (α := Fin 1) _ _
      | ⟨1, _⟩ => rfl
      | ⟨2, _⟩ => rfl⟩
  exact (hf r j).trans (o_read t (GA m c) r j).symm

/-- Every point writes its block of the array. -/
theorem flushed_eq (c : Dev nD) (t : Fin cfg0.N) :
    (dats m 0 c).flushed 3 t = ((cfg0.win 3).blk t).view.read (Elt Ideal) (GA m c) := by
  rw [Value.flushed3 m c t]
  funext y
  exact eq_block m c t _ (wrote m c t) y

/-- The blocks tile the array. -/
theorem cover (i : S16x2304x2048.Idx) :
    ∃ t : Fin cfg0.N, (cfg0.win 3).flush t = true ∧ i ∈ ((cfg0.win 3).blk t).view.set := by
  have h0 : (i 0).val < 16 := (i 0).isLt
  have h1 : (i 1).val < 2304 := (i 1).isLt
  have h2 : (i 2).val < 2048 := (i 2).isLt
  let t : Fin cfg0.N := ⟨(i 0).val * 9 + (i 1).val / 256, by rw [show cfg0.N = 144 from N_0]; omega⟩
  have ht : t.val = (i 0).val * 9 + (i 1).val / 256 := rfl
  obtain ⟨e0, e1, e2⟩ := idx3 t
  refine ⟨t, flush0_3 t, ?_⟩
  show i ∈ ((View.whole main_v5).slice (win0_3.rect t)).set
  rw [View.set_slice_whole, Rect.mem_set_unit]
  intro a
  match a with
  | ⟨0, _⟩ => show win0_3.index t 0 * 1 ≤ (i 0).val ∧ (i 0).val < win0_3.index t 0 * 1 + 1; omega
  | ⟨1, _⟩ => show win0_3.index t 1 * 256 ≤ (i 1).val ∧ (i 1).val < win0_3.index t 1 * 256 + 256; omega
  | ⟨2, _⟩ => show win0_3.index t 2 * 2048 ≤ (i 2).val ∧ (i 2).val < win0_3.index t 2 * 2048 + 2048; omega

/-- So the array ends holding the products. -/
theorem final (c : Dev nD) : (dats m 0 c).arrAt 3 cfg0.N = GA m c :=
  (dats m 0 c).arrAt_eq_of_cover 3 (GA m c) (fun t _ => flushed_eq m c t) cover

/-- The run, read: the result holds the products, the arguments are unchanged. -/
theorem run : θ_run defs (onTc (τ := τ) (main (F := Ideal))) ⟨m, fun _ => 0, ρ⟩ fun r => ∀ c : Dev nD,
      r.2.mem ((c : Thread nD τ).loc main_v5) = GA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Kernel9Ideal.Latent

end
-- ==== Proof.LatentQRef.lean ====
/-
  What the reference of the query up-projection computes, entry by entry.
-/
module

public import proofs.«01_k».proof.Proof.LatentSpec
public import proofs.«01_k».proof.Proof.Gen.Reference9Ideal.Read
public import Idealize.ShloMosaic.Lib.Pointwise

@[expose] public section

noncomputable section

namespace Cert.Reference9Ideal.Latent

open Cert.Reference9Ideal Cert.Reference9Ideal.Gen Cert.Reference9Ideal.Read Idealize.ShloMosaic Idealize.ShloMosaic.TcCoe

variable (z : Latent.Joint) (nw : Latent.Norm) (w : S512x1536.Idx → EReal) (b : Fin 16)

/-- A row normalised and scaled. -/
theorem rows (r : Fin 2304) (k : Fin 512) : val_main_v13 (F := Ideal) z nw (ix3 b r k)
    = Latent.normed (fun k => z (ix3 b r ⟨3072 + k, by omega⟩)) nw k := by
  unfold val_main_v13 val_main_v12 val_main_v11 val_main_v10 val_main_v9 val_main_v8 val_main_v7 val_main_v6 val_main_v5
    val_main_v4 val_main_v3 val_main_v2 val_main_v1 val_main_v0 val_main_cst val_main_cst_0 val_main_cst_1
  pointwise [Latent.normed]

/-- The product with the weight, before the heads' columns are padded. -/
theorem product (r : Fin 2304) (j : Fin 1536) : val_main_v14 (F := Ideal) z nw w (ix3 b r j)
    = ∑ k : Fin 512, Latent.normed (fun k => z (ix3 b r ⟨3072 + k, by omega⟩)) nw k * w (ix2 k j) := by
  unfold val_main_v14
  pointwise [rows]

/-- Column `d` of head `h` of the result: the product's column below 192, zero from there on. -/
theorem head (r : Fin 2304) (h : Fin 8) (d : Fin 256) : val_main_v17 (F := Ideal) z nw w (ix3 b r ⟨h * 256 + d, by omega⟩)
    = if hd : d.val < 192 then val_main_v14 (F := Ideal) z nw w (ix3 b r ⟨h * 192 + d, by omega⟩) else 0 := by
  unfold val_main_v17 val_main_v16 val_main_v15 val_main_call0_v0 val_main_c
  generalize val_main_v14 (F := Ideal) z nw w = y
  pointwise [InProj.zero_word]

/-- The result: the rows' product with the weight whose heads' columns are padded with zeros. -/
theorem result (r : Fin 2304) (j : Fin 2048) : val_main_v17 (F := Ideal) z nw w (ix3 b r j)
    = ∑ k : Fin 512, Latent.normed (fun k => z (ix3 b r ⟨3072 + k, by omega⟩)) nw k * Latent.wide w k j := by
  have hj : j = ⟨(⟨j.val / 256, by omega⟩ : Fin 8) * 256 + (⟨j.val % 256, by omega⟩ : Fin 256), by
      show j.val / 256 * 256 + j.val % 256 < 2048; omega⟩ := Fin.ext (by show j.val = j.val / 256 * 256 + j.val % 256; omega)
  refine (congrArg (fun i => val_main_v17 (F := Ideal) z nw w (ix3 b r i)) hj).trans ?_
  refine (head z nw w b r ⟨j.val / 256, by omega⟩ ⟨j.val % 256, by omega⟩).trans ?_
  by_cases hd : j.val % 256 < 192
  · refine (dif_pos hd).trans ((product z nw w b r _).trans (Finset.sum_congr rfl fun k _ => ?_))
    rw [show Latent.wide w k j = w (ix2 k ⟨j.val / 256 * 192 + j.val % 256, by omega⟩) from dif_pos hd]
  · refine (dif_neg hd).trans ?_
    symm
    apply Finset.sum_eq_zero
    intro k _
    rw [show Latent.wide w k j = 0 from dif_neg hd, mul_zero]

end Cert.Reference9Ideal.Latent

end
-- ==== Proof.LatentQClaim.lean ====
/-
  The call of the query up-projection and its reference leave the same array, whatever the arguments; the
  reference terminates and leaves its arguments as they were.
-/
module

public import proofs.«01_k».proof.Defs
public import proofs.«01_k».proof.Proof.LatentQArray
public import proofs.«01_k».proof.Proof.LatentQRef
public import proofs.«01_k».proof.Proof.Gen.Reference9Ideal.Run
public import Idealize.ShloMosaic.Lib.Quiescent

@[expose] public section

noncomputable section

namespace Cert.LatentQClaim

open Idealize.ShloMosaic Idealize.SL.Sem Idealize.ShloMosaic.TcCoe

/-- The two programs leave the same array. -/
theorem algebraic :
    Cert.algebraic_Kernel9Ideal_Reference9Ideal (hKernel9Ideal := Cert.Kernel9Ideal.Gen.facts)
      (hReference9Ideal := Cert.Reference9Ideal.Gen.facts) := by
  intro m ρ m' ρ' _ hag
  refine ⟨fun c => Cert.Kernel9Ideal.Latent.GA m c, Cert.Kernel9Ideal.Latent.run m ρ,
    (θ_run _ _ _).mono (fun _ h c => ⟨(h c).1.trans ?_, (h c).2⟩) (Cert.Reference9Ideal.Value.run m' ρ')⟩
  rw [Cert.Reference9Ideal.Read.val_main_v17_eq, (hag c).1, (hag c).2.1, (hag c).2.2]
  funext i
  obtain ⟨b, r, j, rfl⟩ : ∃ (b : Fin 16) (r : Fin 2304) (j : Fin 2048), i = ix3 b r j := ⟨i 0, i 1, i 2, eq_ix3 i⟩
  exact Cert.Reference9Ideal.Latent.result _ _ _ b r j

/-- The reference terminates, leaves its arguments as they were and declares no semaphore. -/
theorem referenceFrame : Cert.quiescent_Reference9Ideal (hReference9Ideal := Cert.Reference9Ideal.Gen.facts) := fun m ρ _ =>
  (θ_run Cert.Reference9Ideal.defs _ _).mono (fun r h => And.intro (fun c => (h c).2) (sem_eq_zero_of_no_sems (by decide) r.2))
    (Cert.Reference9Ideal.Value.run (F := Ideal) m ρ)

end Cert.LatentQClaim

end
-- ==== Proof.LatentKvPoint.lean ====
/-
  What one grid point of the key and value up-projection computes: the normalised rows it keeps, and their product with the
  weight.
-/
module

public import proofs.«01_k».proof.Proof.LatentSpec
public import proofs.«01_k».proof.Proof.Gen.Kernel10Ideal.Value
public import Idealize.ShloMosaic.Lib.Pointwise

@[expose] public section

noncomputable section

namespace Cert.Kernel10Ideal.Latent

open Cert.Kernel10Ideal Cert.Kernel10Ideal.Gen Idealize.ShloMosaic Idealize.ShloMosaic.TcCoe Idealize.SL.Sem

/-- The normalised rows' entry at row `r` and column `k`. -/
theorem pay1_apply (x : Vec Ideal S1x256x512 .f32) (w : Vec Ideal S1x512 .f32) (r : Fin 256) (k : Fin 512) :
    k0_pay1 (F := Ideal) x w (ix2 r k)
      = x (ix3 0 r k) * Ideal.rsqrt (Ideal.div (∑ e : Fin 512, x (ix3 0 r e) * x (ix3 0 r e)) (Ideal.ofBits .f32 0x44000000#32)
            + Ideal.ofBits .f32 0x358637BD#32)
          * w (ix2 0 k) := by
  unfold k0_pay1
  pointwise

/-- The product's entry at row `r` and column `j`. -/
theorem pay2_apply (a : Vec Ideal S256x512 .bf16) (w : Vec Ideal S512x2048 .bf16) (r : Fin 256) (j : Fin 2048) :
    k0_pay2 (F := Ideal) a w (ix3 0 r j) = ∑ k : Fin 512, a (ix2 r k) * w (ix2 k j) := by
  unfold k0_pay2
  pointwise

variable (m : (ℓ : Loc nD τ sig) → Buf (Elt Ideal) ℓ)

theorem hz3 : (fun a => (![0, 0, 0] : Fin 3 → Nat) a) = fun _ => 0 := by funext a; fin_cases a <;> rfl

theorem hz2 : (fun a => (![0, 0] : Fin 2 → Nat) a) = fun _ => 0 := by funext a; fin_cases a <;> rfl

/-- What a point leaves in its block: the product of the rows it normalised with the weight. -/
theorem outs_eq (c : Dev nD) (t : Fin cfg0.N) : outsAt0 m c t
    = k0_pay2 (F := Ideal) (k0_pay1 (F := Ideal) (X0_0 m c t) (iblk m c 1 t)) (iblk m c 2 t) := by
  unfold outsAt0 out0_A_3
  rw [View.read_writes_eq_canon _ _ _ (fun y => cover0_A_3 c _ _ _ _ _ _ _ _ _ _ _ _ _ _ _ y)]
  unfold kernelRun0_A
  dsimp only
  sl_unfold_words
  rw [View.canon_unit_zero hz3]
  simp only [View.readAt_eq_ld, (hs0_0 t).read_unread, (hs0_1 t).read_unread, (hs0_2 t).read_unread,
    View.ld_unit_zero (S := S1x256x512) hz3, View.ld_unit_zero (S := S1x512) hz2, View.ld_unit_zero (S := S512x2048) hz2,
    View.readCov_unit_zero (S := S256x512) _ hz2]

end Cert.Kernel10Ideal.Latent

end
-- ==== Proof.LatentKvArray.lean ====
/-
  The array that the call of the key and value up-projection leaves: every block a grid point writes back is a
  block of one function of the arguments, and the blocks tile the array.
-/
module

public import proofs.«01_k».proof.Proof.LatentKvPoint

@[expose] public section

noncomputable section

namespace Cert.Kernel10Ideal.Latent

open Cert.Kernel10Ideal Cert.Kernel10Ideal.Gen Idealize.ShloMosaic Idealize.ShloMosaic.TcCoe Idealize.SL.Sem

/-- The norm's weight as one row. -/
def normRow (w : Latent.Norm) : S1x512.Idx → EReal :=
  shapeCast S1x512 (w : FVec Ideal S512 .f32) shapeCasts_S512_S1x512

theorem normRow_apply (w : Latent.Norm) (k : Fin 512) : normRow w (ix2 0 k) = w (ix1 k) := by
  unfold normRow
  pointwise

/-- The weight as the call takes it. -/
def weight (w : S512x2048.Idx → EReal) : S512x2048.Idx → EReal :=
  (truncf (F := Ideal) .bf16 · bitsLt_bf16_f32) (w : FVec Ideal S512x2048 .f32)

theorem weight_apply (w : S512x2048.Idx → EReal) (k : Fin 512) (j : Fin 2048) : weight w (ix2 k j) = w (ix2 k j) := by
  unfold weight
  pointwise

variable (m : (ℓ : Loc nD τ sig) → Buf (Elt Ideal) ℓ) (ρ : Dev nD → PrngReg)

/-- The projected joint array of device `c`. -/
abbrev Z (c : Dev nD) : Latent.Joint := m ((c : Thread nD τ).loc main_arg0)

/-- The norm's weight of device `c`. -/
abbrev Nw (c : Dev nD) : Latent.Norm := m ((c : Thread nD τ).loc main_arg1)

/-- The weight of device `c`. -/
abbrev W (c : Dev nD) : S512x2048.Idx → EReal := m ((c : Thread nD τ).loc main_arg2)

/-- The norm's weight the call reads. -/
theorem V_norm (c : Dev nD) : V m c main_v1 = normRow (Nw m c) := by
  simp only [V, hostOps0, List.flatten_cons, List.flatten_nil, List.append_nil, List.cons_append, List.nil_append]
  after_results <;> rfl

/-- The weight the call reads. -/
theorem V_weight (c : Dev nD) : V m c main_v0 = weight (W m c) := by
  simp only [V, hostOps0, List.flatten_cons, List.flatten_nil, List.append_nil, List.cons_append, List.nil_append]
  after_results <;> rfl

/-- The projected array's block moves with the sequence and the row block; its columns are those from 3584. -/
theorem idx0 : ∀ t : Fin cfg0.N, win0_0.index t 0 = t.val / 9 ∧ win0_0.index t 1 = t.val % 9 ∧ win0_0.index t 2 = 7 :=
  (by decide +kernel : ∀ t : Fin grid0.N, win0_0.index t 0 = t.val / 9 ∧ win0_0.index t 1 = t.val % 9 ∧ win0_0.index t 2 = 7)

/-- The norm's weight does not move. -/
theorem idx1 : ∀ t : Fin cfg0.N, win0_1.index t 0 = 0 ∧ win0_1.index t 1 = 0 :=
  (by decide +kernel : ∀ t : Fin grid0.N, win0_1.index t 0 = 0 ∧ win0_1.index t 1 = 0)

/-- Nor does the weight. -/
theorem idx2 : ∀ t : Fin cfg0.N, win0_2.index t 0 = 0 ∧ win0_2.index t 1 = 0 :=
  (by decide +kernel : ∀ t : Fin grid0.N, win0_2.index t 0 = 0 ∧ win0_2.index t 1 = 0)

/-- The result's block moves with the sequence and the row block. -/
theorem idx3 : ∀ t : Fin cfg0.N, win0_3.index t 0 = t.val / 9 ∧ win0_3.index t 1 = t.val % 9 ∧ win0_3.index t 2 = 0 :=
  (by decide +kernel : ∀ t : Fin grid0.N, win0_3.index t 0 = t.val / 9 ∧ win0_3.index t 1 = t.val % 9 ∧ win0_3.index t 2 = 0)

theorem lt_N (t : Fin cfg0.N) : t.val < 144 := lt_of_lt_of_eq t.isLt N_0

/-- The sequence of a grid point. -/
def bOf (t : Fin cfg0.N) : Fin 16 := ⟨t.val / 9, by have := lt_N t; omega⟩

/-- Row `r` of a grid point's block of rows. -/
def rOf (t : Fin cfg0.N) (r : Fin 256) : Fin 2304 := ⟨t.val % 9 * 256 + r, by omega⟩

/-- Column `k` of the columns that are read. -/
def col (k : Fin 512) : Fin 4224 := ⟨3584 + k, by omega⟩

/-- The projected array's block at a point. -/
theorem z_blk (c : Dev nD) (t : Fin cfg0.N) (r : Fin 256) (k : Fin 512) :
    (X0_0 m c t : Vec Ideal S1x256x512 .f32) (ix3 0 r k) = Z m c (ix3 (bOf t) (rOf t r) (col k)) := by
  obtain ⟨i0, i1, i2⟩ := idx0 t
  have hV : V m c main_arg0 = Z m c := V_main_arg0 m c
  refine (dif_pos (moved0_0 t (ix3 0 r k))).trans ?_
  refine Eq.trans (b := V m c main_arg0 (ix3 (bOf t) (rOf t r) (col k))) ?_ (congrFun hV _)
  unfold iblk
  rw [View.read_apply]
  show V m c main_arg0 _ = V m c main_arg0 _
  congr 1
  funext a
  apply Fin.ext
  match a with
  | ⟨0, _⟩ => show win0_0.index t 0 * 1 + 1 * 0 = t.val / 9; omega
  | ⟨1, _⟩ => show win0_0.index t 1 * 256 + 1 * r.val = t.val % 9 * 256 + r.val; omega
  | ⟨2, _⟩ => show win0_0.index t 2 * 512 + 1 * k.val = 3584 + k.val; omega

/-- The norm's weight is read whole. -/
theorem norm_read (t : Fin cfg0.N) (A : S1x512.Idx → EReal) (k : Fin 512) :
    (((cfg0.win 1).blk t).view.read (Elt Ideal) A : S1x512.Idx → EReal) (ix2 0 k) = A (ix2 0 k) := by
  obtain ⟨i0, i1⟩ := idx1 t
  rw [View.read_apply]
  show A _ = A _
  congr 1
  funext a
  apply Fin.ext
  match a with
  | ⟨0, _⟩ => show win0_1.index t 0 * 1 + 1 * 0 = 0; omega
  | ⟨1, _⟩ => show win0_1.index t 1 * 512 + 1 * k.val = k.val; omega

/-- So is the weight. -/
theorem weight_read (t : Fin cfg0.N) (A : S512x2048.Idx → EReal) (k : Fin 512) (j : Fin 2048) :
    (((cfg0.win 2).blk t).view.read (Elt Ideal) A : S512x2048.Idx → EReal) (ix2 k j) = A (ix2 k j) := by
  obtain ⟨i0, i1⟩ := idx2 t
  rw [View.read_apply]
  show A _ = A _
  congr 1
  funext a
  apply Fin.ext
  match a with
  | ⟨0, _⟩ => show win0_2.index t 0 * 512 + 1 * k.val = k.val; omega
  | ⟨1, _⟩ => show win0_2.index t 1 * 2048 + 1 * j.val = j.val; omega

/-- The norm's weight at a point. -/
theorem norm_blk (c : Dev nD) (t : Fin cfg0.N) (k : Fin 512) :
    (iblk m c 1 t : Vec Ideal S1x512 .f32) (ix2 0 k) = Nw m c (ix1 k) := by
  have h : iblk m c 1 t = ((cfg0.win 1).blk t).view.read (Elt Ideal) (normRow (Nw m c)) :=
    congrArg (fun A => ((cfg0.win 1).blk t).view.read (Elt Ideal) A) (V_norm m c)
  rw [h]
  exact (norm_read t _ k).trans (normRow_apply (Nw m c) k)

/-- The weight at a point. -/
theorem weight_blk (c : Dev nD) (t : Fin cfg0.N) (k : Fin 512) (j : Fin 2048) :
    (iblk m c 2 t : Vec Ideal S512x2048 .bf16) (ix2 k j) = W m c (ix2 k j) := by
  have h : iblk m c 2 t = ((cfg0.win 2).blk t).view.read (Elt Ideal) (weight (W m c)) :=
    congrArg (fun A => ((cfg0.win 2).blk t).view.read (Elt Ideal) A) (V_weight m c)
  rw [h]
  exact (weight_read t _ k j).trans (weight_apply (W m c) k j)

/-- Entry `k` of the normalised row `r` of sequence `b`. -/
def N (c : Dev nD) (b : Fin 16) (r : Fin 2304) (k : Fin 512) : EReal :=
  Latent.normed (fun k => Z m c (ix3 b r (col k))) (Nw m c) k

/-- The normalised rows a point computes. -/
theorem rows_apply (c : Dev nD) (t : Fin cfg0.N) (r : Fin 256) (k : Fin 512) :
    k0_pay1 (F := Ideal) (X0_0 m c t) (iblk m c 1 t) (ix2 r k) = N m c (bOf t) (rOf t r) k := by
  refine (pay1_apply _ _ r k).trans ?_
  unfold N Latent.normed
  rw [norm_blk m c t k, z_blk m c t r k]
  have hs : ∀ X : S1x256x512.Idx → EReal, (∀ e, X (ix3 0 r e) = Z m c (ix3 (bOf t) (rOf t r) (col e))) →
      (∑ e : Fin 512, X (ix3 0 r e) * X (ix3 0 r e))
        = ∑ e : Fin 512, Z m c (ix3 (bOf t) (rOf t r) (col e)) * Z m c (ix3 (bOf t) (rOf t r) (col e)) :=
    fun X hX => Finset.sum_congr rfl fun e _ => congrArg₂ (· * ·) (hX e) (hX e)
  rw [hs (X0_0 m c t) (fun e => z_blk m c t r e)]

/-- What the result holds at the end. -/
def G (c : Dev nD) (b : Fin 16) (r : Fin 2304) (j : Fin 2048) : EReal :=
  ∑ k : Fin 512, N m c b r k * W m c (ix2 k j)

/-- The same, as an array. -/
def GA (c : Dev nD) : S16x2304x2048.Idx → EReal := fun i => G m c (i 0) (i 1) (i 2)

/-- Where a point's block lies in the array. -/
theorem o_read (t : Fin cfg0.N) (A : S16x2304x2048.Idx → EReal) (r : Fin 256) (j : Fin 2048) :
    (((cfg0.win 3).blk t).view.read (Elt Ideal) A : S1x256x2048.Idx → EReal) (ix3 0 r j) = A (ix3 (bOf t) (rOf t r) j) := by
  obtain ⟨i0, i1, i2⟩ := idx3 t
  rw [View.read_apply]
  show A _ = A _
  congr 1
  funext a
  apply Fin.ext
  match a with
  | ⟨0, _⟩ => show win0_3.index t 0 * 1 + 1 * 0 = t.val / 9; omega
  | ⟨1, _⟩ => show win0_3.index t 1 * 256 + 1 * r.val = t.val % 9 * 256 + r.val; omega
  | ⟨2, _⟩ => show win0_3.index t 2 * 2048 + 1 * j.val = j.val; omega

/-- What a point writes, entry by entry. -/
theorem wrote (c : Dev nD) (t : Fin cfg0.N) (r : Fin 256) (j : Fin 2048) :
    outsAt0 m c t (ix3 0 r j) = G m c (bOf t) (rOf t r) j := by
  refine (congrFun (outs_eq m c t) (ix3 0 r j)).trans ((pay2_apply _ _ r j).trans ?_)
  unfold G
  exact Finset.sum_congr rfl fun k _ => congrArg₂ (· * ·) (rows_apply m c t r k) (weight_blk m c t k j)

/-- The array's entries at a point's block, given the block entry by entry. -/
theorem eq_block (c : Dev nD) (t : Fin cfg0.N) (f : S1x256x2048.Idx → EReal)
    (hf : ∀ (r : Fin 256) (j : Fin 2048), f (ix3 0 r j) = G m c (bOf t) (rOf t r) j)
    (y : S1x256x2048.Idx) : f y = ((cfg0.win 3).blk t).view.read (Elt Ideal) (GA m c) y := by
  obtain ⟨r, j, rfl⟩ : ∃ (r : Fin 256) (j : Fin 2048), y = ix3 0 r j :=
    ⟨y 1, y 2, by
      funext a
      match a with
      | ⟨0, _⟩ => exact Subsingleton.elim (α := Fin 1) _ _
      | ⟨1, _⟩ => rfl
      | ⟨2, _⟩ => rfl⟩
  exact (hf r j).trans (o_read t (GA m c) r j).symm

/-- Every point writes its block of the array. -/
theorem flushed_eq (c : Dev nD) (t : Fin cfg0.N) :
    (dats m 0 c).flushed 3 t = ((cfg0.win 3).blk t).view.read (Elt Ideal) (GA m c) := by
  rw [Value.flushed3 m c t]
  funext y
  exact eq_block m c t _ (wrote m c t) y

/-- The blocks tile the array. -/
theorem cover (i : S16x2304x2048.Idx) :
    ∃ t : Fin cfg0.N, (cfg0.win 3).flush t = true ∧ i ∈ ((cfg0.win 3).blk t).view.set := by
  have h0 : (i 0).val < 16 := (i 0).isLt
  have h1 : (i 1).val < 2304 := (i 1).isLt
  have h2 : (i 2).val < 2048 := (i 2).isLt
  let t : Fin cfg0.N := ⟨(i 0).val * 9 + (i 1).val / 256, by rw [show cfg0.N = 144 from N_0]; omega⟩
  have ht : t.val = (i 0).val * 9 + (i 1).val / 256 := rfl
  obtain ⟨e0, e1, e2⟩ := idx3 t
  refine ⟨t, flush0_3 t, ?_⟩
  show i ∈ ((View.whole main_v2).slice (win0_3.rect t)).set
  rw [View.set_slice_whole, Rect.mem_set_unit]
  intro a
  match a with
  | ⟨0, _⟩ => show win0_3.index t 0 * 1 ≤ (i 0).val ∧ (i 0).val < win0_3.index t 0 * 1 + 1; omega
  | ⟨1, _⟩ => show win0_3.index t 1 * 256 ≤ (i 1).val ∧ (i 1).val < win0_3.index t 1 * 256 + 256; omega
  | ⟨2, _⟩ => show win0_3.index t 2 * 2048 ≤ (i 2).val ∧ (i 2).val < win0_3.index t 2 * 2048 + 2048; omega

/-- So the array ends holding the products. -/
theorem final (c : Dev nD) : (dats m 0 c).arrAt 3 cfg0.N = GA m c :=
  (dats m 0 c).arrAt_eq_of_cover 3 (GA m c) (fun t _ => flushed_eq m c t) cover

/-- The run, read: the result holds the products, the arguments are unchanged. -/
theorem run : θ_run defs (onTc (τ := τ) (main (F := Ideal))) ⟨m, fun _ => 0, ρ⟩ fun r => ∀ c : Dev nD,
      r.2.mem ((c : Thread nD τ).loc main_v2) = GA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Kernel10Ideal.Latent

end
-- ==== Proof.LatentKvRef.lean ====
/-
  What the reference of the key and value up-projection computes, entry by entry.
-/
module

public import proofs.«01_k».proof.Proof.LatentSpec
public import proofs.«01_k».proof.Proof.Gen.Reference10Ideal.Read
public import Idealize.ShloMosaic.Lib.Pointwise

@[expose] public section

noncomputable section

namespace Cert.Reference10Ideal.Latent

open Cert.Reference10Ideal Cert.Reference10Ideal.Gen Cert.Reference10Ideal.Read Idealize.ShloMosaic Idealize.ShloMosaic.TcCoe

variable (z : Latent.Joint) (nw : Latent.Norm) (w : S512x2048.Idx → EReal) (b : Fin 16)

/-- A row normalised and scaled. -/
theorem rows (r : Fin 2304) (k : Fin 512) : val_main_v13 (F := Ideal) z nw (ix3 b r k)
    = Latent.normed (fun k => z (ix3 b r ⟨3584 + k, by omega⟩)) nw k := by
  unfold val_main_v13 val_main_v12 val_main_v11 val_main_v10 val_main_v9 val_main_v8 val_main_v7 val_main_v6 val_main_v5
    val_main_v4 val_main_v3 val_main_v2 val_main_v1 val_main_v0 val_main_cst val_main_cst_0 val_main_cst_1
  pointwise [Latent.normed]

/-- The result: the rows' product with the weight. -/
theorem result (r : Fin 2304) (j : Fin 2048) : val_main_v14 (F := Ideal) z nw w (ix3 b r j)
    = ∑ k : Fin 512, Latent.normed (fun k => z (ix3 b r ⟨3584 + k, by omega⟩)) nw k * w (ix2 k j) := by
  unfold val_main_v14
  pointwise [rows]

end Cert.Reference10Ideal.Latent

end
-- ==== Proof.LatentKvClaim.lean ====
/-
  The call of the key and value up-projection and its reference leave the same array, whatever the arguments; the
  reference terminates and leaves its arguments as they were.
-/
module

public import proofs.«01_k».proof.Defs
public import proofs.«01_k».proof.Proof.LatentKvArray
public import proofs.«01_k».proof.Proof.LatentKvRef
public import proofs.«01_k».proof.Proof.Gen.Reference10Ideal.Run
public import Idealize.ShloMosaic.Lib.Quiescent

@[expose] public section

noncomputable section

namespace Cert.LatentKvClaim

open Idealize.ShloMosaic Idealize.SL.Sem Idealize.ShloMosaic.TcCoe

/-- The two programs leave the same array. -/
theorem algebraic :
    Cert.algebraic_Kernel10Ideal_Reference10Ideal (hKernel10Ideal := Cert.Kernel10Ideal.Gen.facts)
      (hReference10Ideal := Cert.Reference10Ideal.Gen.facts) := by
  intro m ρ m' ρ' _ hag
  refine ⟨fun c => Cert.Kernel10Ideal.Latent.GA m c, Cert.Kernel10Ideal.Latent.run m ρ,
    (θ_run _ _ _).mono (fun _ h c => ⟨(h c).1.trans ?_, (h c).2⟩) (Cert.Reference10Ideal.Value.run m' ρ')⟩
  rw [Cert.Reference10Ideal.Read.val_main_v14_eq, (hag c).1, (hag c).2.1, (hag c).2.2]
  funext i
  obtain ⟨b, r, j, rfl⟩ : ∃ (b : Fin 16) (r : Fin 2304) (j : Fin 2048), i = ix3 b r j := ⟨i 0, i 1, i 2, eq_ix3 i⟩
  exact Cert.Reference10Ideal.Latent.result _ _ _ b r j

/-- The reference terminates, leaves its arguments as they were and declares no semaphore. -/
theorem referenceFrame : Cert.quiescent_Reference10Ideal (hReference10Ideal := Cert.Reference10Ideal.Gen.facts) := fun m ρ _ =>
  (θ_run Cert.Reference10Ideal.defs _ _).mono (fun r h => And.intro (fun c => (h c).2) (sem_eq_zero_of_no_sems (by decide) r.2))
    (Cert.Reference10Ideal.Value.run (F := Ideal) m ρ)

end Cert.LatentKvClaim

end
-- ==== Proof.ModulationSpec.lean ====
/-
  The modulation: a row of conditions, each entry times its logistic, through one weight with a bias.
-/
module

public import Idealize.ShloMosaic.Lib.Pointwise

@[expose] public section

noncomputable section

namespace Cert.Modulation

open Idealize.ShloMosaic

/-- The conditions: 24 rows of 2048 entries. -/
abbrev Cond := (⟨2, ![24, 2048]⟩ : Shape).Idx → EReal

/-- The weight: 2048 rows, six parts of 2048 columns. -/
abbrev Weight := (⟨2, ![2048, 12288]⟩ : Shape).Idx → EReal

/-- The bias of each column. -/
abbrev Bias := (⟨1, ![12288]⟩ : Shape).Idx → EReal

/-- Row `r` and column `j` of the modulation. -/
def entry (x : Cond) (w : Weight) (b : Bias) (r : Fin 24) (j : Fin 12288) : EReal :=
  ∑ k : Fin 2048, x (ix2 r k) * Ideal.logistic (x (ix2 r k)) * w (ix2 k j) + b (ix1 j)

end Cert.Modulation

end
-- ==== Proof.ModulationArray.lean ====
/-
  The array that the call of the modulation leaves: every grid point computes a block of 1024 columns, and the blocks
  tile the array.
-/
module

public import proofs.«01_k».proof.Proof.ModulationSpec
public import proofs.«01_k».proof.Proof.Gen.Kernel11Ideal.Value

@[expose] public section

noncomputable section

namespace Cert.Kernel11Ideal.Mod

open Cert.Kernel11Ideal Cert.Kernel11Ideal.Gen Idealize.ShloMosaic Idealize.ShloMosaic.TcCoe Idealize.SL.Sem

/-- What one point computes at row `r` and column `j` of its block. -/
theorem pay1_apply (x : Vec Ideal S24x2048 .f32) (w : Vec Ideal S2048x1024 .f32) (b : Vec Ideal S1x1024 .f32) (r : Fin 24)
    (j : Fin 1024) : k0_pay1 (F := Ideal) x w b (ix2 r j)
      = ∑ k : Fin 2048, x (ix2 r k) * Ideal.logistic (x (ix2 r k)) * w (ix2 k j) + b (ix2 0 j) := by
  unfold k0_pay1
  pointwise

/-- The bias as one row. -/
def biasRow (b : Modulation.Bias) : S1x12288.Idx → EReal :=
  shapeCast S1x12288 (b : FVec Ideal S12288 .f32) shapeCasts_S12288_S1x12288

theorem biasRow_apply (b : Modulation.Bias) (j : Fin 12288) : biasRow b (ix2 0 j) = b (ix1 j) := by
  unfold biasRow
  pointwise

variable (m : (ℓ : Loc nD τ sig) → Buf (Elt Ideal) ℓ) (ρ : Dev nD → PrngReg)

theorem hz2 : (fun a => (![0, 0] : Fin 2 → Nat) a) = fun _ => 0 := by funext a; fin_cases a <;> rfl

/-- The conditions of device `c`. -/
abbrev X (c : Dev nD) : Modulation.Cond := m ((c : Thread nD τ).loc main_arg0)

/-- The weight of device `c`. -/
abbrev W (c : Dev nD) : Modulation.Weight := m ((c : Thread nD τ).loc main_arg1)

/-- The bias of device `c`. -/
abbrev Bi (c : Dev nD) : Modulation.Bias := m ((c : Thread nD τ).loc main_arg2)

/-- The bias the call reads. -/
theorem V_bias (c : Dev nD) : V m c main_v0 = biasRow (Bi m c) := by
  simp only [V, hostOps0, List.flatten_cons, List.flatten_nil, List.append_nil, List.cons_append, List.nil_append]
  after_results <;> rfl

/-- The conditions do not move. -/
theorem idx0 : ∀ t : Fin cfg0.N, win0_0.index t 0 = 0 ∧ win0_0.index t 1 = 0 :=
  (by decide +kernel : ∀ t : Fin grid0.N, win0_0.index t 0 = 0 ∧ win0_0.index t 1 = 0)

/-- The weight's columns move with the point. -/
theorem idx1 : ∀ t : Fin cfg0.N, win0_1.index t 0 = 0 ∧ win0_1.index t 1 = t.val :=
  (by decide +kernel : ∀ t : Fin grid0.N, win0_1.index t 0 = 0 ∧ win0_1.index t 1 = t.val)

/-- So do the bias's. -/
theorem idx2 : ∀ t : Fin cfg0.N, win0_2.index t 0 = 0 ∧ win0_2.index t 1 = t.val :=
  (by decide +kernel : ∀ t : Fin grid0.N, win0_2.index t 0 = 0 ∧ win0_2.index t 1 = t.val)

/-- And the result's. -/
theorem idx3 : ∀ t : Fin cfg0.N, win0_3.index t 0 = 0 ∧ win0_3.index t 1 = t.val :=
  (by decide +kernel : ∀ t : Fin grid0.N, win0_3.index t 0 = 0 ∧ win0_3.index t 1 = t.val)

theorem lt_N (t : Fin cfg0.N) : t.val < 12 := lt_of_lt_of_eq t.isLt N_0

/-- Column `j` of a point's block. -/
def jOf (t : Fin cfg0.N) (j : Fin 1024) : Fin 12288 := ⟨t.val * 1024 + j, by have := lt_N t; omega⟩

/-- The conditions are read whole. -/
theorem x_blk (c : Dev nD) (t : Fin cfg0.N) (r : Fin 24) (k : Fin 2048) :
    (iblk m c 0 t : Vec Ideal S24x2048 .f32) (ix2 r k) = X m c (ix2 r k) := by
  obtain ⟨i0, i1⟩ := idx0 t
  have hV : V m c main_arg0 = X m c := V_main_arg0 m c
  refine Eq.trans (b := V m c main_arg0 (ix2 r k)) ?_ (congrFun hV _)
  unfold iblk
  rw [View.read_apply]
  show V m c main_arg0 _ = V m c main_arg0 _
  congr 1
  funext a
  apply Fin.ext
  match a with
  | ⟨0, _⟩ => show win0_0.index t 0 * 24 + 1 * r.val = r.val; omega
  | ⟨1, _⟩ => show win0_0.index t 1 * 2048 + 1 * k.val = k.val; omega

/-- The weight's block at a point. -/
theorem w_blk (c : Dev nD) (t : Fin cfg0.N) (k : Fin 2048) (j : Fin 1024) :
    (iblk m c 1 t : Vec Ideal S2048x1024 .f32) (ix2 k j) = W m c (ix2 k (jOf t j)) := by
  obtain ⟨i0, i1⟩ := idx1 t
  have hV : V m c main_arg1 = W m c := V_main_arg1 m c
  refine Eq.trans (b := V m c main_arg1 (ix2 k (jOf t j))) ?_ (congrFun hV _)
  unfold iblk
  rw [View.read_apply]
  show V m c main_arg1 _ = V m c main_arg1 _
  congr 1
  funext a
  apply Fin.ext
  match a with
  | ⟨0, _⟩ => show win0_1.index t 0 * 2048 + 1 * k.val = k.val; omega
  | ⟨1, _⟩ => show win0_1.index t 1 * 1024 + 1 * j.val = t.val * 1024 + j.val; omega

/-- Where a point's block of the bias lies. -/
theorem b_read (t : Fin cfg0.N) (A : S1x12288.Idx → EReal) (j : Fin 1024) :
    (((cfg0.win 2).blk t).view.read (Elt Ideal) A : S1x1024.Idx → EReal) (ix2 0 j) = A (ix2 0 (jOf t j)) := by
  obtain ⟨i0, i1⟩ := idx2 t
  rw [View.read_apply]
  show A _ = A _
  congr 1
  funext a
  apply Fin.ext
  match a with
  | ⟨0, _⟩ => show win0_2.index t 0 * 1 + 1 * 0 = 0; omega
  | ⟨1, _⟩ => show win0_2.index t 1 * 1024 + 1 * j.val = t.val * 1024 + j.val; omega

/-- The bias's block at a point. -/
theorem b_blk (c : Dev nD) (t : Fin cfg0.N) (j : Fin 1024) :
    (iblk m c 2 t : Vec Ideal S1x1024 .f32) (ix2 0 j) = Bi m c (ix1 (jOf t j)) := by
  have h : iblk m c 2 t = ((cfg0.win 2).blk t).view.read (Elt Ideal) (biasRow (Bi m c)) :=
    congrArg (fun A => ((cfg0.win 2).blk t).view.read (Elt Ideal) A) (V_bias m c)
  rw [h]
  exact (b_read t _ j).trans (biasRow_apply (Bi m c) (jOf t j))

/-- What the result holds at the end. -/
def GA (c : Dev nD) : S24x12288.Idx → EReal := fun i => Modulation.entry (X m c) (W m c) (Bi m c) (i 0) (i 1)

/-- Where a point's block lies in the array. -/
theorem o_read (t : Fin cfg0.N) (A : S24x12288.Idx → EReal) (r : Fin 24) (j : Fin 1024) :
    (((cfg0.win 3).blk t).view.read (Elt Ideal) A : S24x1024.Idx → EReal) (ix2 r j) = A (ix2 r (jOf t j)) := by
  obtain ⟨i0, i1⟩ := idx3 t
  rw [View.read_apply]
  show A _ = A _
  congr 1
  funext a
  apply Fin.ext
  match a with
  | ⟨0, _⟩ => show win0_3.index t 0 * 24 + 1 * r.val = r.val; omega
  | ⟨1, _⟩ => show win0_3.index t 1 * 1024 + 1 * j.val = t.val * 1024 + j.val; omega

/-- What a point writes, entry by entry. -/
theorem wrote (c : Dev nD) (t : Fin cfg0.N) (r : Fin 24) (j : Fin 1024) :
    k0_pay1 (F := Ideal) (iblk m c 0 t) (iblk m c 1 t) (iblk m c 2 t) (ix2 r j)
      = Modulation.entry (X m c) (W m c) (Bi m c) r (jOf t j) := by
  refine (pay1_apply _ _ _ r j).trans ?_
  unfold Modulation.entry
  exact congrArg₂ (· + ·) (Finset.sum_congr rfl fun k _ => congrArg₂ (· * ·)
    (congrArg₂ (· * ·) (x_blk m c t r k) (congrArg Ideal.logistic (x_blk m c t r k))) (w_blk m c t k j)) (b_blk m c t j)

/-- The array's entries at a point's block, given the block entry by entry. -/
theorem eq_block (c : Dev nD) (t : Fin cfg0.N) (f : S24x1024.Idx → EReal)
    (hf : ∀ (r : Fin 24) (j : Fin 1024), f (ix2 r j) = Modulation.entry (X m c) (W m c) (Bi m c) r (jOf t j))
    (y : S24x1024.Idx) : f y = ((cfg0.win 3).blk t).view.read (Elt Ideal) (GA m c) y := by
  obtain ⟨r, j, rfl⟩ : ∃ (r : Fin 24) (j : Fin 1024), y = ix2 r j :=
    ⟨y 0, y 1, by
      funext a
      match a with
      | ⟨0, _⟩ => rfl
      | ⟨1, _⟩ => rfl⟩
  exact (hf r j).trans (o_read t (GA m c) r j).symm

/-- Every point writes its block of the array. -/
theorem flushed_eq (c : Dev nD) (t : Fin cfg0.N) :
    (dats m 0 c).flushed 3 t = ((cfg0.win 3).blk t).view.read (Elt Ideal) (GA m c) := by
  rw [Value.flushed3]
  unfold out0_3
  rw [View.canon_unit_zero hz2, View.ld_unit_zero (S := S24x2048) hz2, View.ld_unit_zero (S := S2048x1024) hz2,
    View.ld_unit_zero (S := S1x1024) hz2]
  funext y
  exact eq_block m c t _ (wrote m c t) y

/-- The blocks tile the array. -/
theorem cover (i : S24x12288.Idx) :
    ∃ t : Fin cfg0.N, (cfg0.win 3).flush t = true ∧ i ∈ ((cfg0.win 3).blk t).view.set := by
  have h0 : (i 0).val < 24 := (i 0).isLt
  have h1 : (i 1).val < 12288 := (i 1).isLt
  let t : Fin cfg0.N := ⟨(i 1).val / 1024, by rw [show cfg0.N = 12 from N_0]; omega⟩
  have ht : t.val = (i 1).val / 1024 := rfl
  obtain ⟨e0, e1⟩ := idx3 t
  refine ⟨t, flush0_3 t, ?_⟩
  show i ∈ ((View.whole main_v1).slice (win0_3.rect t)).set
  rw [View.set_slice_whole, Rect.mem_set_unit]
  intro a
  match a with
  | ⟨0, _⟩ => show win0_3.index t 0 * 24 ≤ (i 0).val ∧ (i 0).val < win0_3.index t 0 * 24 + 24; omega
  | ⟨1, _⟩ => show win0_3.index t 1 * 1024 ≤ (i 1).val ∧ (i 1).val < win0_3.index t 1 * 1024 + 1024; omega

/-- So the array ends holding the modulation. -/
theorem final (c : Dev nD) : (dats m 0 c).arrAt 3 cfg0.N = GA m c :=
  (dats m 0 c).arrAt_eq_of_cover 3 (GA m c) (fun t _ => flushed_eq m c t) cover

/-- The run, read: the result holds the modulation, the arguments are unchanged. -/
theorem run : θ_run defs (onTc (τ := τ) (main (F := Ideal))) ⟨m, fun _ => 0, ρ⟩ fun r => ∀ c : Dev nD,
      r.2.mem ((c : Thread nD τ).loc main_v1) = GA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Kernel11Ideal.Mod

end
-- ==== Proof.ModulationRef.lean ====
/-
  What the reference of the modulation computes, entry by entry.
-/
module

public import proofs.«01_k».proof.Proof.ModulationSpec
public import proofs.«01_k».proof.Proof.Gen.Reference11Ideal.Read

@[expose] public section

noncomputable section

namespace Cert.Reference11Ideal.Mod

open Cert.Reference11Ideal Cert.Reference11Ideal.Gen Cert.Reference11Ideal.Read Idealize.ShloMosaic Idealize.ShloMosaic.TcCoe

variable (x : Modulation.Cond) (w : Modulation.Weight) (b : Modulation.Bias)

/-- An entry of the conditions times its logistic. -/
theorem gated (r : Fin 24) (k : Fin 2048) : val_main_v0 (F := Ideal) x (ix2 r k) = x (ix2 r k) * Ideal.logistic (x (ix2 r k)) := by
  unfold val_main_v0 val_main_call0_v5 val_main_call0_v4 val_main_call0_cst_0 val_main_call0_v3 val_main_call0_v2
    val_main_call0_cst val_main_call0_v1 val_main_call0_v0
  pointwise [Ideal.logistic]

/-- The result, entry by entry. -/
theorem result (r : Fin 24) (j : Fin 12288) : val_main_v4 (F := Ideal) x w b (ix2 r j) = Modulation.entry x w b r j := by
  unfold val_main_v4 val_main_v3 val_main_v2 val_main_v1
  pointwise [gated, Modulation.entry]

end Cert.Reference11Ideal.Mod

end
-- ==== Proof.ModulationClaim.lean ====
/-
  The call of the modulation and its reference leave the same array, whatever the arguments; the reference terminates
  and leaves its arguments as they were.
-/
module

public import proofs.«01_k».proof.Defs
public import proofs.«01_k».proof.Proof.ModulationArray
public import proofs.«01_k».proof.Proof.ModulationRef
public import proofs.«01_k».proof.Proof.Gen.Reference11Ideal.Run
public import Idealize.ShloMosaic.Lib.Quiescent

@[expose] public section

noncomputable section

namespace Cert.ModulationClaim

open Idealize.ShloMosaic Idealize.SL.Sem Idealize.ShloMosaic.TcCoe

/-- The two programs leave the same array. -/
theorem algebraic :
    Cert.algebraic_Kernel11Ideal_Reference11Ideal (hKernel11Ideal := Cert.Kernel11Ideal.Gen.facts)
      (hReference11Ideal := Cert.Reference11Ideal.Gen.facts) := by
  intro m ρ m' ρ' _ hag
  refine ⟨fun c => Cert.Kernel11Ideal.Mod.GA m c, Cert.Kernel11Ideal.Mod.run m ρ,
    (θ_run _ _ _).mono (fun _ h c => ⟨(h c).1.trans ?_, (h c).2⟩) (Cert.Reference11Ideal.Value.run m' ρ')⟩
  rw [Cert.Reference11Ideal.Read.val_main_v4_eq, (hag c).1, (hag c).2.1, (hag c).2.2]
  funext i
  obtain ⟨r, j, rfl⟩ : ∃ (r : Fin 24) (j : Fin 12288), i = ix2 r j := ⟨i 0, i 1, eq_ix2 i⟩
  exact Cert.Reference11Ideal.Mod.result _ _ _ r j

/-- The reference terminates, leaves its arguments as they were and declares no semaphore. -/
theorem referenceFrame : Cert.quiescent_Reference11Ideal (hReference11Ideal := Cert.Reference11Ideal.Gen.facts) := fun m ρ _ =>
  (θ_run Cert.Reference11Ideal.defs _ _).mono (fun r h => And.intro (fun c => (h c).2) (sem_eq_zero_of_no_sems (by decide) r.2))
    (Cert.Reference11Ideal.Value.run (F := Ideal) m ρ)

end Cert.ModulationClaim

end
-- ==== Proof.NaSpec.lean ====
/-
  Neighbourhood attention as one function of the projected array: eight heads of width 128, their queries, keys and values
  side by side in its columns. A query on the image's grid of 32 rows of 64 attends to the 256 context rows and to the eight
  rows of the grid around its own, under a bias.
-/
module

public import proofs.«01_k».proof.Proof.GqaSpec

@[expose] public section

noncomputable section

namespace Cert.Na

open Idealize.ShloMosaic

/-- The projected array: sixteen sequences of 2304 rows, 4224 columns. -/
abbrev Z := (⟨3, ![16, 2304, 4224]⟩ : Shape).Idx → EReal

/-- The bias: for every head and each of the eight places that a row can have among the eight it sees, a table. -/
abbrev Bias := (⟨4, ![8, 8, 64, 512]⟩ : Shape).Idx → EReal

/-- The greatest of two families of scores. -/
def peak (u : Fin 256 → EReal) (w : Fin 512 → EReal) : EReal := max (Softmax.top u) (Softmax.top w)

/-- The exponential of a score less the greatest. -/
def ex (u : Fin 256 → EReal) (w : Fin 512 → EReal) (s : EReal) : EReal := Ideal.exp (s - peak u w)

/-- The sum of the exponentials. -/
def den (u : Fin 256 → EReal) (w : Fin 512 → EReal) : EReal := (∑ k, ex u w (u k)) + ∑ k, ex u w (w k)

/-- Softmax attention over both families. -/
def attend (u : Fin 256 → EReal) (w : Fin 512 → EReal) (p : Fin 256 → EReal) (q : Fin 512 → EReal) : EReal :=
  (∑ k, Ideal.div (ex u w (u k)) (den u w) * p k) + ∑ k, Ideal.div (ex u w (w k)) (den u w) * q k

/-- The same with the one division by the sum of the exponentials. -/
def attendDiv (u : Fin 256 → EReal) (w : Fin 512 → EReal) (p : Fin 256 → EReal) (q : Fin 512 → EReal) : EReal :=
  Ideal.div ((∑ k, ex u w (u k) * p k) + ∑ k, ex u w (w k) * q k) (den u w)

/-- The greatest score as a least upper bound. -/
theorem top_eq {n : Nat} (s : Fin n → EReal) : Softmax.top s = Finset.univ.sup s := rfl

/-- The greatest of finitely many scores is one of them. -/
theorem exists_top {n : Nat} (hn : 0 < n) (s : Fin n → EReal) : ∃ k, Softmax.top s = s k := by
  have hne : (Finset.univ : Finset (Fin n)).Nonempty := ⟨⟨0, hn⟩, Finset.mem_univ _⟩
  obtain ⟨k, -, hk⟩ := Finset.exists_mem_eq_sup Finset.univ hne s
  exact ⟨k, hk⟩

/-- The exponential of what is not plus infinity is a nonnegative real. -/
theorem exp_real {x : EReal} (hx : x ≠ ⊤) : ∃ r : ℝ, 0 ≤ r ∧ Ideal.exp x = (r : EReal) := by
  induction x using EReal.rec with
  | bot => exact ⟨0, le_rfl, rfl⟩
  | coe r => exact ⟨Real.exp r, (Real.exp_pos r).le, rfl⟩
  | top => exact absurd rfl hx

/-- A score that is not plus infinity, less a real, is not plus infinity. -/
theorem sub_ne_top {x : EReal} (hx : x ≠ ⊤) (m : ℝ) : x - (m : EReal) ≠ ⊤ := by
  induction x using EReal.rec with
  | bot => simp
  | coe r => rw [← EReal.coe_sub]; exact EReal.coe_ne_top _
  | top => exact absurd rfl hx

/-- Where the first scores are finite and none of the second is plus infinity, the one division gives softmax attention:
    the sum of the exponentials is then a positive real. -/
theorem attendDiv_eq (u : Fin 256 → EReal) (w : Fin 512 → EReal) (p : Fin 256 → EReal) (q : Fin 512 → EReal)
    (hu : ∀ k, u k ≠ ⊥ ∧ u k ≠ ⊤) (hw : ∀ k, w k ≠ ⊤) : attendDiv u w p q = attend u w p q := by
  obtain ⟨k0, h0⟩ := exists_top (Nat.succ_pos 255) u
  obtain ⟨k1, h1⟩ := exists_top (Nat.succ_pos 511) w
  have hp : peak u w ≠ ⊥ ∧ peak u w ≠ ⊤ := by
    unfold peak
    rw [h0, h1]
    refine ⟨fun h => (hu k0).1 ?_, ?_⟩
    · exact le_bot_iff.mp (h ▸ le_max_left _ _)
    · rcases max_choice (u k0) (w k1) with e | e
      · rw [e]; exact (hu k0).2
      · rw [e]; exact hw k1
  obtain ⟨m, hm⟩ := Softmax.exists_real hp
  have hx : ∀ k, ∃ r : ℝ, 0 < r ∧ ex u w (u k) = (r : EReal) := fun k => by
    obtain ⟨a, ha⟩ := Softmax.exists_real (hu k)
    refine ⟨Real.exp (a - m), Real.exp_pos _, ?_⟩
    unfold ex
    rw [hm, ha, ← EReal.coe_sub]
    rfl
  have hy : ∀ k, ∃ r : ℝ, 0 ≤ r ∧ ex u w (w k) = (r : EReal) := fun k => by
    unfold ex
    rw [hm]
    exact exp_real (sub_ne_top (hw k) m)
  choose x hx0 hx using hx
  choose y hy0 hy using hy
  have hpos : 0 < (∑ k, x k) + ∑ k, y k :=
    add_pos_of_pos_of_nonneg (Finset.sum_pos (fun k _ => hx0 k) ⟨⟨0, Nat.succ_pos 255⟩, Finset.mem_univ _⟩)
      (Finset.sum_nonneg fun k _ => hy0 k)
  have hden : den u w = (((∑ k, x k) + ∑ k, y k : ℝ) : EReal) := by
    unfold den
    rw [EReal.coe_add, ← Softmax.coe_sum, ← Softmax.coe_sum]
    exact congrArg₂ (· + ·) (Finset.sum_congr rfl fun k _ => hx k) (Finset.sum_congr rfl fun k _ => hy k)
  have hc : (0 : ℝ) ≤ 1 / ((∑ k, x k) + ∑ k, y k) := (one_div_pos.mpr hpos).le
  have hc' : (0 : EReal) ≤ ((1 / ((∑ k, x k) + ∑ k, y k) : ℝ) : EReal) := by exact_mod_cast hc
  unfold attendDiv attend
  rw [hden, Ideal.div_coe hpos.ne', EReal.right_distrib_of_nonneg_of_ne_top hc' (EReal.coe_ne_top _),
    Softmax.sum_mul_real _ _ hc, Softmax.sum_mul_real _ _ hc]
  refine congrArg₂ (· + ·) (Finset.sum_congr rfl fun k _ => ?_) (Finset.sum_congr rfl fun k _ => ?_)
  · rw [Ideal.div_coe hpos.ne', mul_assoc, mul_comm (p k), ← mul_assoc]
  · rw [Ideal.div_coe hpos.ne', mul_assoc, mul_comm (q k), ← mul_assoc]

/-- Two families of scores side by side. -/
def join (u : Fin 256 → EReal) (w : Fin 512 → EReal) (k : Fin 768) : EReal :=
  if h : k.val < 256 then u ⟨k.val, h⟩ else w ⟨k.val - 256, by omega⟩

theorem join_left (u : Fin 256 → EReal) (w : Fin 512 → EReal) (k : Fin 256) : join u w ⟨k.val, by omega⟩ = u k :=
  dif_pos k.isLt

theorem join_right (u : Fin 256 → EReal) (w : Fin 512 → EReal) (k : Fin 512) : join u w ⟨256 + k.val, by omega⟩ = w k := by
  unfold join
  rw [dif_neg (by show ¬256 + k.val < 256; omega)]
  exact congrArg w (Fin.ext (by show 256 + k.val - 256 = k.val; omega))

/-- The greatest score of both families. -/
theorem top_join (u : Fin 256 → EReal) (w : Fin 512 → EReal) : Softmax.top (join u w) = peak u w := by
  rw [peak, top_eq, top_eq, top_eq]
  refine le_antisymm (Finset.sup_le fun k _ => ?_) (sup_le (Finset.sup_le fun k _ => ?_) (Finset.sup_le fun k _ => ?_))
  · unfold join
    split
    · exact (Finset.le_sup (f := u) (Finset.mem_univ _)).trans le_sup_left
    · exact (Finset.le_sup (f := w) (Finset.mem_univ _)).trans le_sup_right
  · rw [← join_left u w k]; exact Finset.le_sup (f := join u w) (Finset.mem_univ _)
  · rw [← join_right u w k]; exact Finset.le_sup (f := join u w) (Finset.mem_univ _)

/-- The sum of the exponentials over both families. -/
theorem sum_join (u : Fin 256 → EReal) (w : Fin 512 → EReal) : (∑ k, ex u w (join u w k)) = den u w := by
  refine (Fin.sum_univ_add (a := 256) (b := 512) fun k => ex u w (join u w k)).trans ?_
  unfold den
  exact congrArg₂ (· + ·) (Finset.sum_congr rfl fun k _ => congrArg (ex u w) (join_left u w k))
    (Finset.sum_congr rfl fun k _ => congrArg (ex u w) (join_right u w k))

/-- The row of the projected array that holds place `i` of row `r` of the grid. -/
abbrev cell (r : Fin 32) (i : Fin 64) : Fin 2304 := ⟨256 + r.val * 64 + i.val, by omega⟩

/-- The row of the projected array that holds the `k`-th place of the eight rows that row `r` sees. -/
abbrev seen (r : Fin 32) (k : Fin 512) : Fin 2304 := ⟨256 + min 24 (r.val - 4) * 64 + k.val, by omega⟩

/-- Which of the eight rows that it sees row `r` is. -/
abbrev place (r : Fin 32) : Fin 8 := ⟨r.val - min 24 (r.val - 4), by omega⟩

/-- Row `k` of the context. -/
abbrev ctxRow (k : Fin 256) : Fin 2304 := ⟨k.val, by omega⟩

/-- The inner product of the query in row `r` and the key in row `k`, in head `h` of sequence `b`, times the scale. -/
def score (X : Z) (b : Fin 16) (h : Fin 8) (r k : Fin 2304) : EReal :=
  (∑ e : Fin 128, X (ix3 b r ⟨h.val * 128 + e.val, by omega⟩) * X (ix3 b k ⟨1024 + h.val * 128 + e.val, by omega⟩))
    * Ideal.ofBits .f32 0x3DB504F3#32

/-- The score of the `k`-th place of the eight rows that grid row `r` sees, with the bias. -/
def imgScore (X : Z) (B : Bias) (b : Fin 16) (h : Fin 8) (r : Fin 32) (i : Fin 64) (k : Fin 512) : EReal :=
  score X b h (cell r i) (seen r k) + B (ix4 h (place r) i k)

/-- Column `d` of head `h`'s value in row `k`. -/
def value (X : Z) (b : Fin 16) (h : Fin 8) (d : Fin 128) (k : Fin 2304) : EReal :=
  X (ix3 b k ⟨2048 + h.val * 128 + d.val, by omega⟩)

/-- One entry of the attention. -/
def result (X : Z) (B : Bias) (b : Fin 16) (h : Fin 8) (r : Fin 32) (i : Fin 64) (d : Fin 128) : EReal :=
  attend (fun k => score X b h (cell r i) (ctxRow k)) (imgScore X B b h r i) (fun k => value X b h d (ctxRow k))
    (fun k => value X b h d (seen r k))

/-- The same with the one division. -/
def resultDiv (X : Z) (B : Bias) (b : Fin 16) (h : Fin 8) (r : Fin 32) (i : Fin 64) (d : Fin 128) : EReal :=
  attendDiv (fun k => score X b h (cell r i) (ctxRow k)) (imgScore X B b h r i) (fun k => value X b h d (ctxRow k))
    (fun k => value X b h d (seen r k))

/-- Finite queries and keys have finite scores. -/
theorem score_finite (X : Z) (b : Fin 16) (h : Fin 8) (r k : Fin 2304)
    (hq : ∀ j : Fin 4224, j.val < 1024 → X (ix3 b r j) ≠ ⊥ ∧ X (ix3 b r j) ≠ ⊤)
    (hk : ∀ j : Fin 4224, 1024 ≤ j.val → j.val < 2048 → X (ix3 b k j) ≠ ⊥ ∧ X (ix3 b k j) ≠ ⊤) :
    score X b h r k ≠ ⊥ ∧ score X b h r k ≠ ⊤ := by
  unfold score
  refine Softmax.finite_mul (Softmax.finite_sum _ fun e => Softmax.finite_mul (hq _ ?_) (hk _ ?_ ?_)) Gqa.scale_finite
  · show h.val * 128 + e.val < 1024; omega
  · show 1024 ≤ 1024 + h.val * 128 + e.val; omega
  · show 1024 + h.val * 128 + e.val < 2048; omega

/-- On finite queries and keys and a bias that is nowhere plus infinity the one division gives the softmax attention. -/
theorem resultDiv_eq (X : Z) (B : Bias)
    (hq : ∀ (b : Fin 16) (r : Fin 2304) (j : Fin 4224), 256 ≤ r.val → j.val < 1024 → X (ix3 b r j) ≠ ⊥ ∧ X (ix3 b r j) ≠ ⊤)
    (hk : ∀ (b : Fin 16) (r : Fin 2304) (j : Fin 4224), 1024 ≤ j.val → j.val < 2048 → X (ix3 b r j) ≠ ⊥ ∧ X (ix3 b r j) ≠ ⊤)
    (hB : ∀ (h g : Fin 8) (i : Fin 64) (k : Fin 512), B (ix4 h g i k) ≠ ⊤)
    (b : Fin 16) (h : Fin 8) (r : Fin 32) (i : Fin 64) (d : Fin 128) : resultDiv X B b h r i d = result X B b h r i d := by
  have hs : ∀ k, score X b h (cell r i) k ≠ ⊥ ∧ score X b h (cell r i) k ≠ ⊤ := fun k =>
    score_finite X b h (cell r i) k (fun j hj => hq b (cell r i) j (by show 256 ≤ 256 + r.val * 64 + i.val; omega) hj) (hk b k)
  unfold resultDiv result
  refine attendDiv_eq _ _ _ _ (fun k => hs (ctxRow k)) fun k => ?_
  unfold imgScore
  exact (EReal.add_lt_top (hs (seen r k)).2 (hB h (place r) i k)).ne

end Cert.Na

end
-- ==== Proof.NaRuns.lean ====
/-
  The neighbourhood attention's call up to its grid: the blocks of its windows, the body's condition and the buffers
  that the body is given.
-/
module

public import proofs.«01_k».proof.Proof.Gen.Kernel12Ideal.Launch
public import proofs.«01_k».proof.Proof.Gen.Kernel12Ideal.Skeleton
public import proofs.«01_k».proof.Proof.Gen.Kernel12Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.Kernel12Ideal.Na

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Device `c`'s buffers when the grid starts: as they were, since nothing runs before it. -/
abbrev V (c : Dev nD) (b : Ref sig .tc) : Buf (Elt F) ((c : Thread nD τ).loc b) := m ((c : Thread nD τ).loc b)

/-- The program is the grid alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t` of the array that the grid finds. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, fetched there or left from the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's buffer holds its block at every point, fetched there or left from the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's buffer holds its block at every point, fetched there or left from the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's buffer holds its block at every point, fetched there or left from the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The arguments end unchanged, from a run that leaves every array as the grid's writes say. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans (hA c 0)),
      ((h c).1 3).trans (((dats 0 c).arrAt_in 3 rfl _).trans (hA c 3))⟩) h

/-- The body's condition: the grid's last coordinate is zero. -/
abbrev cond0_0 (i : grid0.Coords) : Prop :=
  Scalar.cmpi .ne (Scalar.extui (Scalar.cmpi .eq (BitVec.ofNat 32 (i 2).val) 0#32) : BitVec 32) 0#32 = 1#1
/-- It holds at every eighth point. -/
theorem hcond0_0 : ∀ t : Fin cfg0.N, cond0_0 (grid0.coords t) ↔ t.val % 8 = 0 :=
  (fun t => by
    have ht : t.val < 1024 := Nat.lt_of_lt_of_eq t.isLt N_0
    have e2 : (grid0.coords t 2).val = t.val / 1 % 8 := Pipeline.Grid.coords_val t 2 (by decide) rfl
    simp only [cond0_0, e2]
    word_cmp
   : ∀ t : Fin grid0.N, cond0_0 (grid0.coords t) ↔ t.val % 8 = 0)

/-- Window 0 is in use at every point. -/
theorem liveAt0_0 : ∀ t : Fin cfg0.N, cfg0.idle 0 (grid0.coords t) = false := fun _ => rfl
/-- Window 1 is in use at every point. -/
theorem liveAt0_1 : ∀ t : Fin cfg0.N, cfg0.idle 1 (grid0.coords t) = false := fun _ => rfl
/-- Window 2 is in use at every point. -/
theorem liveAt0_2 : ∀ t : Fin cfg0.N, cfg0.idle 2 (grid0.coords t) = false := fun _ => rfl
/-- Window 3 is in use at every point. -/
theorem liveAt0_3 : ∀ t : Fin cfg0.N, cfg0.idle 3 (grid0.coords t) = false := fun _ => rfl
/-- Window 4 is in use at every point. -/
theorem liveAt0_4 : ∀ t : Fin cfg0.N, cfg0.idle 4 (grid0.coords t) = false := fun _ => rfl

/-- The block of the result, as a view of one of its buffers. -/
abbrev VO0_4 : View sig .tc .vmem S1x256x128 .bf16 := (Memref.whole cc0_stg4_0 : Memref sig .tc .vmem S1x256x128 .bf16).view
/-- The buffer that the body finds the queries' block in at point `t`, a whole buffer. -/
abbrev ms0_0 (t : Fin cfg0.N) : Memref sig .tc .vmem S1x256x128 .f32 := win0_0.stage (cfg0.slots t 0)
abbrev hs0_0 (t : Fin cfg0.N) : (ms0_0 t).IsWhole := hstage0_0 ((cfg0.slots t 0).cast nbuf0_0)
/-- The buffer that the body finds the keys' block in at point `t`, a whole buffer. -/
abbrev ms0_1 (t : Fin cfg0.N) : Memref sig .tc .vmem S1x2304x128 .f32 := win0_1.stage (cfg0.slots t 1)
abbrev hs0_1 (t : Fin cfg0.N) : (ms0_1 t).IsWhole := hstage0_1 ((cfg0.slots t 1).cast nbuf0_1)
/-- The buffer that the body finds the values' block in at point `t`, a whole buffer. -/
abbrev ms0_2 (t : Fin cfg0.N) : Memref sig .tc .vmem S1x2304x128 .f32 := win0_2.stage (cfg0.slots t 2)
abbrev hs0_2 (t : Fin cfg0.N) : (ms0_2 t).IsWhole := hstage0_2 ((cfg0.slots t 2).cast nbuf0_2)
/-- The buffer that the body finds the bias's block in at point `t`, a whole buffer. -/
abbrev ms0_3 (t : Fin cfg0.N) : Memref sig .tc .vmem S1x8x64x512 .f32 := win0_3.stage (cfg0.slots t 3)
abbrev hs0_3 (t : Fin cfg0.N) : (ms0_3 t).IsWhole := hstage0_3 ((cfg0.slots t 3).cast nbuf0_3)
/-- The buffer that the body finds the result's block in at point `t`, a whole buffer. -/
abbrev ms0_4 (t : Fin cfg0.N) : Memref sig .tc .vmem S1x256x128 .bf16 := win0_4.stage (cfg0.slots t 4)
abbrev hs0_4 (t : Fin cfg0.N) : (ms0_4 t).IsWhole := hstage0_4 ((cfg0.slots t 4).cast nbuf0_4)

/-- The buffer that keeps the keys between points. -/
abbrev scM0_0 : Memref sig .tc .vmem S2304x128 .bf16 := Memref.whole cc0_scratch0
/-- The buffer that keeps the values between points. -/
abbrev scM0_1 : Memref sig .tc .vmem S2304x128 .bf16 := Memref.whole cc0_scratch1

/-- The two kept buffers at some contents and the generator's register: what the grid starts from. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The row of the image that a block of four rows' row `r` is on: the first of the eight rows that its queries see. -/
theorem off1_eq (i : grid0.Coords) (r : Fin 4) :
    k0_off1 i (BitVec.ofNat 32 r.val) = ![256 + 64 * min 24 (4 * (i 2).val + r.val - 4), 0] := by
  have h : (i 2).val < 8 := (i 2).isLt
  unfold k0_off1
  generalize (i 2).val = n at h ⊢
  revert r h n
  decide +kernel

/-- The row of the bias's table that a block of four rows' row `r` reads. -/
theorem off2_eq (i : grid0.Coords) (r : Fin 4) :
    k0_off2 i (BitVec.ofNat 32 r.val) = ![0, 4 * (i 2).val + r.val - min 24 (4 * (i 2).val + r.val - 4), 0, 0] := by
  have h : (i 2).val < 8 := (i 2).isLt
  unfold k0_off2
  generalize (i 2).val = n at h ⊢
  revert r h n
  decide +kernel

instance (i : grid0.Coords) : ClosedOff (k0_off1 i 0#32) := ⟨![256 + 64 * min 24 (4 * (i 2).val + 0 - 4), 0], off1_eq i 0⟩
instance (i : grid0.Coords) : ClosedOff (k0_off2 i 0#32) := ⟨![0, 4 * (i 2).val + 0 - min 24 (4 * (i 2).val + 0 - 4), 0, 0], off2_eq i 0⟩
instance (i : grid0.Coords) : ClosedOff (k0_off1 i 1#32) := ⟨![256 + 64 * min 24 (4 * (i 2).val + 1 - 4), 0], off1_eq i 1⟩
instance (i : grid0.Coords) : ClosedOff (k0_off2 i 1#32) := ⟨![0, 4 * (i 2).val + 1 - min 24 (4 * (i 2).val + 1 - 4), 0, 0], off2_eq i 1⟩
instance (i : grid0.Coords) : ClosedOff (k0_off1 i 2#32) := ⟨![256 + 64 * min 24 (4 * (i 2).val + 2 - 4), 0], off1_eq i 2⟩
instance (i : grid0.Coords) : ClosedOff (k0_off2 i 2#32) := ⟨![0, 4 * (i 2).val + 2 - min 24 (4 * (i 2).val + 2 - 4), 0, 0], off2_eq i 2⟩
instance (i : grid0.Coords) : ClosedOff (k0_off1 i 3#32) := ⟨![256 + 64 * min 24 (4 * (i 2).val + 3 - 4), 0], off1_eq i 3⟩
instance (i : grid0.Coords) : ClosedOff (k0_off2 i 3#32) := ⟨![0, 4 * (i 2).val + 3 - min 24 (4 * (i 2).val + 3 - 4), 0, 0], off2_eq i 3⟩

end Cert.Kernel12Ideal.Na

end
-- ==== Proof.NaRunA.lean ====
/-
  The body at the first point of a head: it keeps the head's keys and values, then works its block of the result.
-/
module

public import proofs.«01_k».proof.Proof.NaRuns

@[expose] public section

set_option maxRecDepth 16384

noncomputable section

namespace Cert.Kernel12Ideal.Na

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces that the body leaves in the result's block and in the two kept buffers, with the proof that it runs,
    whatever these three held, and leaves its inputs as they were. -/
def kernelRun0_A (c : Dev nD) (i : grid0.Coords) (arg3 : Memref sig .tc .vmem S1x256x128 .f32) (harg3 : arg3.IsWhole) (arg4 : Memref sig .tc .vmem S1x2304x128 .f32) (harg4 : arg4.IsWhole) (arg5 : Memref sig .tc .vmem S1x2304x128 .f32) (harg5 : arg5.IsWhole) (arg6 : Memref sig .tc .vmem S1x8x64x512 .f32) (harg6 : arg6.IsWhole) (arg7 : Memref sig .tc .vmem S1x256x128 .bf16) (harg7 : arg7.IsWhole) (arg8 : Memref sig .tc .vmem S2304x128 .bf16) (harg8 : arg8.IsWhole) (arg9 : Memref sig .tc .vmem S2304x128 .bf16) (harg9 : arg9.IsWhole) (hc0 : cond0_0 i)
    (x0 : Vec F S1x256x128 .f32) (x1 : Vec F S1x2304x128 .f32) (x2 : Vec F S1x2304x128 .f32) (x3 : Vec F S1x8x64x512 .f32) :
    Σ' (L4 : List (View.Piece (Elt F) S1x256x128 .bf16)), Σ' (LS0 : List (View.Piece (Elt F) S2304x128 .bf16)), { LS1 : List (View.Piece (Elt F) S2304x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0_na i arg3 harg3 arg4 harg4 arg5 harg5 arg6 harg6 arg7 harg7 arg8 harg8 arg9 harg9) K } := by
  refine ⟨?_, ?_, ?_, fun E K => ?run⟩
  case run =>
    simp only [cc0_na_eq_skeleton]; unfold cc0_na_skel
    simp only [k0_part1_eq_skeleton, k0_part2_eq_skeleton, k0_part3_eq_skeleton, k0_part4_eq_skeleton, k0_part5_eq_skeleton]
    unfold k0_part1_skel k0_part2_skel k0_part3_skel k0_part4_skel k0_part5_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    iexists _; iexact HS1

end Cert.Kernel12Ideal.Na

end
-- ==== Proof.NaRunB.lean ====
/-
  The body at the other points of a head: it works its block of the result from the kept keys and values.
-/
module

public import proofs.«01_k».proof.Proof.NaRunA

@[expose] public section

set_option maxRecDepth 16384

noncomputable section

namespace Cert.Kernel12Ideal.Na

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces that the body leaves in the result's block, with the proof that it runs, whatever this block held, and
    leaves its inputs and the kept keys and values as they were. -/
def kernelRun0_B (c : Dev nD) (i : grid0.Coords) (arg3 : Memref sig .tc .vmem S1x256x128 .f32) (harg3 : arg3.IsWhole) (arg4 : Memref sig .tc .vmem S1x2304x128 .f32) (harg4 : arg4.IsWhole) (arg5 : Memref sig .tc .vmem S1x2304x128 .f32) (harg5 : arg5.IsWhole) (arg6 : Memref sig .tc .vmem S1x8x64x512 .f32) (harg6 : arg6.IsWhole) (arg7 : Memref sig .tc .vmem S1x256x128 .bf16) (harg7 : arg7.IsWhole) (arg8 : Memref sig .tc .vmem S2304x128 .bf16) (harg8 : arg8.IsWhole) (arg9 : Memref sig .tc .vmem S2304x128 .bf16) (harg9 : arg9.IsWhole) (hc0 : ¬cond0_0 i)
    (x0 : Vec F S1x256x128 .f32) (x1 : Vec F S1x2304x128 .f32) (x2 : Vec F S1x2304x128 .f32) (x3 : Vec F S1x8x64x512 .f32) (xs0 : Vec F S2304x128 .bf16) (xs1 : Vec F S2304x128 .bf16) :
    { L4 : List (View.Piece (Elt F) S1x256x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ owns (c : Thread nD τ) arg8 fullShare xs0 ∗ owns (c : Thread nD τ) arg9 fullShare xs1) -∗ K ⟨⟩))
          ⊢ wp frame (wpE (defs₀ (F := F)) Variants.none c none) E (cc0_na i arg3 harg3 arg4 harg4 arg5 harg5 arg6 harg6 arg7 harg7 arg8 harg8 arg9 harg9) K } := by
  refine ⟨?_, fun E K => ?run⟩
  case run =>
    simp only [cc0_na_eq_skeleton]; unfold cc0_na_skel
    simp only [k0_part1_eq_skeleton, k0_part2_eq_skeleton, k0_part3_eq_skeleton, k0_part4_eq_skeleton, k0_part5_eq_skeleton]
    unfold k0_part1_skel k0_part2_skel k0_part3_skel k0_part4_skel k0_part5_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1
    sl_exec (disch := sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]
    · iexists _; isplitr; · ipureintro; exact harg8.read_unread _
      iexact HS0
    iexists _; isplitr; · ipureintro; exact harg9.read_unread _
    iexact HS1

end Cert.Kernel12Ideal.Na

end
-- ==== Proof.NaPieces.lean ====
/-
  What the body leaves in its block of the result, said of what it reads: the same at every point, since a head's first
  point keeps the keys and values that it and the other points read.
-/
module

public import proofs.«01_k».proof.Proof.NaRunB
public import Idealize.ShloMosaic.Lib.VecWindow

@[expose] public section

set_option maxRecDepth 16384

noncomputable section

namespace Cert.Kernel12Ideal.Na

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The 64 queries of one row of the image. -/
abbrev rowsAt (x : Vec F S1x256x128 .f32) (off : Fin 3 → Nat) (inb : ∀ a, off a + S1x64x128.size a ≤ S1x256x128.size a) : Vec F S1x64x128 .f32 :=
  VecWindow.window x off S1x64x128.size inb
/-- The context's rows of the kept keys or values. -/
abbrev ctx (x : Vec F S2304x128 .bf16) : Vec F S256x128 .bf16 := VecWindow.window x ![0, 0] S256x128.size inb_S2304x128_S256x128_0_0
/-- Eight rows of the image, of the kept keys or values. -/
abbrev bandAt (x : Vec F S2304x128 .bf16) (off : Fin 2 → Nat) (inb : ∀ a, off a + S512x128.size a ≤ S2304x128.size a) : Vec F S512x128 .bf16 :=
  VecWindow.window x off S512x128.size inb
/-- One table of the bias. -/
abbrev biasAt (x : Vec F S1x8x64x512 .f32) (off : Fin 4 → Nat) (inb : ∀ a, off a + S1x1x64x512.size a ≤ S1x8x64x512.size a) : Vec F S1x1x64x512 .f32 :=
  VecWindow.window x off S1x1x64x512.size inb

/-- Row 0 of the block. -/
def row0 (i : grid0.Coords) (x0 : Vec F S1x256x128 .f32) (xs0 xs1 : Vec F S2304x128 .bf16) (x3 : Vec F S1x8x64x512 .f32) : FVec F S1x64x128 .bf16 :=
  k0_pay7 (ctx xs1) (bandAt xs1 (k0_off1 i 0#32) (k0_off1_inb i 0)) (k0_pay5 (ctx xs0) (rowsAt x0 ![0, 0, 0] inb_S1x256x128_S1x64x128_0_0_0)) (k0_pay6 (rowsAt x0 ![0, 0, 0] inb_S1x256x128_S1x64x128_0_0_0) (bandAt xs0 (k0_off1 i 0#32) (k0_off1_inb i 0)) (biasAt x3 (k0_off2 i 0#32) (k0_off2_inb i 0)))

/-- Row 1 of the block. -/
def row1 (i : grid0.Coords) (x0 : Vec F S1x256x128 .f32) (xs0 xs1 : Vec F S2304x128 .bf16) (x3 : Vec F S1x8x64x512 .f32) : FVec F S1x64x128 .bf16 :=
  k0_pay9 (ctx xs0) (ctx xs1) (k0_pay8 (rowsAt x0 ![0, 64, 0] inb_S1x256x128_S1x64x128_0_64_0)) (bandAt xs0 (k0_off1 i 1#32) (k0_off1_inb i 1)) (bandAt xs1 (k0_off1 i 1#32) (k0_off1_inb i 1)) (biasAt x3 (k0_off2 i 1#32) (k0_off2_inb i 1))

/-- Row 2 of the block. -/
def row2 (i : grid0.Coords) (x0 : Vec F S1x256x128 .f32) (xs0 xs1 : Vec F S2304x128 .bf16) (x3 : Vec F S1x8x64x512 .f32) : FVec F S1x64x128 .bf16 :=
  k0_pay17 (ctx xs1) (bandAt xs1 (k0_off1 i 2#32) (k0_off1_inb i 2)) (k0_pay14 (ctx xs0) (rowsAt x0 ![0, 128, 0] inb_S1x256x128_S1x64x128_0_128_0) (bandAt xs0 (k0_off1 i 2#32) (k0_off1_inb i 2)) (biasAt x3 (k0_off2 i 2#32) (k0_off2_inb i 2))) (k0_pay15 (ctx xs0) (rowsAt x0 ![0, 128, 0] inb_S1x256x128_S1x64x128_0_128_0) (bandAt xs0 (k0_off1 i 2#32) (k0_off1_inb i 2)) (biasAt x3 (k0_off2 i 2#32) (k0_off2_inb i 2))) (k0_pay16 (ctx xs0) (rowsAt x0 ![0, 128, 0] inb_S1x256x128_S1x64x128_0_128_0) (bandAt xs0 (k0_off1 i 2#32) (k0_off1_inb i 2)) (biasAt x3 (k0_off2 i 2#32) (k0_off2_inb i 2)))

/-- Row 3 of the block. -/
def row3 (i : grid0.Coords) (x0 : Vec F S1x256x128 .f32) (xs0 xs1 : Vec F S2304x128 .bf16) (x3 : Vec F S1x8x64x512 .f32) : FVec F S1x64x128 .bf16 :=
  k0_pay1 (ctx xs1) (bandAt xs1 (k0_off1 i 3#32) (k0_off1_inb i 3)) (k0_pay19 (ctx xs0) (rowsAt x0 ![0, 192, 0] inb_S1x256x128_S1x64x128_0_192_0)) (k0_pay20 (rowsAt x0 ![0, 192, 0] inb_S1x256x128_S1x64x128_0_192_0) (bandAt xs0 (k0_off1 i 3#32) (k0_off1_inb i 3))) (biasAt x3 (k0_off2 i 3#32) (k0_off2_inb i 3))

/-- The pieces of the block: its four rows of the image, the last first. -/
def pieces (i : grid0.Coords) (x0 : Vec F S1x256x128 .f32) (xs0 xs1 : Vec F S2304x128 .bf16) (x3 : Vec F S1x8x64x512 .f32) : List (View.Piece (Elt F) S1x256x128 .bf16) :=
  [⟨Rect.unit ![0, 192, 0] S1x64x128.size inb_S1x256x128_S1x64x128_0_192_0, row3 i x0 xs0 xs1 x3⟩,
   ⟨Rect.unit ![0, 128, 0] S1x64x128.size inb_S1x256x128_S1x64x128_0_128_0, row2 i x0 xs0 xs1 x3⟩,
   ⟨Rect.unit ![0, 64, 0] S1x64x128.size inb_S1x256x128_S1x64x128_0_64_0, row1 i x0 xs0 xs1 x3⟩,
   ⟨Rect.unit ![0, 0, 0] S1x64x128.size inb_S1x256x128_S1x64x128_0_0_0, row0 i x0 xs0 xs1 x3⟩]

/-- The pieces cover the block. -/
theorem pieces_cover (i : grid0.Coords) (x0 : Vec F S1x256x128 .f32) (xs0 xs1 : Vec F S2304x128 .bf16) (x3 : Vec F S1x8x64x512 .f32) (y : S1x256x128.Idx) : ∃ pc ∈ pieces i x0 xs0 xs1 x3, y ∈ pc.1.set :=
  View.cover_of_tiledL (pieces i x0 xs0 xs1 x3) S1x64x128.size (by sl_kernel_rfl) y

/-- The block. -/
def block (i : grid0.Coords) (x0 : Vec F S1x256x128 .f32) (xs0 xs1 : Vec F S2304x128 .bf16) (x3 : Vec F S1x8x64x512 .f32) : Vec F S1x256x128 .bf16 :=
  VO0_4.read (Elt F) (VO0_4.writes (Elt F) VO0_4.junk (pieces i x0 xs0 xs1 x3))

/-- A load at a rectangle reads a window of what the view reads. -/
theorem readAt_window {κ : Kind} {sp : Space} {s : Shape} {e : EltTy} (v : View sig κ sp s e) (f : v.ty.Contents (Elt F)) {off size : Fin s.rank → Nat} (inb : ∀ a, off a + size a ≤ s.size a) :
    v.readAt (Elt F) (Rect.unit off size inb).toLoadRect f = VecWindow.window (v.read (Elt F) f) off size inb := rfl

set_option maxHeartbeats 1600000 in
/-- At a head's other points the pieces are those of the kept keys and values. -/
theorem runB_pieces (c : Dev nD) (i : grid0.Coords) (arg3 : Memref sig .tc .vmem S1x256x128 .f32) (harg3 : arg3.IsWhole) (arg4 : Memref sig .tc .vmem S1x2304x128 .f32) (harg4 : arg4.IsWhole) (arg5 : Memref sig .tc .vmem S1x2304x128 .f32) (harg5 : arg5.IsWhole) (arg6 : Memref sig .tc .vmem S1x8x64x512 .f32) (harg6 : arg6.IsWhole) (arg7 : Memref sig .tc .vmem S1x256x128 .bf16) (harg7 : arg7.IsWhole) (arg8 : Memref sig .tc .vmem S2304x128 .bf16) (harg8 : arg8.IsWhole) (arg9 : Memref sig .tc .vmem S2304x128 .bf16) (harg9 : arg9.IsWhole) (hc0 : ¬cond0_0 i)
    (x0 : Vec F S1x256x128 .f32) (x1 : Vec F S1x2304x128 .f32) (x2 : Vec F S1x2304x128 .f32) (x3 : Vec F S1x8x64x512 .f32) (xs0 : Vec F S2304x128 .bf16) (xs1 : Vec F S2304x128 .bf16) :
    (kernelRun0_B c i arg3 harg3 arg4 harg4 arg5 harg5 arg6 harg6 arg7 harg7 arg8 harg8 arg9 harg9 hc0 x0 x1 x2 x3 xs0 xs1).1 = pieces i x0 xs0 xs1 x3 := by
  have h : (kernelRun0_B c i arg3 harg3 arg4 harg4 arg5 harg5 arg6 harg6 arg7 harg7 arg8 harg8 arg9 harg9 hc0 x0 x1 x2 x3 xs0 xs1).1
      = pieces i (arg3.view.read (Elt F) (harg3.unread x0)) (arg8.view.read (Elt F) (harg8.unread xs0)) (arg9.view.read (Elt F) (harg9.unread xs1))
        (arg6.view.read (Elt F) (harg6.unread x3)) := by
    unfold kernelRun0_B
    dsimp only
    rfl
  rw [h, harg3.read_unread, harg6.read_unread, harg8.read_unread, harg9.read_unread]

set_option maxHeartbeats 1600000 in
/-- At a head's first point they are those of the keys and values that the point keeps. -/
theorem runA_pieces (c : Dev nD) (i : grid0.Coords) (arg3 : Memref sig .tc .vmem S1x256x128 .f32) (harg3 : arg3.IsWhole) (arg4 : Memref sig .tc .vmem S1x2304x128 .f32) (harg4 : arg4.IsWhole) (arg5 : Memref sig .tc .vmem S1x2304x128 .f32) (harg5 : arg5.IsWhole) (arg6 : Memref sig .tc .vmem S1x8x64x512 .f32) (harg6 : arg6.IsWhole) (arg7 : Memref sig .tc .vmem S1x256x128 .bf16) (harg7 : arg7.IsWhole) (arg8 : Memref sig .tc .vmem S2304x128 .bf16) (harg8 : arg8.IsWhole) (arg9 : Memref sig .tc .vmem S2304x128 .bf16) (harg9 : arg9.IsWhole) (hc0 : cond0_0 i)
    (x0 : Vec F S1x256x128 .f32) (x1 : Vec F S1x2304x128 .f32) (x2 : Vec F S1x2304x128 .f32) (x3 : Vec F S1x8x64x512 .f32) :
    (kernelRun0_A c i arg3 harg3 arg4 harg4 arg5 harg5 arg6 harg6 arg7 harg7 arg8 harg8 arg9 harg9 hc0 x0 x1 x2 x3).1 = pieces i x0 (k0_pay2 x1) (k0_pay3 x2) x3 := by
  have h : (kernelRun0_A c i arg3 harg3 arg4 harg4 arg5 harg5 arg6 harg6 arg7 harg7 arg8 harg8 arg9 harg9 hc0 x0 x1 x2 x3).1
      = pieces i (arg3.view.read (Elt F) (harg3.unread x0))
        (arg8.view.read (Elt F) (arg8.view.writes (Elt F) arg8.view.junk [⟨Rect.unit ![0, 0] S2304x128.size inb_S2304x128_S2304x128_0_0,
          k0_pay2 (arg4.view.readAt (Elt F) (Rect.unit ![0, 0, 0] S1x2304x128.size inb_S1x2304x128_S1x2304x128_0_0_0).toLoadRect (harg4.unread x1))⟩]))
        (arg9.view.read (Elt F) (arg9.view.writes (Elt F) arg9.view.junk [⟨Rect.unit ![0, 0] S2304x128.size inb_S2304x128_S2304x128_0_0,
          k0_pay3 (arg5.view.readAt (Elt F) (Rect.unit ![0, 0, 0] S1x2304x128.size inb_S1x2304x128_S1x2304x128_0_0_0).toLoadRect (harg5.unread x2))⟩]))
        (arg6.view.read (Elt F) (harg6.unread x3)) := by
    unfold kernelRun0_A
    dsimp only
    rfl
  rw [h, View.read_writes_full, View.read_writes_full, View.readAt_full, View.readAt_full, harg3.read_unread, harg4.read_unread, harg5.read_unread, harg6.read_unread]

set_option maxHeartbeats 1600000 in
/-- A head's first point keeps the keys, whatever the buffer held. -/
theorem runA_keys (c : Dev nD) (i : grid0.Coords) (arg3 : Memref sig .tc .vmem S1x256x128 .f32) (harg3 : arg3.IsWhole) (arg4 : Memref sig .tc .vmem S1x2304x128 .f32) (harg4 : arg4.IsWhole) (arg5 : Memref sig .tc .vmem S1x2304x128 .f32) (harg5 : arg5.IsWhole) (arg6 : Memref sig .tc .vmem S1x8x64x512 .f32) (harg6 : arg6.IsWhole) (arg7 : Memref sig .tc .vmem S1x256x128 .bf16) (harg7 : arg7.IsWhole) (arg8 : Memref sig .tc .vmem S2304x128 .bf16) (harg8 : arg8.IsWhole) (arg9 : Memref sig .tc .vmem S2304x128 .bf16) (harg9 : arg9.IsWhole) (hc0 : cond0_0 i)
    (x0 : Vec F S1x256x128 .f32) (x1 : Vec F S1x2304x128 .f32) (x2 : Vec F S1x2304x128 .f32) (x3 : Vec F S1x8x64x512 .f32) (f : arg8.view.ty.Contents (Elt F)) :
    arg8.view.read (Elt F) (arg8.view.writes (Elt F) f (kernelRun0_A c i arg3 harg3 arg4 harg4 arg5 harg5 arg6 harg6 arg7 harg7 arg8 harg8 arg9 harg9 hc0 x0 x1 x2 x3).2.1) = k0_pay2 x1 := by
  unfold kernelRun0_A
  dsimp only
  refine (View.read_writes_full _ _ inb_S2304x128_S2304x128_0_0 _ []).trans ?_
  exact congrArg k0_pay2 ((View.readAt_full _ _ inb_S1x2304x128_S1x2304x128_0_0_0).trans (harg4.read_unread x1))

set_option maxHeartbeats 1600000 in
/-- A head's first point keeps the values, whatever the buffer held. -/
theorem runA_values (c : Dev nD) (i : grid0.Coords) (arg3 : Memref sig .tc .vmem S1x256x128 .f32) (harg3 : arg3.IsWhole) (arg4 : Memref sig .tc .vmem S1x2304x128 .f32) (harg4 : arg4.IsWhole) (arg5 : Memref sig .tc .vmem S1x2304x128 .f32) (harg5 : arg5.IsWhole) (arg6 : Memref sig .tc .vmem S1x8x64x512 .f32) (harg6 : arg6.IsWhole) (arg7 : Memref sig .tc .vmem S1x256x128 .bf16) (harg7 : arg7.IsWhole) (arg8 : Memref sig .tc .vmem S2304x128 .bf16) (harg8 : arg8.IsWhole) (arg9 : Memref sig .tc .vmem S2304x128 .bf16) (harg9 : arg9.IsWhole) (hc0 : cond0_0 i)
    (x0 : Vec F S1x256x128 .f32) (x1 : Vec F S1x2304x128 .f32) (x2 : Vec F S1x2304x128 .f32) (x3 : Vec F S1x8x64x512 .f32) (f : arg9.view.ty.Contents (Elt F)) :
    arg9.view.read (Elt F) (arg9.view.writes (Elt F) f (kernelRun0_A c i arg3 harg3 arg4 harg4 arg5 harg5 arg6 harg6 arg7 harg7 arg8 harg8 arg9 harg9 hc0 x0 x1 x2 x3).2.2.1) = k0_pay3 x2 := by
  unfold kernelRun0_A
  dsimp only
  refine (View.read_writes_full _ _ inb_S2304x128_S2304x128_0_0 _ []).trans ?_
  exact congrArg k0_pay3 ((View.readAt_full _ _ inb_S1x2304x128_S1x2304x128_0_0_0).trans (harg5.read_unread x2))

end Cert.Kernel12Ideal.Na

end
-- ==== Proof.NaBlock.lean ====
/-
  What one row of the image of a grid point's block holds, entry by entry.
-/
module

public import proofs.«01_k».proof.Proof.NaSpec
public import proofs.«01_k».proof.Proof.NaPieces
public import Idealize.ShloMosaic.Lib.Pointwise.Tactic
public import Idealize.ShloMosaic.Lib.Pointwise

@[expose] public section

noncomputable section

namespace Cert.Kernel12Ideal.Na

open Cert.Kernel12Ideal Cert.Kernel12Ideal.Gen Idealize.ShloMosaic

/-- The score of key row `k` against query `i`: their inner product times the scale. -/
def dot {n : Nat} (q : Vec Ideal S1x64x128 .f32) (key : Fin n → Fin 128 → EReal) (i : Fin 64) (k : Fin n) : EReal :=
  (∑ e : Fin 128, q (ix3 0 i e) * key k e) * Ideal.ofBits .f32 0x3DB504F3#32

/-- One entry of a row of the image, from its queries, the two families of keys and values and the bias. -/
def rowEntry (q : Vec Ideal S1x64x128 .f32) (kc vc : Vec Ideal S256x128 .bf16) (kb vb : Vec Ideal S512x128 .bf16)
    (B : Vec Ideal S1x1x64x512 .f32) (i : Fin 64) (d : Fin 128) : EReal :=
  Cert.Na.attendDiv (dot q (fun k e => kc (ix2 k e)) i) (fun k => dot q (fun k e => kb (ix2 k e)) i k + B (ix4 0 0 i k))
    (fun k => vc (ix2 k d)) (fun k => vb (ix2 k d))

variable (q : Vec Ideal S1x64x128 .f32) (kc vc : Vec Ideal S256x128 .bf16) (kb vb : Vec Ideal S512x128 .bf16)
    (B : Vec Ideal S1x1x64x512 .f32) (i : Fin 64) (d : Fin 128)

/-- The first row. -/
theorem first_apply : k0_pay7 (F := Ideal) vc vb (k0_pay5 kc q) (k0_pay6 q kb B) (ix3 0 i d) = rowEntry q kc vc kb vb B i d := by
  unfold k0_pay7 k0_pay5 k0_pay6 k0_pay4
  pointwise [rowEntry, dot, Cert.Na.attendDiv, Cert.Na.den, Cert.Na.ex, Cert.Na.peak, Softmax.top, Softmax.ofBits_neg_inf]

/-- The second row. -/
theorem second_apply : k0_pay9 (F := Ideal) kc vc (k0_pay8 q) kb vb B (ix3 0 i d) = rowEntry q kc vc kb vb B i d := by
  unfold k0_pay9 k0_pay8
  pointwise [rowEntry, dot, Cert.Na.attendDiv, Cert.Na.den, Cert.Na.ex, Cert.Na.peak, Softmax.top, Softmax.ofBits_neg_inf]

/-- The third row. -/
theorem third_apply : k0_pay17 (F := Ideal) vc vb (k0_pay14 kc q kb B) (k0_pay15 kc q kb B) (k0_pay16 kc q kb B) (ix3 0 i d)
    = rowEntry q kc vc kb vb B i d := by
  unfold k0_pay17 k0_pay14 k0_pay15 k0_pay16 k0_pay14 k0_pay13 k0_pay11 k0_pay12 k0_pay10
  pointwise [rowEntry, dot, Cert.Na.attendDiv, Cert.Na.den, Cert.Na.ex, Cert.Na.peak, Softmax.top, Softmax.ofBits_neg_inf]

/-- The fourth row. -/
theorem fourth_apply : k0_pay1 (F := Ideal) vc vb (k0_pay19 kc q) (k0_pay20 q kb) B (ix3 0 i d) = rowEntry q kc vc kb vb B i d := by
  unfold k0_pay1 k0_pay19 k0_pay20 k0_pay18
  pointwise [rowEntry, dot, Cert.Na.attendDiv, Cert.Na.den, Cert.Na.ex, Cert.Na.peak, Softmax.top, Softmax.ofBits_neg_inf]

/-- The keys kept. -/
theorem keys_apply (x : Vec Ideal S1x2304x128 .f32) (r : Fin 2304) (e : Fin 128) : k0_pay2 (F := Ideal) x (ix2 r e) = x (ix3 0 r e) := by
  unfold k0_pay2
  pointwise

/-- The values kept. -/
theorem vals_apply (x : Vec Ideal S1x2304x128 .f32) (r : Fin 2304) (e : Fin 128) : k0_pay3 (F := Ideal) x (ix2 r e) = x (ix3 0 r e) := by
  unfold k0_pay3
  pointwise

end Cert.Kernel12Ideal.Na

end
-- ==== Proof.NaReads.lean ====
/-
  Where the blocks of a grid point lie in their arrays.
-/
module

public import proofs.«01_k».proof.Proof.NaRuns
public import Idealize.ShloMosaic.Lib.Pointwise

@[expose] public section

set_option maxRecDepth 16384

noncomputable section

namespace Cert.Kernel12Ideal.Na

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The queries' block: the sequence's, of one block of the image's rows, of one head. -/
theorem idx0 : ∀ t : Fin cfg0.N, win0_0.index t 0 = t.val / 64 ∧ win0_0.index t 1 = t.val % 8 + 1 ∧ win0_0.index t 2 = t.val / 8 % 8 :=
  (by decide +kernel : ∀ t : Fin grid0.N, win0_0.index t 0 = t.val / 64 ∧ win0_0.index t 1 = t.val % 8 + 1 ∧ win0_0.index t 2 = t.val / 8 % 8)

/-- The keys' block: all rows of the sequence's keys of one head. -/
theorem idx1 : ∀ t : Fin cfg0.N, win0_1.index t 0 = t.val / 64 ∧ win0_1.index t 1 = 0 ∧ win0_1.index t 2 = 8 + t.val / 8 % 8 :=
  (by decide +kernel : ∀ t : Fin grid0.N, win0_1.index t 0 = t.val / 64 ∧ win0_1.index t 1 = 0 ∧ win0_1.index t 2 = 8 + t.val / 8 % 8)

/-- The values' block: all rows of the sequence's values of one head. -/
theorem idx2 : ∀ t : Fin cfg0.N, win0_2.index t 0 = t.val / 64 ∧ win0_2.index t 1 = 0 ∧ win0_2.index t 2 = 16 + t.val / 8 % 8 :=
  (by decide +kernel : ∀ t : Fin grid0.N, win0_2.index t 0 = t.val / 64 ∧ win0_2.index t 1 = 0 ∧ win0_2.index t 2 = 16 + t.val / 8 % 8)

/-- The bias's block: one head's tables. -/
theorem idx3 : ∀ t : Fin cfg0.N, win0_3.index t 0 = t.val / 8 % 8 ∧ win0_3.index t 1 = 0 ∧ win0_3.index t 2 = 0 ∧ win0_3.index t 3 = 0 :=
  (by decide +kernel : ∀ t : Fin grid0.N, win0_3.index t 0 = t.val / 8 % 8 ∧ win0_3.index t 1 = 0 ∧ win0_3.index t 2 = 0 ∧ win0_3.index t 3 = 0)

/-- The result's block. -/
theorem idx4 : ∀ t : Fin cfg0.N, win0_4.index t 0 = t.val / 64 ∧ win0_4.index t 1 = t.val % 8 ∧ win0_4.index t 2 = t.val / 8 % 8 :=
  (by decide +kernel : ∀ t : Fin grid0.N, win0_4.index t 0 = t.val / 64 ∧ win0_4.index t 1 = t.val % 8 ∧ win0_4.index t 2 = t.val / 8 % 8)

theorem lt_N (t : Fin cfg0.N) : t.val < 1024 := lt_of_lt_of_eq t.isLt N_0

/-- The sequence of a grid point. -/
def bOf (t : Fin cfg0.N) : Fin 16 := ⟨t.val / 64, by have := lt_N t; omega⟩

/-- The head of a grid point. -/
def hOf (t : Fin cfg0.N) : Fin 8 := ⟨t.val / 8 % 8, by omega⟩

/-- The block of rows of a grid point. -/
def gOf (t : Fin cfg0.N) : Fin 8 := ⟨t.val % 8, by omega⟩

/-- The grid's last coordinate is the block of rows. -/
theorem coord2 (t : Fin cfg0.N) : (grid0.coords t 2).val = (gOf t).val := by
  have e2 : (grid0.coords t 2).val = t.val / 1 % 8 := Pipeline.Grid.coords_val t 2 (by decide) rfl
  rw [e2, Nat.div_one]
  rfl

/-- Where the queries' block lies. -/
theorem q_read (t : Fin cfg0.N) (A : S16x2304x4224.Idx → Elt F .f32) (r : Fin 256) (e : Fin 128) :
    (((cfg0.win 0).blk t).view.read (Elt F) A : S1x256x128.Idx → Elt F .f32) (ix3 0 r e) = A (ix3 (bOf t) ⟨((gOf t).val + 1) * 256 + r.val, by omega⟩ ⟨(hOf t).val * 128 + e.val, by omega⟩) := by
  have ht := lt_N t
  obtain ⟨i0, i1, i2⟩ := idx0 t
  rw [View.read_apply]
  show A _ = A _
  congr 1
  funext a
  apply Fin.ext
  match a with
  | ⟨0, _⟩ => show win0_0.index t 0 * 1 + 1 * 0 = t.val / 64; omega
  | ⟨1, _⟩ => show win0_0.index t 1 * 256 + 1 * r.val = (t.val % 8 + 1) * 256 + r.val; omega
  | ⟨2, _⟩ => show win0_0.index t 2 * 128 + 1 * e.val = t.val / 8 % 8 * 128 + e.val; omega

/-- Where the keys' block lies. -/
theorem k_read (t : Fin cfg0.N) (A : S16x2304x4224.Idx → Elt F .f32) (r : Fin 2304) (e : Fin 128) :
    (((cfg0.win 1).blk t).view.read (Elt F) A : S1x2304x128.Idx → Elt F .f32) (ix3 0 r e) = A (ix3 (bOf t) r ⟨1024 + (hOf t).val * 128 + e.val, by omega⟩) := by
  have ht := lt_N t
  obtain ⟨i0, i1, i2⟩ := idx1 t
  rw [View.read_apply]
  show A _ = A _
  congr 1
  funext a
  apply Fin.ext
  match a with
  | ⟨0, _⟩ => show win0_1.index t 0 * 1 + 1 * 0 = t.val / 64; omega
  | ⟨1, _⟩ => show win0_1.index t 1 * 2304 + 1 * r.val = r.val; omega
  | ⟨2, _⟩ => show win0_1.index t 2 * 128 + 1 * e.val = 1024 + t.val / 8 % 8 * 128 + e.val; omega

/-- Where the values' block lies. -/
theorem v_read (t : Fin cfg0.N) (A : S16x2304x4224.Idx → Elt F .f32) (r : Fin 2304) (e : Fin 128) :
    (((cfg0.win 2).blk t).view.read (Elt F) A : S1x2304x128.Idx → Elt F .f32) (ix3 0 r e) = A (ix3 (bOf t) r ⟨2048 + (hOf t).val * 128 + e.val, by omega⟩) := by
  have ht := lt_N t
  obtain ⟨i0, i1, i2⟩ := idx2 t
  rw [View.read_apply]
  show A _ = A _
  congr 1
  funext a
  apply Fin.ext
  match a with
  | ⟨0, _⟩ => show win0_2.index t 0 * 1 + 1 * 0 = t.val / 64; omega
  | ⟨1, _⟩ => show win0_2.index t 1 * 2304 + 1 * r.val = r.val; omega
  | ⟨2, _⟩ => show win0_2.index t 2 * 128 + 1 * e.val = 2048 + t.val / 8 % 8 * 128 + e.val; omega

/-- Where the bias's block lies. -/
theorem bias_read (t : Fin cfg0.N) (A : S8x8x64x512.Idx → Elt F .f32) (g : Fin 8) (i : Fin 64) (k : Fin 512) :
    (((cfg0.win 3).blk t).view.read (Elt F) A : S1x8x64x512.Idx → Elt F .f32) (ix4 0 g i k) = A (ix4 (hOf t) g i k) := by
  have ht := lt_N t
  obtain ⟨i0, i1, i2, i3⟩ := idx3 t
  rw [View.read_apply]
  show A _ = A _
  congr 1
  funext a
  apply Fin.ext
  match a with
  | ⟨0, _⟩ => show win0_3.index t 0 * 1 + 1 * 0 = t.val / 8 % 8; omega
  | ⟨1, _⟩ => show win0_3.index t 1 * 8 + 1 * g.val = g.val; omega
  | ⟨2, _⟩ => show win0_3.index t 2 * 64 + 1 * i.val = i.val; omega
  | ⟨3, _⟩ => show win0_3.index t 3 * 512 + 1 * k.val = k.val; omega

/-- Where the result's block lies. -/
theorem o_read (t : Fin cfg0.N) (A : S16x2048x1024.Idx → Elt F .bf16) (r : Fin 256) (d : Fin 128) :
    (((cfg0.win 4).blk t).view.read (Elt F) A : S1x256x128.Idx → Elt F .bf16) (ix3 0 r d) = A (ix3 (bOf t) ⟨(gOf t).val * 256 + r.val, by omega⟩ ⟨(hOf t).val * 128 + d.val, by omega⟩) := by
  have ht := lt_N t
  obtain ⟨i0, i1, i2⟩ := idx4 t
  rw [View.read_apply]
  show A _ = A _
  congr 1
  funext a
  apply Fin.ext
  match a with
  | ⟨0, _⟩ => show win0_4.index t 0 * 1 + 1 * 0 = t.val / 64; omega
  | ⟨1, _⟩ => show win0_4.index t 1 * 256 + 1 * r.val = t.val % 8 * 256 + r.val; omega
  | ⟨2, _⟩ => show win0_4.index t 2 * 128 + 1 * d.val = t.val / 8 % 8 * 128 + d.val; omega

/-- A block has one array of rows. -/
theorem eq_rows (y : S1x2304x128.Idx) : ∃ (r : Fin 2304) (e : Fin 128), y = ix3 0 r e :=
  ⟨y 1, y 2, by
    funext a
    match a with
    | ⟨0, _⟩ => exact Subsingleton.elim (α := Fin 1) _ _
    | ⟨1, _⟩ => rfl
    | ⟨2, _⟩ => rfl⟩

/-- The keys' block at a point, entry by entry. -/
theorem k_blk (c : Dev nD) (t : Fin cfg0.N) (r : Fin 2304) (e : Fin 128) :
    (iblk m c 1 t : Vec F S1x2304x128 .f32) (ix3 0 r e) = m ((c : Thread nD τ).loc main_arg0) (ix3 (bOf t) r ⟨1024 + (hOf t).val * 128 + e.val, by omega⟩) :=
  k_read t (m ((c : Thread nD τ).loc main_arg0)) r e

/-- The values' block at a point, entry by entry. -/
theorem v_blk (c : Dev nD) (t : Fin cfg0.N) (r : Fin 2304) (e : Fin 128) :
    (iblk m c 2 t : Vec F S1x2304x128 .f32) (ix3 0 r e) = m ((c : Thread nD τ).loc main_arg0) (ix3 (bOf t) r ⟨2048 + (hOf t).val * 128 + e.val, by omega⟩) :=
  v_read t (m ((c : Thread nD τ).loc main_arg0)) r e

/-- The queries' block at a point, entry by entry. -/
theorem q_blk (c : Dev nD) (t : Fin cfg0.N) (r : Fin 256) (e : Fin 128) :
    (iblk m c 0 t : Vec F S1x256x128 .f32) (ix3 0 r e)
      = m ((c : Thread nD τ).loc main_arg0) (ix3 (bOf t) ⟨((gOf t).val + 1) * 256 + r.val, by omega⟩ ⟨(hOf t).val * 128 + e.val, by omega⟩) :=
  q_read t (m ((c : Thread nD τ).loc main_arg0)) r e

/-- The bias's block at a point, entry by entry. -/
theorem bias_blk (c : Dev nD) (t : Fin cfg0.N) (g : Fin 8) (i : Fin 64) (k : Fin 512) :
    (iblk m c 3 t : Vec F S1x8x64x512 .f32) (ix4 0 g i k) = m ((c : Thread nD τ).loc main_arg1) (ix4 (hOf t) g i k) :=
  bias_read t (m ((c : Thread nD τ).loc main_arg1)) g i k

/-- The keys' block is the same at all points of a head. -/
theorem k_same (c : Dev nD) (t u : Fin cfg0.N) (h : u.val / 8 = t.val / 8) :
    (iblk m c 1 u : Vec F S1x2304x128 .f32) = (iblk m c 1 t : Vec F S1x2304x128 .f32) := by
  funext y
  obtain ⟨r, e, rfl⟩ := eq_rows y
  have hb : bOf u = bOf t := Fin.ext (show u.val / 64 = t.val / 64 by omega)
  have hh : hOf u = hOf t := Fin.ext (show u.val / 8 % 8 = t.val / 8 % 8 by omega)
  rw [k_blk, k_blk, hb]
  congr 2
  exact Fin.ext (show 1024 + (hOf u).val * 128 + e.val = 1024 + (hOf t).val * 128 + e.val by rw [hh])

/-- The values' block is the same at all points of a head. -/
theorem v_same (c : Dev nD) (t u : Fin cfg0.N) (h : u.val / 8 = t.val / 8) :
    (iblk m c 2 u : Vec F S1x2304x128 .f32) = (iblk m c 2 t : Vec F S1x2304x128 .f32) := by
  funext y
  obtain ⟨r, e, rfl⟩ := eq_rows y
  have hb : bOf u = bOf t := Fin.ext (show u.val / 64 = t.val / 64 by omega)
  have hh : hOf u = hOf t := Fin.ext (show u.val / 8 % 8 = t.val / 8 % 8 by omega)
  rw [v_blk, v_blk, hb]
  congr 2
  exact Fin.ext (show 2048 + (hOf u).val * 128 + e.val = 2048 + (hOf t).val * 128 + e.val by rw [hh])

end Cert.Kernel12Ideal.Na

end
-- ==== Proof.NaFrame.lean ====
/-
  The neighbourhood attention's call runs to the end and leaves its arguments unchanged; what its buffers hold after each
  grid point.
-/
module

public import proofs.«01_k».proof.Proof.NaPieces
public import proofs.«01_k».proof.Proof.NaReads
public import Idealize.ShloMosaic.Lib.Claim

@[expose] public section

set_option maxRecDepth 16384

noncomputable section

namespace Cert.Kernel12Ideal.Na

open Cert.Kernel12Ideal Cert.Kernel12Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The keys that a head's points read. -/
def keys (c : Dev nD) (t : Fin cfg0.N) : Vec F S2304x128 .bf16 := k0_pay2 (iblk m c 1 t)

/-- The values that a head's points read. -/
def vals (c : Dev nD) (t : Fin cfg0.N) : Vec F S2304x128 .bf16 := k0_pay3 (iblk m c 2 t)

/-- The block of the result at a point. -/
def outBlk (c : Dev nD) (t : Fin cfg0.N) : Vec F S1x256x128 .bf16 :=
  block (grid0.coords t) (iblk m c 0 t) (keys m c t) (vals m c t) (iblk m c 3 t)

/-- The keys are the same at all points of a head. -/
theorem keys_same (c : Dev nD) (t u : Fin cfg0.N) (h : u.val / 8 = t.val / 8) : keys m c u = keys m c t :=
  congrArg k0_pay2 (k_same m c t u h)

/-- The values are the same at all points of a head. -/
theorem vals_same (c : Dev nD) (t u : Fin cfg0.N) (h : u.val / 8 = t.val / 8) : vals m c u = vals m c t :=
  congrArg k0_pay3 (v_same m c t u h)

/-- What holds between points: before the first the kept buffers hold anything, after a point the keys and values of its head. -/
def PhiS (c : Dev nD) : (n : ℕ) → n ≤ cfg0.N → sProp 𝕄
  | 0, _ => Pipeline.ΦA spec0 c
  | n + 1, hn => iprop(iprop(owns (c : Thread nD τ) scM0_0 fullShare (keys m c ⟨n, hn⟩) ∗ owns (c : Thread nD τ) scM0_1 fullShare (vals m c ⟨n, hn⟩)) ∗ (∃ r, prngReg c r))

/-- Before the first point the kept buffers hold anything. -/
theorem PhiS_zero (c : Dev nD) (n : ℕ) (h : n ≤ cfg0.N) (hz : n = 0) : PhiS m c n h = Pipeline.ΦA spec0 c := by
  subst hz; rfl

/-- After point `n`. -/
theorem PhiS_succ (c : Dev nD) (n : ℕ) (hn : n < cfg0.N) :
    PhiS m c (n + 1) hn = iprop(iprop(owns (c : Thread nD τ) scM0_0 fullShare (keys m c ⟨n, hn⟩) ∗ owns (c : Thread nD τ) scM0_1 fullShare (vals m c ⟨n, hn⟩)) ∗ (∃ r, prngReg c r)) := rfl

/-- Before a point that is not the first. -/
theorem PhiS_pos (c : Dev nD) (n : ℕ) (h : n ≤ cfg0.N) (hz : n ≠ 0) :
    PhiS m c n h = iprop(iprop(owns (c : Thread nD τ) scM0_0 fullShare (keys m c ⟨n - 1, by omega⟩) ∗ owns (c : Thread nD τ) scM0_1 fullShare (vals m c ⟨n - 1, by omega⟩)) ∗ (∃ r, prngReg c r)) := by
  cases n with
  | zero => exact absurd rfl hz
  | succ n => rfl

/-- The grid's account: the arrays as found, what every window's buffer holds after each point, what holds between points.
    The queries, keys and values lie in one array, of which each has a share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk m c t
  Φ t := PhiS m c t.val (Nat.le_of_lt_succ t.isLt)
  q w := Pipeline.shareOf spec0 w
  owed _ := 0

/-- The arrays are those that the grid finds. -/
theorem A_eq (c : Dev nD) (w : Fin cfg0.W) : (dats m 0 c).A w = V m c (Pipeline.arrRef spec0 w) := by
  dsimp only [dats]

/-- What holds before a point, by the point's number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What window 0's buffer holds after a point. -/
theorem after0_0 (c : Dev nD) (t : Fin cfg0.N) : (dats m 0 c).after 0 t = iblk m c 0 t := by dsimp only [dats]

/-- What window 1's buffer holds after a point. -/
theorem after0_1 (c : Dev nD) (t : Fin cfg0.N) : (dats m 0 c).after 1 t = iblk m c 1 t := by dsimp only [dats]

/-- What window 2's buffer holds after a point. -/
theorem after0_2 (c : Dev nD) (t : Fin cfg0.N) : (dats m 0 c).after 2 t = iblk m c 2 t := by dsimp only [dats]

/-- What window 3's buffer holds after a point. -/
theorem after0_3 (c : Dev nD) (t : Fin cfg0.N) : (dats m 0 c).after 3 t = iblk m c 3 t := by dsimp only [dats]

/-- What window 4's buffer holds after a point. -/
theorem after0_4 (c : Dev nD) (t : Fin cfg0.N) : (dats m 0 c).after 4 t = outBlk m c t := by dsimp only [dats]

/-- What window 0's buffer holds before the body: its block. -/
theorem before0_0 (c : Dev nD) (t : Fin cfg0.N) (d) : (dats m 0 c).before 0 t d = iblk m c 0 t :=
  before0_0_of m (dats m 0 c) (A_eq m c 0) (after0_0 m c) t d

/-- What window 1's buffer holds before the body: its block. -/
theorem before0_1 (c : Dev nD) (t : Fin cfg0.N) (d) : (dats m 0 c).before 1 t d = iblk m c 1 t :=
  before0_1_of m (dats m 0 c) (A_eq m c 1) (after0_1 m c) t d

/-- What window 2's buffer holds before the body: its block. -/
theorem before0_2 (c : Dev nD) (t : Fin cfg0.N) (d) : (dats m 0 c).before 2 t d = iblk m c 2 t :=
  before0_2_of m (dats m 0 c) (A_eq m c 2) (after0_2 m c) t d

/-- What window 3's buffer holds before the body: its block. -/
theorem before0_3 (c : Dev nD) (t : Fin cfg0.N) (d) : (dats m 0 c).before 3 t d = iblk m c 3 t :=
  before0_3_of m (dats m 0 c) (A_eq m c 3) (after0_3 m c) t d

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- Whatever the result's buffer held, after a first point's writes it holds the point's block. -/
theorem outA (c : Dev nD) (t : Fin cfg0.N) (h0 : cond0_0 (grid0.coords t)) (f : (ms0_4 t).view.ty.Contents (Elt F)) :
    (ms0_4 t).view.read (Elt F) ((ms0_4 t).view.writes (Elt F) f (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) h0
      (iblk m c 0 t) (iblk m c 1 t) (iblk m c 2 t) (iblk m c 3 t)).1) = outBlk m c t := by
  rw [runA_pieces]
  unfold outBlk block keys vals
  exact View.read_writes_of_cover _ _ _ _ _ (pieces_cover (F := F) _ _ _ _ _)

/-- Whatever it held, after another point's writes it holds the point's block. -/
theorem outB (c : Dev nD) (t : Fin cfg0.N) (h0 : ¬cond0_0 (grid0.coords t)) (f : (ms0_4 t).view.ty.Contents (Elt F)) :
    (ms0_4 t).view.read (Elt F) ((ms0_4 t).view.writes (Elt F) f (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) h0
      (iblk m c 0 t) (iblk m c 1 t) (iblk m c 2 t) (iblk m c 3 t) (keys m c t) (vals m c t)).1) = outBlk m c t := by
  rw [runB_pieces]
  unfold outBlk block
  exact View.read_writes_of_cover _ _ _ _ _ (pieces_cover (F := F) _ _ _ _ _)

set_option maxHeartbeats 3200000 in
/-- The body at any point: the inputs' buffers hold their blocks, so the run of the point's case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val % 8 = 0
  · by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ ((hcond0_0 t).mpr h0) (iblk m c 0 t) (iblk m c 1 t) (iblk m c 2 t) (iblk m c 3 t)).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact runA_keys c _ _ _ _ _ _ _ _ _ _ _ _ _ _ _ _ _ _ _ _ _
          unfold owns; iexists _; isplitr
          swap; · iexact HS1
          ipureintro; exact runA_values c _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact outA m c t ((hcond0_0 t).mpr h0) _
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ ((hcond0_0 t).mpr h0) (iblk m c 0 t) (iblk m c 1 t) (iblk m c 2 t) (iblk m c 3 t)).2.2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HS1]; · iexists _; iexact HS1
      iintro ⟨H0, H1, H2, H3, ⟨%e4, H4⟩, ⟨%es0, HS0⟩, ⟨%es1, HS1⟩⟩
      isplitl [HS0 HS1 Hg]
      · isplitl [HS0 HS1]
        · isplitl [HS0]
          · unfold owns; iexists _; isplitr
            swap; · iexact HS0
            ipureintro; exact runA_keys c _ _ _ _ _ _ _ _ _ _ _ _ _ _ _ _ _ _ _ _ _
          unfold owns; iexists _; isplitr
          swap; · iexact HS1
          ipureintro; exact runA_values c _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact outA m c t ((hcond0_0 t).mpr h0) _
  · have hz : t.val ≠ 0 := by omega
    have hd : (t.val - 1) / 8 = t.val / 8 := by omega
    rw [PhiS_castSucc m c t, PhiS_pos m c _ _ hz, keys_same m c t ⟨t.val - 1, _⟩ hd, vals_same m c t ⟨t.val - 1, _⟩ hd]
    iintro ⟨⟨⟨HS0, HS1⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ _ _ (fun h => h0 ((hcond0_0 t).mp h)) (iblk m c 0 t) (iblk m c 1 t) (iblk m c 2 t) (iblk m c 3 t) (keys m c t) (vals m c t)).2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    iintro ⟨H0, H1, H2, H3, ⟨%e4, H4⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact outB m c t (fun h => h0 ((hcond0_0 t).mp h)) _

/-- What the grid calls at a point is the body on the point's buffers. -/
theorem defs₀_row (t : Fin cfg0.N) :
    defs₀ (F := F) .tc cfg0.body (cfg0.bodyArgs t (cfg0.slots t)) = bodyAt0 t := by
  unfold defs₀; rw [Defs.onTc_tc]

/-- The body does what the grid's account says of it, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The grid starts from what the account asks. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After a point the kept buffers' contents may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 1024 := N_0; omega)

/-! ## The run and the frame -/

set_option backward.isDefEq.respectTransparency.types false in
/-- The program runs to the end, its arrays as the account says, its counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The program terminates, leaves its arguments as they were and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel12Ideal.Na

end
-- ==== Proof.NaArray.lean ====
/-
  The array that the neighbourhood attention's call leaves, entry by entry.
-/
module

public import proofs.«01_k».proof.Proof.NaBlock
public import proofs.«01_k».proof.Proof.NaFrame

@[expose] public section

noncomputable section

namespace Cert.Kernel12Ideal.Na

open Cert.Kernel12Ideal Cert.Kernel12Ideal.Gen
open Idealize.ShloMosaic Idealize.ShloMosaic.TcCoe Idealize.SL.Sem

variable (m : (ℓ : Loc nD τ sig) → Buf (Elt Ideal) ℓ) (ρ : Dev nD → PrngReg)

/-- The 64 queries of a row, entry by entry. -/
theorem rowsAt_apply (x : Vec Ideal S1x256x128 .f32) (n : Nat) (hn : n + 64 ≤ 256) (inb : ∀ a, (![0, n, 0] : Fin 3 → Nat) a + S1x64x128.size a ≤ S1x256x128.size a)
    (i : Fin 64) (e : Fin 128) : rowsAt (F := Ideal) x ![0, n, 0] inb (ix3 0 i e) = x (ix3 0 ⟨n + i.val, by omega⟩ e) := by
  refine congrArg x (funext fun a => Fin.ext ?_)
  match a with
  | ⟨0, _⟩ => show 0 + 1 * 0 = 0; omega
  | ⟨1, _⟩ => show n + 1 * i.val = n + i.val; omega
  | ⟨2, _⟩ => show 0 + 1 * e.val = e.val; omega

/-- The context's rows, entry by entry. -/
theorem ctx_apply (x : Vec Ideal S2304x128 .bf16) (k : Fin 256) (e : Fin 128) : ctx (F := Ideal) x (ix2 k e) = x (ix2 (Cert.Na.ctxRow k) e) := by
  refine congrArg x (funext fun a => Fin.ext ?_)
  match a with
  | ⟨0, _⟩ => show 0 + 1 * k.val = k.val; omega
  | ⟨1, _⟩ => show 0 + 1 * e.val = e.val; omega

/-- Eight rows of the image, entry by entry. -/
theorem bandAt_apply (x : Vec Ideal S2304x128 .bf16) (off : Fin 2 → Nat) (n : Nat) (h : off = ![n, 0]) (hn : n + 512 ≤ 2304)
    (inb : ∀ a, off a + S512x128.size a ≤ S2304x128.size a) (k : Fin 512) (e : Fin 128) :
    bandAt (F := Ideal) x off inb (ix2 k e) = x (ix2 ⟨n + k.val, by omega⟩ e) := by
  subst h
  refine congrArg x (funext fun a => Fin.ext ?_)
  match a with
  | ⟨0, _⟩ => show n + 1 * k.val = n + k.val; omega
  | ⟨1, _⟩ => show 0 + 1 * e.val = e.val; omega

/-- One table of the bias, entry by entry. -/
theorem biasAt_apply (x : Vec Ideal S1x8x64x512 .f32) (off : Fin 4 → Nat) (n : Nat) (h : off = ![0, n, 0, 0]) (hn : n < 8)
    (inb : ∀ a, off a + S1x1x64x512.size a ≤ S1x8x64x512.size a) (i : Fin 64) (k : Fin 512) :
    biasAt (F := Ideal) x off inb (ix4 0 0 i k) = x (ix4 0 ⟨n, hn⟩ i k) := by
  subst h
  refine congrArg x (funext fun a => Fin.ext ?_)
  match a with
  | ⟨0, _⟩ => show 0 + 1 * 0 = 0; omega
  | ⟨1, _⟩ => show n + 1 * 0 = n; omega
  | ⟨2, _⟩ => show 0 + 1 * i.val = i.val; omega
  | ⟨3, _⟩ => show 0 + 1 * k.val = k.val; omega

/-- One entry of a row, where what it reads is read from the projected array and the bias. -/
theorem rowEntry_eq (X : Cert.Na.Z) (B : Cert.Na.Bias) (b : Fin 16) (h : Fin 8) (R : Fin 32) (i : Fin 64) (d : Fin 128)
    (q : Vec Ideal S1x64x128 .f32) (kc vc : Vec Ideal S256x128 .bf16) (kb vb : Vec Ideal S512x128 .bf16) (T : Vec Ideal S1x1x64x512 .f32)
    (hq : ∀ e : Fin 128, q (ix3 0 i e) = X (ix3 b (Cert.Na.cell R i) ⟨h.val * 128 + e.val, by omega⟩))
    (hkc : ∀ (k : Fin 256) (e : Fin 128), kc (ix2 k e) = X (ix3 b (Cert.Na.ctxRow k) ⟨1024 + h.val * 128 + e.val, by omega⟩))
    (hkb : ∀ (k : Fin 512) (e : Fin 128), kb (ix2 k e) = X (ix3 b (Cert.Na.seen R k) ⟨1024 + h.val * 128 + e.val, by omega⟩))
    (hvc : ∀ k : Fin 256, vc (ix2 k d) = Cert.Na.value X b h d (Cert.Na.ctxRow k))
    (hvb : ∀ k : Fin 512, vb (ix2 k d) = Cert.Na.value X b h d (Cert.Na.seen R k))
    (hT : ∀ k : Fin 512, T (ix4 0 0 i k) = B (ix4 h (Cert.Na.place R) i k)) :
    rowEntry q kc vc kb vb T i d = Cert.Na.resultDiv X B b h R i d := by
  have e1 : (dot q (fun (k : Fin 256) e => kc (ix2 k e)) i) = fun k => Cert.Na.score X b h (Cert.Na.cell R i) (Cert.Na.ctxRow k) := by
    funext k
    unfold dot Cert.Na.score
    rw [Finset.sum_congr rfl fun e _ => congrArg₂ (· * ·) (hq e) (hkc k e)]
  have e2 : (fun k => dot q (fun (k : Fin 512) e => kb (ix2 k e)) i k + T (ix4 0 0 i k)) = Cert.Na.imgScore X B b h R i := by
    funext k
    unfold dot Cert.Na.imgScore Cert.Na.score
    rw [Finset.sum_congr rfl fun e _ => congrArg₂ (· * ·) (hq e) (hkb k e), hT k]
  unfold rowEntry Cert.Na.resultDiv
  rw [e1, e2, funext hvc, funext hvb]

/-- Row `n` of the four rows of the image that a point has. -/
abbrev rowOf (t : Fin cfg0.N) (n : Fin 4) : Fin 32 := ⟨4 * (gOf t).val + n.val, by omega⟩

/-- One entry of row `n` of a point's block. -/
theorem row_eq (c : Dev nD) (t : Fin cfg0.N) (n : Fin 4) (inbq : ∀ a, (![0, 64 * n.val, 0] : Fin 3 → Nat) a + S1x64x128.size a ≤ S1x256x128.size a)
    (inb1 : ∀ a, k0_off1 (grid0.coords t) (BitVec.ofNat 32 n.val) a + S512x128.size a ≤ S2304x128.size a)
    (inb2 : ∀ a, k0_off2 (grid0.coords t) (BitVec.ofNat 32 n.val) a + S1x1x64x512.size a ≤ S1x8x64x512.size a) (i : Fin 64) (d : Fin 128) :
    rowEntry (rowsAt (F := Ideal) (iblk m c 0 t) ![0, 64 * n.val, 0] inbq) (ctx (keys m c t)) (ctx (vals m c t))
      (bandAt (keys m c t) (k0_off1 (grid0.coords t) (BitVec.ofNat 32 n.val)) inb1)
      (bandAt (vals m c t) (k0_off1 (grid0.coords t) (BitVec.ofNat 32 n.val)) inb1)
      (biasAt (iblk m c 3 t) (k0_off2 (grid0.coords t) (BitVec.ofNat 32 n.val)) inb2) i d
      = Cert.Na.resultDiv (m ((c : Thread nD τ).loc main_arg0)) (m ((c : Thread nD τ).loc main_arg1)) (bOf t) (hOf t) (rowOf t n) i d := by
  have hg := coord2 t
  have hgl : (gOf t).val < 8 := (gOf t).isLt
  have h1 := off1_eq (grid0.coords t) n
  have h2 := off2_eq (grid0.coords t) n
  rw [hg] at h1 h2
  refine rowEntry_eq _ _ _ _ _ i d _ _ _ _ _ _ (fun e => ?_) (fun k e => ?_) (fun k e => ?_) (fun k => ?_) (fun k => ?_) (fun k => ?_)
  · rw [rowsAt_apply _ _ (by omega), q_blk]
    congr 2
    exact Fin.ext (by show ((gOf t).val + 1) * 256 + (64 * n.val + i.val) = 256 + (4 * (gOf t).val + n.val) * 64 + i.val; omega)
  · rw [ctx_apply]
    exact (keys_apply _ _ _).trans (k_blk m c t _ e)
  · rw [bandAt_apply _ _ _ h1 (by omega)]
    refine ((keys_apply _ _ _).trans (k_blk m c t _ e)).trans ?_
    congr 2
    exact Fin.ext (by show 256 + 64 * min 24 (4 * (gOf t).val + n.val - 4) + k.val = 256 + min 24 (4 * (gOf t).val + n.val - 4) * 64 + k.val; omega)
  · rw [ctx_apply]
    exact (vals_apply _ _ _).trans (v_blk m c t _ d)
  · rw [bandAt_apply _ _ _ h1 (by omega)]
    refine ((vals_apply _ _ _).trans (v_blk m c t _ d)).trans ?_
    unfold Cert.Na.value
    congr 2
    exact Fin.ext (by show 256 + 64 * min 24 (4 * (gOf t).val + n.val - 4) + k.val = 256 + min 24 (4 * (gOf t).val + n.val - 4) * 64 + k.val; omega)
  · rw [biasAt_apply _ _ _ h2 (by omega)]
    exact bias_blk m c t _ i k

/-- The block's first row. -/
theorem wrote0 (c : Dev nD) (t : Fin cfg0.N) (i : Fin 64) (d : Fin 128) :
    outBlk m c t (ix3 0 ⟨0 + i.val, by omega⟩ d)
      = Cert.Na.resultDiv (m ((c : Thread nD τ).loc main_arg0)) (m ((c : Thread nD τ).loc main_arg1)) (bOf t) (hOf t) (rowOf t 0) i d := by
  unfold outBlk block pieces
  refine (View.read_writes_cons_miss_of_axis VO0_4 _ _ _ _ 1 192 64 rfl rfl rfl (Or.inl (by show 0 + i.val < 192; omega))).trans ?_
  refine (View.read_writes_cons_miss_of_axis VO0_4 _ _ _ _ 1 128 64 rfl rfl rfl (Or.inl (by show 0 + i.val < 128; omega))).trans ?_
  refine (View.read_writes_cons_miss_of_axis VO0_4 _ _ _ _ 1 64 64 rfl rfl rfl (Or.inl (by show 0 + i.val < 64; omega))).trans ?_
  refine (View.read_writes_cons_hit_of_coords VO0_4 _ _ _ _ (ix3 0 i d) _ fun a => ?_).trans ?_
  · match a with
    | ⟨0, _⟩ => show 0 = 0 + 1 * 0; omega
    | ⟨1, _⟩ => show 0 + i.val = 0 + 1 * i.val; omega
    | ⟨2, _⟩ => show d.val = 0 + 1 * d.val; omega
  · exact (first_apply _ _ _ _ _ _ i d).trans (row_eq m c t 0 _ _ _ i d)

/-- The block's second row. -/
theorem wrote1 (c : Dev nD) (t : Fin cfg0.N) (i : Fin 64) (d : Fin 128) :
    outBlk m c t (ix3 0 ⟨64 + i.val, by omega⟩ d)
      = Cert.Na.resultDiv (m ((c : Thread nD τ).loc main_arg0)) (m ((c : Thread nD τ).loc main_arg1)) (bOf t) (hOf t) (rowOf t 1) i d := by
  unfold outBlk block pieces
  refine (View.read_writes_cons_miss_of_axis VO0_4 _ _ _ _ 1 192 64 rfl rfl rfl (Or.inl (by show 64 + i.val < 192; omega))).trans ?_
  refine (View.read_writes_cons_miss_of_axis VO0_4 _ _ _ _ 1 128 64 rfl rfl rfl (Or.inl (by show 64 + i.val < 128; omega))).trans ?_
  refine (View.read_writes_cons_hit_of_coords VO0_4 _ _ _ _ (ix3 0 i d) _ fun a => ?_).trans ?_
  · match a with
    | ⟨0, _⟩ => show 0 = 0 + 1 * 0; omega
    | ⟨1, _⟩ => show 64 + i.val = 64 + 1 * i.val; omega
    | ⟨2, _⟩ => show d.val = 0 + 1 * d.val; omega
  · exact (second_apply _ _ _ _ _ _ i d).trans (row_eq m c t 1 _ _ _ i d)

/-- The block's third row. -/
theorem wrote2 (c : Dev nD) (t : Fin cfg0.N) (i : Fin 64) (d : Fin 128) :
    outBlk m c t (ix3 0 ⟨128 + i.val, by omega⟩ d)
      = Cert.Na.resultDiv (m ((c : Thread nD τ).loc main_arg0)) (m ((c : Thread nD τ).loc main_arg1)) (bOf t) (hOf t) (rowOf t 2) i d := by
  unfold outBlk block pieces
  refine (View.read_writes_cons_miss_of_axis VO0_4 _ _ _ _ 1 192 64 rfl rfl rfl (Or.inl (by show 128 + i.val < 192; omega))).trans ?_
  refine (View.read_writes_cons_hit_of_coords VO0_4 _ _ _ _ (ix3 0 i d) _ fun a => ?_).trans ?_
  · match a with
    | ⟨0, _⟩ => show 0 = 0 + 1 * 0; omega
    | ⟨1, _⟩ => show 128 + i.val = 128 + 1 * i.val; omega
    | ⟨2, _⟩ => show d.val = 0 + 1 * d.val; omega
  · exact (third_apply _ _ _ _ _ _ i d).trans (row_eq m c t 2 _ _ _ i d)

/-- The block's fourth row. -/
theorem wrote3 (c : Dev nD) (t : Fin cfg0.N) (i : Fin 64) (d : Fin 128) :
    outBlk m c t (ix3 0 ⟨192 + i.val, by omega⟩ d)
      = Cert.Na.resultDiv (m ((c : Thread nD τ).loc main_arg0)) (m ((c : Thread nD τ).loc main_arg1)) (bOf t) (hOf t) (rowOf t 3) i d := by
  unfold outBlk block pieces
  refine (View.read_writes_cons_hit_of_coords VO0_4 _ _ _ _ (ix3 0 i d) _ fun a => ?_).trans ?_
  · match a with
    | ⟨0, _⟩ => show 0 = 0 + 1 * 0; omega
    | ⟨1, _⟩ => show 192 + i.val = 192 + 1 * i.val; omega
    | ⟨2, _⟩ => show d.val = 0 + 1 * d.val; omega
  · exact (fourth_apply _ _ _ _ _ _ i d).trans (row_eq m c t 3 _ _ _ i d)

/-- One entry of the array: the heads lie side by side in its columns, the image's rows one after another in its rows. -/
def G (c : Dev nD) (b : Fin 16) (r : Fin 2048) (j : Fin 1024) : EReal :=
  Cert.Na.resultDiv (m ((c : Thread nD τ).loc main_arg0)) (m ((c : Thread nD τ).loc main_arg1)) b ⟨j.val / 128, by omega⟩ ⟨r.val / 64, by omega⟩
    ⟨r.val % 64, Nat.mod_lt _ (by decide)⟩ ⟨j.val % 128, Nat.mod_lt _ (by decide)⟩

/-- The array. -/
def GA (c : Dev nD) : S16x2048x1024.Idx → EReal := fun i => G m c (i 0) (i 1) (i 2)

/-- The array's entry at a place told by head, row of the image, place in it and column. -/
theorem G_at (c : Dev nD) (b : Fin 16) (h : Fin 8) (R : Fin 32) (i : Fin 64) (d : Fin 128) (r : Fin 2048) (j : Fin 1024)
    (hr : r.val = R.val * 64 + i.val) (hj : j.val = h.val * 128 + d.val) :
    G m c b r j = Cert.Na.resultDiv (m ((c : Thread nD τ).loc main_arg0)) (m ((c : Thread nD τ).loc main_arg1)) b h R i d := by
  unfold G
  rw [show (⟨j.val / 128, by omega⟩ : Fin 8) = h from Fin.ext (by show j.val / 128 = h.val; omega),
    show (⟨r.val / 64, by omega⟩ : Fin 32) = R from Fin.ext (by show r.val / 64 = R.val; omega),
    show (⟨r.val % 64, Nat.mod_lt _ (by decide)⟩ : Fin 64) = i from Fin.ext (by show r.val % 64 = i.val; omega),
    show (⟨j.val % 128, Nat.mod_lt _ (by decide)⟩ : Fin 128) = d from Fin.ext (by show j.val % 128 = d.val; omega)]

/-- What a point writes, entry by entry. -/
theorem wrote (c : Dev nD) (t : Fin cfg0.N) (r : Fin 256) (d : Fin 128) :
    outBlk m c t (ix3 0 r d) = G m c (bOf t) ⟨(gOf t).val * 256 + r.val, by omega⟩ ⟨(hOf t).val * 128 + d.val, by omega⟩ := by
  have at_row : ∀ (n : Fin 4) (i : Fin 64) (hr : r.val = 64 * n.val + i.val),
      G m c (bOf t) ⟨(gOf t).val * 256 + r.val, by omega⟩ ⟨(hOf t).val * 128 + d.val, by omega⟩
        = Cert.Na.resultDiv (m ((c : Thread nD τ).loc main_arg0)) (m ((c : Thread nD τ).loc main_arg1)) (bOf t) (hOf t) (rowOf t n) i d :=
    fun n i hr => G_at m c _ _ _ _ _ _ _
      (by show (gOf t).val * 256 + r.val = (4 * (gOf t).val + n.val) * 64 + i.val; omega) rfl
  by_cases h3 : 192 ≤ r.val
  · have e : r = ⟨192 + (r.val - 192), by omega⟩ := Fin.ext (by show r.val = 192 + (r.val - 192); omega)
    rw [at_row 3 ⟨r.val - 192, by omega⟩ (by show r.val = 64 * 3 + (r.val - 192); omega)]
    exact (congrArg (fun r => outBlk m c t (ix3 0 r d)) e).trans (wrote3 m c t ⟨r.val - 192, by omega⟩ d)
  by_cases h2 : 128 ≤ r.val
  · have e : r = ⟨128 + (r.val - 128), by omega⟩ := Fin.ext (by show r.val = 128 + (r.val - 128); omega)
    rw [at_row 2 ⟨r.val - 128, by omega⟩ (by show r.val = 64 * 2 + (r.val - 128); omega)]
    exact (congrArg (fun r => outBlk m c t (ix3 0 r d)) e).trans (wrote2 m c t ⟨r.val - 128, by omega⟩ d)
  by_cases h1 : 64 ≤ r.val
  · have e : r = ⟨64 + (r.val - 64), by omega⟩ := Fin.ext (by show r.val = 64 + (r.val - 64); omega)
    rw [at_row 1 ⟨r.val - 64, by omega⟩ (by show r.val = 64 * 1 + (r.val - 64); omega)]
    exact (congrArg (fun r => outBlk m c t (ix3 0 r d)) e).trans (wrote1 m c t ⟨r.val - 64, by omega⟩ d)
  · have e : r = ⟨0 + r.val, by omega⟩ := Fin.ext (by show r.val = 0 + r.val; omega)
    rw [at_row 0 ⟨r.val, by omega⟩ (by show r.val = 64 * 0 + r.val; omega)]
    exact (congrArg (fun r => outBlk m c t (ix3 0 r d)) e).trans (wrote0 m c t ⟨r.val, by omega⟩ d)

/-- A block has one row of rows. -/
theorem eq_row (y : S1x256x128.Idx) : ∃ (r : Fin 256) (d : Fin 128), y = ix3 0 r d :=
  ⟨y 1, y 2, by
    funext a
    match a with
    | ⟨0, _⟩ => exact Subsingleton.elim (α := Fin 1) _ _
    | ⟨1, _⟩ => rfl
    | ⟨2, _⟩ => rfl⟩

/-- The array's entries at a point's block, given the block entry by entry. -/
theorem eq_block (c : Dev nD) (t : Fin cfg0.N) (f : S1x256x128.Idx → EReal)
    (hf : ∀ (r : Fin 256) (d : Fin 128), f (ix3 0 r d) = G m c (bOf t) ⟨(gOf t).val * 256 + r.val, by omega⟩ ⟨(hOf t).val * 128 + d.val, by omega⟩)
    (y : S1x256x128.Idx) : f y = ((cfg0.win 4).blk t).view.read (Elt Ideal) (GA m c) y := by
  obtain ⟨r, d, rfl⟩ := eq_row y
  exact (hf r d).trans (o_read (F := Ideal) t (GA m c) r d).symm

/-- Every point writes its block of the array. -/
theorem flushed_eq (c : Dev nD) (t : Fin cfg0.N) :
    (dats m 0 c).flushed 4 t = ((cfg0.win 4).blk t).view.read (Elt Ideal) (GA m c) := by
  have e : (dats m 0 c).flushed 4 t = outBlk m c t := congrArg ((cfg0.win 4).cut (grid0.coords t)) (after0_4 m c t)
  rw [e]
  funext y
  exact eq_block m c t _ (wrote m c t) y

/-- The blocks tile the array. -/
theorem cover (i : S16x2048x1024.Idx) :
    ∃ t : Fin cfg0.N, (cfg0.win 4).flush t = true ∧ i ∈ ((cfg0.win 4).blk t).view.set := by
  have h0 : (i 0).val < 16 := (i 0).isLt
  have h1 : (i 1).val < 2048 := (i 1).isLt
  have h2 : (i 2).val < 1024 := (i 2).isLt
  let t : Fin cfg0.N := ⟨(i 0).val * 64 + (i 2).val / 128 * 8 + (i 1).val / 256, by rw [show cfg0.N = 1024 from N_0]; omega⟩
  have ht : t.val = (i 0).val * 64 + (i 2).val / 128 * 8 + (i 1).val / 256 := rfl
  obtain ⟨e0, e1, e2⟩ := idx4 t
  refine ⟨t, flush0_4 t, ?_⟩
  show i ∈ ((View.whole main_v0).slice (win0_4.rect t)).set
  rw [View.set_slice_whole, Rect.mem_set_unit]
  intro a
  match a with
  | ⟨0, _⟩ => show win0_4.index t 0 * 1 ≤ (i 0).val ∧ (i 0).val < win0_4.index t 0 * 1 + 1; omega
  | ⟨1, _⟩ => show win0_4.index t 1 * 256 ≤ (i 1).val ∧ (i 1).val < win0_4.index t 1 * 256 + 256; omega
  | ⟨2, _⟩ => show win0_4.index t 2 * 128 ≤ (i 2).val ∧ (i 2).val < win0_4.index t 2 * 128 + 128; omega

/-- So the array ends holding the attention. -/
theorem final (c : Dev nD) : (dats m 0 c).arrAt 4 cfg0.N = GA m c :=
  (dats m 0 c).arrAt_eq_of_cover 4 (GA m c) (fun t _ => flushed_eq m c t) cover

/-- The run, read: the result holds the attention, the arguments are unchanged. -/
theorem run : θ_run defs (onTc (τ := τ) (main (F := Ideal))) ⟨m, fun _ => 0, ρ⟩ fun r => ∀ c : Dev nD,
      r.2.mem ((c : Thread nD τ).loc main_v0) = GA m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).1 4).trans (final m c), h.2 c⟩)
    (θ_run_and (run_main m ρ) (unchanged m ρ))

end Cert.Kernel12Ideal.Na

end
-- ==== Proof.NaRef.lean ====
/-
  What the reference of the neighbourhood attention computes, entry by entry.
-/
module

public import proofs.«01_k».proof.Proof.NaSpec
public import proofs.«01_k».proof.Proof.HostMax
public import proofs.«01_k».proof.Proof.Gen.Reference12Ideal.Read
public import Idealize.ShloMosaic.Lib.Pointwise

@[expose] public section

noncomputable section

namespace Cert.Reference12Ideal.Na

open Cert.Reference12Ideal Cert.Reference12Ideal.Gen Cert.Reference12Ideal.Read Idealize.ShloMosaic Idealize.ShloMosaic.TcCoe

variable (x : Cert.Na.Z) (B : Cert.Na.Bias) (b : Fin 16) (h : Fin 8)

/-- Two entries of one array at indices that are equal number by number. -/
theorem at_eq {i i' : Fin 2304} {j j' : Fin 4224} (hi : i.val = i'.val) (hj : j.val = j'.val) :
    x (ix3 b i j) = x (ix3 b i' j') := by rw [Fin.ext hi, Fin.ext hj]

/-- The queries on the grid. -/
theorem queries (r : Fin 32) (i : Fin 64) (e : Fin 128) :
    val_main_v7 (F := Ideal) x (ix5 b h r i e) = x (ix3 b (Cert.Na.cell r i) ⟨h.val * 128 + e.val, by omega⟩) := by
  unfold val_main_v7 val_main_v6 val_main_v2 val_main_v1 val_main_v0
  pointwise
  refine at_eq x b ?_ ?_ <;> dsimp only <;> omega

/-- The keys (the first eight heads) and the values (the other eight). -/
theorem pairs (g : Fin 16) (k : Fin 2304) (e : Fin 128) :
    val_main_v5 (F := Ideal) x (ix4 b g k e) = x (ix3 b k ⟨1024 + g.val * 128 + e.val, by omega⟩) := by
  unfold val_main_v5 val_main_v4 val_main_v3
  pointwise
  refine at_eq x b ?_ ?_ <;> dsimp only <;> omega

/-- The keys and values on the grid. -/
theorem grid (g : Fin 16) (r : Fin 32) (i : Fin 64) (e : Fin 128) :
    val_main_v9 (F := Ideal) x (ix5 b g r i e) = x (ix3 b (Cert.Na.cell r i) ⟨1024 + g.val * 128 + e.val, by omega⟩) := by
  unfold val_main_v9 val_main_v8
  pointwise [pairs]
  refine at_eq x b ?_ ?_ <;> dsimp only <;> omega

/-- An entry of the keys and values on the grid at an index told number by number. -/
theorem grid_at (g : Fin 16) (r : Fin 32) (i : Fin 64) (e : Fin 128) (p : S16x16x32x64x128.Idx) (n : Nat) (h0 : p 0 = b) (h1 : p 1 = g)
    (h2 : p 2 = r) (h3 : p 3 = i) (h4 : p 4 = e) (hn : r.val = n) (hl : n < 32) :
    val_main_v9 (F := Ideal) x p = x (ix3 b ⟨256 + n * 64 + i.val, by omega⟩ ⟨1024 + g.val * 128 + e.val, by omega⟩) := by
  subst hn
  have ep : p = ix5 b g r i e := by
    funext a
    match a with
    | ⟨0, _⟩ => exact h0
    | ⟨1, _⟩ => exact h1
    | ⟨2, _⟩ => exact h2
    | ⟨3, _⟩ => exact h3
    | ⟨4, _⟩ => exact h4
  rw [ep, grid]

/-- The eight shifts of 25 rows of the grid. -/
def shifts : Fin 8 → S16x16x25x64x128.Idx → EReal :=
  ![val_main_v10 (F := Ideal) x, val_main_v11 (F := Ideal) x, val_main_v12 (F := Ideal) x, val_main_v13 (F := Ideal) x,
    val_main_v14 (F := Ideal) x, val_main_v15 (F := Ideal) x, val_main_v16 (F := Ideal) x, val_main_v17 (F := Ideal) x]

/-- The shift by no row, entry by entry. -/
theorem shift0 (g : Fin 16) (m : Fin 25) (i : Fin 64) (e : Fin 128) :
    val_main_v10 (F := Ideal) x (ix5 b g m i e)
      = x (ix3 b ⟨256 + (m.val + 0) * 64 + i.val, by omega⟩ ⟨1024 + g.val * 128 + e.val, by omega⟩) :=
  (val_main_v10_apply (F := Ideal) x (ix5 b g m i e)).trans
    (grid_at x b g ⟨m.val, by omega⟩ i e _ (m.val + 0) rfl rfl rfl rfl rfl rfl (by omega))

/-- The shift by one row, entry by entry. -/
theorem shift1 (g : Fin 16) (m : Fin 25) (i : Fin 64) (e : Fin 128) :
    val_main_v11 (F := Ideal) x (ix5 b g m i e)
      = x (ix3 b ⟨256 + (m.val + 1) * 64 + i.val, by omega⟩ ⟨1024 + g.val * 128 + e.val, by omega⟩) :=
  (val_main_v11_apply (F := Ideal) x (ix5 b g m i e)).trans
    (grid_at x b g ⟨1 + m.val, by omega⟩ i e _ (m.val + 1) rfl rfl rfl rfl rfl (Nat.add_comm _ _) (by omega))

/-- The shift by two rows, entry by entry. -/
theorem shift2 (g : Fin 16) (m : Fin 25) (i : Fin 64) (e : Fin 128) :
    val_main_v12 (F := Ideal) x (ix5 b g m i e)
      = x (ix3 b ⟨256 + (m.val + 2) * 64 + i.val, by omega⟩ ⟨1024 + g.val * 128 + e.val, by omega⟩) :=
  (val_main_v12_apply (F := Ideal) x (ix5 b g m i e)).trans
    (grid_at x b g ⟨2 + m.val, by omega⟩ i e _ (m.val + 2) rfl rfl rfl rfl rfl (Nat.add_comm _ _) (by omega))

/-- The shift by three rows, entry by entry. -/
theorem shift3 (g : Fin 16) (m : Fin 25) (i : Fin 64) (e : Fin 128) :
    val_main_v13 (F := Ideal) x (ix5 b g m i e)
      = x (ix3 b ⟨256 + (m.val + 3) * 64 + i.val, by omega⟩ ⟨1024 + g.val * 128 + e.val, by omega⟩) :=
  (val_main_v13_apply (F := Ideal) x (ix5 b g m i e)).trans
    (grid_at x b g ⟨3 + m.val, by omega⟩ i e _ (m.val + 3) rfl rfl rfl rfl rfl (Nat.add_comm _ _) (by omega))

/-- The shift by four rows, entry by entry. -/
theorem shift4 (g : Fin 16) (m : Fin 25) (i : Fin 64) (e : Fin 128) :
    val_main_v14 (F := Ideal) x (ix5 b g m i e)
      = x (ix3 b ⟨256 + (m.val + 4) * 64 + i.val, by omega⟩ ⟨1024 + g.val * 128 + e.val, by omega⟩) :=
  (val_main_v14_apply (F := Ideal) x (ix5 b g m i e)).trans
    (grid_at x b g ⟨4 + m.val, by omega⟩ i e _ (m.val + 4) rfl rfl rfl rfl rfl (Nat.add_comm _ _) (by omega))

/-- The shift by five rows, entry by entry. -/
theorem shift5 (g : Fin 16) (m : Fin 25) (i : Fin 64) (e : Fin 128) :
    val_main_v15 (F := Ideal) x (ix5 b g m i e)
      = x (ix3 b ⟨256 + (m.val + 5) * 64 + i.val, by omega⟩ ⟨1024 + g.val * 128 + e.val, by omega⟩) :=
  (val_main_v15_apply (F := Ideal) x (ix5 b g m i e)).trans
    (grid_at x b g ⟨5 + m.val, by omega⟩ i e _ (m.val + 5) rfl rfl rfl rfl rfl (Nat.add_comm _ _) (by omega))

/-- The shift by six rows, entry by entry. -/
theorem shift6 (g : Fin 16) (m : Fin 25) (i : Fin 64) (e : Fin 128) :
    val_main_v16 (F := Ideal) x (ix5 b g m i e)
      = x (ix3 b ⟨256 + (m.val + 6) * 64 + i.val, by omega⟩ ⟨1024 + g.val * 128 + e.val, by omega⟩) :=
  (val_main_v16_apply (F := Ideal) x (ix5 b g m i e)).trans
    (grid_at x b g ⟨6 + m.val, by omega⟩ i e _ (m.val + 6) rfl rfl rfl rfl rfl (Nat.add_comm _ _) (by omega))

/-- The shift by seven rows, entry by entry. -/
theorem shift7 (g : Fin 16) (m : Fin 25) (i : Fin 64) (e : Fin 128) :
    val_main_v17 (F := Ideal) x (ix5 b g m i e)
      = x (ix3 b ⟨256 + (m.val + 7) * 64 + i.val, by omega⟩ ⟨1024 + g.val * 128 + e.val, by omega⟩) :=
  (val_main_v17_apply (F := Ideal) x (ix5 b g m i e)).trans
    (grid_at x b g ⟨7 + m.val, by omega⟩ i e _ (m.val + 7) rfl rfl rfl rfl rfl (Nat.add_comm _ _) (by omega))

/-- The shift by `n` rows, entry by entry. -/
theorem shifts_apply (g : Fin 16) (n : Fin 8) (m : Fin 25) (i : Fin 64) (e : Fin 128) :
    shifts x n (ix5 b g m i e)
      = x (ix3 b ⟨256 + (m.val + n.val) * 64 + i.val, by omega⟩ ⟨1024 + g.val * 128 + e.val, by omega⟩) := by
  match n with
  | ⟨0, _⟩ => exact shift0 x b g m i e
  | ⟨1, _⟩ => exact shift1 x b g m i e
  | ⟨2, _⟩ => exact shift2 x b g m i e
  | ⟨3, _⟩ => exact shift3 x b g m i e
  | ⟨4, _⟩ => exact shift4 x b g m i e
  | ⟨5, _⟩ => exact shift5 x b g m i e
  | ⟨6, _⟩ => exact shift6 x b g m i e
  | ⟨7, _⟩ => exact shift7 x b g m i e

/-- The 25 groups of eight consecutive rows of the grid. -/
theorem groups (g : Fin 16) (n : Fin 25) (k : Fin 512) (e : Fin 128) :
    val_main_v18 (F := Ideal) x (ix5 b g n k e) = x (ix3 b ⟨256 + n.val * 64 + k.val, by omega⟩ ⟨1024 + g.val * 128 + e.val, by omega⟩) := by
  unfold val_main_v18
  refine (concatenate_ofFn_apply (t := S16x16x25x512x128) (s₁ := S16x16x25x64x128) 3 (shifts x) _ rfl 64 rfl (ix5 b g n k e)
    ⟨k.val / 64, by omega⟩ rfl (ix5 b g n ⟨k.val % 64, Nat.mod_lt _ (by decide)⟩ e) rfl fun a ha => ?_).trans ?_
  · match a with
    | ⟨0, _⟩ => rfl
    | ⟨1, _⟩ => rfl
    | ⟨2, _⟩ => rfl
    | ⟨3, _⟩ => exact absurd rfl ha
    | ⟨4, _⟩ => rfl
  · refine (shifts_apply x b g _ n _ e).trans (at_eq x b ?_ rfl)
    show 256 + (n.val + k.val / 64) * 64 + k.val % 64 = 256 + n.val * 64 + k.val
    omega

/-- The group that each row of the grid sees. -/
theorem around (g : Fin 16) (r : Fin 32) (k : Fin 512) (e : Fin 128) :
    val_main_v23 (F := Ideal) x (ix5 b g r k e) = x (ix3 b (Cert.Na.seen r k) ⟨1024 + g.val * 128 + e.val, by omega⟩) := by
  unfold val_main_v23 val_main_v22 val_main_v21 val_main_v20 val_main_v19
  pointwise [groups]
  repeat' split
  all_goals (refine at_eq x b ?_ ?_ <;> dsimp only <;> omega)

/-- The keys that a row of the grid sees. -/
theorem keys (r : Fin 32) (k : Fin 512) (e : Fin 128) :
    val_main_v24 (F := Ideal) x (ix5 b h r k e) = x (ix3 b (Cert.Na.seen r k) ⟨1024 + h.val * 128 + e.val, by omega⟩) := by
  unfold val_main_v24
  pointwise [around]

/-- The values that a row of the grid sees. -/
theorem vals (r : Fin 32) (k : Fin 512) (e : Fin 128) :
    val_main_v25 (F := Ideal) x (ix5 b h r k e) = Cert.Na.value x b h e (Cert.Na.seen r k) := by
  unfold val_main_v25 Cert.Na.value
  pointwise [around]
  refine at_eq x b ?_ ?_ <;> dsimp only <;> omega

/-- The context's keys. -/
theorem ctxKeys (k : Fin 256) (e : Fin 128) :
    val_main_v26 (F := Ideal) x (ix4 b h k e) = x (ix3 b (Cert.Na.ctxRow k) ⟨1024 + h.val * 128 + e.val, by omega⟩) := by
  unfold val_main_v26
  pointwise [pairs]

/-- The context's values. -/
theorem ctxVals (k : Fin 256) (e : Fin 128) :
    val_main_v27 (F := Ideal) x (ix4 b h k e) = Cert.Na.value x b h e (Cert.Na.ctxRow k) := by
  unfold val_main_v27 Cert.Na.value
  pointwise [pairs]
  refine at_eq x b ?_ ?_ <;> dsimp only <;> omega

/-- The bias, one table for every row of the grid. -/
theorem bias (r : Fin 32) (i : Fin 64) (k : Fin 512) :
    val_main_v32 (F := Ideal) B (ix4 h r i k) = B (ix4 h (Cert.Na.place r) i k) := by
  unfold val_main_v32 val_main_v31 val_main_v30 val_main_v29 val_main_v28
  pointwise
  repeat' split
  all_goals (refine congrArg (fun g => B (ix4 h g i k)) (Fin.ext ?_) <;> dsimp only <;> omega)

/-- The scores against the context. -/
theorem ctxScores (r : Fin 32) (i : Fin 64) (k : Fin 256) :
    val_main_v41 (F := Ideal) x (ix5 b h r i k) = Cert.Na.score x b h (Cert.Na.cell r i) (Cert.Na.ctxRow k) := by
  unfold val_main_v41 val_main_v40 val_main_v39 val_main_cst_0
  pointwise [queries, ctxKeys, Cert.Na.score]

/-- The scores against the rows of the grid. -/
theorem imgScores (r : Fin 32) (i : Fin 64) (k : Fin 512) :
    val_main_v38 (F := Ideal) x B (ix5 b h r i k) = Cert.Na.imgScore x B b h r i k := by
  unfold val_main_v38 val_main_v37 val_main_v36 val_main_v35 val_main_v34 val_main_v33 val_main_cst
  pointwise [queries, keys, bias, Cert.Na.imgScore, Cert.Na.score]

/-- All scores of a query. -/
theorem scores (r : Fin 32) (i : Fin 64) (k : Fin 768) :
    val_main_v42 (F := Ideal) x B (ix5 b h r i k)
      = Cert.Na.join (fun k => Cert.Na.score x b h (Cert.Na.cell r i) (Cert.Na.ctxRow k)) (Cert.Na.imgScore x B b h r i) k := by
  unfold val_main_v42
  pointwise [ctxScores, imgScores, Cert.Na.join]

/-- The greatest score of a query. -/
theorem tops (r : Fin 32) (i : Fin 64) :
    val_main_v45 (F := Ideal) x B (ix4 b h r i)
      = Cert.Na.peak (fun k => Cert.Na.score x b h (Cert.Na.cell r i) (Cert.Na.ctxRow k)) (Cert.Na.imgScore x B b h r i) := by
  have e : val_main_v43 (F := Ideal) x B (ix4 b h r i)
      = Softmax.top (Cert.Na.join (fun k => Cert.Na.score x b h (Cert.Na.cell r i) (Cert.Na.ctxRow k)) (Cert.Na.imgScore x B b h r i)) := by
    refine (HostMax.last5 (val_main_v42 (F := Ideal) x B) (val_main_cst_1 (F := Ideal)) _ _ b h r i).trans ?_
    exact congrArg₂ (fun (z : EReal) f => (Finset.univ : Finset (Fin 768)).fold max z f)
      Softmax.ofBits_neg_inf (funext fun k => scores x B b h r i k)
  rw [val_main_v45_apply, e, Cert.Na.top_join]
  exact (congrArg (max · _) Softmax.ofBits_neg_inf).trans (max_eq_right bot_le)

/-- The exponentials of a query. -/
theorem nums (r : Fin 32) (i : Fin 64) (k : Fin 768) :
    val_main_v49 (F := Ideal) x B (ix5 b h r i k)
      = Cert.Na.ex (fun k => Cert.Na.score x b h (Cert.Na.cell r i) (Cert.Na.ctxRow k)) (Cert.Na.imgScore x B b h r i)
        (Cert.Na.join (fun k => Cert.Na.score x b h (Cert.Na.cell r i) (Cert.Na.ctxRow k)) (Cert.Na.imgScore x B b h r i) k) := by
  unfold val_main_v49 val_main_v48 val_main_v47 val_main_v46
  pointwise [scores, tops, Cert.Na.ex]

/-- Their sum. -/
theorem dens (r : Fin 32) (i : Fin 64) :
    val_main_v50 (F := Ideal) x B (ix4 b h r i)
      = Cert.Na.den (fun k => Cert.Na.score x b h (Cert.Na.cell r i) (Cert.Na.ctxRow k)) (Cert.Na.imgScore x B b h r i) := by
  rw [← Cert.Na.sum_join]
  unfold val_main_v50 val_main_cst_3
  pointwise [nums]

/-- The weights of a query. -/
theorem weights (r : Fin 32) (i : Fin 64) (k : Fin 768) :
    val_main_v53 (F := Ideal) x B (ix5 b h r i k)
      = Ideal.div (Cert.Na.ex (fun k => Cert.Na.score x b h (Cert.Na.cell r i) (Cert.Na.ctxRow k)) (Cert.Na.imgScore x B b h r i)
          (Cert.Na.join (fun k => Cert.Na.score x b h (Cert.Na.cell r i) (Cert.Na.ctxRow k)) (Cert.Na.imgScore x B b h r i) k))
        (Cert.Na.den (fun k => Cert.Na.score x b h (Cert.Na.cell r i) (Cert.Na.ctxRow k)) (Cert.Na.imgScore x B b h r i)) := by
  unfold val_main_v53 val_main_v52 val_main_v51
  pointwise [nums, dens]

/-- The weights of the context. -/
theorem ctxWeights (r : Fin 32) (i : Fin 64) (k : Fin 256) :
    val_main_v54 (F := Ideal) x B (ix5 b h r i k)
      = Ideal.div (Cert.Na.ex (fun k => Cert.Na.score x b h (Cert.Na.cell r i) (Cert.Na.ctxRow k)) (Cert.Na.imgScore x B b h r i)
          (Cert.Na.score x b h (Cert.Na.cell r i) (Cert.Na.ctxRow k)))
        (Cert.Na.den (fun k => Cert.Na.score x b h (Cert.Na.cell r i) (Cert.Na.ctxRow k)) (Cert.Na.imgScore x B b h r i)) := by
  rw [← Cert.Na.join_left (fun k => Cert.Na.score x b h (Cert.Na.cell r i) (Cert.Na.ctxRow k)) (Cert.Na.imgScore x B b h r i) k]
  unfold val_main_v54
  pointwise [weights]

/-- The weights of the rows of the grid. -/
theorem imgWeights (r : Fin 32) (i : Fin 64) (k : Fin 512) :
    val_main_v56 (F := Ideal) x B (ix5 b h r i k)
      = Ideal.div (Cert.Na.ex (fun k => Cert.Na.score x b h (Cert.Na.cell r i) (Cert.Na.ctxRow k)) (Cert.Na.imgScore x B b h r i)
          (Cert.Na.imgScore x B b h r i k))
        (Cert.Na.den (fun k => Cert.Na.score x b h (Cert.Na.cell r i) (Cert.Na.ctxRow k)) (Cert.Na.imgScore x B b h r i)) := by
  rw [← Cert.Na.join_right (fun k => Cert.Na.score x b h (Cert.Na.cell r i) (Cert.Na.ctxRow k)) (Cert.Na.imgScore x B b h r i) k]
  unfold val_main_v56
  pointwise [weights]

/-- The attention of a query. -/
theorem rows (r : Fin 32) (i : Fin 64) (d : Fin 128) :
    val_main_v58 (F := Ideal) x B (ix5 b h r i d) = Cert.Na.result x B b h r i d := by
  unfold val_main_v58 val_main_v57 val_main_v55
  pointwise [ctxWeights, imgWeights, ctxVals, vals, Cert.Na.result, Cert.Na.attend]

/-- The whole result: the heads side by side in the columns. -/
theorem result (r : Fin 2048) (j : Fin 1024) :
    val_main_v62 (F := Ideal) x B (ix3 b r j)
      = Cert.Na.result x B b ⟨j.val / 128, by omega⟩ ⟨r.val / 64, by omega⟩ ⟨r.val % 64, Nat.mod_lt _ (by decide)⟩
        ⟨j.val % 128, Nat.mod_lt _ (by decide)⟩ := by
  unfold val_main_v62 val_main_v61 val_main_v60 val_main_v59
  pointwise [rows]

end Cert.Reference12Ideal.Na

end
-- ==== Proof.NaClaim.lean ====
/-
  The neighbourhood attention's call and its reference leave the same array, on finite queries and keys and a bias that is
  nowhere plus infinity; all three programs terminate and leave their arguments as they were.
-/
module

public import proofs.«01_k».proof.Defs
public import proofs.«01_k».proof.Proof.NaArray
public import proofs.«01_k».proof.Proof.NaRef
public import proofs.«01_k».proof.Proof.Gen.Kernel12.Launch
public import proofs.«01_k».proof.Proof.Gen.Reference12Ideal.Run
public import Idealize.ShloMosaic.Lib.Quiescent

@[expose] public section

noncomputable section

namespace Cert.NaClaim

open Idealize.ShloMosaic Idealize.SL.Sem Idealize.ShloMosaic.TcCoe

/-- The facts the precondition states hold. -/
theorem preFacts : Cert.Pre_finite_qk12.Facts := by constructor <;> decide +kernel

/-- A comparison that came out true held. -/
theorem of_bit {p : Prop} [Decidable p] (e : BitVec.ofBool (decide p) = 1#1) : p := by
  by_contra hn
  exact absurd (e.symm.trans (congrArg BitVec.ofBool (decide_eq_false hn))) (by decide)

/-- The precondition says that the queries of the image and every key are finite and that no entry of the bias is plus
    infinity. -/
theorem finite [Cert.Pre_finite_qk12.Facts] (X : Cert.Na.Z) (B : Cert.Na.Bias)
    (h : (Cert.Pre_finite_qk12.fn (F := Ideal) X B).1 = (fun _ => 1#1) ∧ (Cert.Pre_finite_qk12.fn (F := Ideal) X B).2.1 = (fun _ => 1#1)
      ∧ (Cert.Pre_finite_qk12.fn (F := Ideal) X B).2.2 = fun _ => 1#1) :
    (∀ (b : Fin 16) (r : Fin 2304) (j : Fin 4224), 256 ≤ r.val → j.val < 1024 → X (ix3 b r j) ≠ ⊥ ∧ X (ix3 b r j) ≠ ⊤)
    ∧ (∀ (b : Fin 16) (r : Fin 2304) (j : Fin 4224), 1024 ≤ j.val → j.val < 2048 → X (ix3 b r j) ≠ ⊥ ∧ X (ix3 b r j) ≠ ⊤)
    ∧ ∀ (n g : Fin 8) (i : Fin 64) (k : Fin 512), B (ix4 n g i k) ≠ ⊤ := by
  refine ⟨fun b r j hr hj => ?_, fun b r j hj hj' => ?_, fun n g i k => ?_⟩
  · have er : r = ⟨256 + (r.val - 256), by omega⟩ := Fin.ext (by show r.val = 256 + (r.val - 256); omega)
    have ej : j = ⟨(⟨j.val, hj⟩ : Fin 1024).val, by omega⟩ := rfl
    have e := congrFun h.1 (ix3 b ⟨r.val - 256, by omega⟩ ⟨j.val, hj⟩)
    unfold Cert.Pre_finite_qk12.fn at e
    dsimp only at e
    pointwise at e
    rw [Softmax.ofBits_inf] at e
    have e' := Softmax.finite_of_abs_lt (of_bit e)
    rw [er]
    exact e'
  · have ej : j = ⟨1024 + (j.val - 1024), by omega⟩ := Fin.ext (by show j.val = 1024 + (j.val - 1024); omega)
    have e := congrFun h.2.1 (ix3 b r ⟨j.val - 1024, by omega⟩)
    unfold Cert.Pre_finite_qk12.fn at e
    dsimp only at e
    pointwise at e
    rw [Softmax.ofBits_inf] at e
    have e' := Softmax.finite_of_abs_lt (of_bit e)
    rw [ej]
    exact e'
  · have e := congrFun h.2.2 (ix4 n g i k)
    unfold Cert.Pre_finite_qk12.fn at e
    dsimp only at e
    pointwise at e
    rw [Softmax.ofBits_inf] at e
    exact ne_of_lt (of_bit e)

/-- The two programs leave the same array. -/
theorem algebraic [Cert.Pre_finite_qk12.Facts] :
    Cert.algebraic_Kernel12Ideal_Reference12Ideal_pre_finite_qk12 (hKernel12Ideal := Cert.Kernel12Ideal.Gen.facts)
      (hReference12Ideal := Cert.Reference12Ideal.Gen.facts) := by
  intro m ρ m' ρ' hpre hag
  refine ⟨fun c => Cert.Kernel12Ideal.Na.GA m c, Cert.Kernel12Ideal.Na.run m ρ,
    (θ_run _ _ _).mono (fun _ h c => ⟨(h c).1.trans ?_, (h c).2⟩) (Cert.Reference12Ideal.Value.run m' ρ')⟩
  rw [Cert.Reference12Ideal.Read.val_main_v62_eq]
  show Cert.Reference12Ideal.Read.val_main_v62 (m' ((c : Thread Cert.Reference12Ideal.nD Cert.Reference12Ideal.τ).loc Cert.Reference12Ideal.main_arg0))
    (m' ((c : Thread Cert.Reference12Ideal.nD Cert.Reference12Ideal.τ).loc Cert.Reference12Ideal.main_arg1)) = Cert.Kernel12Ideal.Na.GA m c
  rw [(hag c).1, (hag c).2]
  funext i
  obtain ⟨b, r, j, rfl⟩ : ∃ (b : Fin 16) (r : Fin 2048) (j : Fin 1024), i = ix3 b r j := ⟨i 0, i 1, i 2, eq_ix3 i⟩
  rw [Cert.Reference12Ideal.Na.result]
  obtain ⟨hq, hk, hB⟩ := finite _ _ (hpre c)
  exact (Cert.Na.resultDiv_eq _ _ hq hk hB b _ _ _ _).symm

/-- The reading of the kernel at exact numbers terminates, leaves its arguments as they were and its counters at zero. -/
theorem idealFrame : Cert.quiescent_Kernel12Ideal (hKernel12Ideal := Cert.Kernel12Ideal.Gen.facts) := fun m ρ _ =>
  Cert.Kernel12Ideal.Na.frame m ρ

/-- The two readings' kernel functions are one text. -/
theorem bodies_eq : Cert.Kernel12.defs₀ (F := Bits) = Cert.Kernel12Ideal.defs₀ (F := Bits) := by
  unfold Cert.Kernel12.defs₀ Cert.Kernel12Ideal.defs₀
  congr 1
  funext l a
  match l, a with
  | ⟨0, _⟩, (t, s) => rfl

/-- So are their pipelines. -/
theorem defs_eq : Cert.Kernel12.defs (F := Bits) = Cert.Kernel12Ideal.defs (F := Bits) :=
  congrArg (Pipeline.defs (Cert.Kernel12.pcfgs (F := Bits))) bodies_eq

/-- The kernel, the same text read at machine numbers, terminates, leaves its arguments as they were and its counters at zero. -/
theorem kernelFrame : Cert.quiescent_Kernel12 (hKernel12 := Cert.Kernel12.Gen.facts) := by
  intro m ρ _
  rw [defs_eq]
  exact Cert.Kernel12Ideal.Na.frame (F := Bits) m ρ

/-- The reference terminates, leaves its arguments as they were and declares no semaphore. -/
theorem referenceFrame : Cert.quiescent_Reference12Ideal (hReference12Ideal := Cert.Reference12Ideal.Gen.facts) := fun m ρ _ =>
  (θ_run Cert.Reference12Ideal.defs _ _).mono (fun r h => And.intro (fun c => (h c).2) (sem_eq_zero_of_no_sems (by decide) r.2))
    (Cert.Reference12Ideal.Value.run (F := Ideal) m ρ)

end Cert.NaClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Reference12Ideal
public import proofs.«01_k».proof.Proof.Gen.Reference12Ideal.Run
public import proofs.«01_k».proof.Proof.Gen.Reference12Ideal.Read
public import proofs.«01_k».proof.Proof.GqaClaim
public import proofs.«01_k».proof.Proof.MlaClaim
public import proofs.«01_k».proof.Proof.InProj3Claim
public import proofs.«01_k».proof.Proof.InProj4Claim
public import proofs.«01_k».proof.Proof.OutProj5Claim
public import proofs.«01_k».proof.Proof.OutProj6Claim
public import proofs.«01_k».proof.Proof.PeerQueryClaim
public import proofs.«01_k».proof.Proof.PeerQuery8Claim
public import proofs.«01_k».proof.Proof.LatentQClaim
public import proofs.«01_k».proof.Proof.LatentKvClaim
public import proofs.«01_k».proof.Proof.ModulationClaim
public import proofs.«01_k».proof.Proof.NaClaim
public import Idealize.ShloMosaic.Adequacy
public import Idealize.ShloMosaic.Init

@[expose] public section

noncomputable section

namespace Cert.Proof

open Idealize.ShloMosaic Idealize.SL.Sem

/-- All the claims: the frames by the generated runs, but the expert queries' and the neighbourhood attention's by their
    own; the values by the modules of the three attentions, the four projections, the two calls of expert queries, the two
    latent projections and the modulation. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    GqaClaim.preFacts, MlaClaim.preFacts, NaClaim.preFacts,
    fun m ρ _ => Cert.Kernel.Gen.frame m ρ,
    fun m ρ _ => Cert.KernelIdeal.Gen.frame m ρ,
    fun m ρ _ => Cert.KernelIdeal.Gen.frame m ρ,
    GqaClaim.referenceFrame,
    fun m ρ _ => GqaClaim.referenceFrame m ρ trivial,
    fun m ρ _ => Cert.Kernel2.Gen.frame m ρ,
    fun m ρ _ => Cert.Kernel2Ideal.Gen.frame m ρ,
    fun m ρ _ => Cert.Kernel2Ideal.Gen.frame m ρ,
    MlaClaim.referenceFrame,
    fun m ρ _ => MlaClaim.referenceFrame m ρ trivial,
    fun m ρ _ => Cert.Kernel3.Gen.frame m ρ,
    fun m ρ _ => Cert.Kernel3Ideal.Gen.frame m ρ,
    InProj3Claim.referenceFrame,
    fun m ρ _ => Cert.Kernel4.Gen.frame m ρ,
    fun m ρ _ => Cert.Kernel4Ideal.Gen.frame m ρ,
    InProj4Claim.referenceFrame,
    fun m ρ _ => Cert.Kernel5.Gen.frame m ρ,
    fun m ρ _ => Cert.Kernel5Ideal.Gen.frame m ρ,
    OutProj5Claim.referenceFrame,
    fun m ρ _ => Cert.Kernel6.Gen.frame m ρ,
    fun m ρ _ => Cert.Kernel6Ideal.Gen.frame m ρ,
    OutProj6Claim.referenceFrame,
    PeerQueryClaim.kernelFrame,
    PeerQueryClaim.idealFrame,
    PeerQueryClaim.referenceFrame,
    PeerQuery8Claim.kernelFrame,
    PeerQuery8Claim.idealFrame,
    PeerQuery8Claim.referenceFrame,
    fun m ρ _ => Cert.Kernel9.Gen.frame m ρ,
    fun m ρ _ => Cert.Kernel9Ideal.Gen.frame m ρ,
    LatentQClaim.referenceFrame,
    fun m ρ _ => Cert.Kernel10.Gen.frame m ρ,
    fun m ρ _ => Cert.Kernel10Ideal.Gen.frame m ρ,
    LatentKvClaim.referenceFrame,
    fun m ρ _ => Cert.Kernel11.Gen.frame m ρ,
    fun m ρ _ => Cert.Kernel11Ideal.Gen.frame m ρ,
    ModulationClaim.referenceFrame,
    NaClaim.kernelFrame,
    NaClaim.idealFrame,
    fun m ρ _ => NaClaim.idealFrame m ρ trivial,
    NaClaim.referenceFrame,
    fun m ρ _ => NaClaim.referenceFrame m ρ trivial,
    trivial,
    @GqaClaim.algebraic GqaClaim.preFacts,
    trivial,
    @MlaClaim.algebraic MlaClaim.preFacts,
    trivial,
    InProj3Claim.algebraic,
    trivial,
    InProj4Claim.algebraic,
    trivial,
    OutProj5Claim.algebraic,
    trivial,
    OutProj6Claim.algebraic,
    trivial,
    PeerQueryClaim.algebraic,
    trivial,
    PeerQuery8Claim.algebraic,
    trivial,
    LatentQClaim.algebraic,
    trivial,
    LatentKvClaim.algebraic,
    trivial,
    ModulationClaim.algebraic,
    trivial,
    @NaClaim.algebraic NaClaim.preFacts⟩

end Cert.Proof

end
